-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)) (v3 : (c : Dev Cert.KernelIdeal.nD) → Buf (Elt Ideal) ((c.tc : Thread Cert.KernelIdeal.nD Cert.KernelIdeal.τ).loc Cert.KernelIdeal.main_v18_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_v18_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v36_7) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_v64) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v7) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v13_1)) (v1 : (c : Dev Cert.Kernel7Ideal.nD) → Buf (Elt Ideal) ((c.tc : Thread Cert.Kernel7Ideal.nD Cert.Kernel7Ideal.τ).loc Cert.Kernel7Ideal.main_v13_2)) (v2 : (c : Dev Cert.Kernel7Ideal.nD) → Buf (Elt Ideal) ((c.tc : Thread Cert.Kernel7Ideal.nD Cert.Kernel7Ideal.τ).loc Cert.Kernel7Ideal.main_v13_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v13_1) = v0 c
          ∧ r.2.mem ((c.tc : Thread Cert.Kernel7Ideal.nD Cert.Kernel7Ideal.τ).loc Cert.Kernel7Ideal.main_v13_2) = v1 c
          ∧ r.2.mem ((c.tc : Thread Cert.Kernel7Ideal.nD Cert.Kernel7Ideal.τ).loc Cert.Kernel7Ideal.main_v13_3) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v24) = v0 c
          ∧ r.2.mem ((c.tc : Thread Cert.Reference7Ideal.nD Cert.Reference7Ideal.τ).loc Cert.Reference7Ideal.main_v32) = v1 c
          ∧ r.2.mem ((c.tc : Thread Cert.Reference7Ideal.nD Cert.Reference7Ideal.τ).loc Cert.Reference7Ideal.main_v33) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S4x2048x6144 : Shape := ⟨3, ![4, 2048, 6144]⟩
abbrev S4x2048x8 : Shape := ⟨3, ![4, 2048, 8]⟩
abbrev S8 : Shape := ⟨1, ![8]⟩
abbrev S2048 : Shape := ⟨1, ![2048]⟩
abbrev S4x2048x4 : Shape := ⟨3, ![4, 2048, 4]⟩
abbrev S4 : Shape := ⟨1, ![4]⟩
abbrev S1x1x4 : Shape := ⟨3, ![1, 1, 4]⟩
abbrev S_ : Shape := ⟨0, ![]⟩
abbrev S4x4x2048 : Shape := ⟨3, ![4, 4, 2048]⟩
abbrev S4x4x2048x1 : Shape := ⟨4, ![4, 4, 2048, 1]⟩
abbrev S4x4x32x1x64 : Shape := ⟨5, ![4, 4, 32, 1, 64]⟩
abbrev S4x1x512 : Shape := ⟨3, ![4, 1, 512]⟩
abbrev S4x2048x2048 : Shape := ⟨3, ![4, 2048, 2048]⟩
abbrev S4x4x256x512 : Shape := ⟨4, ![4, 4, 256, 512]⟩
abbrev S4x4x1x256 : Shape := ⟨4, ![4, 4, 1, 256]⟩
abbrev S4x4x1x1 : Shape := ⟨4, ![4, 4, 1, 1]⟩
abbrev S1x512x1024 : Shape := ⟨3, ![1, 512, 1024]⟩
abbrev S1x512x2048 : Shape := ⟨3, ![1, 512, 2048]⟩
abbrev S1x4x512x1 : Shape := ⟨4, ![1, 4, 512, 1]⟩
abbrev S1x4x8x1x64 : Shape := ⟨5, ![1, 4, 8, 1, 64]⟩
abbrev S1x4x256x512 : Shape := ⟨4, ![1, 4, 256, 512]⟩
abbrev S1x4x1x256 : Shape := ⟨4, ![1, 4, 1, 256]⟩
abbrev S1x4x1x1 : Shape := ⟨4, ![1, 4, 1, 1]⟩
abbrev S64x64 : Shape := ⟨2, ![64, 64]⟩
abbrev S4x256x512 : Shape := ⟨3, ![4, 256, 512]⟩
abbrev S4x1x256 : Shape := ⟨3, ![4, 1, 256]⟩
abbrev S4x1x1 : Shape := ⟨3, ![4, 1, 1]⟩
abbrev S1x1x1x1 : Shape := ⟨4, ![1, 1, 1, 1]⟩
abbrev S1x1 : Shape := ⟨2, ![1, 1]⟩
abbrev S1x64x256 : Shape := ⟨3, ![1, 64, 256]⟩
abbrev S64x256 : Shape := ⟨2, ![64, 256]⟩
abbrev S1x64x512 : Shape := ⟨3, ![1, 64, 512]⟩
abbrev S64x512 : Shape := ⟨2, ![64, 512]⟩
abbrev S1x1x64x1 : Shape := ⟨4, ![1, 1, 64, 1]⟩
abbrev S64x1 : Shape := ⟨2, ![64, 1]⟩
abbrev S1x1x1x1x64 : Shape := ⟨5, ![1, 1, 1, 1, 64]⟩
abbrev S1x64 : Shape := ⟨2, ![1, 64]⟩
abbrev S64x128 : Shape := ⟨2, ![64, 128]⟩
abbrev S8x64 : Shape := ⟨2, ![8, 64]⟩
abbrev S64 : Shape := ⟨1, ![64]⟩
abbrev S1x1x256x512 : Shape := ⟨4, ![1, 1, 256, 512]⟩
abbrev S256x512 : Shape := ⟨2, ![256, 512]⟩
abbrev S1x1x1x256 : Shape := ⟨4, ![1, 1, 1, 256]⟩
abbrev S1x256 : Shape := ⟨2, ![1, 256]⟩
abbrev S1x1x512 : Shape := ⟨3, ![1, 1, 512]⟩
abbrev S1x512 : Shape := ⟨2, ![1, 512]⟩
abbrev S1 : Shape := ⟨1, ![1]⟩
abbrev S256 : Shape := ⟨1, ![256]⟩

abbrev nBuf : Space → Nat
  | .hbm => 41
  | .vmem => 25
  | .smem => 0
  | _ => 0

abbrev bufTy : (tb : Table) → Fin (tcTables nBuf tb) → BufTy
  | .hbm, ⟨0, _⟩ => ⟨S4x2048x6144, .f32⟩
  | .hbm, ⟨1, _⟩ => ⟨S4x2048x8, .f32⟩
  | .hbm, ⟨2, _⟩ => ⟨S8, .f32⟩
  | .hbm, ⟨3, _⟩ => ⟨S2048, .f32⟩
  | .hbm, ⟨4, _⟩ => ⟨S4x2048x4, .f32⟩
  | .hbm, ⟨5, _⟩ => ⟨S4, .f32⟩
  | .hbm, ⟨6, _⟩ => ⟨S1x1x4, .f32⟩
  | .hbm, ⟨7, _⟩ => ⟨S4x2048x4, .f32⟩
  | .hbm, ⟨8, _⟩ => ⟨S4x2048x4, .f32⟩
  | .hbm, ⟨9, _⟩ => ⟨S4x2048x4, .f32⟩
  | .hbm, ⟨10, _⟩ => ⟨S4, .f32⟩
  | .hbm, ⟨11, _⟩ => ⟨S1x1x4, .f32⟩
  | .hbm, ⟨12, _⟩ => ⟨S4x2048x4, .f32⟩
  | .hbm, ⟨13, _⟩ => ⟨S4x2048x4, .f32⟩
  | .hbm, ⟨14, _⟩ => ⟨S4x2048x4, .f32⟩
  | .hbm, ⟨15, _⟩ => ⟨S_, .f32⟩
  | .hbm, ⟨16, _⟩ => ⟨S4x2048x4, .f32⟩
  | .hbm, ⟨17, _⟩ => ⟨S4x2048x4, .f32⟩
  | .hbm, ⟨18, _⟩ => ⟨S4x2048x4, .f32⟩
  | .hbm, ⟨19, _⟩ => ⟨S4x2048x4, .f32⟩
  | .hbm, ⟨20, _⟩ => ⟨S4x2048x4, .i1⟩
  | .hbm, ⟨21, _⟩ => ⟨S4x2048x4, .f32⟩
  | .hbm, ⟨22, _⟩ => ⟨S4x2048x4, .f32⟩
  | .hbm, ⟨23, _⟩ => ⟨S4x2048x4, .f32⟩
  | .hbm, ⟨24, _⟩ => ⟨S4x2048x4, .f32⟩
  | .hbm, ⟨25, _⟩ => ⟨S4x2048x4, .f32⟩
  | .hbm, ⟨26, _⟩ => ⟨S4x2048x4, .f32⟩
  | .hbm, ⟨27, _⟩ => ⟨S4x2048x4, .f32⟩
  | .hbm, ⟨28, _⟩ => ⟨S4x2048x4, .f32⟩
  | .hbm, ⟨29, _⟩ => ⟨S4x2048x4, .f32⟩
  | .hbm, ⟨30, _⟩ => ⟨S4x4x2048, .f32⟩
  | .hbm, ⟨31, _⟩ => ⟨S4x4x2048x1, .f32⟩
  | .hbm, ⟨32, _⟩ => ⟨S4x4x2048, .f32⟩
  | .hbm, ⟨33, _⟩ => ⟨S4x4x2048x1, .f32⟩
  | .hbm, ⟨34, _⟩ => ⟨S4x4x32x1x64, .f32⟩
  | .hbm, ⟨35, _⟩ => ⟨S4x4x32x1x64, .f32⟩
  | .hbm, ⟨36, _⟩ => ⟨S4x1x512, .f32⟩
  | .hbm, ⟨37, _⟩ => ⟨S4x2048x2048, .bf16⟩
  | .hbm, ⟨38, _⟩ => ⟨S4x4x256x512, .f32⟩
  | .hbm, ⟨39, _⟩ => ⟨S4x4x1x256, .f32⟩
  | .hbm, ⟨40, _⟩ => ⟨S4x4x1x1, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x2048, .f32⟩
  | .local _ .vmem, ⟨5, _⟩ => ⟨S1x512x2048, .f32⟩
  | .local _ .vmem, ⟨6, _⟩ => ⟨S1x512x2048, .f32⟩
  | .local _ .vmem, ⟨7, _⟩ => ⟨S1x512x2048, .f32⟩
  | .local _ .vmem, ⟨8, _⟩ => ⟨S1x4x512x1, .f32⟩
  | .local _ .vmem, ⟨9, _⟩ => ⟨S1x4x512x1, .f32⟩
  | .local _ .vmem, ⟨10, _⟩ => ⟨S1x4x512x1, .f32⟩
  | .local _ .vmem, ⟨11, _⟩ => ⟨S1x4x512x1, .f32⟩
  | .local _ .vmem, ⟨12, _⟩ => ⟨S1x4x8x1x64, .f32⟩
  | .local _ .vmem, ⟨13, _⟩ => ⟨S1x4x8x1x64, .f32⟩
  | .local _ .vmem, ⟨14, _⟩ => ⟨S1x4x8x1x64, .f32⟩
  | .local _ .vmem, ⟨15, _⟩ => ⟨S1x4x8x1x64, .f32⟩
  | .local _ .vmem, ⟨16, _⟩ => ⟨S4x1x512, .f32⟩
  | .local _ .vmem, ⟨17, _⟩ => ⟨S1x512x2048, .bf16⟩
  | .local _ .vmem, ⟨18, _⟩ => ⟨S1x512x2048, .bf16⟩
  | .local _ .vmem, ⟨19, _⟩ => ⟨S1x4x256x512, .f32⟩
  | .local _ .vmem, ⟨20, _⟩ => ⟨S1x4x256x512, .f32⟩
  | .local _ .vmem, ⟨21, _⟩ => ⟨S1x4x1x256, .f32⟩
  | .local _ .vmem, ⟨22, _⟩ => ⟨S1x4x1x256, .f32⟩
  | .local _ .vmem, ⟨23, _⟩ => ⟨S1x4x1x1, .f32⟩
  | .local _ .vmem, ⟨24, _⟩ => ⟨S1x4x1x1, .f32⟩
  | _, _ => ⟨S4x2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18_0 : Ref sig .tc := ⟨.hbm, 37, rfl⟩
abbrev main_v18_1 : Ref sig .tc := ⟨.hbm, 38, rfl⟩
abbrev main_v18_2 : Ref sig .tc := ⟨.hbm, 39, rfl⟩
abbrev main_v18_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨3, ![4, 1, 4], ![false, false, false]⟩

@[reducible] def k0_t1_loop : Scf.Loop 32 :=
  let c0_i32_1 : BitVec 32 := 0#32
  let c8_i32 : BitVec 32 := 8#32
  let v11 : BitVec 32 := Scalar.addi c0_i32_1 c8_i32
  let c1_i32 : BitVec 32 := 1#32
  ⟨c0_i32_1, v11, c1_i32⟩
def k0_mult1 (k0_t1 : Fin k0_t1_loop.trips) : BitVec 32 :=
  let c0_i32_1 : BitVec 32 := 0#32
  let c1_i32 : BitVec 32 := 1#32
  let arg16 : BitVec 32 := Scf.iv c0_i32_1 c1_i32 k0_t1
  let c64_i32 : BitVec 32 := 64#32
  let v12 : BitVec 32 := Scalar.muli arg16 c64_i32
  v12
def k0_off1 (k0_t1 : Fin k0_t1_loop.trips) : Fin 3 → Nat :=
  let c0_6 : Index := 0#32
  let c0_i32_1 : BitVec 32 := 0#32
  let c1_i32 : BitVec 32 := 1#32
  let arg16 : BitVec 32 := Scf.iv c0_i32_1 c1_i32 k0_t1
  let c64_i32 : BitVec 32 := 64#32
  let v12 : BitVec 32 := Scalar.muli arg16 c64_i32
  let v13 : BitVec 32 := v12
  let v16 : Index := Scalar.indexCast v13
  let c0_7 : Index := 0#32
  ![0, v16.toNat, 0]
def k0_off2 (k0_t1 : Fin k0_t1_loop.trips) : Fin 3 → Nat :=
  let c0_10 : Index := 0#32
  let c0_i32_1 : BitVec 32 := 0#32
  let c1_i32 : BitVec 32 := 1#32
  let arg16 : BitVec 32 := Scf.iv c0_i32_1 c1_i32 k0_t1
  let c64_i32 : BitVec 32 := 64#32
  let v12 : BitVec 32 := Scalar.muli arg16 c64_i32
  let v13 : BitVec 32 := v12
  let v24 : Index := Scalar.indexCast v13
  let c0_11 : Index := 0#32
  ![0, v24.toNat, 0]
def k0_off3 (k0_t1 : Fin k0_t1_loop.trips) : Fin 4 → Nat :=
  let c0_12 : Index := 0#32
  let c0_13 : Index := 0#32
  let c0_i32_1 : BitVec 32 := 0#32
  let c1_i32 : BitVec 32 := 1#32
  let arg16 : BitVec 32 := Scf.iv c0_i32_1 c1_i32 k0_t1
  let c64_i32 : BitVec 32 := 64#32
  let v12 : BitVec 32 := Scalar.muli arg16 c64_i32
  let v13 : BitVec 32 := v12
  let v28 : Index := Scalar.indexCast v13
  let c0_14 : Index := 0#32
  ![0, 0, v28.toNat, 0]
def k0_off4 (k0_t1 : Fin k0_t1_loop.trips) : Fin 5 → Nat :=
  let c0_18 : Index := 0#32
  let c0_19 : Index := 0#32
  let c0_i32_1 : BitVec 32 := 0#32
  let c1_i32 : BitVec 32 := 1#32
  let arg16 : BitVec 32 := Scf.iv c0_i32_1 c1_i32 k0_t1
  let v34 : Index := Scalar.indexCast arg16
  let c0_20 : Index := 0#32
  let c0_21 : Index := 0#32
  ![0, 0, v34.toNat, 0, 0]
def k0_mult2 (k0_t1 : Fin k0_t1_loop.trips) : BitVec 32 :=
  let c0_i32_1 : BitVec 32 := 0#32
  let c1_i32 : BitVec 32 := 1#32
  let arg16 : BitVec 32 := Scf.iv c0_i32_1 c1_i32 k0_t1
  let c64_i32_69 : BitVec 32 := 64#32
  let v155 : BitVec 32 := Scalar.muli arg16 c64_i32_69
  v155
def k0_off5 (k0_t1 : Fin k0_t1_loop.trips) : Fin 3 → Nat :=
  let c0_73 : Index := 0#32
  let c0_i32_1 : BitVec 32 := 0#32
  let c1_i32 : BitVec 32 := 1#32
  let arg16 : BitVec 32 := Scf.iv c0_i32_1 c1_i32 k0_t1
  let c64_i32_69 : BitVec 32 := 64#32
  let v155 : BitVec 32 := Scalar.muli arg16 c64_i32_69
  let v156 : BitVec 32 := v155
  let v159 : Index := Scalar.indexCast v156
  let c256 : Index := 256#32
  ![0, v159.toNat, 256]
def k0_off6 (k0_t1 : Fin k0_t1_loop.trips) : Fin 3 → Nat :=
  let c0_77 : Index := 0#32
  let c0_i32_1 : BitVec 32 := 0#32
  let c1_i32 : BitVec 32 := 1#32
  let arg16 : BitVec 32 := Scf.iv c0_i32_1 c1_i32 k0_t1
  let c64_i32_69 : BitVec 32 := 64#32
  let v155 : BitVec 32 := Scalar.muli arg16 c64_i32_69
  let v156 : BitVec 32 := v155
  let v167 : Index := Scalar.indexCast v156
  let c512 : Index := 512#32
  ![0, v167.toNat, 512]
def k0_off7 (k0_t1 : Fin k0_t1_loop.trips) : Fin 4 → Nat :=
  let c0_78 : Index := 0#32
  let c1_79 : Index := 1#32
  let c0_i32_1 : BitVec 32 := 0#32
  let c1_i32 : BitVec 32 := 1#32
  let arg16 : BitVec 32 := Scf.iv c0_i32_1 c1_i32 k0_t1
  let c64_i32_69 : BitVec 32 := 64#32
  let v155 : BitVec 32 := Scalar.muli arg16 c64_i32_69
  let v156 : BitVec 32 := v155
  let v171 : Index := Scalar.indexCast v156
  let c0_80 : Index := 0#32
  ![0, 1, v171.toNat, 0]
def k0_off8 (k0_t1 : Fin k0_t1_loop.trips) : Fin 5 → Nat :=
  let c0_84 : Index := 0#32
  let c1_85 : Index := 1#32
  let c0_i32_1 : BitVec 32 := 0#32
  let c1_i32 : BitVec 32 := 1#32
  let arg16 : BitVec 32 := Scf.iv c0_i32_1 c1_i32 k0_t1
  let v177 : Index := Scalar.indexCast arg16
  let c0_86 : Index := 0#32
  let c0_87 : Index := 0#32
  ![0, 1, v177.toNat, 0, 0]
def k0_mult3 (k0_t1 : Fin k0_t1_loop.trips) : BitVec 32 :=
  let c0_i32_1 : BitVec 32 := 0#32
  let c1_i32 : BitVec 32 := 1#32
  let arg16 : BitVec 32 := Scf.iv c0_i32_1 c1_i32 k0_t1
  let c64_i32_135 : BitVec 32 := 64#32
  let v298 : BitVec 32 := Scalar.muli arg16 c64_i32_135
  v298
def k0_off9 (k0_t1 : Fin k0_t1_loop.trips) : Fin 3 → Nat :=
  let c0_139 : Index := 0#32
  let c0_i32_1 : BitVec 32 := 0#32
  let c1_i32 : BitVec 32 := 1#32
  let arg16 : BitVec 32 := Scf.iv c0_i32_1 c1_i32 k0_t1
  let c64_i32_135 : BitVec 32 := 64#32
  let v298 : BitVec 32 := Scalar.muli arg16 c64_i32_135
  let v299 : BitVec 32 := v298
  let v302 : Index := Scalar.indexCast v299
  let c512_140 : Index := 512#32
  ![0, v302.toNat, 512]
def k0_off10 (k0_t1 : Fin k0_t1_loop.trips) : Fin 3 → Nat :=
  let c0_144 : Index := 0#32
  let c0_i32_1 : BitVec 32 := 0#32
  let c1_i32 : BitVec 32 := 1#32
  let arg16 : BitVec 32 := Scf.iv c0_i32_1 c1_i32 k0_t1
  let c64_i32_135 : BitVec 32 := 64#32
  let v298 : BitVec 32 := Scalar.muli arg16 c64_i32_135
  let v299 : BitVec 32 := v298
  let v310 : Index := Scalar.indexCast v299
  let c1024 : Index := 1024#32
  ![0, v310.toNat, 1024]
def k0_off11 (k0_t1 : Fin k0_t1_loop.trips) : Fin 4 → Nat :=
  let c0_145 : Index := 0#32
  let c2_146 : Index := 2#32
  let c0_i32_1 : BitVec 32 := 0#32
  let c1_i32 : BitVec 32 := 1#32
  let arg16 : BitVec 32 := Scf.iv c0_i32_1 c1_i32 k0_t1
  let c64_i32_135 : BitVec 32 := 64#32
  let v298 : BitVec 32 := Scalar.muli arg16 c64_i32_135
  let v299 : BitVec 32 := v298
  let v314 : Index := Scalar.indexCast v299
  let c0_147 : Index := 0#32
  ![0, 2, v314.toNat, 0]
def k0_off12 (k0_t1 : Fin k0_t1_loop.trips) : Fin 5 → Nat :=
  let c0_151 : Index := 0#32
  let c2_152 : Index := 2#32
  let c0_i32_1 : BitVec 32 := 0#32
  let c1_i32 : BitVec 32 := 1#32
  let arg16 : BitVec 32 := Scf.iv c0_i32_1 c1_i32 k0_t1
  let v320 : Index := Scalar.indexCast arg16
  let c0_153 : Index := 0#32
  let c0_154 : Index := 0#32
  ![0, 2, v320.toNat, 0, 0]
def k0_mult4 (k0_t1 : Fin k0_t1_loop.trips) : BitVec 32 :=
  let c0_i32_1 : BitVec 32 := 0#32
  let c1_i32 : BitVec 32 := 1#32
  let arg16 : BitVec 32 := Scf.iv c0_i32_1 c1_i32 k0_t1
  let c64_i32_202 : BitVec 32 := 64#32
  let v441 : BitVec 32 := Scalar.muli arg16 c64_i32_202
  v441
def k0_off13 (k0_t1 : Fin k0_t1_loop.trips) : Fin 3 → Nat :=
  let c0_206 : Index := 0#32
  let c0_i32_1 : BitVec 32 := 0#32
  let c1_i32 : BitVec 32 := 1#32
  let arg16 : BitVec 32 := Scf.iv c0_i32_1 c1_i32 k0_t1
  let c64_i32_202 : BitVec 32 := 64#32
  let v441 : BitVec 32 := Scalar.muli arg16 c64_i32_202
  let v442 : BitVec 32 := v441
  let v445 : Index := Scalar.indexCast v442
  let c768 : Index := 768#32
  ![0, v445.toNat, 768]
def k0_off14 (k0_t1 : Fin k0_t1_loop.trips) : Fin 3 → Nat :=
  let c0_210 : Index := 0#32
  let c0_i32_1 : BitVec 32 := 0#32
  let c1_i32 : BitVec 32 := 1#32
  let arg16 : BitVec 32 := Scf.iv c0_i32_1 c1_i32 k0_t1
  let c64_i32_202 : BitVec 32 := 64#32
  let v441 : BitVec 32 := Scalar.muli arg16 c64_i32_202
  let v442 : BitVec 32 := v441
  let v453 : Index := Scalar.indexCast v442
  let c1536 : Index := 1536#32
  ![0, v453.toNat, 1536]
def k0_off15 (k0_t1 : Fin k0_t1_loop.trips) : Fin 4 → Nat :=
  let c0_211 : Index := 0#32
  let c3_212 : Index := 3#32
  let c0_i32_1 : BitVec 32 := 0#32
  let c1_i32 : BitVec 32 := 1#32
  let arg16 : BitVec 32 := Scf.iv c0_i32_1 c1_i32 k0_t1
  let c64_i32_202 : BitVec 32 := 64#32
  let v441 : BitVec 32 := Scalar.muli arg16 c64_i32_202
  let v442 : BitVec 32 := v441
  let v457 : Index := Scalar.indexCast v442
  let c0_213 : Index := 0#32
  ![0, 3, v457.toNat, 0]
def k0_off16 (k0_t1 : Fin k0_t1_loop.trips) : Fin 5 → Nat :=
  let c0_217 : Index := 0#32
  let c3_218 : Index := 3#32
  let c0_i32_1 : BitVec 32 := 0#32
  let c1_i32 : BitVec 32 := 1#32
  let arg16 : BitVec 32 := Scf.iv c0_i32_1 c1_i32 k0_t1
  let v463 : Index := Scalar.indexCast arg16
  let c0_219 : Index := 0#32
  let c0_220 : Index := 0#32
  ![0, 3, v463.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, arg2.toNat, v0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x4x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x4x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x4x8x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x4x8x1x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 1 → Memref sig .tc .vmem S4x1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]

abbrev stage0_9 : Fin 2 → Memref sig .tc .vmem S1x512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x4x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x4x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S1x4x1x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S4x2048x6144 : Shape := ⟨3, ![4, 2048, 6144]⟩
abbrev S4x2048x8 : Shape := ⟨3, ![4, 2048, 8]⟩
abbrev S8 : Shape := ⟨1, ![8]⟩
abbrev S2048 : Shape := ⟨1, ![2048]⟩
abbrev S4x2048x1024 : Shape := ⟨3, ![4, 2048, 1024]⟩
abbrev S4x2048x2048 : Shape := ⟨3, ![4, 2048, 2048]⟩
abbrev S4x2048x4 : Shape := ⟨3, ![4, 2048, 4]⟩
abbrev S4x2048x4x256 : Shape := ⟨4, ![4, 2048, 4, 256]⟩
abbrev S_ : Shape := ⟨0, ![]⟩
abbrev S4x2048x4x512 : Shape := ⟨4, ![4, 2048, 4, 512]⟩
abbrev S4 : Shape := ⟨1, ![4]⟩
abbrev S1x1x4 : Shape := ⟨3, ![1, 1, 4]⟩
abbrev S4x4x256x512 : Shape := ⟨4, ![4, 4, 256, 512]⟩
abbrev S4x4x256 : Shape := ⟨3, ![4, 4, 256]⟩
abbrev S4x4 : Shape := ⟨2, ![4, 4]⟩
abbrev S64x64 : Shape := ⟨2, ![64, 64]⟩
abbrev S4x32x64x4x256 : Shape := ⟨5, ![4, 32, 64, 4, 256]⟩
abbrev S32x4x64x4x256 : Shape := ⟨5, ![32, 4, 64, 4, 256]⟩
abbrev S4x32x64x4x512 : Shape := ⟨5, ![4, 32, 64, 4, 512]⟩
abbrev S32x4x64x4x512 : Shape := ⟨5, ![32, 4, 64, 4, 512]⟩
abbrev S4x32x64x4 : Shape := ⟨4, ![4, 32, 64, 4]⟩
abbrev S32x4x64x4 : Shape := ⟨4, ![32, 4, 64, 4]⟩
abbrev S1x4x64x4x256 : Shape := ⟨5, ![1, 4, 64, 4, 256]⟩
abbrev S4x64x4x256 : Shape := ⟨4, ![4, 64, 4, 256]⟩
abbrev S1x4x64x4x512 : Shape := ⟨5, ![1, 4, 64, 4, 512]⟩
abbrev S4x64x4x512 : Shape := ⟨4, ![4, 64, 4, 512]⟩
abbrev S1x4x64x4 : Shape := ⟨4, ![1, 4, 64, 4]⟩
abbrev S4x64x4 : Shape := ⟨3, ![4, 64, 4]⟩
abbrev S4x64x1x4 : Shape := ⟨4, ![4, 64, 1, 4]⟩
abbrev S4x1x64x4 : Shape := ⟨4, ![4, 1, 64, 4]⟩
abbrev S4x64x64x4 : Shape := ⟨4, ![4, 64, 64, 4]⟩
abbrev S1x64x64x1 : Shape := ⟨4, ![1, 64, 64, 1]⟩
abbrev S4x1x4 : Shape := ⟨3, ![4, 1, 4]⟩
abbrev S4x4x64x64 : Shape := ⟨4, ![4, 4, 64, 64]⟩
abbrev S4x4x512x64 : Shape := ⟨4, ![4, 4, 512, 64]⟩
abbrev S4x64x4x1 : Shape := ⟨4, ![4, 64, 4, 1]⟩
abbrev S4x4x64 : Shape := ⟨3, ![4, 4, 64]⟩
abbrev S4x4x1x1 : Shape := ⟨4, ![4, 4, 1, 1]⟩
abbrev S4x4x1 : Shape := ⟨3, ![4, 4, 1]⟩
abbrev S4x512 : Shape := ⟨2, ![4, 512]⟩
abbrev S4x2048x4x1 : Shape := ⟨4, ![4, 2048, 4, 1]⟩
abbrev S1x1x4x512 : Shape := ⟨4, ![1, 1, 4, 512]⟩
abbrev S4x4x1x256 : Shape := ⟨4, ![4, 4, 1, 256]⟩

abbrev nBuf : Space → Nat
  | .hbm => 235
  | .vmem => 0
  | .smem => 0
  | _ => 0

abbrev hbmTy0_0 (i : Nat) : BufTy := match i % 128 with
  | 0 => ⟨S4x2048x6144, .f32⟩
  | 1 => ⟨S4x2048x8, .f32⟩
  | 2 => ⟨S8, .f32⟩
  | 3 => ⟨S2048, .f32⟩
  | 4 => ⟨S4x2048x1024, .f32⟩
  | 5 => ⟨S4x2048x1024, .f32⟩
  | 6 => ⟨S4x2048x2048, .f32⟩
  | 7 => ⟨S4x2048x2048, .f32⟩
  | 8 => ⟨S4x2048x4, .f32⟩
  | 9 => ⟨S4x2048x4, .f32⟩
  | 10 => ⟨S4x2048x4x256, .f32⟩
  | 11 => ⟨S_, .f32⟩
  | 12 => ⟨S4x2048x4x256, .f32⟩
  | 13 => ⟨S4x2048x4x256, .f32⟩
  | 14 => ⟨S4x2048x4x256, .f32⟩
  | 15 => ⟨S4x2048x4x512, .f32⟩
  | 16 => ⟨S4, .f32⟩
  | 17 => ⟨S1x1x4, .f32⟩
  | 18 => ⟨S4x2048x4, .f32⟩
  | 19 => ⟨S4x2048x4, .f32⟩
  | 20 => ⟨S4, .f32⟩
  | 21 => ⟨S1x1x4, .f32⟩
  | 22 => ⟨S4x2048x4, .f32⟩
  | 23 => ⟨S4x2048x4, .f32⟩
  | 24 => ⟨S4x2048x4, .f32⟩
  | 25 => ⟨S_, .f32⟩
  | 26 => ⟨S4x2048x4, .f32⟩
  | 27 => ⟨S4x2048x4, .f32⟩
  | 28 => ⟨S4x2048x4, .f32⟩
  | 29 => ⟨S4x2048x4, .f32⟩
  | 30 => ⟨S4x2048x4, .i1⟩
  | 31 => ⟨S4x2048x4, .f32⟩
  | 32 => ⟨S4x2048x4, .f32⟩
  | 33 => ⟨S4x2048x4, .f32⟩
  | 34 => ⟨S4x2048x4, .f32⟩
  | 35 => ⟨S4x2048x4, .f32⟩
  | 36 => ⟨S4x2048x4, .f32⟩
  | 37 => ⟨S4x2048x4, .f32⟩
  | 38 => ⟨S4x2048x4, .f32⟩
  | 39 => ⟨S4x2048x4, .f32⟩
  | 40 => ⟨S_, .f32⟩
  | 41 => ⟨S4x4x256x512, .f32⟩
  | 42 => ⟨S_, .f32⟩
  | 43 => ⟨S4x4x256, .f32⟩
  | 44 => ⟨S_, .f32⟩
  | 45 => ⟨S4x4, .f32⟩
  | 46 => ⟨S_, .i1⟩
  | 47 => ⟨S64x64, .i1⟩
  | 48 => ⟨S64x64, .i32⟩
  | 49 => ⟨S_, .i32⟩
  | 50 => ⟨S64x64, .i32⟩
  | 51 => ⟨S64x64, .i32⟩
  | 52 => ⟨S64x64, .i32⟩
  | 53 => ⟨S64x64, .i1⟩
  | 54 => ⟨S_, .i1⟩
  | 55 => ⟨S64x64, .i1⟩
  | 56 => ⟨S64x64, .i1⟩
  | 57 => ⟨S4x32x64x4x256, .f32⟩
  | 58 => ⟨S32x4x64x4x256, .f32⟩
  | 59 => ⟨S4x32x64x4x256, .f32⟩
  | 60 => ⟨S32x4x64x4x256, .f32⟩
  | 61 => ⟨S4x32x64x4x512, .f32⟩
  | 62 => ⟨S32x4x64x4x512, .f32⟩
  | 63 => ⟨S4x32x64x4, .f32⟩
  | 64 => ⟨S32x4x64x4, .f32⟩
  | 65 => ⟨S4x32x64x4, .f32⟩
  | 66 => ⟨S32x4x64x4, .f32⟩
  | 67 => ⟨S_, .f32⟩
  | 68 => ⟨S32x4x64x4x512, .f32⟩
  | 69 => ⟨S_, .i32⟩
  | 70 => ⟨S32x4x64x4x256, .f32⟩
  | 71 => ⟨S32x4x64x4x256, .f32⟩
  | 72 => ⟨S32x4x64x4x512, .f32⟩
  | 73 => ⟨S32x4x64x4, .f32⟩
  | 74 => ⟨S32x4x64x4, .f32⟩
  | 75 => ⟨S64x64, .i1⟩
  | 76 => ⟨S_, .i32⟩
  | 77 => ⟨S4x4x256x512, .f32⟩
  | 78 => ⟨S4x4x256, .f32⟩
  | 79 => ⟨S4x4, .f32⟩
  | 80 => ⟨S32x4x64x4x512, .f32⟩
  | 81 => ⟨S_, .i32⟩
  | 82 => ⟨S_, .i1⟩
  | 83 => ⟨S_, .i32⟩
  | 84 => ⟨S_, .i32⟩
  | 85 => ⟨S_, .i32⟩
  | 86 => ⟨S_, .i32⟩
  | 87 => ⟨S1x4x64x4x256, .f32⟩
  | 88 => ⟨S4x64x4x256, .f32⟩
  | 89 => ⟨S_, .i32⟩
  | 90 => ⟨S_, .i32⟩
  | 91 => ⟨S_, .i32⟩
  | 92 => ⟨S_, .i32⟩
  | 93 => ⟨S1x4x64x4x256, .f32⟩
  | 94 => ⟨S4x64x4x256, .f32⟩
  | 95 => ⟨S_, .i32⟩
  | 96 => ⟨S_, .i32⟩
  | 97 => ⟨S_, .i32⟩
  | 98 => ⟨S_, .i32⟩
  | 99 => ⟨S1x4x64x4x512, .f32⟩
  | 100 => ⟨S4x64x4x512, .f32⟩
  | 101 => ⟨S_, .i32⟩
  | 102 => ⟨S_, .i32⟩
  | 103 => ⟨S_, .i32⟩
  | 104 => ⟨S1x4x64x4, .f32⟩
  | 105 => ⟨S4x64x4, .f32⟩
  | 106 => ⟨S_, .i32⟩
  | 107 => ⟨S_, .i32⟩
  | 108 => ⟨S_, .i32⟩
  | 109 => ⟨S1x4x64x4, .f32⟩
  | 110 => ⟨S4x64x4, .f32⟩
  | 111 => ⟨S_, .f32⟩
  | 112 => ⟨S_, .f32⟩
  | 113 => ⟨S4x64x4, .f32⟩
  | 114 => ⟨S4x64x1x4, .f32⟩
  | 115 => ⟨S4x1x64x4, .f32⟩
  | 116 => ⟨S4x64x64x4, .f32⟩
  | 117 => ⟨S4x64x64x4, .f32⟩
  | 118 => ⟨S4x64x64x4, .f32⟩
  | 119 => ⟨S4x1x64x4, .f32⟩
  | 120 => ⟨S4x64x64x4, .f32⟩
  | 121 => ⟨S4x64x64x4, .f32⟩
  | 122 => ⟨S1x64x64x1, .i1⟩
  | 123 => ⟨S_, .f32⟩
  | 124 => ⟨S_, .f32⟩
  | 125 => ⟨S4x64x64x4, .i1⟩
  | 126 => ⟨S4x64x64x4, .f32⟩
  | 127 => ⟨S4x64x64x4, .f32⟩
  | _ => ⟨S4x2048x6144, .f32⟩

abbrev hbmTy0_1 (i : Nat) : BufTy := match i % 128 with
  | 0 => ⟨S4x1x4, .f32⟩
  | 1 => ⟨S4x64x4, .f32⟩
  | 2 => ⟨S4x64x4, .f32⟩
  | 3 => ⟨S_, .f32⟩
  | 4 => ⟨S4x64x4, .f32⟩
  | 5 => ⟨S4x64x4, .f32⟩
  | 6 => ⟨S4x64x1x4, .f32⟩
  | 7 => ⟨S4x64x64x4, .f32⟩
  | 8 => ⟨S4x64x64x4, .f32⟩
  | 9 => ⟨S4x64x64x4, .f32⟩
  | 10 => ⟨S4x64x4, .f32⟩
  | 11 => ⟨S4x64x4, .f32⟩
  | 12 => ⟨S4x4x64x64, .f32⟩
  | 13 => ⟨S4x64x64x4, .f32⟩
  | 14 => ⟨S4x64x64x4, .f32⟩
  | 15 => ⟨S4x4x512x64, .f32⟩
  | 16 => ⟨S4x64x4x512, .f32⟩
  | 17 => ⟨S4x64x4x1, .f32⟩
  | 18 => ⟨S4x4x512x64, .f32⟩
  | 19 => ⟨S4x64x4x512, .f32⟩
  | 20 => ⟨S4x64x4x512, .f32⟩
  | 21 => ⟨S4x64x4x512, .f32⟩
  | 22 => ⟨S4x64x4x512, .f32⟩
  | 23 => ⟨S_, .f32⟩
  | 24 => ⟨S4x64x4, .f32⟩
  | 25 => ⟨S4x4x64, .f32⟩
  | 26 => ⟨S4x64x4, .f32⟩
  | 27 => ⟨S4x64x4, .f32⟩
  | 28 => ⟨S4x64x4, .f32⟩
  | 29 => ⟨S4x64x4, .f32⟩
  | 30 => ⟨S4x64x4, .f32⟩
  | 31 => ⟨S4x64x4, .f32⟩
  | 32 => ⟨S4x64x4, .f32⟩
  | 33 => ⟨S4x64x4x1, .f32⟩
  | 34 => ⟨S4x64x4x512, .f32⟩
  | 35 => ⟨S4x64x4x512, .f32⟩
  | 36 => ⟨S4x1x4, .f32⟩
  | 37 => ⟨S4x4, .f32⟩
  | 38 => ⟨S4x1x4, .f32⟩
  | 39 => ⟨S4x64x4, .f32⟩
  | 40 => ⟨S4x64x4, .f32⟩
  | 41 => ⟨S4x64x4, .f32⟩
  | 42 => ⟨S4x4, .f32⟩
  | 43 => ⟨S_, .f32⟩
  | 44 => ⟨S4x4, .f32⟩
  | 45 => ⟨S4x4, .f32⟩
  | 46 => ⟨S4x4, .f32⟩
  | 47 => ⟨S4x4, .f32⟩
  | 48 => ⟨S4x4, .f32⟩
  | 49 => ⟨S4x1x4, .f32⟩
  | 50 => ⟨S4x64x4, .f32⟩
  | 51 => ⟨S4x64x4, .f32⟩
  | 52 => ⟨S4x64x4, .f32⟩
  | 53 => ⟨S4x4x1x1, .f32⟩
  | 54 => ⟨S4x4x256x512, .f32⟩
  | 55 => ⟨S4x4x256x512, .f32⟩
  | 56 => ⟨S4x64x4x1, .f32⟩
  | 57 => ⟨S4x64x4x256, .f32⟩
  | 58 => ⟨S4x64x4x256, .f32⟩
  | 59 => ⟨S4x4x256x512, .f32⟩
  | 60 => ⟨S4x4x256x512, .f32⟩
  | 61 => ⟨S4x4x1, .f32⟩
  | 62 => ⟨S4x4x256, .f32⟩
  | 63 => ⟨S4x4x256, .f32⟩
  | 64 => ⟨S4x4x256, .f32⟩
  | 65 => ⟨S4x4x256, .f32⟩
  | 66 => ⟨S1x4x64x4x512, .f32⟩
  | 67 => ⟨S_, .i32⟩
  | 68 => ⟨S_, .i32⟩
  | 69 => ⟨S_, .i32⟩
  | 70 => ⟨S_, .i32⟩
  | 71 => ⟨S32x4x64x4x512, .f32⟩
  | 72 => ⟨S_, .i32⟩
  | 73 => ⟨S_, .i32⟩
  | 74 => ⟨S4x32x64x4x512, .f32⟩
  | 75 => ⟨S4x2048x4x512, .f32⟩
  | 76 => ⟨S4x512, .f32⟩
  | 77 => ⟨S4x2048x4x512, .f32⟩
  | 78 => ⟨S_, .f32⟩
  | 79 => ⟨S4x2048x4, .f32⟩
  | 80 => ⟨S4x2048x4x1, .f32⟩
  | 81 => ⟨S_, .f32⟩
  | 82 => ⟨S4x2048x4x1, .f32⟩
  | 83 => ⟨S4x2048x4x1, .f32⟩
  | 84 => ⟨S_, .f32⟩
  | 85 => ⟨S4x2048x4x1, .f32⟩
  | 86 => ⟨S4x2048x4x1, .f32⟩
  | 87 => ⟨S4x2048x4x1, .f32⟩
  | 88 => ⟨S4x2048x4x512, .f32⟩
  | 89 => ⟨S4x2048x4x512, .f32⟩
  | 90 => ⟨S1x1x4x512, .f32⟩
  | 91 => ⟨S4x2048x4x512, .f32⟩
  | 92 => ⟨S4x2048x4x512, .f32⟩
  | 93 => ⟨S4x2048x4x512, .f32⟩
  | 94 => ⟨S4x2048x4x512, .f32⟩
  | 95 => ⟨S4x2048x4x512, .f32⟩
  | 96 => ⟨S_, .f32⟩
  | 97 => ⟨S4x2048x4x512, .f32⟩
  | 98 => ⟨S4x2048x4x512, .f32⟩
  | 99 => ⟨S_, .f32⟩
  | 100 => ⟨S4x2048x4x512, .f32⟩
  | 101 => ⟨S4x2048x4x512, .f32⟩
  | 102 => ⟨S4x2048x4x512, .f32⟩
  | 103 => ⟨S4x2048x2048, .f32⟩
  | 104 => ⟨S4x2048x2048, .bf16⟩
  | 105 => ⟨S4x4x1x256, .f32⟩
  | 106 => ⟨S4x4x1x1, .f32⟩
  | _ => ⟨S4x2048x6144, .f32⟩

abbrev hbmTy (i : Nat) : BufTy := match i / 128 with
  | 0 => hbmTy0_0 i
  | 1 => hbmTy0_1 i
  | _ => ⟨S4x2048x6144, .f32⟩

abbrev bufTy : (tb : Table) → Fin (tcTables nBuf tb) → BufTy
  | .hbm, ⟨i, _⟩ => hbmTy i
  | _, _ => ⟨S4x2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v19 : Ref sig .tc := ⟨.hbm, 39, rfl⟩
abbrev main_cst_0 : Ref sig .tc := ⟨.hbm, 40, rfl⟩
abbrev main_v20 : Ref sig .tc := ⟨.hbm, 41, rfl⟩
abbrev main_cst_1 : Ref sig .tc := ⟨.hbm, 42, rfl⟩
abbrev main_v21 : Ref sig .tc := ⟨.hbm, 43, rfl⟩
abbrev main_cst_2 : Ref sig .tc := ⟨.hbm, 44, rfl⟩
abbrev main_v22 : Ref sig .tc := ⟨.hbm, 45, rfl⟩
abbrev main_c : Ref sig .tc := ⟨.hbm, 46, rfl⟩
abbrev main_v23 : Ref sig .tc := ⟨.hbm, 47, rfl⟩
abbrev main_call1_v0 : Ref sig .tc := ⟨.hbm, 48, rfl⟩
abbrev main_call1_c : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_c_0 : Ref sig .tc := ⟨.hbm, 54, rfl⟩
abbrev main_call1_v5 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_3 : Ref sig .tc := ⟨.hbm, 67, rfl⟩
abbrev main_v35 : Ref sig .tc := ⟨.hbm, 68, rfl⟩
abbrev main_c_4 : Ref sig .tc := ⟨.hbm, 69, rfl⟩
abbrev main_v36_0 : Ref sig .tc := ⟨.hbm, 70, rfl⟩
abbrev main_v36_1 : Ref sig .tc := ⟨.hbm, 71, rfl⟩
abbrev main_v36_2 : Ref sig .tc := ⟨.hbm, 72, rfl⟩
abbrev main_v36_3 : Ref sig .tc := ⟨.hbm, 73, rfl⟩
abbrev main_v36_4 : Ref sig .tc := ⟨.hbm, 74, rfl⟩
abbrev main_v36_5 : Ref sig .tc := ⟨.hbm, 75, rfl⟩
abbrev main_v36_6 : Ref sig .tc := ⟨.hbm, 76, rfl⟩
abbrev main_v36_7 : Ref sig .tc := ⟨.hbm, 77, rfl⟩
abbrev main_v36_8 : Ref sig .tc := ⟨.hbm, 78, rfl⟩
abbrev main_v36_9 : Ref sig .tc := ⟨.hbm, 79, rfl⟩
abbrev main_v36_10 : Ref sig .tc := ⟨.hbm, 80, rfl⟩
abbrev main_while0c_c_20 : Ref sig .tc := ⟨.hbm, 81, rfl⟩
abbrev main_while0c_v65 : Ref sig .tc := ⟨.hbm, 82, rfl⟩
abbrev main_while0b_call2_c : Ref sig .tc := ⟨.hbm, 83, rfl⟩
abbrev main_while0b_call2_c_0 : Ref sig .tc := ⟨.hbm, 84, rfl⟩
abbrev main_while0b_call2_c_1 : Ref sig .tc := ⟨.hbm, 85, rfl⟩
abbrev main_while0b_call2_c_2 : Ref sig .tc := ⟨.hbm, 86, rfl⟩
abbrev main_while0b_call2_v0 : Ref sig .tc := ⟨.hbm, 87, rfl⟩
abbrev main_while0b_v65 : Ref sig .tc := ⟨.hbm, 88, rfl⟩
abbrev main_while0b_call3_c : Ref sig .tc := ⟨.hbm, 89, rfl⟩
abbrev main_while0b_call3_c_0 : Ref sig .tc := ⟨.hbm, 90, rfl⟩
abbrev main_while0b_call3_c_1 : Ref sig .tc := ⟨.hbm, 91, rfl⟩
abbrev main_while0b_call3_c_2 : Ref sig .tc := ⟨.hbm, 92, rfl⟩
abbrev main_while0b_call3_v0 : Ref sig .tc := ⟨.hbm, 93, rfl⟩
abbrev main_while0b_v66 : Ref sig .tc := ⟨.hbm, 94, rfl⟩
abbrev main_while0b_call4_c : Ref sig .tc := ⟨.hbm, 95, rfl⟩
abbrev main_while0b_call4_c_0 : Ref sig .tc := ⟨.hbm, 96, rfl⟩
abbrev main_while0b_call4_c_1 : Ref sig .tc := ⟨.hbm, 97, rfl⟩
abbrev main_while0b_call4_c_2 : Ref sig .tc := ⟨.hbm, 98, rfl⟩
abbrev main_while0b_call4_v0 : Ref sig .tc := ⟨.hbm, 99, rfl⟩
abbrev main_while0b_v67 : Ref sig .tc := ⟨.hbm, 100, rfl⟩
abbrev main_while0b_call5_c : Ref sig .tc := ⟨.hbm, 101, rfl⟩
abbrev main_while0b_call5_c_0 : Ref sig .tc := ⟨.hbm, 102, rfl⟩
abbrev main_while0b_call5_c_1 : Ref sig .tc := ⟨.hbm, 103, rfl⟩
abbrev main_while0b_call5_v0 : Ref sig .tc := ⟨.hbm, 104, rfl⟩
abbrev main_while0b_v68 : Ref sig .tc := ⟨.hbm, 105, rfl⟩
abbrev main_while0b_call6_c : Ref sig .tc := ⟨.hbm, 106, rfl⟩
abbrev main_while0b_call6_c_0 : Ref sig .tc := ⟨.hbm, 107, rfl⟩
abbrev main_while0b_call6_c_1 : Ref sig .tc := ⟨.hbm, 108, rfl⟩
abbrev main_while0b_call6_v0 : Ref sig .tc := ⟨.hbm, 109, rfl⟩
abbrev main_while0b_v69 : Ref sig .tc := ⟨.hbm, 110, rfl⟩
abbrev main_while0b_call7_call0_cst : Ref sig .tc := ⟨.hbm, 111, rfl⟩
abbrev main_while0b_call7_call0_v0 : Ref sig .tc := ⟨.hbm, 112, rfl⟩
abbrev main_while0b_v70 : Ref sig .tc := ⟨.hbm, 113, rfl⟩
abbrev main_while0b_v71 : Ref sig .tc := ⟨.hbm, 114, rfl⟩
abbrev main_while0b_v72 : Ref sig .tc := ⟨.hbm, 115, rfl⟩
abbrev main_while0b_v73 : Ref sig .tc := ⟨.hbm, 116, rfl⟩
abbrev main_while0b_v74 : Ref sig .tc := ⟨.hbm, 117, rfl⟩
abbrev main_while0b_v75 : Ref sig .tc := ⟨.hbm, 118, rfl⟩
abbrev main_while0b_v76 : Ref sig .tc := ⟨.hbm, 119, rfl⟩
abbrev main_while0b_v77 : Ref sig .tc := ⟨.hbm, 120, rfl⟩
abbrev main_while0b_v78 : Ref sig .tc := ⟨.hbm, 121, rfl⟩
abbrev main_while0b_v79 : Ref sig .tc := ⟨.hbm, 122, rfl⟩
abbrev main_while0b_cst_20 : Ref sig .tc := ⟨.hbm, 123, rfl⟩
abbrev main_while0b_call8_v0 : Ref sig .tc := ⟨.hbm, 124, rfl⟩
abbrev main_while0b_call8_v1 : Ref sig .tc := ⟨.hbm, 125, rfl⟩
abbrev main_while0b_call8_v2 : Ref sig .tc := ⟨.hbm, 126, rfl⟩
abbrev main_while0b_v80 : Ref sig .tc := ⟨.hbm, 127, rfl⟩
abbrev main_while0b_v81 : Ref sig .tc := ⟨.hbm, 128, rfl⟩
abbrev main_while0b_v82 : Ref sig .tc := ⟨.hbm, 129, rfl⟩
abbrev main_while0b_v83 : Ref sig .tc := ⟨.hbm, 130, rfl⟩
abbrev main_while0b_cst_21 : Ref sig .tc := ⟨.hbm, 131, rfl⟩
abbrev main_while0b_v84 : Ref sig .tc := ⟨.hbm, 132, rfl⟩
abbrev main_while0b_v85 : Ref sig .tc := ⟨.hbm, 133, rfl⟩
abbrev main_while0b_v86 : Ref sig .tc := ⟨.hbm, 134, rfl⟩
abbrev main_while0b_v87 : Ref sig .tc := ⟨.hbm, 135, rfl⟩
abbrev main_while0b_v88 : Ref sig .tc := ⟨.hbm, 136, rfl⟩
abbrev main_while0b_v89 : Ref sig .tc := ⟨.hbm, 137, rfl⟩
abbrev main_while0b_v90 : Ref sig .tc := ⟨.hbm, 138, rfl⟩
abbrev main_while0b_v91 : Ref sig .tc := ⟨.hbm, 139, rfl⟩
abbrev main_while0b_v92 : Ref sig .tc := ⟨.hbm, 140, rfl⟩
abbrev main_while0b_v93 : Ref sig .tc := ⟨.hbm, 141, rfl⟩
abbrev main_while0b_v94 : Ref sig .tc := ⟨.hbm, 142, rfl⟩
abbrev main_while0b_v95 : Ref sig .tc := ⟨.hbm, 143, rfl⟩
abbrev main_while0b_v96 : Ref sig .tc := ⟨.hbm, 144, rfl⟩
abbrev main_while0b_v97 : Ref sig .tc := ⟨.hbm, 145, rfl⟩
abbrev main_while0b_v98 : Ref sig .tc := ⟨.hbm, 146, rfl⟩
abbrev main_while0b_v99 : Ref sig .tc := ⟨.hbm, 147, rfl⟩
abbrev main_while0b_v100 : Ref sig .tc := ⟨.hbm, 148, rfl⟩
abbrev main_while0b_v101 : Ref sig .tc := ⟨.hbm, 149, rfl⟩
abbrev main_while0b_v102 : Ref sig .tc := ⟨.hbm, 150, rfl⟩
abbrev main_while0b_cst_22 : Ref sig .tc := ⟨.hbm, 151, rfl⟩
abbrev main_while0b_v103 : Ref sig .tc := ⟨.hbm, 152, rfl⟩
abbrev main_while0b_v104 : Ref sig .tc := ⟨.hbm, 153, rfl⟩
abbrev main_while0b_v105 : Ref sig .tc := ⟨.hbm, 154, rfl⟩
abbrev main_while0b_v106 : Ref sig .tc := ⟨.hbm, 155, rfl⟩
abbrev main_while0b_v107 : Ref sig .tc := ⟨.hbm, 156, rfl⟩
abbrev main_while0b_v108 : Ref sig .tc := ⟨.hbm, 157, rfl⟩
abbrev main_while0b_v109 : Ref sig .tc := ⟨.hbm, 158, rfl⟩
abbrev main_while0b_v110 : Ref sig .tc := ⟨.hbm, 159, rfl⟩
abbrev main_while0b_v111 : Ref sig .tc := ⟨.hbm, 160, rfl⟩
abbrev main_while0b_v112 : Ref sig .tc := ⟨.hbm, 161, rfl⟩
abbrev main_while0b_v113 : Ref sig .tc := ⟨.hbm, 162, rfl⟩
abbrev main_while0b_v114 : Ref sig .tc := ⟨.hbm, 163, rfl⟩
abbrev main_while0b_v115 : Ref sig .tc := ⟨.hbm, 164, rfl⟩
abbrev main_while0b_v116 : Ref sig .tc := ⟨.hbm, 165, rfl⟩
abbrev main_while0b_v117 : Ref sig .tc := ⟨.hbm, 166, rfl⟩
abbrev main_while0b_v118 : Ref sig .tc := ⟨.hbm, 167, rfl⟩
abbrev main_while0b_v119 : Ref sig .tc := ⟨.hbm, 168, rfl⟩
abbrev main_while0b_v120 : Ref sig .tc := ⟨.hbm, 169, rfl⟩
abbrev main_while0b_v121 : Ref sig .tc := ⟨.hbm, 170, rfl⟩
abbrev main_while0b_cst_23 : Ref sig .tc := ⟨.hbm, 171, rfl⟩
abbrev main_while0b_v122 : Ref sig .tc := ⟨.hbm, 172, rfl⟩
abbrev main_while0b_v123 : Ref sig .tc := ⟨.hbm, 173, rfl⟩
abbrev main_while0b_v124 : Ref sig .tc := ⟨.hbm, 174, rfl⟩
abbrev main_while0b_v125 : Ref sig .tc := ⟨.hbm, 175, rfl⟩
abbrev main_while0b_v126 : Ref sig .tc := ⟨.hbm, 176, rfl⟩
abbrev main_while0b_v127 : Ref sig .tc := ⟨.hbm, 177, rfl⟩
abbrev main_while0b_v128 : Ref sig .tc := ⟨.hbm, 178, rfl⟩
abbrev main_while0b_v129 : Ref sig .tc := ⟨.hbm, 179, rfl⟩
abbrev main_while0b_v130 : Ref sig .tc := ⟨.hbm, 180, rfl⟩
abbrev main_while0b_v131 : Ref sig .tc := ⟨.hbm, 181, rfl⟩
abbrev main_while0b_v132 : Ref sig .tc := ⟨.hbm, 182, rfl⟩
abbrev main_while0b_v133 : Ref sig .tc := ⟨.hbm, 183, rfl⟩
abbrev main_while0b_v134 : Ref sig .tc := ⟨.hbm, 184, rfl⟩
abbrev main_while0b_v135 : Ref sig .tc := ⟨.hbm, 185, rfl⟩
abbrev main_while0b_v136 : Ref sig .tc := ⟨.hbm, 186, rfl⟩
abbrev main_while0b_v137 : Ref sig .tc := ⟨.hbm, 187, rfl⟩
abbrev main_while0b_v138 : Ref sig .tc := ⟨.hbm, 188, rfl⟩
abbrev main_while0b_v139 : Ref sig .tc := ⟨.hbm, 189, rfl⟩
abbrev main_while0b_v140 : Ref sig .tc := ⟨.hbm, 190, rfl⟩
abbrev main_while0b_v141 : Ref sig .tc := ⟨.hbm, 191, rfl⟩
abbrev main_while0b_v142 : Ref sig .tc := ⟨.hbm, 192, rfl⟩
abbrev main_while0b_v143 : Ref sig .tc := ⟨.hbm, 193, rfl⟩
abbrev main_while0b_call9_v0 : Ref sig .tc := ⟨.hbm, 194, rfl⟩
abbrev main_while0b_call9_c : Ref sig .tc := ⟨.hbm, 195, rfl⟩
abbrev main_while0b_call9_c_0 : Ref sig .tc := ⟨.hbm, 196, rfl⟩
abbrev main_while0b_call9_c_1 : Ref sig .tc := ⟨.hbm, 197, rfl⟩
abbrev main_while0b_call9_c_2 : Ref sig .tc := ⟨.hbm, 198, rfl⟩
abbrev main_while0b_v144 : Ref sig .tc := ⟨.hbm, 199, rfl⟩
abbrev main_while0b_c_24 : Ref sig .tc := ⟨.hbm, 200, rfl⟩
abbrev main_while0b_v145 : Ref sig .tc := ⟨.hbm, 201, rfl⟩
abbrev main_v37 : Ref sig .tc := ⟨.hbm, 202, rfl⟩
abbrev main_v38 : Ref sig .tc := ⟨.hbm, 203, rfl⟩
abbrev main_v39 : Ref sig .tc := ⟨.hbm, 204, rfl⟩
abbrev main_v40 : Ref sig .tc := ⟨.hbm, 205, rfl⟩
abbrev main_cst_5 : Ref sig .tc := ⟨.hbm, 206, rfl⟩
abbrev main_v41 : Ref sig .tc := ⟨.hbm, 207, rfl⟩
abbrev main_v42 : Ref sig .tc := ⟨.hbm, 208, rfl⟩
abbrev main_cst_6 : Ref sig .tc := ⟨.hbm, 209, rfl⟩
abbrev main_v43 : Ref sig .tc := ⟨.hbm, 210, rfl⟩
abbrev main_v44 : Ref sig .tc := ⟨.hbm, 211, rfl⟩
abbrev main_cst_7 : Ref sig .tc := ⟨.hbm, 212, rfl⟩
abbrev main_v45 : Ref sig .tc := ⟨.hbm, 213, rfl⟩
abbrev main_v46 : Ref sig .tc := ⟨.hbm, 214, rfl⟩
abbrev main_v47 : Ref sig .tc := ⟨.hbm, 215, rfl⟩
abbrev main_v48 : Ref sig .tc := ⟨.hbm, 216, rfl⟩
abbrev main_v49 : Ref sig .tc := ⟨.hbm, 217, rfl⟩
abbrev main_v50 : Ref sig .tc := ⟨.hbm, 218, rfl⟩
abbrev main_v51 : Ref sig .tc := ⟨.hbm, 219, rfl⟩
abbrev main_v52 : Ref sig .tc := ⟨.hbm, 220, rfl⟩
abbrev main_v53 : Ref sig .tc := ⟨.hbm, 221, rfl⟩
abbrev main_v54 : Ref sig .tc := ⟨.hbm, 222, rfl⟩
abbrev main_v55 : Ref sig .tc := ⟨.hbm, 223, rfl⟩
abbrev main_cst_8 : Ref sig .tc := ⟨.hbm, 224, rfl⟩
abbrev main_v56 : Ref sig .tc := ⟨.hbm, 225, rfl⟩
abbrev main_v57 : Ref sig .tc := ⟨.hbm, 226, rfl⟩
abbrev main_cst_9 : Ref sig .tc := ⟨.hbm, 227, rfl⟩
abbrev main_v58 : Ref sig .tc := ⟨.hbm, 228, rfl⟩
abbrev main_v59 : Ref sig .tc := ⟨.hbm, 229, rfl⟩
abbrev main_v60 : Ref sig .tc := ⟨.hbm, 230, rfl⟩
abbrev main_v61 : Ref sig .tc := ⟨.hbm, 231, rfl⟩
abbrev main_v62 : Ref sig .tc := ⟨.hbm, 232, rfl⟩
abbrev main_v63 : Ref sig .tc := ⟨.hbm, 233, rfl⟩
abbrev main_v64 : Ref sig .tc := ⟨.hbm, 234, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S8192x4096 : Shape := ⟨2, ![8192, 4096]⟩
abbrev S32x4096 : Shape := ⟨2, ![32, 4096]⟩
abbrev S4x4096x11008 : Shape := ⟨3, ![4, 4096, 11008]⟩
abbrev S8192x11008 : Shape := ⟨2, ![8192, 11008]⟩
abbrev S32x11008 : Shape := ⟨2, ![32, 11008]⟩
abbrev S1024x4096 : Shape := ⟨2, ![1024, 4096]⟩
abbrev S1x4096x256 : Shape := ⟨3, ![1, 4096, 256]⟩
abbrev S1024x256 : Shape := ⟨2, ![1024, 256]⟩
abbrev S32x256 : Shape := ⟨2, ![32, 256]⟩
abbrev S4096x256 : Shape := ⟨2, ![4096, 256]⟩

abbrev nBuf : Space → Nat
  | .hbm => 6
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S32x4096, .bf16⟩
  | .hbm, ⟨2, _⟩ => ⟨S4x4096x11008, .f32⟩
  | .hbm, ⟨3, _⟩ => ⟨S4x4096x11008, .f32⟩
  | .hbm, ⟨4, _⟩ => ⟨S8192x11008, .bf16⟩
  | .hbm, ⟨5, _⟩ => ⟨S32x11008, .bf16⟩
  | .local _ .vmem, ⟨0, _⟩ => ⟨S1024x4096, .bf16⟩
  | .local _ .vmem, ⟨1, _⟩ => ⟨S1024x4096, .bf16⟩
  | .local _ .vmem, ⟨2, _⟩ => ⟨S32x4096, .bf16⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x4096x256, .f32⟩
  | .local _ .vmem, ⟨7, _⟩ => ⟨S1024x256, .bf16⟩
  | .local _ .vmem, ⟨8, _⟩ => ⟨S1024x256, .bf16⟩
  | .local _ .vmem, ⟨9, _⟩ => ⟨S32x256, .bf16⟩
  | .local _ .vmem, ⟨10, _⟩ => ⟨S32x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 43], ![false, false]⟩

def k0_cond1 (i : grid0.Coords) : BitVec 1 :=
  let arg0 : BitVec 32 := BitVec.ofNat 32 (i 0).val
  let c0_i32 : BitVec 32 := 0#32
  let v14 : BitVec 1 := Scalar.cmpi .eq arg0 c0_i32
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c42_i32 : BitVec 32 := 42#32
  let v1 : BitVec 32 := Scalar.select v0 arg1 c42_i32
  let c0_i32_0 : BitVec 32 := 0#32
  let c0_i32_1 : BitVec 32 := 0#32
  ![c0_i32_0.toNat, v1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S32x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8192x4096 : Shape := ⟨2, ![8192, 4096]⟩
abbrev S32x4096 : Shape := ⟨2, ![32, 4096]⟩
abbrev S4x4096x11008 : Shape := ⟨3, ![4, 4096, 11008]⟩
abbrev S1x4096x11008 : Shape := ⟨3, ![1, 4096, 11008]⟩
abbrev S4096x11008 : Shape := ⟨2, ![4096, 11008]⟩
abbrev S8192x11008 : Shape := ⟨2, ![8192, 11008]⟩
abbrev S_ : Shape := ⟨0, ![]⟩
abbrev S32x11008 : Shape := ⟨2, ![32, 11008]⟩

abbrev nBuf : Space → Nat
  | .hbm => 38
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S32x4096, .bf16⟩
  | .hbm, ⟨2, _⟩ => ⟨S4x4096x11008, .f32⟩
  | .hbm, ⟨3, _⟩ => ⟨S4x4096x11008, .f32⟩
  | .hbm, ⟨4, _⟩ => ⟨S1x4096x11008, .f32⟩
  | .hbm, ⟨5, _⟩ => ⟨S4096x11008, .f32⟩
  | .hbm, ⟨6, _⟩ => ⟨S1x4096x11008, .f32⟩
  | .hbm, ⟨7, _⟩ => ⟨S4096x11008, .f32⟩
  | .hbm, ⟨8, _⟩ => ⟨S8192x11008, .f32⟩
  | .hbm, ⟨9, _⟩ => ⟨S8192x11008, .f32⟩
  | .hbm, ⟨10, _⟩ => ⟨S8192x11008, .f32⟩
  | .hbm, ⟨11, _⟩ => ⟨S_, .f32⟩
  | .hbm, ⟨12, _⟩ => ⟨S8192x11008, .f32⟩
  | .hbm, ⟨13, _⟩ => ⟨S8192x11008, .f32⟩
  | .hbm, ⟨14, _⟩ => ⟨S_, .f32⟩
  | .hbm, ⟨15, _⟩ => ⟨S8192x11008, .f32⟩
  | .hbm, ⟨16, _⟩ => ⟨S8192x11008, .f32⟩
  | .hbm, ⟨17, _⟩ => ⟨S8192x11008, .f32⟩
  | .hbm, ⟨18, _⟩ => ⟨S8192x11008, .f32⟩
  | .hbm, ⟨19, _⟩ => ⟨S8192x11008, .f32⟩
  | .hbm, ⟨20, _⟩ => ⟨S8192x11008, .bf16⟩
  | .hbm, ⟨21, _⟩ => ⟨S1x4096x11008, .f32⟩
  | .hbm, ⟨22, _⟩ => ⟨S4096x11008, .f32⟩
  | .hbm, ⟨23, _⟩ => ⟨S1x4096x11008, .f32⟩
  | .hbm, ⟨24, _⟩ => ⟨S4096x11008, .f32⟩
  | .hbm, ⟨25, _⟩ => ⟨S32x11008, .f32⟩
  | .hbm, ⟨26, _⟩ => ⟨S32x11008, .f32⟩
  | .hbm, ⟨27, _⟩ => ⟨S32x11008, .f32⟩
  | .hbm, ⟨28, _⟩ => ⟨S_, .f32⟩
  | .hbm, ⟨29, _⟩ => ⟨S32x11008, .f32⟩
  | .hbm, ⟨30, _⟩ => ⟨S32x11008, .f32⟩
  | .hbm, ⟨31, _⟩ => ⟨S_, .f32⟩
  | .hbm, ⟨32, _⟩ => ⟨S32x11008, .f32⟩
  | .hbm, ⟨33, _⟩ => ⟨S32x11008, .f32⟩
  | .hbm, ⟨34, _⟩ => ⟨S32x11008, .f32⟩
  | .hbm, ⟨35, _⟩ => ⟨S32x11008, .f32⟩
  | .hbm, ⟨36, _⟩ => ⟨S32x11008, .f32⟩
  | .hbm, ⟨37, _⟩ => ⟨S32x11008, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩

abbrev nD : Nat := 1
abbrev τ : Topo := Topo.v7x

variable {F : FTy → Type} [FloatOps F]
-- ==== Kernel3.lean ====
abbrev S8192x11008 : Shape := ⟨2, ![8192, 11008]⟩
abbrev S4x11008x4096 : Shape := ⟨3, ![4, 11008, 4096]⟩
abbrev S8192x4096 : Shape := ⟨2, ![8192, 4096]⟩
abbrev S512x11008 : Shape := ⟨2, ![512, 11008]⟩
abbrev S1x11008x512 : Shape := ⟨3, ![1, 11008, 512]⟩
abbrev S512x512 : Shape := ⟨2, ![512, 512]⟩
abbrev S11008x512 : Shape := ⟨2, ![11008, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x11008, .bf16⟩
  | .hbm, ⟨1, _⟩ => ⟨S4x11008x4096, .f32⟩
  | .hbm, ⟨2, _⟩ => ⟨S4x11008x4096, .bf16⟩
  | .hbm, ⟨3, _⟩ => ⟨S8192x4096, .f32⟩
  | .local _ .vmem, ⟨0, _⟩ => ⟨S512x11008, .bf16⟩
  | .local _ .vmem, ⟨1, _⟩ => ⟨S512x11008, .bf16⟩
  | .local _ .vmem, ⟨2, _⟩ => ⟨S1x11008x512, .bf16⟩
  | .local _ .vmem, ⟨3, _⟩ => ⟨S1x11008x512, .bf16⟩
  | .local _ .vmem, ⟨4, _⟩ => ⟨S512x512, .f32⟩
  | .local _ .vmem, ⟨5, _⟩ => ⟨S512x512, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8192x11008 : Shape := ⟨2, ![8192, 11008]⟩
abbrev S4x11008x4096 : Shape := ⟨3, ![4, 11008, 4096]⟩
abbrev S1x11008x4096 : Shape := ⟨3, ![1, 11008, 4096]⟩
abbrev S11008x4096 : Shape := ⟨2, ![11008, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S4x11008x4096, .f32⟩
  | .hbm, ⟨2, _⟩ => ⟨S1x11008x4096, .f32⟩
  | .hbm, ⟨3, _⟩ => ⟨S11008x4096, .f32⟩
  | .hbm, ⟨4, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S8192x2048 : Shape := ⟨2, ![8192, 2048]⟩
abbrev S32x2048 : Shape := ⟨2, ![32, 2048]⟩
abbrev S2x4096x4096 : Shape := ⟨3, ![2, 4096, 4096]⟩
abbrev S8192x4096 : Shape := ⟨2, ![8192, 4096]⟩
abbrev S32x4096 : Shape := ⟨2, ![32, 4096]⟩
abbrev S1024x2048 : Shape := ⟨2, ![1024, 2048]⟩
abbrev S1x2048x512 : Shape := ⟨3, ![1, 2048, 512]⟩
abbrev S1024x512 : Shape := ⟨2, ![1024, 512]⟩
abbrev S32x512 : Shape := ⟨2, ![32, 512]⟩
abbrev S2048x512 : Shape := ⟨2, ![2048, 512]⟩

abbrev nBuf : Space → Nat
  | .hbm => 7
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S32x2048, .bf16⟩
  | .hbm, ⟨3, _⟩ => ⟨S32x2048, .bf16⟩
  | .hbm, ⟨4, _⟩ => ⟨S2x4096x4096, .f32⟩
  | .hbm, ⟨5, _⟩ => ⟨S8192x4096, .f32⟩
  | .hbm, ⟨6, _⟩ => ⟨S32x4096, .f32⟩
  | .local _ .vmem, ⟨0, _⟩ => ⟨S1024x2048, .bf16⟩
  | .local _ .vmem, ⟨1, _⟩ => ⟨S1024x2048, .bf16⟩
  | .local _ .vmem, ⟨2, _⟩ => ⟨S32x2048, .bf16⟩
  | .local _ .vmem, ⟨3, _⟩ => ⟨S1x2048x512, .f32⟩
  | .local _ .vmem, ⟨4, _⟩ => ⟨S1x2048x512, .f32⟩
  | .local _ .vmem, ⟨5, _⟩ => ⟨S1024x2048, .bf16⟩
  | .local _ .vmem, ⟨6, _⟩ => ⟨S1024x2048, .bf16⟩
  | .local _ .vmem, ⟨7, _⟩ => ⟨S32x2048, .bf16⟩
  | .local _ .vmem, ⟨8, _⟩ => ⟨S1x2048x512, .f32⟩
  | .local _ .vmem, ⟨9, _⟩ => ⟨S1x2048x512, .f32⟩
  | .local _ .vmem, ⟨10, _⟩ => ⟨S1024x512, .f32⟩
  | .local _ .vmem, ⟨11, _⟩ => ⟨S1024x512, .f32⟩
  | .local _ .vmem, ⟨12, _⟩ => ⟨S32x512, .f32⟩
  | .local _ .vmem, ⟨13, _⟩ => ⟨S32x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let c0_i32 : BitVec 32 := 0#32
  let v12 : BitVec 1 := Scalar.cmpi .eq arg0 c0_i32
  let v13 : BitVec 32 := Scalar.extui v12
  let c0_i32_12 : BitVec 32 := 0#32
  let v14 : BitVec 1 := Scalar.cmpi .ne v13 c0_i32_12
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![c0_i32_0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S32x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S32x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S8192x2048 : Shape := ⟨2, ![8192, 2048]⟩
abbrev S32x2048 : Shape := ⟨2, ![32, 2048]⟩
abbrev S2x4096x4096 : Shape := ⟨3, ![2, 4096, 4096]⟩
abbrev S8192x4096 : Shape := ⟨2, ![8192, 4096]⟩
abbrev S1x4096x4096 : Shape := ⟨3, ![1, 4096, 4096]⟩
abbrev S4096x4096 : Shape := ⟨2, ![4096, 4096]⟩
abbrev S32x4096 : Shape := ⟨2, ![32, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S32x2048, .bf16⟩
  | .hbm, ⟨3, _⟩ => ⟨S32x2048, .bf16⟩
  | .hbm, ⟨4, _⟩ => ⟨S2x4096x4096, .f32⟩
  | .hbm, ⟨5, _⟩ => ⟨S8192x4096, .bf16⟩
  | .hbm, ⟨6, _⟩ => ⟨S1x4096x4096, .f32⟩
  | .hbm, ⟨7, _⟩ => ⟨S4096x4096, .f32⟩
  | .hbm, ⟨8, _⟩ => ⟨S8192x4096, .f32⟩
  | .hbm, ⟨9, _⟩ => ⟨S32x4096, .bf16⟩
  | .hbm, ⟨10, _⟩ => ⟨S1x4096x4096, .f32⟩
  | .hbm, ⟨11, _⟩ => ⟨S4096x4096, .f32⟩
  | .hbm, ⟨12, _⟩ => ⟨S32x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel5.lean ====
abbrev S32x128x4x64 : Shape := ⟨4, ![32, 128, 4, 64]⟩
abbrev S32x4x64 : Shape := ⟨3, ![32, 4, 64]⟩
abbrev S1x128x4x64 : Shape := ⟨4, ![1, 128, 4, 64]⟩
abbrev S1x4x64 : Shape := ⟨3, ![1, 4, 64]⟩
abbrev S1x64x4x64 : Shape := ⟨4, ![1, 64, 4, 64]⟩
abbrev S64x4x64 : Shape := ⟨3, ![64, 4, 64]⟩
abbrev S1x63x4x64 : Shape := ⟨4, ![1, 63, 4, 64]⟩
abbrev S63x4x64 : Shape := ⟨3, ![63, 4, 64]⟩
abbrev S4x64 : Shape := ⟨2, ![4, 64]⟩
abbrev S1x1x4x64 : Shape := ⟨4, ![1, 1, 4, 64]⟩

abbrev nBuf : Space → Nat
  | .hbm => 3
  | .vmem => 6
  | .smem => 0
  | _ => 0

abbrev bufTy : (tb : Table) → Fin (tcTables nBuf tb) → BufTy
  | .hbm, ⟨0, _⟩ => ⟨S32x128x4x64, .f32⟩
  | .hbm, ⟨1, _⟩ => ⟨S32x4x64, .f32⟩
  | .hbm, ⟨2, _⟩ => ⟨S32x128x4x64, .f32⟩
  | .local _ .vmem, ⟨0, _⟩ => ⟨S1x128x4x64, .f32⟩
  | .local _ .vmem, ⟨1, _⟩ => ⟨S1x128x4x64, .f32⟩
  | .local _ .vmem, ⟨2, _⟩ => ⟨S1x4x64, .f32⟩
  | .local _ .vmem, ⟨3, _⟩ => ⟨S1x4x64, .f32⟩
  | .local _ .vmem, ⟨4, _⟩ => ⟨S1x128x4x64, .f32⟩
  | .local _ .vmem, ⟨5, _⟩ => ⟨S1x128x4x64, .f32⟩
  | _, _ => ⟨S32x128x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def k0_off1 : Fin 4 → Nat :=
  let c0 : Index := 0#32
  let c0_i32 : BitVec 32 := 0#32
  let c64_i32 : BitVec 32 := 64#32
  let v0 : BitVec 32 := Scalar.muli c0_i32 c64_i32
  let c1_i32 : BitVec 32 := 1#32
  let v1 : BitVec 32 := Scalar.addi v0 c1_i32
  let v2 : Index := Scalar.indexCast v1
  let c0_0 : Index := 0#32
  let c0_1 : Index := 0#32
  ![0, v2.toNat, 0, 0]
def k0_off2 : Fin 4 → Nat :=
  let c0_3 : Index := 0#32
  let c0_i32 : BitVec 32 := 0#32
  let c64_i32_2 : BitVec 32 := 64#32
  let v5 : BitVec 32 := Scalar.muli c0_i32 c64_i32_2
  let v6 : Index := Scalar.indexCast v5
  let c0_4 : Index := 0#32
  let c0_5 : Index := 0#32
  ![0, v6.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x4x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x4x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S32x128x4x64 : Shape := ⟨4, ![32, 128, 4, 64]⟩
abbrev S32x4x64 : Shape := ⟨3, ![32, 4, 64]⟩
abbrev S32x1x4x64 : Shape := ⟨4, ![32, 1, 4, 64]⟩
abbrev S32x129x4x64 : Shape := ⟨4, ![32, 129, 4, 64]⟩

abbrev nBuf : Space → Nat
  | .hbm => 5
  | .vmem => 0
  | .smem => 0
  | _ => 0

abbrev bufTy : (tb : Table) → Fin (tcTables nBuf tb) → BufTy
  | .hbm, ⟨0, _⟩ => ⟨S32x128x4x64, .f32⟩
  | .hbm, ⟨1, _⟩ => ⟨S32x4x64, .f32⟩
  | .hbm, ⟨2, _⟩ => ⟨S32x1x4x64, .f32⟩
  | .hbm, ⟨3, _⟩ => ⟨S32x129x4x64, .f32⟩
  | .hbm, ⟨4, _⟩ => ⟨S32x128x4x64, .f32⟩
  | _, _ => ⟨S32x128x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S32x2048x8x128 : Shape := ⟨4, ![32, 2048, 8, 128]⟩
abbrev S32x8x128 : Shape := ⟨3, ![32, 8, 128]⟩
abbrev S1x2048x8x128 : Shape := ⟨4, ![1, 2048, 8, 128]⟩
abbrev S1x8x128 : Shape := ⟨3, ![1, 8, 128]⟩
abbrev S1x64x8x128 : Shape := ⟨4, ![1, 64, 8, 128]⟩
abbrev S64x8x128 : Shape := ⟨3, ![64, 8, 128]⟩
abbrev S1x63x8x128 : Shape := ⟨4, ![1, 63, 8, 128]⟩
abbrev S63x8x128 : Shape := ⟨3, ![63, 8, 128]⟩
abbrev S8x128 : Shape := ⟨2, ![8, 128]⟩
abbrev S1x1x8x128 : Shape := ⟨4, ![1, 1, 8, 128]⟩

abbrev nBuf : Space → Nat
  | .hbm => 3
  | .vmem => 6
  | .smem => 0
  | _ => 0

abbrev bufTy : (tb : Table) → Fin (tcTables nBuf tb) → BufTy
  | .hbm, ⟨0, _⟩ => ⟨S32x2048x8x128, .f32⟩
  | .hbm, ⟨1, _⟩ => ⟨S32x8x128, .f32⟩
  | .hbm, ⟨2, _⟩ => ⟨S32x2048x8x128, .f32⟩
  | .local _ .vmem, ⟨0, _⟩ => ⟨S1x2048x8x128, .f32⟩
  | .local _ .vmem, ⟨1, _⟩ => ⟨S1x2048x8x128, .f32⟩
  | .local _ .vmem, ⟨2, _⟩ => ⟨S1x8x128, .f32⟩
  | .local _ .vmem, ⟨3, _⟩ => ⟨S1x8x128, .f32⟩
  | .local _ .vmem, ⟨4, _⟩ => ⟨S1x2048x8x128, .f32⟩
  | .local _ .vmem, ⟨5, _⟩ => ⟨S1x2048x8x128, .f32⟩
  | _, _ => ⟨S32x2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c31_i32 : BitVec 32 := 31#32
  let v0 : BitVec 32 := Scalar.addi c0_i32 c31_i32
  let c1_i32 : BitVec 32 := 1#32
  ⟨c0_i32, v0, c1_i32⟩
def k0_off1 (k0_t1 : Fin k0_t1_loop.trips) : Fin 4 → Nat :=
  let c0_13 : Index := 0#32
  let c0_i32 : BitVec 32 := 0#32
  let c1_i32 : BitVec 32 := 1#32
  let arg4 : BitVec 32 := Scf.iv c0_i32 c1_i32 k0_t1
  let c64_i32 : BitVec 32 := 64#32
  let v11 : BitVec 32 := Scalar.muli arg4 c64_i32
  let c1_i32_12 : BitVec 32 := 1#32
  let v12 : BitVec 32 := Scalar.addi v11 c1_i32_12
  let v13 : Index := Scalar.indexCast v12
  let c0_14 : Index := 0#32
  let c0_15 : Index := 0#32
  ![0, v13.toNat, 0, 0]
def k0_off2 (k0_t1 : Fin k0_t1_loop.trips) : Fin 4 → Nat :=
  let c0_17 : Index := 0#32
  let c0_i32 : BitVec 32 := 0#32
  let c1_i32 : BitVec 32 := 1#32
  let arg4 : BitVec 32 := Scf.iv c0_i32 c1_i32 k0_t1
  let c64_i32_16 : BitVec 32 := 64#32
  let v16 : BitVec 32 := Scalar.muli arg4 c64_i32_16
  let v17 : Index := Scalar.indexCast v16
  let c0_18 : Index := 0#32
  let c0_19 : Index := 0#32
  ![0, v17.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2048x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S32x2048x8x128 : Shape := ⟨4, ![32, 2048, 8, 128]⟩
abbrev S32x8x128 : Shape := ⟨3, ![32, 8, 128]⟩
abbrev S32x1x8x128 : Shape := ⟨4, ![32, 1, 8, 128]⟩
abbrev S32x2049x8x128 : Shape := ⟨4, ![32, 2049, 8, 128]⟩

abbrev nBuf : Space → Nat
  | .hbm => 5
  | .vmem => 0
  | .smem => 0
  | _ => 0

abbrev bufTy : (tb : Table) → Fin (tcTables nBuf tb) → BufTy
  | .hbm, ⟨0, _⟩ => ⟨S32x2048x8x128, .f32⟩
  | .hbm, ⟨1, _⟩ => ⟨S32x8x128, .f32⟩
  | .hbm, ⟨2, _⟩ => ⟨S32x1x8x128, .f32⟩
  | .hbm, ⟨3, _⟩ => ⟨S32x2049x8x128, .f32⟩
  | .hbm, ⟨4, _⟩ => ⟨S32x2048x8x128, .f32⟩
  | _, _ => ⟨S32x2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S32x6144 : Shape := ⟨2, ![32, 6144]⟩
abbrev S32x4 : Shape := ⟨2, ![32, 4]⟩
abbrev S2048 : Shape := ⟨1, ![2048]⟩
abbrev S32x4x256x512 : Shape := ⟨4, ![32, 4, 256, 512]⟩
abbrev S32x4x256 : Shape := ⟨3, ![32, 4, 256]⟩
abbrev S32x1024 : Shape := ⟨2, ![32, 1024]⟩
abbrev S32x4x256x1 : Shape := ⟨4, ![32, 4, 256, 1]⟩
abbrev S32x2048 : Shape := ⟨2, ![32, 2048]⟩
abbrev S32x4x1x512 : Shape := ⟨4, ![32, 4, 1, 512]⟩
abbrev S32x4x1x1 : Shape := ⟨4, ![32, 4, 1, 1]⟩
abbrev S4x1x512 : Shape := ⟨3, ![4, 1, 512]⟩
abbrev S1x4x256x1 : Shape := ⟨4, ![1, 4, 256, 1]⟩
abbrev S1x4x1x512 : Shape := ⟨4, ![1, 4, 1, 512]⟩
abbrev S1x4x1x1 : Shape := ⟨4, ![1, 4, 1, 1]⟩
abbrev S1x4x256x512 : Shape := ⟨4, ![1, 4, 256, 512]⟩
abbrev S1x1x256x1 : Shape := ⟨4, ![1, 1, 256, 1]⟩
abbrev S256x1 : Shape := ⟨2, ![256, 1]⟩
abbrev S1x1x1x512 : Shape := ⟨4, ![1, 1, 1, 512]⟩
abbrev S1x512 : Shape := ⟨2, ![1, 512]⟩
abbrev S1x1x256x512 : Shape := ⟨4, ![1, 1, 256, 512]⟩
abbrev S256x512 : Shape := ⟨2, ![256, 512]⟩
abbrev S1x1x1x1 : Shape := ⟨4, ![1, 1, 1, 1]⟩
abbrev S1x1 : Shape := ⟨2, ![1, 1]⟩
abbrev S1 : Shape := ⟨1, ![1]⟩
abbrev S512 : Shape := ⟨1, ![512]⟩
abbrev S1x1x512 : Shape := ⟨3, ![1, 1, 512]⟩

abbrev nBuf : Space → Nat
  | .hbm => 24
  | .vmem => 27
  | .smem => 0
  | _ => 0

abbrev bufTy : (tb : Table) → Fin (tcTables nBuf tb) → BufTy
  | .hbm, ⟨0, _⟩ => ⟨S32x6144, .f32⟩
  | .hbm, ⟨1, _⟩ => ⟨S32x4, .f32⟩
  | .hbm, ⟨2, _⟩ => ⟨S32x4, .f32⟩
  | .hbm, ⟨3, _⟩ => ⟨S2048, .f32⟩
  | .hbm, ⟨4, _⟩ => ⟨S32x4x256x512, .f32⟩
  | .hbm, ⟨5, _⟩ => ⟨S32x4x256, .f32⟩
  | .hbm, ⟨6, _⟩ => ⟨S32x4, .f32⟩
  | .hbm, ⟨7, _⟩ => ⟨S32x1024, .f32⟩
  | .hbm, ⟨8, _⟩ => ⟨S32x4x256x1, .f32⟩
  | .hbm, ⟨9, _⟩ => ⟨S32x1024, .f32⟩
  | .hbm, ⟨10, _⟩ => ⟨S32x4x256x1, .f32⟩
  | .hbm, ⟨11, _⟩ => ⟨S32x2048, .f32⟩
  | .hbm, ⟨12, _⟩ => ⟨S32x4x1x512, .f32⟩
  | .hbm, ⟨13, _⟩ => ⟨S32x2048, .f32⟩
  | .hbm, ⟨14, _⟩ => ⟨S32x4x1x512, .f32⟩
  | .hbm, ⟨15, _⟩ => ⟨S32x4x1x1, .f32⟩
  | .hbm, ⟨16, _⟩ => ⟨S32x4x1x1, .f32⟩
  | .hbm, ⟨17, _⟩ => ⟨S32x4x256x1, .f32⟩
  | .hbm, ⟨18, _⟩ => ⟨S32x4x1x1, .f32⟩
  | .hbm, ⟨19, _⟩ => ⟨S4x1x512, .f32⟩
  | .hbm, ⟨20, _⟩ => ⟨S32x4x1x512, .f32⟩
  | .hbm, ⟨21, _⟩ => ⟨S32x4x256x512, .f32⟩
  | .hbm, ⟨22, _⟩ => ⟨S32x4x256x1, .f32⟩
  | .hbm, ⟨23, _⟩ => ⟨S32x4x1x1, .f32⟩
  | .local _ .vmem, ⟨0, _⟩ => ⟨S1x4x256x1, .f32⟩
  | .local _ .vmem, ⟨1, _⟩ => ⟨S1x4x256x1, .f32⟩
  | .local _ .vmem, ⟨2, _⟩ => ⟨S1x4x256x1, .f32⟩
  | .local _ .vmem, ⟨3, _⟩ => ⟨S1x4x256x1, .f32⟩
  | .local _ .vmem, ⟨4, _⟩ => ⟨S1x4x1x512, .f32⟩
  | .local _ .vmem, ⟨5, _⟩ => ⟨S1x4x1x512, .f32⟩
  | .local _ .vmem, ⟨6, _⟩ => ⟨S1x4x1x512, .f32⟩
  | .local _ .vmem, ⟨7, _⟩ => ⟨S1x4x1x512, .f32⟩
  | .local _ .vmem, ⟨8, _⟩ => ⟨S1x4x1x1, .f32⟩
  | .local _ .vmem, ⟨9, _⟩ => ⟨S1x4x1x1, .f32⟩
  | .local _ .vmem, ⟨10, _⟩ => ⟨S1x4x1x1, .f32⟩
  | .local _ .vmem, ⟨11, _⟩ => ⟨S1x4x1x1, .f32⟩
  | .local _ .vmem, ⟨12, _⟩ => ⟨S1x4x256x512, .f32⟩
  | .local _ .vmem, ⟨13, _⟩ => ⟨S1x4x256x512, .f32⟩
  | .local _ .vmem, ⟨14, _⟩ => ⟨S1x4x256x1, .f32⟩
  | .local _ .vmem, ⟨15, _⟩ => ⟨S1x4x256x1, .f32⟩
  | .local _ .vmem, ⟨16, _⟩ => ⟨S1x4x1x1, .f32⟩
  | .local _ .vmem, ⟨17, _⟩ => ⟨S1x4x1x1, .f32⟩
  | .local _ .vmem, ⟨18, _⟩ => ⟨S4x1x512, .f32⟩
  | .local _ .vmem, ⟨19, _⟩ => ⟨S1x4x1x512, .f32⟩
  | .local _ .vmem, ⟨20, _⟩ => ⟨S1x4x1x512, .f32⟩
  | .local _ .vmem, ⟨21, _⟩ => ⟨S1x4x256x512, .f32⟩
  | .local _ .vmem, ⟨22, _⟩ => ⟨S1x4x256x512, .f32⟩
  | .local _ .vmem, ⟨23, _⟩ => ⟨S1x4x256x1, .f32⟩
  | .local _ .vmem, ⟨24, _⟩ => ⟨S1x4x256x1, .f32⟩
  | .local _ .vmem, ⟨25, _⟩ => ⟨S1x4x1x1, .f32⟩
  | .local _ .vmem, ⟨26, _⟩ => ⟨S1x4x1x1, .f32⟩
  | _, _ => ⟨S32x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev main_v13_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4x256x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x4x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x256x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x4x1x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference7Ideal.lean ====
abbrev S32x6144 : Shape := ⟨2, ![32, 6144]⟩
abbrev S32x4 : Shape := ⟨2, ![32, 4]⟩
abbrev S2048 : Shape := ⟨1, ![2048]⟩
abbrev S32x4x256x512 : Shape := ⟨4, ![32, 4, 256, 512]⟩
abbrev S32x4x256 : Shape := ⟨3, ![32, 4, 256]⟩
abbrev S32x1024 : Shape := ⟨2, ![32, 1024]⟩
abbrev S32x2048 : Shape := ⟨2, ![32, 2048]⟩
abbrev S32x4x512 : Shape := ⟨3, ![32, 4, 512]⟩
abbrev S32x4x1x1 : Shape := ⟨4, ![32, 4, 1, 1]⟩
abbrev S32x4x1 : Shape := ⟨3, ![32, 4, 1]⟩
abbrev S32x4x256x1 : Shape := ⟨4, ![32, 4, 256, 1]⟩
abbrev S32x4x1x512 : Shape := ⟨4, ![32, 4, 1, 512]⟩

abbrev nBuf : Space → Nat
  | .hbm => 41
  | .vmem => 0
  | .smem => 0
  | _ => 0

abbrev bufTy : (tb : Table) → Fin (tcTables nBuf tb) → BufTy
  | .hbm, ⟨0, _⟩ => ⟨S32x6144, .f32⟩
  | .hbm, ⟨1, _⟩ => ⟨S32x4, .f32⟩
  | .hbm, ⟨2, _⟩ => ⟨S32x4, .f32⟩
  | .hbm, ⟨3, _⟩ => ⟨S2048, .f32⟩
  | .hbm, ⟨4, _⟩ => ⟨S32x4x256x512, .f32⟩
  | .hbm, ⟨5, _⟩ => ⟨S32x4x256, .f32⟩
  | .hbm, ⟨6, _⟩ => ⟨S32x4, .f32⟩
  | .hbm, ⟨7, _⟩ => ⟨S32x1024, .f32⟩
  | .hbm, ⟨8, _⟩ => ⟨S32x1024, .f32⟩
  | .hbm, ⟨9, _⟩ => ⟨S32x2048, .f32⟩
  | .hbm, ⟨10, _⟩ => ⟨S32x2048, .f32⟩
  | .hbm, ⟨11, _⟩ => ⟨S32x4x256, .f32⟩
  | .hbm, ⟨12, _⟩ => ⟨S32x4x512, .f32⟩
  | .hbm, ⟨13, _⟩ => ⟨S32x4, .f32⟩
  | .hbm, ⟨14, _⟩ => ⟨S32x4, .f32⟩
  | .hbm, ⟨15, _⟩ => ⟨S32x4, .f32⟩
  | .hbm, ⟨16, _⟩ => ⟨S32x4, .f32⟩
  | .hbm, ⟨17, _⟩ => ⟨S32x4, .f32⟩
  | .hbm, ⟨18, _⟩ => ⟨S32x4, .f32⟩
  | .hbm, ⟨19, _⟩ => ⟨S32x4, .f32⟩
  | .hbm, ⟨20, _⟩ => ⟨S32x4x1x1, .f32⟩
  | .hbm, ⟨21, _⟩ => ⟨S32x4x256x512, .f32⟩
  | .hbm, ⟨22, _⟩ => ⟨S32x4x256x512, .f32⟩
  | .hbm, ⟨23, _⟩ => ⟨S32x4x1, .f32⟩
  | .hbm, ⟨24, _⟩ => ⟨S32x4x256, .f32⟩
  | .hbm, ⟨25, _⟩ => ⟨S32x4x256, .f32⟩
  | .hbm, ⟨26, _⟩ => ⟨S32x4x256x1, .f32⟩
  | .hbm, ⟨27, _⟩ => ⟨S32x4x1x512, .f32⟩
  | .hbm, ⟨28, _⟩ => ⟨S32x4x256x512, .f32⟩
  | .hbm, ⟨29, _⟩ => ⟨S32x4x256x512, .f32⟩
  | .hbm, ⟨30, _⟩ => ⟨S32x4x256x512, .f32⟩
  | .hbm, ⟨31, _⟩ => ⟨S32x4x256x512, .f32⟩
  | .hbm, ⟨32, _⟩ => ⟨S32x4x1, .f32⟩
  | .hbm, ⟨33, _⟩ => ⟨S32x4x256, .f32⟩
  | .hbm, ⟨34, _⟩ => ⟨S32x4x256, .f32⟩
  | .hbm, ⟨35, _⟩ => ⟨S32x4x1, .f32⟩
  | .hbm, ⟨36, _⟩ => ⟨S32x4x256, .f32⟩
  | .hbm, ⟨37, _⟩ => ⟨S32x4x256, .f32⟩
  | .hbm, ⟨38, _⟩ => ⟨S32x4x256, .f32⟩
  | .hbm, ⟨39, _⟩ => ⟨S32x4x256x1, .f32⟩
  | .hbm, ⟨40, _⟩ => ⟨S32x4x1x1, .f32⟩
  | _, _ => ⟨S32x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== Proof.MlstmHead.lean ====
module

public import proofs.«01_k».proof.Proof.Gen.KernelIdeal.Skeleton

/-! One head's step over one chunk of 64 rows, as the kernel computes it on the blocks it reads: the new matrix state
`hC`, the new normaliser `hN`, the new stabiliser `hM` and the chunk's output rows `hO`. -/

@[expose] public section

set_option maxRecDepth 16384

noncomputable section

namespace Cert.Mlstm

open Idealize.ShloMosaic
open Cert.KernelIdeal Cert.KernelIdeal.Gen

variable {F : FTy → Type} [FloatOps F] [Named F]

/-- The cumulative log forget gates of the chunk, as a column. -/
def hB (f : Vec F S1x1x64x1 .f32) : FVec F S64x1 .f32 := k0_pay43 k0_pay2 f

/-- Input gate minus cumulative forget gate, as a column. -/
def hAc (i f : Vec F S1x1x64x1 .f32) : FVec F S64x1 .f32 := k0_pay44 k0_pay2 i f

/-- Input gate minus cumulative forget gate, as a row. -/
def hAr (i f : Vec F S1x1x1x1x64 .f32) : FVec F S1x64 .f32 := k0_pay45 k0_pay3 i f

/-- The stabiliser after the chunk. -/
def hM (f : Vec F S1x1x64x1 .f32) (ir fr : Vec F S1x1x1x1x64 .f32) (m : Vec F S1x1x1x1 .f32) : Vec F S1x1x1x1 .f32 :=
  k0_pay62 (k0_pay56 (k0_pay39 m) (hB f) (hAr ir fr))

/-- The normaliser after the chunk. -/
def hN (k : Vec F S1x64x256 .f32) (i f : Vec F S1x1x64x1 .f32) (ir fr : Vec F S1x1x1x1x64 .f32)
    (n : Vec F S1x1x1x256 .f32) (m : Vec F S1x1x1x1 .f32) : Vec F S1x1x1x256 .f32 :=
  k0_pay61 (k0_pay60 (k0_pay39 m) (k0_pay41 k) (hB f) (hAc i f) (hAr ir fr) (k0_pay52 n))

/-- The matrix state after the chunk. -/
def hC (k : Vec F S1x64x256 .f32) (v : Vec F S1x64x512 .f32) (i f : Vec F S1x1x64x1 .f32)
    (ir fr : Vec F S1x1x1x1x64 .f32) (C : Vec F S1x1x256x512 .f32) (m : Vec F S1x1x1x1 .f32) :
    Vec F S1x1x256x512 .f32 :=
  k0_pay59 (k0_pay39 m) (k0_pay41 k) (k0_pay42 v) (hB f) (hAc i f) (hAr ir fr) (k0_pay51 C)

/-- The chunk's output rows. -/
def hO (q k : Vec F S1x64x256 .f32) (v og : Vec F S1x64x512 .f32) (i f : Vec F S1x1x64x1 .f32)
    (ir fr : Vec F S1x1x1x1x64 .f32) (hn : Vec F S1x1x512 .f32) (C : Vec F S1x1x256x512 .f32)
    (n : Vec F S1x1x1x256 .f32) (m : Vec F S1x1x1x1 .f32) : Vec F S1x64x512 .bf16 :=
  k0_pay54 (k0_pay53 (k0_pay40 q) (k0_pay41 k) (k0_pay42 v) (k0_pay48 k0_pay1 k0_pay2 k0_pay3 (k0_pay39 m) f ir fr)
    (k0_pay49 k0_pay1 k0_pay2 k0_pay3 (k0_pay39 m) f ir fr) (k0_pay50 k0_pay1 k0_pay2 k0_pay3 (k0_pay39 m) f ir fr)
    C n) hn og

end Cert.Mlstm

end
-- ==== Proof.MlstmTrip.lean ====
module

public import proofs.«01_k».proof.Proof.MlstmHead
public import proofs.«01_k».proof.Proof.Gen.KernelIdeal.Loops

/-! What one trip of the kernel's chunk loop writes: for each of the four heads one slab of the output, and the head's
three pieces of state, each a head function (`MlstmHead.lean`) of what the trip reads. -/

@[expose] public section

set_option maxRecDepth 16384

noncomputable section

namespace Cert.KernelIdeal.Gen

open Idealize.ShloMosaic Idealize.SL.Sem
open Cert.Mlstm

variable {F : FTy → Type} [FloatOps F] [Named F]
variable (𝒱 : Variants) (c : Dev nD) (bd : Option 𝒱.V) (i : grid0.Coords)
variable (arg3 : Memref sig .tc .vmem S1x512x1024 .f32) (harg3 : arg3.IsWhole)
variable (arg4 : Memref sig .tc .vmem S1x512x1024 .f32) (harg4 : arg4.IsWhole)
variable (arg5 : Memref sig .tc .vmem S1x512x2048 .f32) (harg5 : arg5.IsWhole)
variable (arg6 : Memref sig .tc .vmem S1x512x2048 .f32) (harg6 : arg6.IsWhole)
variable (arg7 : Memref sig .tc .vmem S1x4x512x1 .f32) (harg7 : arg7.IsWhole)
variable (arg8 : Memref sig .tc .vmem S1x4x512x1 .f32) (harg8 : arg8.IsWhole)
variable (arg9 : Memref sig .tc .vmem S1x4x8x1x64 .f32) (harg9 : arg9.IsWhole)
variable (arg10 : Memref sig .tc .vmem S1x4x8x1x64 .f32) (harg10 : arg10.IsWhole)
variable (arg11 : Memref sig .tc .vmem S4x1x512 .f32) (harg11 : arg11.IsWhole)
variable (arg12 : Memref sig .tc .vmem S1x512x2048 .bf16) (harg12 : arg12.IsWhole)
variable (arg13 : Memref sig .tc .vmem S1x4x256x512 .f32) (harg13 : arg13.IsWhole)
variable (arg14 : Memref sig .tc .vmem S1x4x1x256 .f32) (harg14 : arg14.IsWhole)
variable (arg15 : Memref sig .tc .vmem S1x4x1x1 .f32) (harg15 : arg15.IsWhole)
variable (X_arg3 : BufTy.Contents (Elt F) arg3.view.ty)
variable (X_arg4 : BufTy.Contents (Elt F) arg4.view.ty)
variable (X_arg5 : BufTy.Contents (Elt F) arg5.view.ty)
variable (X_arg6 : BufTy.Contents (Elt F) arg6.view.ty)
variable (X_arg7 : BufTy.Contents (Elt F) arg7.view.ty)
variable (X_arg8 : BufTy.Contents (Elt F) arg8.view.ty)
variable (X_arg9 : BufTy.Contents (Elt F) arg9.view.ty)
variable (X_arg10 : BufTy.Contents (Elt F) arg10.view.ty)
variable (X_arg11 : BufTy.Contents (Elt F) arg11.view.ty)
variable (k : Fin k0_t1_loop.trips)
variable (f_arg12 : BufTy.Contents (Elt F) arg12.view.ty)
variable (f_arg13 : BufTy.Contents (Elt F) arg13.view.ty)
variable (f_arg14 : BufTy.Contents (Elt F) arg14.view.ty)
variable (f_arg15 : BufTy.Contents (Elt F) arg15.view.ty)

unseal trip_k0_t1 in
/-- The pieces one trip writes into the stabiliser state, last head first. -/
theorem trip_arg15 :
    (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 X_arg3 X_arg4 X_arg5 X_arg6 X_arg7 X_arg8 X_arg9 X_arg10 X_arg11 k f_arg12 f_arg13 f_arg14 f_arg15).2.2.2 =
      [⟨Rect.unit (s := S1x4x1x1) ![0, 3, 0, 0] S1x1x1x1.size inb_S1x4x1x1_S1x1x1x1_0_3_0_0,
          hM (View.readAt (Elt F) arg8.view (Rect.unit (s := S1x4x512x1) (k0_off15 k) S1x1x64x1.size (k0_off15_inb k)).toLoadRect X_arg8)
            (View.readAt (Elt F) arg9.view (Rect.unit (s := S1x4x8x1x64) (k0_off16 k) S1x1x1x1x64.size (k0_off16_inb k)).toLoadRect X_arg9)
            (View.readAt (Elt F) arg10.view (Rect.unit (s := S1x4x8x1x64) (k0_off16 k) S1x1x1x1x64.size (k0_off16_inb k)).toLoadRect X_arg10)
            (View.readAt (Elt F) arg15.view (Rect.unit (s := S1x4x1x1) ![0, 3, 0, 0] S1x1x1x1.size inb_S1x4x1x1_S1x1x1x1_0_3_0_0).toLoadRect f_arg15)⟩,
       ⟨Rect.unit (s := S1x4x1x1) ![0, 2, 0, 0] S1x1x1x1.size inb_S1x4x1x1_S1x1x1x1_0_2_0_0,
          hM (View.readAt (Elt F) arg8.view (Rect.unit (s := S1x4x512x1) (k0_off11 k) S1x1x64x1.size (k0_off11_inb k)).toLoadRect X_arg8)
            (View.readAt (Elt F) arg9.view (Rect.unit (s := S1x4x8x1x64) (k0_off12 k) S1x1x1x1x64.size (k0_off12_inb k)).toLoadRect X_arg9)
            (View.readAt (Elt F) arg10.view (Rect.unit (s := S1x4x8x1x64) (k0_off12 k) S1x1x1x1x64.size (k0_off12_inb k)).toLoadRect X_arg10)
            (View.readAt (Elt F) arg15.view (Rect.unit (s := S1x4x1x1) ![0, 2, 0, 0] S1x1x1x1.size inb_S1x4x1x1_S1x1x1x1_0_2_0_0).toLoadRect f_arg15)⟩,
       ⟨Rect.unit (s := S1x4x1x1) ![0, 1, 0, 0] S1x1x1x1.size inb_S1x4x1x1_S1x1x1x1_0_1_0_0,
          hM (View.readAt (Elt F) arg8.view (Rect.unit (s := S1x4x512x1) (k0_off7 k) S1x1x64x1.size (k0_off7_inb k)).toLoadRect X_arg8)
            (View.readAt (Elt F) arg9.view (Rect.unit (s := S1x4x8x1x64) (k0_off8 k) S1x1x1x1x64.size (k0_off8_inb k)).toLoadRect X_arg9)
            (View.readAt (Elt F) arg10.view (Rect.unit (s := S1x4x8x1x64) (k0_off8 k) S1x1x1x1x64.size (k0_off8_inb k)).toLoadRect X_arg10)
            (View.readAt (Elt F) arg15.view (Rect.unit (s := S1x4x1x1) ![0, 1, 0, 0] S1x1x1x1.size inb_S1x4x1x1_S1x1x1x1_0_1_0_0).toLoadRect f_arg15)⟩,
       ⟨Rect.unit (s := S1x4x1x1) ![0, 0, 0, 0] S1x1x1x1.size inb_S1x4x1x1_S1x1x1x1_0_0_0_0,
          hM (View.readAt (Elt F) arg8.view (Rect.unit (s := S1x4x512x1) (k0_off3 k) S1x1x64x1.size (k0_off3_inb k)).toLoadRect X_arg8)
            (View.readAt (Elt F) arg9.view (Rect.unit (s := S1x4x8x1x64) (k0_off4 k) S1x1x1x1x64.size (k0_off4_inb k)).toLoadRect X_arg9)
            (View.readAt (Elt F) arg10.view (Rect.unit (s := S1x4x8x1x64) (k0_off4 k) S1x1x1x1x64.size (k0_off4_inb k)).toLoadRect X_arg10)
            (View.readAt (Elt F) arg15.view (Rect.unit (s := S1x4x1x1) ![0, 0, 0, 0] S1x1x1x1.size inb_S1x4x1x1_S1x1x1x1_0_0_0_0).toLoadRect f_arg15)⟩] := by
  rfl

unseal trip_k0_t1 in
/-- The pieces one trip writes into the normaliser state, last head first. -/
theorem trip_arg14 :
    (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 X_arg3 X_arg4 X_arg5 X_arg6 X_arg7 X_arg8 X_arg9 X_arg10 X_arg11 k f_arg12 f_arg13 f_arg14 f_arg15).2.2.1 =
      [⟨Rect.unit (s := S1x4x1x256) ![0, 3, 0, 0] S1x1x1x256.size inb_S1x4x1x256_S1x1x1x256_0_3_0_0,
          hN (View.readAt (Elt F) arg4.view (Rect.unit (s := S1x512x1024) (k0_off13 k) S1x64x256.size (k0_off13_inb k)).toLoadRect X_arg4)
            (View.readAt (Elt F) arg7.view (Rect.unit (s := S1x4x512x1) (k0_off15 k) S1x1x64x1.size (k0_off15_inb k)).toLoadRect X_arg7)
            (View.readAt (Elt F) arg8.view (Rect.unit (s := S1x4x512x1) (k0_off15 k) S1x1x64x1.size (k0_off15_inb k)).toLoadRect X_arg8)
            (View.readAt (Elt F) arg9.view (Rect.unit (s := S1x4x8x1x64) (k0_off16 k) S1x1x1x1x64.size (k0_off16_inb k)).toLoadRect X_arg9)
            (View.readAt (Elt F) arg10.view (Rect.unit (s := S1x4x8x1x64) (k0_off16 k) S1x1x1x1x64.size (k0_off16_inb k)).toLoadRect X_arg10)
            (View.readAt (Elt F) arg14.view (Rect.unit (s := S1x4x1x256) ![0, 3, 0, 0] S1x1x1x256.size inb_S1x4x1x256_S1x1x1x256_0_3_0_0).toLoadRect f_arg14)
            (View.readAt (Elt F) arg15.view (Rect.unit (s := S1x4x1x1) ![0, 3, 0, 0] S1x1x1x1.size inb_S1x4x1x1_S1x1x1x1_0_3_0_0).toLoadRect f_arg15)⟩,
       ⟨Rect.unit (s := S1x4x1x256) ![0, 2, 0, 0] S1x1x1x256.size inb_S1x4x1x256_S1x1x1x256_0_2_0_0,
          hN (View.readAt (Elt F) arg4.view (Rect.unit (s := S1x512x1024) (k0_off9 k) S1x64x256.size (k0_off9_inb k)).toLoadRect X_arg4)
            (View.readAt (Elt F) arg7.view (Rect.unit (s := S1x4x512x1) (k0_off11 k) S1x1x64x1.size (k0_off11_inb k)).toLoadRect X_arg7)
            (View.readAt (Elt F) arg8.view (Rect.unit (s := S1x4x512x1) (k0_off11 k) S1x1x64x1.size (k0_off11_inb k)).toLoadRect X_arg8)
            (View.readAt (Elt F) arg9.view (Rect.unit (s := S1x4x8x1x64) (k0_off12 k) S1x1x1x1x64.size (k0_off12_inb k)).toLoadRect X_arg9)
            (View.readAt (Elt F) arg10.view (Rect.unit (s := S1x4x8x1x64) (k0_off12 k) S1x1x1x1x64.size (k0_off12_inb k)).toLoadRect X_arg10)
            (View.readAt (Elt F) arg14.view (Rect.unit (s := S1x4x1x256) ![0, 2, 0, 0] S1x1x1x256.size inb_S1x4x1x256_S1x1x1x256_0_2_0_0).toLoadRect f_arg14)
            (View.readAt (Elt F) arg15.view (Rect.unit (s := S1x4x1x1) ![0, 2, 0, 0] S1x1x1x1.size inb_S1x4x1x1_S1x1x1x1_0_2_0_0).toLoadRect f_arg15)⟩,
       ⟨Rect.unit (s := S1x4x1x256) ![0, 1, 0, 0] S1x1x1x256.size inb_S1x4x1x256_S1x1x1x256_0_1_0_0,
          hN (View.readAt (Elt F) arg4.view (Rect.unit (s := S1x512x1024) (k0_off5 k) S1x64x256.size (k0_off5_inb k)).toLoadRect X_arg4)
            (View.readAt (Elt F) arg7.view (Rect.unit (s := S1x4x512x1) (k0_off7 k) S1x1x64x1.size (k0_off7_inb k)).toLoadRect X_arg7)
            (View.readAt (Elt F) arg8.view (Rect.unit (s := S1x4x512x1) (k0_off7 k) S1x1x64x1.size (k0_off7_inb k)).toLoadRect X_arg8)
            (View.readAt (Elt F) arg9.view (Rect.unit (s := S1x4x8x1x64) (k0_off8 k) S1x1x1x1x64.size (k0_off8_inb k)).toLoadRect X_arg9)
            (View.readAt (Elt F) arg10.view (Rect.unit (s := S1x4x8x1x64) (k0_off8 k) S1x1x1x1x64.size (k0_off8_inb k)).toLoadRect X_arg10)
            (View.readAt (Elt F) arg14.view (Rect.unit (s := S1x4x1x256) ![0, 1, 0, 0] S1x1x1x256.size inb_S1x4x1x256_S1x1x1x256_0_1_0_0).toLoadRect f_arg14)
            (View.readAt (Elt F) arg15.view (Rect.unit (s := S1x4x1x1) ![0, 1, 0, 0] S1x1x1x1.size inb_S1x4x1x1_S1x1x1x1_0_1_0_0).toLoadRect f_arg15)⟩,
       ⟨Rect.unit (s := S1x4x1x256) ![0, 0, 0, 0] S1x1x1x256.size inb_S1x4x1x256_S1x1x1x256_0_0_0_0,
          hN (View.readAt (Elt F) arg4.view (Rect.unit (s := S1x512x1024) (k0_off1 k) S1x64x256.size (k0_off1_inb k)).toLoadRect X_arg4)
            (View.readAt (Elt F) arg7.view (Rect.unit (s := S1x4x512x1) (k0_off3 k) S1x1x64x1.size (k0_off3_inb k)).toLoadRect X_arg7)
            (View.readAt (Elt F) arg8.view (Rect.unit (s := S1x4x512x1) (k0_off3 k) S1x1x64x1.size (k0_off3_inb k)).toLoadRect X_arg8)
            (View.readAt (Elt F) arg9.view (Rect.unit (s := S1x4x8x1x64) (k0_off4 k) S1x1x1x1x64.size (k0_off4_inb k)).toLoadRect X_arg9)
            (View.readAt (Elt F) arg10.view (Rect.unit (s := S1x4x8x1x64) (k0_off4 k) S1x1x1x1x64.size (k0_off4_inb k)).toLoadRect X_arg10)
            (View.readAt (Elt F) arg14.view (Rect.unit (s := S1x4x1x256) ![0, 0, 0, 0] S1x1x1x256.size inb_S1x4x1x256_S1x1x1x256_0_0_0_0).toLoadRect f_arg14)
            (View.readAt (Elt F) arg15.view (Rect.unit (s := S1x4x1x1) ![0, 0, 0, 0] S1x1x1x1.size inb_S1x4x1x1_S1x1x1x1_0_0_0_0).toLoadRect f_arg15)⟩] := by
  rfl

unseal trip_k0_t1 in
/-- The pieces one trip writes into the matrix state, last head first. -/
theorem trip_arg13 :
    (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 X_arg3 X_arg4 X_arg5 X_arg6 X_arg7 X_arg8 X_arg9 X_arg10 X_arg11 k f_arg12 f_arg13 f_arg14 f_arg15).2.1 =
      [⟨Rect.unit (s := S1x4x256x512) ![0, 3, 0, 0] S1x1x256x512.size inb_S1x4x256x512_S1x1x256x512_0_3_0_0,
          hC (View.readAt (Elt F) arg4.view (Rect.unit (s := S1x512x1024) (k0_off13 k) S1x64x256.size (k0_off13_inb k)).toLoadRect X_arg4)
            (View.readAt (Elt F) arg5.view (Rect.unit (s := S1x512x2048) (k0_off14 k) S1x64x512.size (k0_off14_inb k)).toLoadRect X_arg5)
            (View.readAt (Elt F) arg7.view (Rect.unit (s := S1x4x512x1) (k0_off15 k) S1x1x64x1.size (k0_off15_inb k)).toLoadRect X_arg7)
            (View.readAt (Elt F) arg8.view (Rect.unit (s := S1x4x512x1) (k0_off15 k) S1x1x64x1.size (k0_off15_inb k)).toLoadRect X_arg8)
            (View.readAt (Elt F) arg9.view (Rect.unit (s := S1x4x8x1x64) (k0_off16 k) S1x1x1x1x64.size (k0_off16_inb k)).toLoadRect X_arg9)
            (View.readAt (Elt F) arg10.view (Rect.unit (s := S1x4x8x1x64) (k0_off16 k) S1x1x1x1x64.size (k0_off16_inb k)).toLoadRect X_arg10)
            (View.readAt (Elt F) arg13.view (Rect.unit (s := S1x4x256x512) ![0, 3, 0, 0] S1x1x256x512.size inb_S1x4x256x512_S1x1x256x512_0_3_0_0).toLoadRect f_arg13)
            (View.readAt (Elt F) arg15.view (Rect.unit (s := S1x4x1x1) ![0, 3, 0, 0] S1x1x1x1.size inb_S1x4x1x1_S1x1x1x1_0_3_0_0).toLoadRect f_arg15)⟩,
       ⟨Rect.unit (s := S1x4x256x512) ![0, 2, 0, 0] S1x1x256x512.size inb_S1x4x256x512_S1x1x256x512_0_2_0_0,
          hC (View.readAt (Elt F) arg4.view (Rect.unit (s := S1x512x1024) (k0_off9 k) S1x64x256.size (k0_off9_inb k)).toLoadRect X_arg4)
            (View.readAt (Elt F) arg5.view (Rect.unit (s := S1x512x2048) (k0_off10 k) S1x64x512.size (k0_off10_inb k)).toLoadRect X_arg5)
            (View.readAt (Elt F) arg7.view (Rect.unit (s := S1x4x512x1) (k0_off11 k) S1x1x64x1.size (k0_off11_inb k)).toLoadRect X_arg7)
            (View.readAt (Elt F) arg8.view (Rect.unit (s := S1x4x512x1) (k0_off11 k) S1x1x64x1.size (k0_off11_inb k)).toLoadRect X_arg8)
            (View.readAt (Elt F) arg9.view (Rect.unit (s := S1x4x8x1x64) (k0_off12 k) S1x1x1x1x64.size (k0_off12_inb k)).toLoadRect X_arg9)
            (View.readAt (Elt F) arg10.view (Rect.unit (s := S1x4x8x1x64) (k0_off12 k) S1x1x1x1x64.size (k0_off12_inb k)).toLoadRect X_arg10)
            (View.readAt (Elt F) arg13.view (Rect.unit (s := S1x4x256x512) ![0, 2, 0, 0] S1x1x256x512.size inb_S1x4x256x512_S1x1x256x512_0_2_0_0).toLoadRect f_arg13)
            (View.readAt (Elt F) arg15.view (Rect.unit (s := S1x4x1x1) ![0, 2, 0, 0] S1x1x1x1.size inb_S1x4x1x1_S1x1x1x1_0_2_0_0).toLoadRect f_arg15)⟩,
       ⟨Rect.unit (s := S1x4x256x512) ![0, 1, 0, 0] S1x1x256x512.size inb_S1x4x256x512_S1x1x256x512_0_1_0_0,
          hC (View.readAt (Elt F) arg4.view (Rect.unit (s := S1x512x1024) (k0_off5 k) S1x64x256.size (k0_off5_inb k)).toLoadRect X_arg4)
            (View.readAt (Elt F) arg5.view (Rect.unit (s := S1x512x2048) (k0_off6 k) S1x64x512.size (k0_off6_inb k)).toLoadRect X_arg5)
            (View.readAt (Elt F) arg7.view (Rect.unit (s := S1x4x512x1) (k0_off7 k) S1x1x64x1.size (k0_off7_inb k)).toLoadRect X_arg7)
            (View.readAt (Elt F) arg8.view (Rect.unit (s := S1x4x512x1) (k0_off7 k) S1x1x64x1.size (k0_off7_inb k)).toLoadRect X_arg8)
            (View.readAt (Elt F) arg9.view (Rect.unit (s := S1x4x8x1x64) (k0_off8 k) S1x1x1x1x64.size (k0_off8_inb k)).toLoadRect X_arg9)
            (View.readAt (Elt F) arg10.view (Rect.unit (s := S1x4x8x1x64) (k0_off8 k) S1x1x1x1x64.size (k0_off8_inb k)).toLoadRect X_arg10)
            (View.readAt (Elt F) arg13.view (Rect.unit (s := S1x4x256x512) ![0, 1, 0, 0] S1x1x256x512.size inb_S1x4x256x512_S1x1x256x512_0_1_0_0).toLoadRect f_arg13)
            (View.readAt (Elt F) arg15.view (Rect.unit (s := S1x4x1x1) ![0, 1, 0, 0] S1x1x1x1.size inb_S1x4x1x1_S1x1x1x1_0_1_0_0).toLoadRect f_arg15)⟩,
       ⟨Rect.unit (s := S1x4x256x512) ![0, 0, 0, 0] S1x1x256x512.size inb_S1x4x256x512_S1x1x256x512_0_0_0_0,
          hC (View.readAt (Elt F) arg4.view (Rect.unit (s := S1x512x1024) (k0_off1 k) S1x64x256.size (k0_off1_inb k)).toLoadRect X_arg4)
            (View.readAt (Elt F) arg5.view (Rect.unit (s := S1x512x2048) (k0_off2 k) S1x64x512.size (k0_off2_inb k)).toLoadRect X_arg5)
            (View.readAt (Elt F) arg7.view (Rect.unit (s := S1x4x512x1) (k0_off3 k) S1x1x64x1.size (k0_off3_inb k)).toLoadRect X_arg7)
            (View.readAt (Elt F) arg8.view (Rect.unit (s := S1x4x512x1) (k0_off3 k) S1x1x64x1.size (k0_off3_inb k)).toLoadRect X_arg8)
            (View.readAt (Elt F) arg9.view (Rect.unit (s := S1x4x8x1x64) (k0_off4 k) S1x1x1x1x64.size (k0_off4_inb k)).toLoadRect X_arg9)
            (View.readAt (Elt F) arg10.view (Rect.unit (s := S1x4x8x1x64) (k0_off4 k) S1x1x1x1x64.size (k0_off4_inb k)).toLoadRect X_arg10)
            (View.readAt (Elt F) arg13.view (Rect.unit (s := S1x4x256x512) ![0, 0, 0, 0] S1x1x256x512.size inb_S1x4x256x512_S1x1x256x512_0_0_0_0).toLoadRect f_arg13)
            (View.readAt (Elt F) arg15.view (Rect.unit (s := S1x4x1x1) ![0, 0, 0, 0] S1x1x1x1.size inb_S1x4x1x1_S1x1x1x1_0_0_0_0).toLoadRect f_arg15)⟩] := by
  rfl

unseal trip_k0_t1 in
/-- The pieces one trip writes into the output, last head first. -/
theorem trip_arg12 :
    (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 X_arg3 X_arg4 X_arg5 X_arg6 X_arg7 X_arg8 X_arg9 X_arg10 X_arg11 k f_arg12 f_arg13 f_arg14 f_arg15).1 =
      [⟨Rect.unit (s := S1x512x2048) (k0_off14 k) S1x64x512.size (k0_off14_inb k),
          hO (View.readAt (Elt F) arg3.view (Rect.unit (s := S1x512x1024) (k0_off13 k) S1x64x256.size (k0_off13_inb k)).toLoadRect X_arg3)
            (View.readAt (Elt F) arg4.view (Rect.unit (s := S1x512x1024) (k0_off13 k) S1x64x256.size (k0_off13_inb k)).toLoadRect X_arg4)
            (View.readAt (Elt F) arg5.view (Rect.unit (s := S1x512x2048) (k0_off14 k) S1x64x512.size (k0_off14_inb k)).toLoadRect X_arg5)
            (View.readAt (Elt F) arg6.view (Rect.unit (s := S1x512x2048) (k0_off14 k) S1x64x512.size (k0_off14_inb k)).toLoadRect X_arg6)
            (View.readAt (Elt F) arg7.view (Rect.unit (s := S1x4x512x1) (k0_off15 k) S1x1x64x1.size (k0_off15_inb k)).toLoadRect X_arg7)
            (View.readAt (Elt F) arg8.view (Rect.unit (s := S1x4x512x1) (k0_off15 k) S1x1x64x1.size (k0_off15_inb k)).toLoadRect X_arg8)
            (View.readAt (Elt F) arg9.view (Rect.unit (s := S1x4x8x1x64) (k0_off16 k) S1x1x1x1x64.size (k0_off16_inb k)).toLoadRect X_arg9)
            (View.readAt (Elt F) arg10.view (Rect.unit (s := S1x4x8x1x64) (k0_off16 k) S1x1x1x1x64.size (k0_off16_inb k)).toLoadRect X_arg10)
            (View.readAt (Elt F) arg11.view (Rect.unit (s := S4x1x512) ![3, 0, 0] S1x1x512.size inb_S4x1x512_S1x1x512_3_0_0).toLoadRect X_arg11)
            (View.readAt (Elt F) arg13.view (Rect.unit (s := S1x4x256x512) ![0, 3, 0, 0] S1x1x256x512.size inb_S1x4x256x512_S1x1x256x512_0_3_0_0).toLoadRect f_arg13)
            (View.readAt (Elt F) arg14.view (Rect.unit (s := S1x4x1x256) ![0, 3, 0, 0] S1x1x1x256.size inb_S1x4x1x256_S1x1x1x256_0_3_0_0).toLoadRect f_arg14)
            (View.readAt (Elt F) arg15.view (Rect.unit (s := S1x4x1x1) ![0, 3, 0, 0] S1x1x1x1.size inb_S1x4x1x1_S1x1x1x1_0_3_0_0).toLoadRect f_arg15)⟩,
       ⟨Rect.unit (s := S1x512x2048) (k0_off10 k) S1x64x512.size (k0_off10_inb k),
          hO (View.readAt (Elt F) arg3.view (Rect.unit (s := S1x512x1024) (k0_off9 k) S1x64x256.size (k0_off9_inb k)).toLoadRect X_arg3)
            (View.readAt (Elt F) arg4.view (Rect.unit (s := S1x512x1024) (k0_off9 k) S1x64x256.size (k0_off9_inb k)).toLoadRect X_arg4)
            (View.readAt (Elt F) arg5.view (Rect.unit (s := S1x512x2048) (k0_off10 k) S1x64x512.size (k0_off10_inb k)).toLoadRect X_arg5)
            (View.readAt (Elt F) arg6.view (Rect.unit (s := S1x512x2048) (k0_off10 k) S1x64x512.size (k0_off10_inb k)).toLoadRect X_arg6)
            (View.readAt (Elt F) arg7.view (Rect.unit (s := S1x4x512x1) (k0_off11 k) S1x1x64x1.size (k0_off11_inb k)).toLoadRect X_arg7)
            (View.readAt (Elt F) arg8.view (Rect.unit (s := S1x4x512x1) (k0_off11 k) S1x1x64x1.size (k0_off11_inb k)).toLoadRect X_arg8)
            (View.readAt (Elt F) arg9.view (Rect.unit (s := S1x4x8x1x64) (k0_off12 k) S1x1x1x1x64.size (k0_off12_inb k)).toLoadRect X_arg9)
            (View.readAt (Elt F) arg10.view (Rect.unit (s := S1x4x8x1x64) (k0_off12 k) S1x1x1x1x64.size (k0_off12_inb k)).toLoadRect X_arg10)
            (View.readAt (Elt F) arg11.view (Rect.unit (s := S4x1x512) ![2, 0, 0] S1x1x512.size inb_S4x1x512_S1x1x512_2_0_0).toLoadRect X_arg11)
            (View.readAt (Elt F) arg13.view (Rect.unit (s := S1x4x256x512) ![0, 2, 0, 0] S1x1x256x512.size inb_S1x4x256x512_S1x1x256x512_0_2_0_0).toLoadRect f_arg13)
            (View.readAt (Elt F) arg14.view (Rect.unit (s := S1x4x1x256) ![0, 2, 0, 0] S1x1x1x256.size inb_S1x4x1x256_S1x1x1x256_0_2_0_0).toLoadRect f_arg14)
            (View.readAt (Elt F) arg15.view (Rect.unit (s := S1x4x1x1) ![0, 2, 0, 0] S1x1x1x1.size inb_S1x4x1x1_S1x1x1x1_0_2_0_0).toLoadRect f_arg15)⟩,
       ⟨Rect.unit (s := S1x512x2048) (k0_off6 k) S1x64x512.size (k0_off6_inb k),
          hO (View.readAt (Elt F) arg3.view (Rect.unit (s := S1x512x1024) (k0_off5 k) S1x64x256.size (k0_off5_inb k)).toLoadRect X_arg3)
            (View.readAt (Elt F) arg4.view (Rect.unit (s := S1x512x1024) (k0_off5 k) S1x64x256.size (k0_off5_inb k)).toLoadRect X_arg4)
            (View.readAt (Elt F) arg5.view (Rect.unit (s := S1x512x2048) (k0_off6 k) S1x64x512.size (k0_off6_inb k)).toLoadRect X_arg5)
            (View.readAt (Elt F) arg6.view (Rect.unit (s := S1x512x2048) (k0_off6 k) S1x64x512.size (k0_off6_inb k)).toLoadRect X_arg6)
            (View.readAt (Elt F) arg7.view (Rect.unit (s := S1x4x512x1) (k0_off7 k) S1x1x64x1.size (k0_off7_inb k)).toLoadRect X_arg7)
            (View.readAt (Elt F) arg8.view (Rect.unit (s := S1x4x512x1) (k0_off7 k) S1x1x64x1.size (k0_off7_inb k)).toLoadRect X_arg8)
            (View.readAt (Elt F) arg9.view (Rect.unit (s := S1x4x8x1x64) (k0_off8 k) S1x1x1x1x64.size (k0_off8_inb k)).toLoadRect X_arg9)
            (View.readAt (Elt F) arg10.view (Rect.unit (s := S1x4x8x1x64) (k0_off8 k) S1x1x1x1x64.size (k0_off8_inb k)).toLoadRect X_arg10)
            (View.readAt (Elt F) arg11.view (Rect.unit (s := S4x1x512) ![1, 0, 0] S1x1x512.size inb_S4x1x512_S1x1x512_1_0_0).toLoadRect X_arg11)
            (View.readAt (Elt F) arg13.view (Rect.unit (s := S1x4x256x512) ![0, 1, 0, 0] S1x1x256x512.size inb_S1x4x256x512_S1x1x256x512_0_1_0_0).toLoadRect f_arg13)
            (View.readAt (Elt F) arg14.view (Rect.unit (s := S1x4x1x256) ![0, 1, 0, 0] S1x1x1x256.size inb_S1x4x1x256_S1x1x1x256_0_1_0_0).toLoadRect f_arg14)
            (View.readAt (Elt F) arg15.view (Rect.unit (s := S1x4x1x1) ![0, 1, 0, 0] S1x1x1x1.size inb_S1x4x1x1_S1x1x1x1_0_1_0_0).toLoadRect f_arg15)⟩,
       ⟨Rect.unit (s := S1x512x2048) (k0_off2 k) S1x64x512.size (k0_off2_inb k),
          hO (View.readAt (Elt F) arg3.view (Rect.unit (s := S1x512x1024) (k0_off1 k) S1x64x256.size (k0_off1_inb k)).toLoadRect X_arg3)
            (View.readAt (Elt F) arg4.view (Rect.unit (s := S1x512x1024) (k0_off1 k) S1x64x256.size (k0_off1_inb k)).toLoadRect X_arg4)
            (View.readAt (Elt F) arg5.view (Rect.unit (s := S1x512x2048) (k0_off2 k) S1x64x512.size (k0_off2_inb k)).toLoadRect X_arg5)
            (View.readAt (Elt F) arg6.view (Rect.unit (s := S1x512x2048) (k0_off2 k) S1x64x512.size (k0_off2_inb k)).toLoadRect X_arg6)
            (View.readAt (Elt F) arg7.view (Rect.unit (s := S1x4x512x1) (k0_off3 k) S1x1x64x1.size (k0_off3_inb k)).toLoadRect X_arg7)
            (View.readAt (Elt F) arg8.view (Rect.unit (s := S1x4x512x1) (k0_off3 k) S1x1x64x1.size (k0_off3_inb k)).toLoadRect X_arg8)
            (View.readAt (Elt F) arg9.view (Rect.unit (s := S1x4x8x1x64) (k0_off4 k) S1x1x1x1x64.size (k0_off4_inb k)).toLoadRect X_arg9)
            (View.readAt (Elt F) arg10.view (Rect.unit (s := S1x4x8x1x64) (k0_off4 k) S1x1x1x1x64.size (k0_off4_inb k)).toLoadRect X_arg10)
            (View.readAt (Elt F) arg11.view (Rect.unit (s := S4x1x512) ![0, 0, 0] S1x1x512.size inb_S4x1x512_S1x1x512_0_0_0).toLoadRect X_arg11)
            (View.readAt (Elt F) arg13.view (Rect.unit (s := S1x4x256x512) ![0, 0, 0, 0] S1x1x256x512.size inb_S1x4x256x512_S1x1x256x512_0_0_0_0).toLoadRect f_arg13)
            (View.readAt (Elt F) arg14.view (Rect.unit (s := S1x4x1x256) ![0, 0, 0, 0] S1x1x1x256.size inb_S1x4x1x256_S1x1x1x256_0_0_0_0).toLoadRect f_arg14)
            (View.readAt (Elt F) arg15.view (Rect.unit (s := S1x4x1x1) ![0, 0, 0, 0] S1x1x1x1.size inb_S1x4x1x1_S1x1x1x1_0_0_0_0).toLoadRect f_arg15)⟩] := by
  rfl

end Cert.KernelIdeal.Gen

end
-- ==== Proof.MlstmPb.lean ====
module

public import proofs.«01_k».proof.Proof.MlstmTrip

/-! The pieces the chunk loop leaves do not depend on what the output block held before the loop: no trip reads it. -/

@[expose] public section

set_option maxRecDepth 16384

noncomputable section

namespace Cert.KernelIdeal.Gen

open Idealize.ShloMosaic Idealize.SL.Sem

variable {F : FTy → Type} [FloatOps F] [Named F]
variable (𝒱 : Variants) (c : Dev nD) (bd : Option 𝒱.V) (i : grid0.Coords)
variable (arg3 : Memref sig .tc .vmem S1x512x1024 .f32) (harg3 : arg3.IsWhole)
variable (arg4 : Memref sig .tc .vmem S1x512x1024 .f32) (harg4 : arg4.IsWhole)
variable (arg5 : Memref sig .tc .vmem S1x512x2048 .f32) (harg5 : arg5.IsWhole)
variable (arg6 : Memref sig .tc .vmem S1x512x2048 .f32) (harg6 : arg6.IsWhole)
variable (arg7 : Memref sig .tc .vmem S1x4x512x1 .f32) (harg7 : arg7.IsWhole)
variable (arg8 : Memref sig .tc .vmem S1x4x512x1 .f32) (harg8 : arg8.IsWhole)
variable (arg9 : Memref sig .tc .vmem S1x4x8x1x64 .f32) (harg9 : arg9.IsWhole)
variable (arg10 : Memref sig .tc .vmem S1x4x8x1x64 .f32) (harg10 : arg10.IsWhole)
variable (arg11 : Memref sig .tc .vmem S4x1x512 .f32) (harg11 : arg11.IsWhole)
variable (arg12 : Memref sig .tc .vmem S1x512x2048 .bf16) (harg12 : arg12.IsWhole)
variable (arg13 : Memref sig .tc .vmem S1x4x256x512 .f32) (harg13 : arg13.IsWhole)
variable (arg14 : Memref sig .tc .vmem S1x4x1x256 .f32) (harg14 : arg14.IsWhole)
variable (arg15 : Memref sig .tc .vmem S1x4x1x1 .f32) (harg15 : arg15.IsWhole)
variable (X_arg3 : BufTy.Contents (Elt F) arg3.view.ty)
variable (X_arg4 : BufTy.Contents (Elt F) arg4.view.ty)
variable (X_arg5 : BufTy.Contents (Elt F) arg5.view.ty)
variable (X_arg6 : BufTy.Contents (Elt F) arg6.view.ty)
variable (X_arg7 : BufTy.Contents (Elt F) arg7.view.ty)
variable (X_arg8 : BufTy.Contents (Elt F) arg8.view.ty)
variable (X_arg9 : BufTy.Contents (Elt F) arg9.view.ty)
variable (X_arg10 : BufTy.Contents (Elt F) arg10.view.ty)
variable (X_arg11 : BufTy.Contents (Elt F) arg11.view.ty)
variable (G_arg12 : BufTy.Contents (Elt F) arg12.view.ty)
variable (G_arg13 : BufTy.Contents (Elt F) arg13.view.ty)
variable (G_arg14 : BufTy.Contents (Elt F) arg14.view.ty)
variable (G_arg15 : BufTy.Contents (Elt F) arg15.view.ty)

unseal trip_k0_t1 in
/-- One trip's pieces are the same whatever the output block holds. -/
theorem trip_forget (k : Fin k0_t1_loop.trips) (G' : BufTy.Contents (Elt F) arg12.view.ty) :
    tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 X_arg3 X_arg4 X_arg5 X_arg6 X_arg7 X_arg8 X_arg9 X_arg10 X_arg11 k G_arg12 G_arg13 G_arg14 G_arg15 =
      tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 X_arg3 X_arg4 X_arg5 X_arg6 X_arg7 X_arg8 X_arg9 X_arg10 X_arg11 k G' G_arg13 G_arg14 G_arg15 := by
  rfl

/-- The pieces of all trips before `k` are the same whatever the output block held at loop entry. -/
theorem pb_forget (G' : BufTy.Contents (Elt F) arg12.view.ty) (k : ℕ) :
    pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 X_arg3 X_arg4 X_arg5 X_arg6 X_arg7 X_arg8 X_arg9 X_arg10 X_arg11 G_arg12 G_arg13 G_arg14 G_arg15 k =
      pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 X_arg3 X_arg4 X_arg5 X_arg6 X_arg7 X_arg8 X_arg9 X_arg10 X_arg11 G' G_arg13 G_arg14 G_arg15 k := by
  induction k with
  | zero => rfl
  | succ k ih =>
    by_cases h : k < k0_t1_loop.trips
    · have e := pb_k0_t1_succ (F := F) 𝒱 c bd i arg3 harg3 arg4 harg4 arg5 harg5 arg6 harg6 arg7 harg7 arg8 harg8 arg9 harg9 arg10 harg10 arg11 harg11 arg12 harg12 arg13 harg13 arg14 harg14 arg15 harg15 X_arg3 X_arg4 X_arg5 X_arg6 X_arg7 X_arg8 X_arg9 X_arg10 X_arg11 G_arg12 G_arg13 G_arg14 G_arg15 ⟨k, h⟩
      have e' := pb_k0_t1_succ (F := F) 𝒱 c bd i arg3 harg3 arg4 harg4 arg5 harg5 arg6 harg6 arg7 harg7 arg8 harg8 arg9 harg9 arg10 harg10 arg11 harg11 arg12 harg12 arg13 harg13 arg14 harg14 arg15 harg15 X_arg3 X_arg4 X_arg5 X_arg6 X_arg7 X_arg8 X_arg9 X_arg10 X_arg11 G' G_arg13 G_arg14 G_arg15 ⟨k, h⟩
      refine e.trans (Eq.trans ?_ e'.symm)
      rw [show (⟨k, h⟩ : Fin k0_t1_loop.trips).val = k from rfl, ih, trip_forget (F := F) 𝒱 c bd i arg3 harg3 arg4 harg4 arg5 harg5 arg6 harg6 arg7 harg7 arg8 harg8 arg9 harg9 arg10 harg10 arg11 harg11 arg12 harg12 arg13 harg13 arg14 harg14 arg15 harg15 X_arg3 X_arg4 X_arg5 X_arg6 X_arg7 X_arg8 X_arg9 X_arg10 X_arg11 _ _ _ _ ⟨k, h⟩ (arg12.view.writes (Elt F) G' (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 X_arg3 X_arg4 X_arg5 X_arg6 X_arg7 X_arg8 X_arg9 X_arg10 X_arg11 G' G_arg13 G_arg14 G_arg15 k).1)]
    · rw [pb_k0_t1.eq_2, pb_k0_t1.eq_2]; unfold pb_k0_t1Step
      rw [dif_neg h, dif_neg h, ih]

end Cert.KernelIdeal.Gen

end
-- ==== Proof.MlstmRunA.lean ====
module

public import proofs.«01_k».proof.Proof.Gen.KernelIdeal.Frame.Runs
public import proofs.«01_k».proof.Proof.MlstmPb

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a first time block: the stores it makes to each output, with the proof that it runs and makes them. -/
noncomputable def kernelRun0_A (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x2048 .f32) (harg5 : arg5.IsWhole) (arg6 : Memref sig .tc .vmem S1x512x2048 .f32) (harg6 : arg6.IsWhole) (arg7 : Memref sig .tc .vmem S1x4x512x1 .f32) (harg7 : arg7.IsWhole) (arg8 : Memref sig .tc .vmem S1x4x512x1 .f32) (harg8 : arg8.IsWhole) (arg9 : Memref sig .tc .vmem S1x4x8x1x64 .f32) (harg9 : arg9.IsWhole) (arg10 : Memref sig .tc .vmem S1x4x8x1x64 .f32) (harg10 : arg10.IsWhole) (arg11 : Memref sig .tc .vmem S4x1x512 .f32) (harg11 : arg11.IsWhole) (arg12 : Memref sig .tc .vmem S1x512x2048 .bf16) (harg12 : arg12.IsWhole) (arg13 : Memref sig .tc .vmem S1x4x256x512 .f32) (harg13 : arg13.IsWhole) (arg14 : Memref sig .tc .vmem S1x4x1x256 .f32) (harg14 : arg14.IsWhole) (arg15 : Memref sig .tc .vmem S1x4x1x1 .f32) (harg15 : arg15.IsWhole) (hc0 : cond0_0 i)
    (x0 : Vec F S1x512x1024 .f32) (x1 : Vec F S1x512x1024 .f32) (x2 : Vec F S1x512x2048 .f32) (x3 : Vec F S1x512x2048 .f32) (x4 : Vec F S1x4x512x1 .f32) (x5 : Vec F S1x4x512x1 .f32) (x6 : Vec F S1x4x8x1x64 .f32) (x7 : Vec F S1x4x8x1x64 .f32) (x8 : Vec F S4x1x512 .f32) :
    Σ' (L9 : List (View.Piece (Elt F) S1x512x2048 .bf16)), Σ' (L10 : List (View.Piece (Elt F) S1x4x256x512 .f32)), Σ' (L11 : List (View.Piece (Elt F) S1x4x1x256 .f32)), { L12 : List (View.Piece (Elt F) S1x4x1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f L12)) -∗ K ⟨⟩))
          ⊢ wp frame (wpE (defs₀ (F := F)) Variants.none c none) E (cc0_mlstm_prompt i arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0_mlstm_prompt_eq_skeleton]; unfold cc0_mlstm_prompt_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0)
    sl_step
    rw [pb_forget (G_arg12 := f9) (G' := arg12.view.junk)]
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [H10]; · iexists _; iexact H10
    isplitl [H11]; · iexists _; iexact H11
    iexists _; iexact H12

end Cert.KernelIdeal.Gen

end
-- ==== Proof.MlstmRunB.lean ====
module

public import proofs.«01_k».proof.Proof.MlstmRunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a later time block: the stores it makes to each output, with the proof that it runs and makes them. -/
noncomputable def kernelRun0_B (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x2048 .f32) (harg5 : arg5.IsWhole) (arg6 : Memref sig .tc .vmem S1x512x2048 .f32) (harg6 : arg6.IsWhole) (arg7 : Memref sig .tc .vmem S1x4x512x1 .f32) (harg7 : arg7.IsWhole) (arg8 : Memref sig .tc .vmem S1x4x512x1 .f32) (harg8 : arg8.IsWhole) (arg9 : Memref sig .tc .vmem S1x4x8x1x64 .f32) (harg9 : arg9.IsWhole) (arg10 : Memref sig .tc .vmem S1x4x8x1x64 .f32) (harg10 : arg10.IsWhole) (arg11 : Memref sig .tc .vmem S4x1x512 .f32) (harg11 : arg11.IsWhole) (arg12 : Memref sig .tc .vmem S1x512x2048 .bf16) (harg12 : arg12.IsWhole) (arg13 : Memref sig .tc .vmem S1x4x256x512 .f32) (harg13 : arg13.IsWhole) (arg14 : Memref sig .tc .vmem S1x4x1x256 .f32) (harg14 : arg14.IsWhole) (arg15 : Memref sig .tc .vmem S1x4x1x1 .f32) (harg15 : arg15.IsWhole) (hc0 : ¬cond0_0 i)
    (x0 : Vec F S1x512x1024 .f32) (x1 : Vec F S1x512x1024 .f32) (x2 : Vec F S1x512x2048 .f32) (x3 : Vec F S1x512x2048 .f32) (x4 : Vec F S1x4x512x1 .f32) (x5 : Vec F S1x4x512x1 .f32) (x6 : Vec F S1x4x8x1x64 .f32) (x7 : Vec F S1x4x8x1x64 .f32) (x8 : Vec F S4x1x512 .f32) (xo10 : Vec F S1x4x256x512 .f32) (xo11 : Vec F S1x4x1x256 .f32) (xo12 : Vec F S1x4x1x1 .f32) :
    Σ' (L9 : List (View.Piece (Elt F) S1x512x2048 .bf16)), Σ' (L10 : List (View.Piece (Elt F) S1x4x256x512 .f32)), Σ' (L11 : List (View.Piece (Elt F) S1x4x1x256 .f32)), { L12 : List (View.Piece (Elt F) S1x4x1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ owns (c : Thread nD τ) arg13 fullShare xo10 ∗ owns (c : Thread nD τ) arg14 fullShare xo11 ∗ owns (c : Thread nD τ) arg15 fullShare xo12
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f L12)) -∗ K ⟨⟩))
          ⊢ wp frame (wpE (defs₀ (F := F)) Variants.none c none) E (cc0_mlstm_prompt i arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0_mlstm_prompt_eq_skeleton]; unfold cc0_mlstm_prompt_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg13.eq_unread hf10; obtain rfl := harg14.eq_unread hf11; obtain rfl := harg15.eq_unread hf12
    sl_exec (disch := first | sl_exact hc0)
    sl_step
    rw [pb_forget (G_arg12 := f9) (G' := arg12.view.junk)]
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [H10]; · iexists _; iexact H10
    isplitl [H11]; · iexists _; iexact H11
    iexists _; iexact H12

end Cert.KernelIdeal.Gen

end
-- ==== Proof.MlstmFrame.lean ====
module

public import proofs.«01_k».proof.Proof.MlstmRunB
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- At a first time block the stores to output 9 cover its block. -/
theorem cover0_A_9 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x2048 .f32) (harg5 : arg5.IsWhole) (arg6 : Memref sig .tc .vmem S1x512x2048 .f32) (harg6 : arg6.IsWhole) (arg7 : Memref sig .tc .vmem S1x4x512x1 .f32) (harg7 : arg7.IsWhole) (arg8 : Memref sig .tc .vmem S1x4x512x1 .f32) (harg8 : arg8.IsWhole) (arg9 : Memref sig .tc .vmem S1x4x8x1x64 .f32) (harg9 : arg9.IsWhole) (arg10 : Memref sig .tc .vmem S1x4x8x1x64 .f32) (harg10 : arg10.IsWhole) (arg11 : Memref sig .tc .vmem S4x1x512 .f32) (harg11 : arg11.IsWhole) (arg12 : Memref sig .tc .vmem S1x512x2048 .bf16) (harg12 : arg12.IsWhole) (arg13 : Memref sig .tc .vmem S1x4x256x512 .f32) (harg13 : arg13.IsWhole) (arg14 : Memref sig .tc .vmem S1x4x1x256 .f32) (harg14 : arg14.IsWhole) (arg15 : Memref sig .tc .vmem S1x4x1x1 .f32) (harg15 : arg15.IsWhole) (hc0 : cond0_0 i)
    (x0 : Vec F S1x512x1024 .f32) (x1 : Vec F S1x512x1024 .f32) (x2 : Vec F S1x512x2048 .f32) (x3 : Vec F S1x512x2048 .f32) (x4 : Vec F S1x4x512x1 .f32) (x5 : Vec F S1x4x512x1 .f32) (x6 : Vec F S1x4x8x1x64 .f32) (x7 : Vec F S1x4x8x1x64 .f32) (x8 : Vec F S4x1x512 .f32) (y : S1x512x2048.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).1 S1x64x512.size (by sl_kernel_rfl) y

/-- What a first time block leaves in output 9. -/
def out0_A_9 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x2048 .f32) (harg5 : arg5.IsWhole) (arg6 : Memref sig .tc .vmem S1x512x2048 .f32) (harg6 : arg6.IsWhole) (arg7 : Memref sig .tc .vmem S1x4x512x1 .f32) (harg7 : arg7.IsWhole) (arg8 : Memref sig .tc .vmem S1x4x512x1 .f32) (harg8 : arg8.IsWhole) (arg9 : Memref sig .tc .vmem S1x4x8x1x64 .f32) (harg9 : arg9.IsWhole) (arg10 : Memref sig .tc .vmem S1x4x8x1x64 .f32) (harg10 : arg10.IsWhole) (arg11 : Memref sig .tc .vmem S4x1x512 .f32) (harg11 : arg11.IsWhole) (arg12 : Memref sig .tc .vmem S1x512x2048 .bf16) (harg12 : arg12.IsWhole) (arg13 : Memref sig .tc .vmem S1x4x256x512 .f32) (harg13 : arg13.IsWhole) (arg14 : Memref sig .tc .vmem S1x4x1x256 .f32) (harg14 : arg14.IsWhole) (arg15 : Memref sig .tc .vmem S1x4x1x1 .f32) (harg15 : arg15.IsWhole) (hc0 : cond0_0 i)
    (x0 : Vec F S1x512x1024 .f32) (x1 : Vec F S1x512x1024 .f32) (x2 : Vec F S1x512x2048 .f32) (x3 : Vec F S1x512x2048 .f32) (x4 : Vec F S1x4x512x1 .f32) (x5 : Vec F S1x4x512x1 .f32) (x6 : Vec F S1x4x8x1x64 .f32) (x7 : Vec F S1x4x8x1x64 .f32) (x8 : Vec F S4x1x512 .f32) : Vec F S1x512x2048 .bf16 :=
  VO0_9.read (Elt F) (VO0_9.writes (Elt F) VO0_9.junk (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).1)

/-- At a first time block the stores to output 10 cover its block. -/
theorem cover0_A_10 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x2048 .f32) (harg5 : arg5.IsWhole) (arg6 : Memref sig .tc .vmem S1x512x2048 .f32) (harg6 : arg6.IsWhole) (arg7 : Memref sig .tc .vmem S1x4x512x1 .f32) (harg7 : arg7.IsWhole) (arg8 : Memref sig .tc .vmem S1x4x512x1 .f32) (harg8 : arg8.IsWhole) (arg9 : Memref sig .tc .vmem S1x4x8x1x64 .f32) (harg9 : arg9.IsWhole) (arg10 : Memref sig .tc .vmem S1x4x8x1x64 .f32) (harg10 : arg10.IsWhole) (arg11 : Memref sig .tc .vmem S4x1x512 .f32) (harg11 : arg11.IsWhole) (arg12 : Memref sig .tc .vmem S1x512x2048 .bf16) (harg12 : arg12.IsWhole) (arg13 : Memref sig .tc .vmem S1x4x256x512 .f32) (harg13 : arg13.IsWhole) (arg14 : Memref sig .tc .vmem S1x4x1x256 .f32) (harg14 : arg14.IsWhole) (arg15 : Memref sig .tc .vmem S1x4x1x1 .f32) (harg15 : arg15.IsWhole) (hc0 : cond0_0 i)
    (x0 : Vec F S1x512x1024 .f32) (x1 : Vec F S1x512x1024 .f32) (x2 : Vec F S1x512x2048 .f32) (x3 : Vec F S1x512x2048 .f32) (x4 : Vec F S1x4x512x1 .f32) (x5 : Vec F S1x4x512x1 .f32) (x6 : Vec F S1x4x8x1x64 .f32) (x7 : Vec F S1x4x8x1x64 .f32) (x8 : Vec F S4x1x512 .f32) (y : S1x4x256x512.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.1, y ∈ pc.1.set :=
  View.cover_of_tiledBy (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.1 ![1, 1, 256, 512] (by sl_kernel_rfl) y

/-- What a first time block leaves in output 10. -/
def out0_A_10 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x2048 .f32) (harg5 : arg5.IsWhole) (arg6 : Memref sig .tc .vmem S1x512x2048 .f32) (harg6 : arg6.IsWhole) (arg7 : Memref sig .tc .vmem S1x4x512x1 .f32) (harg7 : arg7.IsWhole) (arg8 : Memref sig .tc .vmem S1x4x512x1 .f32) (harg8 : arg8.IsWhole) (arg9 : Memref sig .tc .vmem S1x4x8x1x64 .f32) (harg9 : arg9.IsWhole) (arg10 : Memref sig .tc .vmem S1x4x8x1x64 .f32) (harg10 : arg10.IsWhole) (arg11 : Memref sig .tc .vmem S4x1x512 .f32) (harg11 : arg11.IsWhole) (arg12 : Memref sig .tc .vmem S1x512x2048 .bf16) (harg12 : arg12.IsWhole) (arg13 : Memref sig .tc .vmem S1x4x256x512 .f32) (harg13 : arg13.IsWhole) (arg14 : Memref sig .tc .vmem S1x4x1x256 .f32) (harg14 : arg14.IsWhole) (arg15 : Memref sig .tc .vmem S1x4x1x1 .f32) (harg15 : arg15.IsWhole) (hc0 : cond0_0 i)
    (x0 : Vec F S1x512x1024 .f32) (x1 : Vec F S1x512x1024 .f32) (x2 : Vec F S1x512x2048 .f32) (x3 : Vec F S1x512x2048 .f32) (x4 : Vec F S1x4x512x1 .f32) (x5 : Vec F S1x4x512x1 .f32) (x6 : Vec F S1x4x8x1x64 .f32) (x7 : Vec F S1x4x8x1x64 .f32) (x8 : Vec F S4x1x512 .f32) : Vec F S1x4x256x512 .f32 :=
  VO0_10.read (Elt F) (VO0_10.writes (Elt F) VO0_10.junk (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.1)

/-- At a first time block the stores to output 11 cover its block. -/
theorem cover0_A_11 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x2048 .f32) (harg5 : arg5.IsWhole) (arg6 : Memref sig .tc .vmem S1x512x2048 .f32) (harg6 : arg6.IsWhole) (arg7 : Memref sig .tc .vmem S1x4x512x1 .f32) (harg7 : arg7.IsWhole) (arg8 : Memref sig .tc .vmem S1x4x512x1 .f32) (harg8 : arg8.IsWhole) (arg9 : Memref sig .tc .vmem S1x4x8x1x64 .f32) (harg9 : arg9.IsWhole) (arg10 : Memref sig .tc .vmem S1x4x8x1x64 .f32) (harg10 : arg10.IsWhole) (arg11 : Memref sig .tc .vmem S4x1x512 .f32) (harg11 : arg11.IsWhole) (arg12 : Memref sig .tc .vmem S1x512x2048 .bf16) (harg12 : arg12.IsWhole) (arg13 : Memref sig .tc .vmem S1x4x256x512 .f32) (harg13 : arg13.IsWhole) (arg14 : Memref sig .tc .vmem S1x4x1x256 .f32) (harg14 : arg14.IsWhole) (arg15 : Memref sig .tc .vmem S1x4x1x1 .f32) (harg15 : arg15.IsWhole) (hc0 : cond0_0 i)
    (x0 : Vec F S1x512x1024 .f32) (x1 : Vec F S1x512x1024 .f32) (x2 : Vec F S1x512x2048 .f32) (x3 : Vec F S1x512x2048 .f32) (x4 : Vec F S1x4x512x1 .f32) (x5 : Vec F S1x4x512x1 .f32) (x6 : Vec F S1x4x8x1x64 .f32) (x7 : Vec F S1x4x8x1x64 .f32) (x8 : Vec F S4x1x512 .f32) (y : S1x4x1x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.1, y ∈ pc.1.set :=
  View.cover_of_tiledBy (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.1 ![1, 1, 1, 256] (by sl_kernel_rfl) y

/-- What a first time block leaves in output 11. -/
def out0_A_11 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x2048 .f32) (harg5 : arg5.IsWhole) (arg6 : Memref sig .tc .vmem S1x512x2048 .f32) (harg6 : arg6.IsWhole) (arg7 : Memref sig .tc .vmem S1x4x512x1 .f32) (harg7 : arg7.IsWhole) (arg8 : Memref sig .tc .vmem S1x4x512x1 .f32) (harg8 : arg8.IsWhole) (arg9 : Memref sig .tc .vmem S1x4x8x1x64 .f32) (harg9 : arg9.IsWhole) (arg10 : Memref sig .tc .vmem S1x4x8x1x64 .f32) (harg10 : arg10.IsWhole) (arg11 : Memref sig .tc .vmem S4x1x512 .f32) (harg11 : arg11.IsWhole) (arg12 : Memref sig .tc .vmem S1x512x2048 .bf16) (harg12 : arg12.IsWhole) (arg13 : Memref sig .tc .vmem S1x4x256x512 .f32) (harg13 : arg13.IsWhole) (arg14 : Memref sig .tc .vmem S1x4x1x256 .f32) (harg14 : arg14.IsWhole) (arg15 : Memref sig .tc .vmem S1x4x1x1 .f32) (harg15 : arg15.IsWhole) (hc0 : cond0_0 i)
    (x0 : Vec F S1x512x1024 .f32) (x1 : Vec F S1x512x1024 .f32) (x2 : Vec F S1x512x2048 .f32) (x3 : Vec F S1x512x2048 .f32) (x4 : Vec F S1x4x512x1 .f32) (x5 : Vec F S1x4x512x1 .f32) (x6 : Vec F S1x4x8x1x64 .f32) (x7 : Vec F S1x4x8x1x64 .f32) (x8 : Vec F S4x1x512 .f32) : Vec F S1x4x1x256 .f32 :=
  VO0_11.read (Elt F) (VO0_11.writes (Elt F) VO0_11.junk (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.1)

/-- At a first time block the stores to output 12 cover its block. -/
theorem cover0_A_12 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x2048 .f32) (harg5 : arg5.IsWhole) (arg6 : Memref sig .tc .vmem S1x512x2048 .f32) (harg6 : arg6.IsWhole) (arg7 : Memref sig .tc .vmem S1x4x512x1 .f32) (harg7 : arg7.IsWhole) (arg8 : Memref sig .tc .vmem S1x4x512x1 .f32) (harg8 : arg8.IsWhole) (arg9 : Memref sig .tc .vmem S1x4x8x1x64 .f32) (harg9 : arg9.IsWhole) (arg10 : Memref sig .tc .vmem S1x4x8x1x64 .f32) (harg10 : arg10.IsWhole) (arg11 : Memref sig .tc .vmem S4x1x512 .f32) (harg11 : arg11.IsWhole) (arg12 : Memref sig .tc .vmem S1x512x2048 .bf16) (harg12 : arg12.IsWhole) (arg13 : Memref sig .tc .vmem S1x4x256x512 .f32) (harg13 : arg13.IsWhole) (arg14 : Memref sig .tc .vmem S1x4x1x256 .f32) (harg14 : arg14.IsWhole) (arg15 : Memref sig .tc .vmem S1x4x1x1 .f32) (harg15 : arg15.IsWhole) (hc0 : cond0_0 i)
    (x0 : Vec F S1x512x1024 .f32) (x1 : Vec F S1x512x1024 .f32) (x2 : Vec F S1x512x2048 .f32) (x3 : Vec F S1x512x2048 .f32) (x4 : Vec F S1x4x512x1 .f32) (x5 : Vec F S1x4x512x1 .f32) (x6 : Vec F S1x4x8x1x64 .f32) (x7 : Vec F S1x4x8x1x64 .f32) (x8 : Vec F S4x1x512 .f32) (y : S1x4x1x1.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.2.1, y ∈ pc.1.set :=
  View.cover_of_tiledBy (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.2.1 ![1, 1, 1, 1] (by sl_kernel_rfl) y

/-- What a first time block leaves in output 12. -/
def out0_A_12 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x2048 .f32) (harg5 : arg5.IsWhole) (arg6 : Memref sig .tc .vmem S1x512x2048 .f32) (harg6 : arg6.IsWhole) (arg7 : Memref sig .tc .vmem S1x4x512x1 .f32) (harg7 : arg7.IsWhole) (arg8 : Memref sig .tc .vmem S1x4x512x1 .f32) (harg8 : arg8.IsWhole) (arg9 : Memref sig .tc .vmem S1x4x8x1x64 .f32) (harg9 : arg9.IsWhole) (arg10 : Memref sig .tc .vmem S1x4x8x1x64 .f32) (harg10 : arg10.IsWhole) (arg11 : Memref sig .tc .vmem S4x1x512 .f32) (harg11 : arg11.IsWhole) (arg12 : Memref sig .tc .vmem S1x512x2048 .bf16) (harg12 : arg12.IsWhole) (arg13 : Memref sig .tc .vmem S1x4x256x512 .f32) (harg13 : arg13.IsWhole) (arg14 : Memref sig .tc .vmem S1x4x1x256 .f32) (harg14 : arg14.IsWhole) (arg15 : Memref sig .tc .vmem S1x4x1x1 .f32) (harg15 : arg15.IsWhole) (hc0 : cond0_0 i)
    (x0 : Vec F S1x512x1024 .f32) (x1 : Vec F S1x512x1024 .f32) (x2 : Vec F S1x512x2048 .f32) (x3 : Vec F S1x512x2048 .f32) (x4 : Vec F S1x4x512x1 .f32) (x5 : Vec F S1x4x512x1 .f32) (x6 : Vec F S1x4x8x1x64 .f32) (x7 : Vec F S1x4x8x1x64 .f32) (x8 : Vec F S4x1x512 .f32) : Vec F S1x4x1x1 .f32 :=
  VO0_12.read (Elt F) (VO0_12.writes (Elt F) VO0_12.junk (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.2.1)

/-- At a later time block the stores to output 9 cover its block. -/
theorem cover0_B_9 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x2048 .f32) (harg5 : arg5.IsWhole) (arg6 : Memref sig .tc .vmem S1x512x2048 .f32) (harg6 : arg6.IsWhole) (arg7 : Memref sig .tc .vmem S1x4x512x1 .f32) (harg7 : arg7.IsWhole) (arg8 : Memref sig .tc .vmem S1x4x512x1 .f32) (harg8 : arg8.IsWhole) (arg9 : Memref sig .tc .vmem S1x4x8x1x64 .f32) (harg9 : arg9.IsWhole) (arg10 : Memref sig .tc .vmem S1x4x8x1x64 .f32) (harg10 : arg10.IsWhole) (arg11 : Memref sig .tc .vmem S4x1x512 .f32) (harg11 : arg11.IsWhole) (arg12 : Memref sig .tc .vmem S1x512x2048 .bf16) (harg12 : arg12.IsWhole) (arg13 : Memref sig .tc .vmem S1x4x256x512 .f32) (harg13 : arg13.IsWhole) (arg14 : Memref sig .tc .vmem S1x4x1x256 .f32) (harg14 : arg14.IsWhole) (arg15 : Memref sig .tc .vmem S1x4x1x1 .f32) (harg15 : arg15.IsWhole) (hc0 : ¬cond0_0 i)
    (x0 : Vec F S1x512x1024 .f32) (x1 : Vec F S1x512x1024 .f32) (x2 : Vec F S1x512x2048 .f32) (x3 : Vec F S1x512x2048 .f32) (x4 : Vec F S1x4x512x1 .f32) (x5 : Vec F S1x4x512x1 .f32) (x6 : Vec F S1x4x8x1x64 .f32) (x7 : Vec F S1x4x8x1x64 .f32) (x8 : Vec F S4x1x512 .f32) (xo10 : Vec F S1x4x256x512 .f32) (xo11 : Vec F S1x4x1x256 .f32) (xo12 : Vec F S1x4x1x1 .f32) (y : S1x512x2048.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12).1 S1x64x512.size (by sl_kernel_rfl) y

/-- What a later time block leaves in output 9. -/
def out0_B_9 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x2048 .f32) (harg5 : arg5.IsWhole) (arg6 : Memref sig .tc .vmem S1x512x2048 .f32) (harg6 : arg6.IsWhole) (arg7 : Memref sig .tc .vmem S1x4x512x1 .f32) (harg7 : arg7.IsWhole) (arg8 : Memref sig .tc .vmem S1x4x512x1 .f32) (harg8 : arg8.IsWhole) (arg9 : Memref sig .tc .vmem S1x4x8x1x64 .f32) (harg9 : arg9.IsWhole) (arg10 : Memref sig .tc .vmem S1x4x8x1x64 .f32) (harg10 : arg10.IsWhole) (arg11 : Memref sig .tc .vmem S4x1x512 .f32) (harg11 : arg11.IsWhole) (arg12 : Memref sig .tc .vmem S1x512x2048 .bf16) (harg12 : arg12.IsWhole) (arg13 : Memref sig .tc .vmem S1x4x256x512 .f32) (harg13 : arg13.IsWhole) (arg14 : Memref sig .tc .vmem S1x4x1x256 .f32) (harg14 : arg14.IsWhole) (arg15 : Memref sig .tc .vmem S1x4x1x1 .f32) (harg15 : arg15.IsWhole) (hc0 : ¬cond0_0 i)
    (x0 : Vec F S1x512x1024 .f32) (x1 : Vec F S1x512x1024 .f32) (x2 : Vec F S1x512x2048 .f32) (x3 : Vec F S1x512x2048 .f32) (x4 : Vec F S1x4x512x1 .f32) (x5 : Vec F S1x4x512x1 .f32) (x6 : Vec F S1x4x8x1x64 .f32) (x7 : Vec F S1x4x8x1x64 .f32) (x8 : Vec F S4x1x512 .f32) (xo10 : Vec F S1x4x256x512 .f32) (xo11 : Vec F S1x4x1x256 .f32) (xo12 : Vec F S1x4x1x1 .f32) : Vec F S1x512x2048 .bf16 :=
  VO0_9.read (Elt F) (VO0_9.writes (Elt F) VO0_9.junk (kernelRun0_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12).1)

/-- At a later time block the stores to output 10 cover its block. -/
theorem cover0_B_10 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x2048 .f32) (harg5 : arg5.IsWhole) (arg6 : Memref sig .tc .vmem S1x512x2048 .f32) (harg6 : arg6.IsWhole) (arg7 : Memref sig .tc .vmem S1x4x512x1 .f32) (harg7 : arg7.IsWhole) (arg8 : Memref sig .tc .vmem S1x4x512x1 .f32) (harg8 : arg8.IsWhole) (arg9 : Memref sig .tc .vmem S1x4x8x1x64 .f32) (harg9 : arg9.IsWhole) (arg10 : Memref sig .tc .vmem S1x4x8x1x64 .f32) (harg10 : arg10.IsWhole) (arg11 : Memref sig .tc .vmem S4x1x512 .f32) (harg11 : arg11.IsWhole) (arg12 : Memref sig .tc .vmem S1x512x2048 .bf16) (harg12 : arg12.IsWhole) (arg13 : Memref sig .tc .vmem S1x4x256x512 .f32) (harg13 : arg13.IsWhole) (arg14 : Memref sig .tc .vmem S1x4x1x256 .f32) (harg14 : arg14.IsWhole) (arg15 : Memref sig .tc .vmem S1x4x1x1 .f32) (harg15 : arg15.IsWhole) (hc0 : ¬cond0_0 i)
    (x0 : Vec F S1x512x1024 .f32) (x1 : Vec F S1x512x1024 .f32) (x2 : Vec F S1x512x2048 .f32) (x3 : Vec F S1x512x2048 .f32) (x4 : Vec F S1x4x512x1 .f32) (x5 : Vec F S1x4x512x1 .f32) (x6 : Vec F S1x4x8x1x64 .f32) (x7 : Vec F S1x4x8x1x64 .f32) (x8 : Vec F S4x1x512 .f32) (xo10 : Vec F S1x4x256x512 .f32) (xo11 : Vec F S1x4x1x256 .f32) (xo12 : Vec F S1x4x1x1 .f32) (y : S1x4x256x512.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12).2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12).2.1 S1x1x256x512.size (by sl_kernel_rfl) y

/-- What a later time block leaves in output 10. -/
def out0_B_10 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x2048 .f32) (harg5 : arg5.IsWhole) (arg6 : Memref sig .tc .vmem S1x512x2048 .f32) (harg6 : arg6.IsWhole) (arg7 : Memref sig .tc .vmem S1x4x512x1 .f32) (harg7 : arg7.IsWhole) (arg8 : Memref sig .tc .vmem S1x4x512x1 .f32) (harg8 : arg8.IsWhole) (arg9 : Memref sig .tc .vmem S1x4x8x1x64 .f32) (harg9 : arg9.IsWhole) (arg10 : Memref sig .tc .vmem S1x4x8x1x64 .f32) (harg10 : arg10.IsWhole) (arg11 : Memref sig .tc .vmem S4x1x512 .f32) (harg11 : arg11.IsWhole) (arg12 : Memref sig .tc .vmem S1x512x2048 .bf16) (harg12 : arg12.IsWhole) (arg13 : Memref sig .tc .vmem S1x4x256x512 .f32) (harg13 : arg13.IsWhole) (arg14 : Memref sig .tc .vmem S1x4x1x256 .f32) (harg14 : arg14.IsWhole) (arg15 : Memref sig .tc .vmem S1x4x1x1 .f32) (harg15 : arg15.IsWhole) (hc0 : ¬cond0_0 i)
    (x0 : Vec F S1x512x1024 .f32) (x1 : Vec F S1x512x1024 .f32) (x2 : Vec F S1x512x2048 .f32) (x3 : Vec F S1x512x2048 .f32) (x4 : Vec F S1x4x512x1 .f32) (x5 : Vec F S1x4x512x1 .f32) (x6 : Vec F S1x4x8x1x64 .f32) (x7 : Vec F S1x4x8x1x64 .f32) (x8 : Vec F S4x1x512 .f32) (xo10 : Vec F S1x4x256x512 .f32) (xo11 : Vec F S1x4x1x256 .f32) (xo12 : Vec F S1x4x1x1 .f32) : Vec F S1x4x256x512 .f32 :=
  VO0_10.read (Elt F) (VO0_10.writes (Elt F) VO0_10.junk (kernelRun0_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12).2.1)

/-- At a later time block the stores to output 11 cover its block. -/
theorem cover0_B_11 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x2048 .f32) (harg5 : arg5.IsWhole) (arg6 : Memref sig .tc .vmem S1x512x2048 .f32) (harg6 : arg6.IsWhole) (arg7 : Memref sig .tc .vmem S1x4x512x1 .f32) (harg7 : arg7.IsWhole) (arg8 : Memref sig .tc .vmem S1x4x512x1 .f32) (harg8 : arg8.IsWhole) (arg9 : Memref sig .tc .vmem S1x4x8x1x64 .f32) (harg9 : arg9.IsWhole) (arg10 : Memref sig .tc .vmem S1x4x8x1x64 .f32) (harg10 : arg10.IsWhole) (arg11 : Memref sig .tc .vmem S4x1x512 .f32) (harg11 : arg11.IsWhole) (arg12 : Memref sig .tc .vmem S1x512x2048 .bf16) (harg12 : arg12.IsWhole) (arg13 : Memref sig .tc .vmem S1x4x256x512 .f32) (harg13 : arg13.IsWhole) (arg14 : Memref sig .tc .vmem S1x4x1x256 .f32) (harg14 : arg14.IsWhole) (arg15 : Memref sig .tc .vmem S1x4x1x1 .f32) (harg15 : arg15.IsWhole) (hc0 : ¬cond0_0 i)
    (x0 : Vec F S1x512x1024 .f32) (x1 : Vec F S1x512x1024 .f32) (x2 : Vec F S1x512x2048 .f32) (x3 : Vec F S1x512x2048 .f32) (x4 : Vec F S1x4x512x1 .f32) (x5 : Vec F S1x4x512x1 .f32) (x6 : Vec F S1x4x8x1x64 .f32) (x7 : Vec F S1x4x8x1x64 .f32) (x8 : Vec F S4x1x512 .f32) (xo10 : Vec F S1x4x256x512 .f32) (xo11 : Vec F S1x4x1x256 .f32) (xo12 : Vec F S1x4x1x1 .f32) (y : S1x4x1x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12).2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12).2.2.1 S1x1x1x256.size (by sl_kernel_rfl) y

/-- What a later time block leaves in output 11. -/
def out0_B_11 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x2048 .f32) (harg5 : arg5.IsWhole) (arg6 : Memref sig .tc .vmem S1x512x2048 .f32) (harg6 : arg6.IsWhole) (arg7 : Memref sig .tc .vmem S1x4x512x1 .f32) (harg7 : arg7.IsWhole) (arg8 : Memref sig .tc .vmem S1x4x512x1 .f32) (harg8 : arg8.IsWhole) (arg9 : Memref sig .tc .vmem S1x4x8x1x64 .f32) (harg9 : arg9.IsWhole) (arg10 : Memref sig .tc .vmem S1x4x8x1x64 .f32) (harg10 : arg10.IsWhole) (arg11 : Memref sig .tc .vmem S4x1x512 .f32) (harg11 : arg11.IsWhole) (arg12 : Memref sig .tc .vmem S1x512x2048 .bf16) (harg12 : arg12.IsWhole) (arg13 : Memref sig .tc .vmem S1x4x256x512 .f32) (harg13 : arg13.IsWhole) (arg14 : Memref sig .tc .vmem S1x4x1x256 .f32) (harg14 : arg14.IsWhole) (arg15 : Memref sig .tc .vmem S1x4x1x1 .f32) (harg15 : arg15.IsWhole) (hc0 : ¬cond0_0 i)
    (x0 : Vec F S1x512x1024 .f32) (x1 : Vec F S1x512x1024 .f32) (x2 : Vec F S1x512x2048 .f32) (x3 : Vec F S1x512x2048 .f32) (x4 : Vec F S1x4x512x1 .f32) (x5 : Vec F S1x4x512x1 .f32) (x6 : Vec F S1x4x8x1x64 .f32) (x7 : Vec F S1x4x8x1x64 .f32) (x8 : Vec F S4x1x512 .f32) (xo10 : Vec F S1x4x256x512 .f32) (xo11 : Vec F S1x4x1x256 .f32) (xo12 : Vec F S1x4x1x1 .f32) : Vec F S1x4x1x256 .f32 :=
  VO0_11.read (Elt F) (VO0_11.writes (Elt F) VO0_11.junk (kernelRun0_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12).2.2.1)

/-- At a later time block the stores to output 12 cover its block. -/
theorem cover0_B_12 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x2048 .f32) (harg5 : arg5.IsWhole) (arg6 : Memref sig .tc .vmem S1x512x2048 .f32) (harg6 : arg6.IsWhole) (arg7 : Memref sig .tc .vmem S1x4x512x1 .f32) (harg7 : arg7.IsWhole) (arg8 : Memref sig .tc .vmem S1x4x512x1 .f32) (harg8 : arg8.IsWhole) (arg9 : Memref sig .tc .vmem S1x4x8x1x64 .f32) (harg9 : arg9.IsWhole) (arg10 : Memref sig .tc .vmem S1x4x8x1x64 .f32) (harg10 : arg10.IsWhole) (arg11 : Memref sig .tc .vmem S4x1x512 .f32) (harg11 : arg11.IsWhole) (arg12 : Memref sig .tc .vmem S1x512x2048 .bf16) (harg12 : arg12.IsWhole) (arg13 : Memref sig .tc .vmem S1x4x256x512 .f32) (harg13 : arg13.IsWhole) (arg14 : Memref sig .tc .vmem S1x4x1x256 .f32) (harg14 : arg14.IsWhole) (arg15 : Memref sig .tc .vmem S1x4x1x1 .f32) (harg15 : arg15.IsWhole) (hc0 : ¬cond0_0 i)
    (x0 : Vec F S1x512x1024 .f32) (x1 : Vec F S1x512x1024 .f32) (x2 : Vec F S1x512x2048 .f32) (x3 : Vec F S1x512x2048 .f32) (x4 : Vec F S1x4x512x1 .f32) (x5 : Vec F S1x4x512x1 .f32) (x6 : Vec F S1x4x8x1x64 .f32) (x7 : Vec F S1x4x8x1x64 .f32) (x8 : Vec F S4x1x512 .f32) (xo10 : Vec F S1x4x256x512 .f32) (xo11 : Vec F S1x4x1x256 .f32) (xo12 : Vec F S1x4x1x1 .f32) (y : S1x4x1x1.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12).2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12).2.2.2.1 S1x1x1x1.size (by sl_kernel_rfl) y

/-- What a later time block leaves in output 12. -/
def out0_B_12 (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x2048 .f32) (harg5 : arg5.IsWhole) (arg6 : Memref sig .tc .vmem S1x512x2048 .f32) (harg6 : arg6.IsWhole) (arg7 : Memref sig .tc .vmem S1x4x512x1 .f32) (harg7 : arg7.IsWhole) (arg8 : Memref sig .tc .vmem S1x4x512x1 .f32) (harg8 : arg8.IsWhole) (arg9 : Memref sig .tc .vmem S1x4x8x1x64 .f32) (harg9 : arg9.IsWhole) (arg10 : Memref sig .tc .vmem S1x4x8x1x64 .f32) (harg10 : arg10.IsWhole) (arg11 : Memref sig .tc .vmem S4x1x512 .f32) (harg11 : arg11.IsWhole) (arg12 : Memref sig .tc .vmem S1x512x2048 .bf16) (harg12 : arg12.IsWhole) (arg13 : Memref sig .tc .vmem S1x4x256x512 .f32) (harg13 : arg13.IsWhole) (arg14 : Memref sig .tc .vmem S1x4x1x256 .f32) (harg14 : arg14.IsWhole) (arg15 : Memref sig .tc .vmem S1x4x1x1 .f32) (harg15 : arg15.IsWhole) (hc0 : ¬cond0_0 i)
    (x0 : Vec F S1x512x1024 .f32) (x1 : Vec F S1x512x1024 .f32) (x2 : Vec F S1x512x2048 .f32) (x3 : Vec F S1x512x2048 .f32) (x4 : Vec F S1x4x512x1 .f32) (x5 : Vec F S1x4x512x1 .f32) (x6 : Vec F S1x4x8x1x64 .f32) (x7 : Vec F S1x4x8x1x64 .f32) (x8 : Vec F S4x1x512 .f32) (xo10 : Vec F S1x4x256x512 .f32) (xo11 : Vec F S1x4x1x256 .f32) (xo12 : Vec F S1x4x1x1 .f32) : Vec F S1x4x1x1 .f32 :=
  VO0_12.read (Elt F) (VO0_12.writes (Elt F) VO0_12.junk (kernelRun0_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12).2.2.2.1)

/-! ## What the outputs hold after each point -/

/-- What the four outputs hold after grid point `n`: at a first time block from the inputs alone, at a later one from the inputs
    and from what the point before left in the three states. -/
def outsAt0 (c : Dev nD) : (n : ℕ) → n < cfg0.N → Vec F S1x512x2048 .bf16 × Vec F S1x4x256x512 .f32 × Vec F S1x4x1x256 .f32 × Vec F S1x4x1x1 .f32
  | 0, hn => (out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h0 : (n + 1) % 4 = 0 then
      (out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩))
    else
      (out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2)

/-- The outputs after a first time block. -/
theorem outsAt0_A (c : Dev nD) (t : Fin cfg0.N) (h0 : t.val % 4 = 0) :
    outsAt0 m c t.val t.isLt = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk m c 0 t) (iblk m c 1 t) (iblk m c 2 t) (iblk m c 3 t) (iblk m c 4 t) (iblk m c 5 t) (iblk m c 6 t) (iblk m c 7 t) (iblk m c 8 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk m c 0 t) (iblk m c 1 t) (iblk m c 2 t) (iblk m c 3 t) (iblk m c 4 t) (iblk m c 5 t) (iblk m c 6 t) (iblk m c 7 t) (iblk m c 8 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk m c 0 t) (iblk m c 1 t) (iblk m c 2 t) (iblk m c 3 t) (iblk m c 4 t) (iblk m c 5 t) (iblk m c 6 t) (iblk m c 7 t) (iblk m c 8 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => exact rfl
  | succ n => exact (dif_pos h0).trans rfl

/-- The outputs after a later time block. -/
theorem outsAt0_B (c : Dev nD) (t : Fin cfg0.N) (h0 : ¬t.val % 4 = 0) :
    outsAt0 m c t.val t.isLt = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The pipeline's data -/

/-- The data of the pipeline on core `c`: its arrays as found, after each point the inputs' buffers at their blocks and the outputs'
    as above, and nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
    | ⟨10, _⟩ => (outsAt0 m c t.val t.isLt).2.1
    | ⟨11, _⟩ => (outsAt0 m c t.val t.isLt).2.2.1
    | ⟨12, _⟩ => (outsAt0 m c t.val t.isLt).2.2.2
  Φ _ := Pipeline.ΦA spec0 c
  q w := Pipeline.shareOf spec0 w
  owed _ := 0

/-- The pipeline's arrays are as found. -/
theorem A_eq (c : Dev nD) (w : Fin cfg0.W) : (dats m 0 c).A w = V m c (Pipeline.arrRef spec0 w) := by
  dsimp only [dats]

/-- What the body leaves in each window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]
theorem after0_10 (c : Dev nD) (t : Fin cfg0.N) : (dats m 0 c).after 10 t = (outsAt0 m c t.val t.isLt).2.1 := by dsimp only [dats]
theorem after0_11 (c : Dev nD) (t : Fin cfg0.N) : (dats m 0 c).after 11 t = (outsAt0 m c t.val t.isLt).2.2.1 := by dsimp only [dats]
theorem after0_12 (c : Dev nD) (t : Fin cfg0.N) : (dats m 0 c).after 12 t = (outsAt0 m c t.val t.isLt).2.2.2 := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
/-- At a later time block the buffer of output 10 holds what the point before left. -/
theorem before0_10_B (c : Dev nD) (t : Fin cfg0.N) (h0 : ¬t.val % 4 = 0) (d) :
    (dats m 0 c).before 10 t d = (outsAt0 m c (t.val - 1) (Nat.lt_of_le_of_lt (Nat.sub_le _ _) t.isLt)).2.1 := by
  have hN : t.val < 16 := lt_of_lt_of_eq t.isLt (show cfg0.N = 16 from N_0)
  rw [Dat.before_out_kept _ 10 rfl t (by omega) (Bool.eq_false_iff.mpr fun h => by have := (flush0_10 _).mp h; dsimp only at this; omega)
    (fun _ => rfl) (fun _ _ => rfl)]
  dsimp only [dats]
/-- At a later time block the buffer of output 11 holds what the point before left. -/
theorem before0_11_B (c : Dev nD) (t : Fin cfg0.N) (h0 : ¬t.val % 4 = 0) (d) :
    (dats m 0 c).before 11 t d = (outsAt0 m c (t.val - 1) (Nat.lt_of_le_of_lt (Nat.sub_le _ _) t.isLt)).2.2.1 := by
  have hN : t.val < 16 := lt_of_lt_of_eq t.isLt (show cfg0.N = 16 from N_0)
  rw [Dat.before_out_kept _ 11 rfl t (by omega) (Bool.eq_false_iff.mpr fun h => by have := (flush0_11 _).mp h; dsimp only at this; omega)
    (fun _ => rfl) (fun _ _ => rfl)]
  dsimp only [dats]
/-- At a later time block the buffer of output 12 holds what the point before left. -/
theorem before0_12_B (c : Dev nD) (t : Fin cfg0.N) (h0 : ¬t.val % 4 = 0) (d) :
    (dats m 0 c).before 12 t d = (outsAt0 m c (t.val - 1) (Nat.lt_of_le_of_lt (Nat.sub_le _ _) t.isLt)).2.2.2 := by
  have hN : t.val < 16 := lt_of_lt_of_eq t.isLt (show cfg0.N = 16 from N_0)
  rw [Dat.before_out_kept _ 12 rfl t (by omega) (Bool.eq_false_iff.mpr fun h => by have := (flush0_12 _).mp h; dsimp only at this; omega)
    (fun _ => rfl) (fun _ _ => rfl)]
  dsimp only [dats]

/-! ## The body at a point -/

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- What the body gives back at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 2400000 in
/-- The body runs at every point, and leaves what is stated above. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  have hN : t.val < 16 := lt_of_lt_of_eq t.isLt (show cfg0.N = 16 from N_0)
  by_cases h0 : t.val % 4 = 0
  · rw [outsAt0_A m c t h0]
    unfold out0_A_9 out0_A_10 out0_A_11 out0_A_12; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    iintro ⟨H0, H1, H2, H3, H4, H5, H6, H7, H8, ⟨%e9, H9⟩, ⟨%e10, H10⟩, ⟨%e11, H11⟩, ⟨%e12, H12⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover0_A_11 c _ _ _ _ _ _ _ _ _ _ _ _ _ _ _ _ _ _ _ _ _ _ _ _ _ _ _ _ _ _ _ _ _ _ _ _ _)
    unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _)
  · rw [outsAt0_B m c t h0]
    simp only [before0_10_B m c t h0, before0_11_B m c t h0, before0_12_B m c t h0]
    unfold out0_B_9 out0_B_10 out0_B_11 out0_B_12; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_B c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) _ _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [H12]; · iexact H12
    iintro ⟨H0, H1, H2, H3, H4, H5, H6, H7, H8, ⟨%e9, H9⟩, ⟨%e10, H10⟩, ⟨%e11, H11⟩, ⟨%e12, H12⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover0_B_11 c _ _ _ _ _ _ _ _ _ _ _ _ _ _ _ _ _ _ _ _ _ _ _ _ _ _ _ _ _ _ _ _ _ _ _ _ _ _ _ _)
    unfold owns; iexists _; isplitr
    swap; · iexact H12
    ipureintro; exact View.read_writes_of_cover _ _ _ _ _ (cover0_B_12 c _ _ _ _ _ _ _ _ _ _ _ _ _ _ _ _ _ _ _ _ _ _ _ _ _ _ _ _ _ _ _ _ _ _ _ _ _ _ _ _)

/-- The body at point `t` is the kernel on the buffers of that point. -/
theorem defs₀_row (t : Fin cfg0.N) :
    defs₀ (F := F) .tc cfg0.body (cfg0.bodyArgs t (cfg0.slots t)) = bodyAt0 t := by
  unfold defs₀; rw [Defs.onTc_tc]

/-- The body meets what the pipeline asks of it at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The whole kernel runs, and every counter ends at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The whole kernel runs: the arrays end as the points wrote them, every other buffer as found. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.MlstmBlocks.lean ====
module

public import proofs.«01_k».proof.Proof.MlstmFrame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! What each grid point writes back, and the kernel's run with its result arrays. -/

/-- What grid point `t` writes back to the array of window 9: the contents the body leaves, cut to the block. -/
theorem flushed9 (c : Dev nD) (t : Fin cfg0.N) :
    (dats m 0 c).flushed 9 t = (cfg0.win 9).cut (grid0.coords t) ((outsAt0 m c t.val t.isLt).1) := by
  show (cfg0.win 9).cut (grid0.coords t) ((dats m 0 c).after 9 t) = _
  rw [after0_9]

/-- What grid point `t` writes back to the array of window 10: the contents the body leaves, cut to the block. -/
theorem flushed10 (c : Dev nD) (t : Fin cfg0.N) :
    (dats m 0 c).flushed 10 t = (cfg0.win 10).cut (grid0.coords t) ((outsAt0 m c t.val t.isLt).2.1) := by
  show (cfg0.win 10).cut (grid0.coords t) ((dats m 0 c).after 10 t) = _
  rw [after0_10]

/-- What grid point `t` writes back to the array of window 11: the contents the body leaves, cut to the block. -/
theorem flushed11 (c : Dev nD) (t : Fin cfg0.N) :
    (dats m 0 c).flushed 11 t = (cfg0.win 11).cut (grid0.coords t) ((outsAt0 m c t.val t.isLt).2.2.1) := by
  show (cfg0.win 11).cut (grid0.coords t) ((dats m 0 c).after 11 t) = _
  rw [after0_11]

/-- What grid point `t` writes back to the array of window 12: the contents the body leaves, cut to the block. -/
theorem flushed12 (c : Dev nD) (t : Fin cfg0.N) :
    (dats m 0 c).flushed 12 t = (cfg0.win 12).cut (grid0.coords t) ((outsAt0 m c t.val t.isLt).2.2.2) := by
  show (cfg0.win 12).cut (grid0.coords t) ((dats m 0 c).after 12 t) = _
  rw [after0_12]

/-- At the end the array of window 9 is what all the points together wrote back. -/
theorem post9 (r : PUnit × MemSt nD τ sig (Elt F)) (h : Pipeline.FramePost cfgs (dats m) 0 (V m) r) (c : Dev nD) :
    r.2.mem ((c : Thread nD τ).loc main_v18_0) = (dats m 0 c).arrAt 9 cfg0.N :=
  (h c).1 9

/-- At the end the array of window 10 is what all the points together wrote back. -/
theorem post10 (r : PUnit × MemSt nD τ sig (Elt F)) (h : Pipeline.FramePost cfgs (dats m) 0 (V m) r) (c : Dev nD) :
    r.2.mem ((c : Thread nD τ).loc main_v18_1) = (dats m 0 c).arrAt 10 cfg0.N :=
  (h c).1 10

/-- At the end the array of window 11 is what all the points together wrote back. -/
theorem post11 (r : PUnit × MemSt nD τ sig (Elt F)) (h : Pipeline.FramePost cfgs (dats m) 0 (V m) r) (c : Dev nD) :
    r.2.mem ((c : Thread nD τ).loc main_v18_2) = (dats m 0 c).arrAt 11 cfg0.N :=
  (h c).1 11

/-- At the end the array of window 12 is what all the points together wrote back. -/
theorem post12 (r : PUnit × MemSt nD τ sig (Elt F)) (h : Pipeline.FramePost cfgs (dats m) 0 (V m) r) (c : Dev nD) :
    r.2.mem ((c : Thread nD τ).loc main_v18_3) = (dats m 0 c).arrAt 12 cfg0.N :=
  (h c).1 12

/-- Argument 0 ends as it began. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 3).trans (((dats m 0 c).arrAt_in 3 rfl _).trans ((A_eq m c 3).trans (V_main_arg0 m c)))

/-- Argument 1 ends as it began. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- Argument 2 ends as it began. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- Argument 3 ends as it began. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The kernel runs; its result arrays are what the grid points wrote back, and its arguments are unchanged. -/
theorem run_blocks : θ_run defs (onTc (τ := τ) (main (F := F))) ⟨m, fun _ => 0, ρ⟩ fun r => ∀ c : Dev nD,
      r.2.mem ((c : Thread nD τ).loc main_v18_0) = (dats m 0 c).arrAt 9 cfg0.N
      ∧ r.2.mem ((c : Thread nD τ).loc main_v18_1) = (dats m 0 c).arrAt 10 cfg0.N
      ∧ r.2.mem ((c : Thread nD τ).loc main_v18_2) = (dats m 0 c).arrAt 11 cfg0.N
      ∧ r.2.mem ((c : Thread nD τ).loc main_v18_3) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post9 m r h c,
      post10 m r h c,
      post11 m r h c,
      post12 m r h c,
      kept_main_arg0 m r h c,
      kept_main_arg1 m r h c,
      kept_main_arg2 m r h c,
      kept_main_arg3 m r h c⟩)
    (run_main m ρ)

end Cert.KernelIdeal.Value

end
-- ==== Proof.MlstmBits.lean ====
module

public import proofs.«01_k».proof.Defs
public import proofs.«01_k».proof.Proof.Gen.Kernel
public import proofs.«01_k».proof.Proof.MlstmBlocks
public import Idealize.ShloMosaic.Lib.Tactic

/-! The kernel as compiled is the kernel for exact numbers with its one named constant read as the bits it stands for,
so what holds of the latter for any number type holds of the former. -/

@[expose] public section

set_option maxRecDepth 16384

noncomputable section

namespace Cert.Mlstm

open Idealize.ShloMosaic Idealize.SL.Sem

/-- On machine numbers a named constant is the bits it is written with. -/
@[reducible] def asBits : Named Bits where
  named _ _ {φ} bits := Scalar.ofBits φ bits

attribute [local instance] asBits

/-- The kernel for exact numbers, read on machine numbers, runs and leaves its arguments alone. -/
def kernelRuns : Prop :=
  ∀ (m : (ℓ : Loc KernelIdeal.nD KernelIdeal.τ KernelIdeal.sig) → Buf (Elt Bits) ℓ) (g : Dev KernelIdeal.nD → PrngReg), Cert.Pre_Kernel m →
    θ_run (KernelIdeal.defs (F := Bits)) (onTc (τ := KernelIdeal.τ) (KernelIdeal.main (F := Bits))) ⟨m, fun _ => 0, g⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3))
      ∧ r.2.sem = fun _ => 0)

/-- That is what is claimed of the kernel as compiled: the two programs unfold to the same one. -/
theorem kernelRuns_eq : Cert.quiescent_Kernel (hKernel := Cert.Kernel.Gen.facts) = kernelRuns := by sl_kernel_rfl

/-- The kernel as compiled runs and leaves its arguments alone. -/
theorem kernel_runs : Cert.quiescent_Kernel (hKernel := Cert.Kernel.Gen.facts) :=
  kernelRuns_eq.mpr fun m ρ _ => Cert.KernelIdeal.Gen.frame m ρ

end Cert.Mlstm

end
-- ==== Proof.MlstmSpec.lean ====
module

public import Idealize.ShloMosaic.Lib.Pointwise
public import Idealize.ShloMosaic.Lib.IdealHost

/-! The chunkwise mLSTM of one head over the extended reals: one chunk of 64 rows carries the state (matrix,
normaliser, stabiliser) one step and gives the chunk's output rows. -/

@[expose] public section

set_option maxRecDepth 16384

noncomputable section

namespace Cert.Mlstm

open Idealize.ShloMosaic

/-- What one head reads of one chunk: queries (already scaled), keys, values, log input gates, log forget gates. -/
@[ext] structure Chunk where
  /-- The scaled queries. -/
  q : Fin 64 → Fin 256 → EReal
  /-- The keys. -/
  k : Fin 64 → Fin 256 → EReal
  /-- The values. -/
  v : Fin 64 → Fin 512 → EReal
  /-- The log input gates. -/
  i : Fin 64 → EReal
  /-- The log forget gates. -/
  f : Fin 64 → EReal

/-- The state one head carries from chunk to chunk. -/
@[ext] structure St where
  /-- The matrix. -/
  C : Fin 256 → Fin 512 → EReal
  /-- The normaliser. -/
  n : Fin 256 → EReal
  /-- The stabiliser. -/
  m : EReal

/-- The state before the first chunk. -/
def St.zero : St := ⟨fun _ _ => 0, fun _ => 0, 0⟩

/-- The greatest of finitely many values. -/
def mx {n : ℕ} (g : Fin n → EReal) : EReal := Finset.univ.fold max ⊥ g

/-- The cumulative log forget gate at row `t`. -/
def cum (f : Fin 64 → EReal) (t : Fin 64) : EReal := ∑ s : Fin 64, if s ≤ t then f s else 0

namespace Chunk

variable (c : Chunk) (z : St)

/-- Input gate minus cumulative forget gate. -/
def a (s : Fin 64) : EReal := c.i s - cum c.f s

/-- The log decay from row `s` to row `t`; `⊥` where `s` comes after `t`. -/
def logd (t s : Fin 64) : EReal := if s ≤ t then cum c.f t + c.a s else ⊥

/-- The log weight with which the carried state enters row `t`. -/
def inter (t : Fin 64) : EReal := cum c.f t + z.m

/-- The stabiliser of row `t`. -/
def mt (t : Fin 64) : EReal := max (c.inter z t) (mx (c.logd t))

/-- The stabilised decay. -/
def dmat (t s : Fin 64) : EReal := Ideal.exp (c.logd t s - c.mt z t)

/-- The stabilised weight of the carried state. -/
def wi (t : Fin 64) : EReal := Ideal.exp (c.inter z t - c.mt z t)

/-- The decayed scores. -/
def sc (t s : Fin 64) : EReal := (∑ x : Fin 256, c.q t x * c.k s x) * c.dmat z t s

/-- The numerator. -/
def num (t : Fin 64) (d : Fin 512) : EReal :=
  ∑ s : Fin 64, c.sc z t s * c.v s d + c.wi z t * ∑ x : Fin 256, c.q t x * z.C x d

/-- The denominator before its stabilisation. -/
def den (t : Fin 64) : EReal := ∑ s : Fin 64, c.sc z t s + c.wi z t * ∑ x : Fin 256, c.q t x * z.n x

/-- The cell's output. -/
def hc (t : Fin 64) (d : Fin 512) : EReal :=
  Ideal.div (c.num z t d) (max (FloatOps.absf (F := Ideal) (φ := .f32) (c.den z t)) (Ideal.exp (0 - c.mt z t)))

/-- The output row after the head's root-mean-square norm with weights `w` and the sigmoid gate `g`. -/
def out (w : Fin 512 → EReal) (g : Fin 64 → Fin 512 → EReal) (t : Fin 64) (d : Fin 512) : EReal :=
  c.hc z t d * Ideal.rsqrt (Ideal.div (∑ x : Fin 512, c.hc z t x * c.hc z t x) (Ideal.ofBits .f32 0x44000000#32)
    + Ideal.ofBits .f32 0x358637BD#32) * w d * Ideal.logistic (g t d)

/-- The stabiliser after the chunk. -/
def mNew : EReal := max (cum c.f 63 + z.m) (mx fun s => cum c.f 63 + c.a s)

/-- The weight the old state keeps. -/
def wc : EReal := Ideal.exp (cum c.f 63 + z.m - c.mNew z)

/-- The weighted keys. -/
def kw (s : Fin 64) (x : Fin 256) : EReal := c.k s x * Ideal.exp (cum c.f 63 + c.a s - c.mNew z)

/-- The state after the chunk. -/
def step : St where
  C x d := c.wc z * z.C x d + ∑ s : Fin 64, c.kw z s x * c.v s d
  n x := c.wc z * z.n x + ∑ s : Fin 64, c.kw z s x
  m := c.mNew z

end Chunk

/-- The state after the first `n` of a sequence of chunks. -/
def stAt (c : ℕ → Chunk) : ℕ → St
  | 0 => St.zero
  | n + 1 => (c n).step (stAt c n)

end Cert.Mlstm

end
-- ==== Proof.MlstmHeadAt.lean ====
module

public import proofs.«01_k».proof.Proof.MlstmHead
public import proofs.«01_k».proof.Proof.MlstmSpec

/-! The kernel's head step read element by element over the extended reals: it is the step of `MlstmSpec.lean`. -/

@[expose] public section

set_option maxRecDepth 16384

noncomputable section

namespace Cert.Mlstm

open Idealize.ShloMosaic
open Cert.KernelIdeal Cert.KernelIdeal.Gen

/-- The word `-∞` reads as `⊥`. -/
theorem ofBits_ninf : Ideal.ofBits .f32 0xFF800000#32 = ⊥ := by
  simp [Ideal.ofBits, Ideal.ieee]

/-- The mask's named value is `⊥`. -/
theorem mask_bot : Named.named (F := Ideal) (φ := .f32) κ "mask" 0xF149F2CA#32 = (⊥ : EReal) :=
  IdealRules.named_const.ideal_named_scalar _ _ _ _ rfl

/-- The comparison word of a lower triangle, widened. -/
theorem sge_word : ∀ t x : Fin 64, BitVec.setWidth 32 (IntOp.cmpi .sge (BitVec.ofNat 32 t) (BitVec.ofNat 32 x))
    = if x ≤ t then 1#32 else 0#32 := by decide +kernel

/-- The comparison word of an upper triangle, widened. -/
theorem sle_word : ∀ t x : Fin 64, BitVec.setWidth 32 (IntOp.cmpi .sle (BitVec.ofNat 32 x) (BitVec.ofNat 32 t))
    = if x ≤ t then 1#32 else 0#32 := by decide +kernel

/-- The comparison word of a lower triangle. -/
theorem sge_bit : ∀ t x : Fin 64, IntOp.cmpi .sge (BitVec.ofNat 32 t) (BitVec.ofNat 32 x)
    = if x ≤ t then 1#1 else 0#1 := by decide +kernel

/-- A 0/1 word as a number. -/
theorem sitofp_ite (p : Prop) [Decidable p] :
    (FloatOps.sitofp (F := Ideal) .f32 (if p then 1#32 else 0#32) : EReal) = if p then 1 else 0 := by
  split <;> simp [FloatOps.sitofp]

/-- A 0/1 factor keeps or drops the term. -/
theorem ite_mul_zero_one (p : Prop) [Decidable p] (x : EReal) : (if p then (1 : EReal) else 0) * x = if p then x else 0 := by
  split <;> simp

/-- The cumulative gates, as the kernel's triangular product computes them. -/
theorem hB_apply (f : Vec Ideal S1x1x64x1 .f32) (t : Fin 64) :
    hB f (ix2 t (0 : Fin 1)) = cum (fun s => f (ix4 (0 : Fin 1) (0 : Fin 1) s (0 : Fin 1))) t := by
  unfold hB cum
  pointwise [k0_pay43, k0_pay2, k0_pay1]
  refine Finset.sum_congr rfl fun x _ => ?_
  rw [sge_word, sitofp_ite, ite_mul_zero_one]

/-- The gate difference as a column. -/
theorem hAc_apply (i f : Vec Ideal S1x1x64x1 .f32) (t : Fin 64) :
    hAc i f (ix2 t (0 : Fin 1)) = i (ix4 (0 : Fin 1) (0 : Fin 1) t (0 : Fin 1))
      - cum (fun s => f (ix4 (0 : Fin 1) (0 : Fin 1) s (0 : Fin 1))) t := by
  rw [← hB_apply]
  unfold hAc hB
  pointwise [k0_pay44]

/-- The gate difference as a row. -/
theorem hAr_apply (i f : Vec Ideal S1x1x1x1x64 .f32) (t : Fin 64) :
    hAr i f (ix2 (0 : Fin 1) t) = i (ix5 (0 : Fin 1) (0 : Fin 1) (0 : Fin 1) (0 : Fin 1) t)
      - cum (fun s => f (ix5 (0 : Fin 1) (0 : Fin 1) (0 : Fin 1) (0 : Fin 1) s)) t := by
  unfold hAr cum
  pointwise [k0_pay45, k0_pay3]
  congr 1
  refine Finset.sum_congr rfl fun x _ => ?_
  rw [sle_word, sitofp_ite, mul_comm, ite_mul_zero_one]

end Cert.Mlstm

end
-- ==== Proof.MlstmStepAt.lean ====
module

public import proofs.«01_k».proof.Proof.MlstmHeadAt

/-! One head's chunk step of the kernel, element by element: the outputs and the new state are those of
`MlstmSpec.lean`. -/

@[expose] public section

set_option maxRecDepth 16384

noncomputable section

namespace Cert.Mlstm

open Idealize.ShloMosaic
open Cert.KernelIdeal Cert.KernelIdeal.Gen

/-- The chunk a head reads, off the loaded blocks. -/
def hChunk (q k : Vec Ideal S1x64x256 .f32) (v : Vec Ideal S1x64x512 .f32) (i f : Vec Ideal S1x1x64x1 .f32) : Chunk where
  q t x := q (ix3 (0 : Fin 1) t x) * Ideal.ofBits .f32 0x3D800000#32
  k t x := k (ix3 (0 : Fin 1) t x)
  v t d := v (ix3 (0 : Fin 1) t d)
  i t := i (ix4 (0 : Fin 1) (0 : Fin 1) t (0 : Fin 1))
  f t := f (ix4 (0 : Fin 1) (0 : Fin 1) t (0 : Fin 1))

/-- The state a head reads, off the loaded blocks. -/
def hSt (C : Vec Ideal S1x1x256x512 .f32) (n : Vec Ideal S1x1x1x256 .f32) (m : Vec Ideal S1x1x1x1 .f32) : St where
  C x d := C (ix4 (0 : Fin 1) (0 : Fin 1) x d)
  n x := n (ix4 (0 : Fin 1) (0 : Fin 1) (0 : Fin 1) x)
  m := m (ix4 (0 : Fin 1) (0 : Fin 1) (0 : Fin 1) (0 : Fin 1))

variable (q k : Vec Ideal S1x64x256 .f32) (v og : Vec Ideal S1x64x512 .f32) (i f : Vec Ideal S1x1x64x1 .f32)
  (ir fr : Vec Ideal S1x1x1x1x64 .f32) (hn : Vec Ideal S1x1x512 .f32)
  (C : Vec Ideal S1x1x256x512 .f32) (n : Vec Ideal S1x1x1x256 .f32) (m : Vec Ideal S1x1x1x1 .f32)

/-- The gates as rows are the gates as columns. -/
def SameGates : Prop :=
  (∀ s : Fin 64, ir (ix5 (0 : Fin 1) (0 : Fin 1) (0 : Fin 1) (0 : Fin 1) s) = i (ix4 (0 : Fin 1) (0 : Fin 1) s (0 : Fin 1))) ∧
  (∀ s : Fin 64, fr (ix5 (0 : Fin 1) (0 : Fin 1) (0 : Fin 1) (0 : Fin 1) s) = f (ix4 (0 : Fin 1) (0 : Fin 1) s (0 : Fin 1)))

variable {i f ir fr}

/-- The cumulative gates of the chunk. -/
theorem hB_chunk (t : Fin 64) : hB f (ix2 t (0 : Fin 1)) = cum (hChunk q k v i f).f t := hB_apply f t

/-- The gate differences as a column. -/
theorem hAc_chunk (t : Fin 64) : hAc i f (ix2 t (0 : Fin 1)) = (hChunk q k v i f).a t := hAc_apply i f t

/-- The gate differences as a row. -/
theorem hAr_chunk (hg : SameGates i f ir fr) (t : Fin 64) : hAr ir fr (ix2 (0 : Fin 1) t) = (hChunk q k v i f).a t := by
  rw [hAr_apply, hg.1]
  simp only [hg.2]
  rfl

/-- The log decay. -/
theorem logd_chunk (hg : SameGates i f ir fr) (t s : Fin 64) :
    k0_pay46 k0_pay1 k0_pay2 k0_pay3 f ir fr (ix2 t s) = (hChunk q k v i f).logd t s := by
  have e : k0_pay46 k0_pay1 k0_pay2 k0_pay3 f ir fr (ix2 t s) =
      if s ≤ t then hB f (ix2 t (0 : Fin 1)) + hAr ir fr (ix2 (0 : Fin 1) s) else (⊥ : EReal) := by
    pointwise [k0_pay46, k0_pay1]
    rw [sge_bit, mask_bot]
    by_cases h : s ≤ t
    · rw [if_pos h, if_pos h]; rfl
    · rw [if_neg h, if_neg h]; rfl
  rw [e, hB_chunk q k v (i := i), hAr_chunk q k v hg]
  rfl

/-- The weight of the carried state. -/
theorem inter_chunk (t : Fin 64) :
    k0_pay47 k0_pay2 (k0_pay39 m) f (ix2 t (0 : Fin 1)) = (hChunk q k v i f).inter (hSt C n m) t := by
  have e : k0_pay47 k0_pay2 (k0_pay39 m) f (ix2 t (0 : Fin 1)) =
      hB f (ix2 t (0 : Fin 1)) + m (ix4 (0 : Fin 1) (0 : Fin 1) (0 : Fin 1) (0 : Fin 1)) := by
    pointwise [k0_pay47, k0_pay39]; rfl
  rw [e, hB_chunk q k v (i := i)]
  rfl

/-- The row stabiliser. -/
theorem mt_chunk (hg : SameGates i f ir fr) (t : Fin 64) :
    k0_pay48 k0_pay1 k0_pay2 k0_pay3 (k0_pay39 m) f ir fr (ix2 t (0 : Fin 1)) =
      (hChunk q k v i f).mt (hSt C n m) t := by
  pointwise [k0_pay48]
  rw [ofBits_ninf, inter_chunk q k v C n m (i := i)]
  simp only [logd_chunk q k v hg]
  rfl

/-- The stabilised decay. -/
theorem dmat_chunk (hg : SameGates i f ir fr) (t s : Fin 64) :
    k0_pay49 k0_pay1 k0_pay2 k0_pay3 (k0_pay39 m) f ir fr (ix2 t s) = (hChunk q k v i f).dmat (hSt C n m) t s := by
  pointwise [k0_pay49]
  rw [logd_chunk q k v hg, mt_chunk q k v C n m hg]
  rfl

/-- The stabilised weight of the carried state. -/
theorem wi_chunk (hg : SameGates i f ir fr) (t : Fin 64) :
    k0_pay50 k0_pay1 k0_pay2 k0_pay3 (k0_pay39 m) f ir fr (ix2 t (0 : Fin 1)) = (hChunk q k v i f).wi (hSt C n m) t := by
  pointwise [k0_pay50]
  rw [inter_chunk q k v C n m (i := i), mt_chunk q k v C n m hg]
  rfl

/-- The chunk's output rows. -/
theorem hO_chunk (hg : SameGates i f ir fr) (t : Fin 64) (d : Fin 512) :
    hO q k v og i f ir fr hn C n m (ix3 (0 : Fin 1) t d) =
      (hChunk q k v i f).out (hSt C n m) (fun e => hn (ix3 (0 : Fin 1) (0 : Fin 1) e))
        (fun t e => og (ix3 (0 : Fin 1) t e)) t d := by
  unfold hO
  pointwise [k0_pay54, k0_pay53, k0_pay40, k0_pay41, k0_pay42, k0_pay51, k0_pay52]
  simp only [dmat_chunk q k v C n m hg, wi_chunk q k v C n m hg, mt_chunk q k v C n m hg]
  rfl

/-- The new stabiliser. -/
theorem mNew_chunk (hg : SameGates i f ir fr) :
    k0_pay56 (k0_pay39 m) (hB f) (hAr ir fr) (ix2 (0 : Fin 1) (0 : Fin 1)) = (hChunk q k v i f).mNew (hSt C n m) := by
  pointwise [k0_pay56, k0_pay39, k0_pay55]
  simp only [hAr_chunk q k v hg, ofBits_ninf]
  simp only [hB_chunk q k v (i := i)]
  rfl

/-- The weight the old state keeps. -/
theorem wc_chunk (hg : SameGates i f ir fr) :
    k0_pay57 (k0_pay39 m) (hB f) (hAr ir fr) (ix2 (0 : Fin 1) (0 : Fin 1)) = (hChunk q k v i f).wc (hSt C n m) := by
  have e : k0_pay39 m (ix2 (0 : Fin 1) (0 : Fin 1)) = m (ix4 (0 : Fin 1) (0 : Fin 1) (0 : Fin 1) (0 : Fin 1)) := by
    pointwise [k0_pay39]
  pointwise [k0_pay57, k0_pay55]
  simp only [mNew_chunk q k v C n m hg, hB_chunk q k v (i := i), e]
  rfl

/-- The weighted keys. -/
theorem kw_chunk (hg : SameGates i f ir fr) (s : Fin 64) (x : Fin 256) :
    k0_pay58 (k0_pay39 m) (k0_pay41 k) (hB f) (hAc i f) (hAr ir fr) (ix2 s x) = (hChunk q k v i f).kw (hSt C n m) s x := by
  pointwise [k0_pay58, k0_pay41, k0_pay55]
  simp only [mNew_chunk q k v C n m hg, hB_chunk q k v (i := i), hAc_chunk q k v]
  rfl

/-- The head's new stabiliser. -/
theorem hM_chunk (hg : SameGates i f ir fr) :
    hM f ir fr m (ix4 (0 : Fin 1) (0 : Fin 1) (0 : Fin 1) (0 : Fin 1)) = ((hChunk q k v i f).step (hSt C n m)).m := by
  unfold hM
  pointwise [k0_pay62]
  exact mNew_chunk q k v C n m hg

/-- The head's new normaliser. -/
theorem hN_chunk (hg : SameGates i f ir fr) (x : Fin 256) :
    hN k i f ir fr n m (ix4 (0 : Fin 1) (0 : Fin 1) (0 : Fin 1) x) = ((hChunk q k v i f).step (hSt C n m)).n x := by
  unfold hN
  pointwise [k0_pay61, k0_pay60, k0_pay52]
  simp only [kw_chunk q k v C n m hg, wc_chunk q k v C n m hg]
  rfl

/-- The head's new matrix. -/
theorem hC_chunk (hg : SameGates i f ir fr) (x : Fin 256) (d : Fin 512) :
    hC k v i f ir fr C m (ix4 (0 : Fin 1) (0 : Fin 1) x d) = ((hChunk q k v i f).step (hSt C n m)).C x d := by
  unfold hC
  pointwise [k0_pay59, k0_pay51, k0_pay42]
  simp only [kw_chunk q k v C n m hg, wc_chunk q k v C n m hg]
  rfl

end Cert.Mlstm

end
-- ==== Proof.MlstmPoint.lean ====
module

public import proofs.«01_k».proof.Proof.MlstmStepAt
public import proofs.«01_k».proof.Proof.MlstmPb

/-! What one head reads in one trip of the chunk loop, in terms of the blocks of a grid point, and the pieces it writes
in terms of the head's chunk step. -/

@[expose] public section

set_option maxRecDepth 16384

noncomputable section

namespace Cert.Mlstm

open Idealize.ShloMosaic Idealize.SL.Sem
open Cert.KernelIdeal Cert.KernelIdeal.Gen

/-- A unit rectangle of rank 3 places an index by adding the offsets. -/
theorem unit_at3 {n0 n1 n2 : ℕ} {off size : Fin 3 → ℕ} {inb} {o0 o1 o2 : ℕ} (ho : off = ![o0, o1, o2])
    (x : (Rect.unit (s := ⟨3, ![n0, n1, n2]⟩) off size inb).shape.Idx) (y : (⟨3, ![n0, n1, n2]⟩ : Shape).Idx)
    (h0 : (y 0).val = o0 + (x 0).val) (h1 : (y 1).val = o1 + (x 1).val) (h2 : (y 2).val = o2 + (x 2).val) :
    (Rect.unit (s := ⟨3, ![n0, n1, n2]⟩) off size inb).emb x = y := by
  subst ho
  funext a
  refine Fin.ext ?_
  rw [Rect.emb_apply]
  fin_cases a <;> simp [h0, h1, h2]

/-- A unit rectangle of rank 4 places an index by adding the offsets. -/
theorem unit_at4 {n0 n1 n2 n3 : ℕ} {off size : Fin 4 → ℕ} {inb} {o0 o1 o2 o3 : ℕ} (ho : off = ![o0, o1, o2, o3])
    (x : (Rect.unit (s := ⟨4, ![n0, n1, n2, n3]⟩) off size inb).shape.Idx) (y : (⟨4, ![n0, n1, n2, n3]⟩ : Shape).Idx)
    (h0 : (y 0).val = o0 + (x 0).val) (h1 : (y 1).val = o1 + (x 1).val) (h2 : (y 2).val = o2 + (x 2).val)
    (h3 : (y 3).val = o3 + (x 3).val) :
    (Rect.unit (s := ⟨4, ![n0, n1, n2, n3]⟩) off size inb).emb x = y := by
  subst ho
  funext a
  refine Fin.ext ?_
  rw [Rect.emb_apply]
  fin_cases a <;> simp [h0, h1, h2, h3]

/-- A unit rectangle of rank 5 places an index by adding the offsets. -/
theorem unit_at5 {n0 n1 n2 n3 n4 : ℕ} {off size : Fin 5 → ℕ} {inb} {o0 o1 o2 o3 o4 : ℕ} (ho : off = ![o0, o1, o2, o3, o4])
    (x : (Rect.unit (s := ⟨5, ![n0, n1, n2, n3, n4]⟩) off size inb).shape.Idx)
    (y : (⟨5, ![n0, n1, n2, n3, n4]⟩ : Shape).Idx)
    (h0 : (y 0).val = o0 + (x 0).val) (h1 : (y 1).val = o1 + (x 1).val) (h2 : (y 2).val = o2 + (x 2).val)
    (h3 : (y 3).val = o3 + (x 3).val) (h4 : (y 4).val = o4 + (x 4).val) :
    (Rect.unit (s := ⟨5, ![n0, n1, n2, n3, n4]⟩) off size inb).emb x = y := by
  subst ho
  funext a
  refine Fin.ext ?_
  rw [Rect.emb_apply]
  fin_cases a <;> simp [h0, h1, h2, h3, h4]

/-- Row `t` of chunk `k` within a block of 512 rows. -/
def row (k : ℕ) (t : Fin 64) : Fin 512 := ⟨(64 * k + t.val) % 512, Nat.mod_lt _ (by omega)⟩

/-- Column `x` of head `h` among the query and key columns. -/
def colq (h : Fin 4) (x : Fin 256) : Fin 1024 := ⟨256 * h.val + x.val, by omega⟩

/-- Column `d` of head `h` among the value columns. -/
def colv (h : Fin 4) (d : Fin 512) : Fin 2048 := ⟨512 * h.val + d.val, by omega⟩

/-- The blocks of one grid point that the loop reads. -/
structure Blk where
  /-- Queries. -/
  q : Vec Ideal S1x512x1024 .f32
  /-- Keys. -/
  k : Vec Ideal S1x512x1024 .f32
  /-- Values. -/
  v : Vec Ideal S1x512x2048 .f32
  /-- Output gate logits. -/
  og : Vec Ideal S1x512x2048 .f32
  /-- Log input gates as columns. -/
  i : Vec Ideal S1x4x512x1 .f32
  /-- Log forget gates as columns. -/
  f : Vec Ideal S1x4x512x1 .f32
  /-- Log input gates as rows. -/
  ir : Vec Ideal S1x4x8x1x64 .f32
  /-- Log forget gates as rows. -/
  fr : Vec Ideal S1x4x8x1x64 .f32
  /-- Norm weights. -/
  hn : Vec Ideal S4x1x512 .f32

namespace Blk

variable (b : Blk)

/-- Chunk `k` of head `h`. -/
def chunk (h : Fin 4) (k : ℕ) : Chunk where
  q t x := b.q (ix3 (0 : Fin 1) (row k t) (colq h x)) * Ideal.ofBits .f32 0x3D800000#32
  k t x := b.k (ix3 (0 : Fin 1) (row k t) (colq h x))
  v t d := b.v (ix3 (0 : Fin 1) (row k t) (colv h d))
  i t := b.i (ix4 (0 : Fin 1) h (row k t) (0 : Fin 1))
  f t := b.f (ix4 (0 : Fin 1) h (row k t) (0 : Fin 1))

/-- The row layout of the gates holds what the column layout holds. -/
def Gates : Prop := ∀ (h : Fin 4) (k : Fin 8) (s : Fin 64),
  b.ir (ix5 (0 : Fin 1) h k (0 : Fin 1) s) = b.i (ix4 (0 : Fin 1) h (row k s) (0 : Fin 1)) ∧
  b.fr (ix5 (0 : Fin 1) h k (0 : Fin 1) s) = b.f (ix4 (0 : Fin 1) h (row k s) (0 : Fin 1))

/-- Output gate logits of head `h` in chunk `k`. -/
def gate (h : Fin 4) (k : ℕ) (t : Fin 64) (d : Fin 512) : EReal := b.og (ix3 (0 : Fin 1) (row k t) (colv h d))

/-- Norm weights of head `h`. -/
def nw (h : Fin 4) (d : Fin 512) : EReal := b.hn (ix3 h (0 : Fin 1) d)

end Blk

/-- The matrix states of all heads as one array. -/
def arrC (z : Fin 4 → St) : Vec Ideal S1x4x256x512 .f32 := fun y => (z (y 1)).C (y 2) (y 3)

/-- The normalisers of all heads as one array. -/
def arrN (z : Fin 4 → St) : Vec Ideal S1x4x1x256 .f32 := fun y => (z (y 1)).n (y 3)

/-- The stabilisers of all heads as one array. -/
def arrM (z : Fin 4 → St) : Vec Ideal S1x4x1x1 .f32 := fun y => (z (y 1)).m

/-- The loads of head `h` in trip `k` are the head's parts of the blocks and of the state. -/
structure Loads (b : Blk) (z : Fin 4 → St) (h : Fin 4) (k : Fin 8) (q kk : Vec Ideal S1x64x256 .f32)
    (v og : Vec Ideal S1x64x512 .f32) (i f : Vec Ideal S1x1x64x1 .f32) (ir fr : Vec Ideal S1x1x1x1x64 .f32)
    (hn : Vec Ideal S1x1x512 .f32) (C : Vec Ideal S1x1x256x512 .f32) (n : Vec Ideal S1x1x1x256 .f32)
    (m : Vec Ideal S1x1x1x1 .f32) : Prop where
  hq : ∀ t x, q (ix3 (0 : Fin 1) t x) = b.q (ix3 (0 : Fin 1) (row k t) (colq h x))
  hk : ∀ t x, kk (ix3 (0 : Fin 1) t x) = b.k (ix3 (0 : Fin 1) (row k t) (colq h x))
  hv : ∀ t d, v (ix3 (0 : Fin 1) t d) = b.v (ix3 (0 : Fin 1) (row k t) (colv h d))
  hog : ∀ t d, og (ix3 (0 : Fin 1) t d) = b.og (ix3 (0 : Fin 1) (row k t) (colv h d))
  hi : ∀ t : Fin 64, i (ix4 (0 : Fin 1) (0 : Fin 1) t (0 : Fin 1)) = b.i (ix4 (0 : Fin 1) h (row k t) (0 : Fin 1))
  hf : ∀ t : Fin 64, f (ix4 (0 : Fin 1) (0 : Fin 1) t (0 : Fin 1)) = b.f (ix4 (0 : Fin 1) h (row k t) (0 : Fin 1))
  hir : ∀ t : Fin 64, ir (ix5 (0 : Fin 1) (0 : Fin 1) (0 : Fin 1) (0 : Fin 1) t) = b.ir (ix5 (0 : Fin 1) h k (0 : Fin 1) t)
  hfr : ∀ t : Fin 64, fr (ix5 (0 : Fin 1) (0 : Fin 1) (0 : Fin 1) (0 : Fin 1) t) = b.fr (ix5 (0 : Fin 1) h k (0 : Fin 1) t)
  hhn : ∀ d, hn (ix3 (0 : Fin 1) (0 : Fin 1) d) = b.hn (ix3 h (0 : Fin 1) d)
  hC : ∀ x d, C (ix4 (0 : Fin 1) (0 : Fin 1) x d) = (z h).C x d
  hn' : ∀ x, n (ix4 (0 : Fin 1) (0 : Fin 1) (0 : Fin 1) x) = (z h).n x
  hm : m (ix4 (0 : Fin 1) (0 : Fin 1) (0 : Fin 1) (0 : Fin 1)) = (z h).m

namespace Loads

variable {b : Blk} {z : Fin 4 → St} {h : Fin 4} {k : Fin 8} {q kk : Vec Ideal S1x64x256 .f32}
    {v og : Vec Ideal S1x64x512 .f32} {i f : Vec Ideal S1x1x64x1 .f32} {ir fr : Vec Ideal S1x1x1x1x64 .f32}
    {hn : Vec Ideal S1x1x512 .f32} {C : Vec Ideal S1x1x256x512 .f32} {n : Vec Ideal S1x1x1x256 .f32}
    {m : Vec Ideal S1x1x1x1 .f32} (l : Loads b z h k q kk v og i f ir fr hn C n m) (hb : b.Gates)
include l

/-- The loaded chunk is the head's chunk. -/
theorem chunk_eq : hChunk q kk v i f = b.chunk h k := by
  simp only [hChunk, Blk.chunk, l.hq, l.hk, l.hv, l.hi, l.hf]

/-- The loaded state is the head's state. -/
theorem st_eq : hSt C n m = z h := by
  simp only [hSt, l.hC, l.hn', l.hm]

include hb in
/-- The loaded gate rows are the loaded gate columns. -/
theorem gates : SameGates i f ir fr :=
  ⟨fun s => by rw [l.hir, l.hi, (hb h k s).1], fun s => by rw [l.hfr, l.hf, (hb h k s).2]⟩

include hb

/-- The stabiliser piece. -/
theorem payM (y : S1x1x1x1.Idx) : hM f ir fr m y = ((b.chunk h k).step (z h)).m := by
  rw [show y = ix4 (0 : Fin 1) (0 : Fin 1) (0 : Fin 1) (0 : Fin 1) from by
      rw [← ix4_eta y]; congr 1 <;> exact Subsingleton.elim (α := Fin 1) _ _,
    hM_chunk q kk v C n m (l.gates hb), l.chunk_eq, l.st_eq]

/-- The normaliser piece. -/
theorem payN (x : Fin 256) :
    hN kk i f ir fr n m (ix4 (0 : Fin 1) (0 : Fin 1) (0 : Fin 1) x) = ((b.chunk h k).step (z h)).n x := by
  rw [hN_chunk q kk v C n m (l.gates hb), l.chunk_eq, l.st_eq]

/-- The matrix piece. -/
theorem payC (x : Fin 256) (d : Fin 512) :
    Mlstm.hC kk v i f ir fr C m (ix4 (0 : Fin 1) (0 : Fin 1) x d) = ((b.chunk h k).step (z h)).C x d := by
  rw [hC_chunk q kk v C n m (l.gates hb), l.chunk_eq, l.st_eq]

/-- The output piece. -/
theorem payO (t : Fin 64) (d : Fin 512) :
    hO q kk v og i f ir fr hn C n m (ix3 (0 : Fin 1) t d) =
      (b.chunk h k).out (z h) (b.nw h) (b.gate h k) t d := by
  rw [hO_chunk q kk v og hn C n m (l.gates hb), l.chunk_eq, l.st_eq]
  simp only [l.hhn, l.hog]
  rfl

end Loads

open View (ld)

/-- Reading the blocks through the rectangles of head `h` in trip `k` gives the head's loads. -/
theorem loads_of (b : Blk) (z : Fin 4 → St) (h : Fin 4) (k : Fin 8)
    {o1 o2 : Fin 3 → ℕ} {o3 : Fin 4 → ℕ} {o4 : Fin 5 → ℕ} {o5 : Fin 3 → ℕ} {o6 o7 o8 : Fin 4 → ℕ}
    {i1 i2 i3 i4 i5 i6 i7 i8}
    (e1 : o1 = ![0, 64 * k.val, 256 * h.val]) (e2 : o2 = ![0, 64 * k.val, 512 * h.val])
    (e3 : o3 = ![0, h.val, 64 * k.val, 0]) (e4 : o4 = ![0, h.val, k.val, 0, 0]) (e5 : o5 = ![h.val, 0, 0])
    (e6 : o6 = ![0, h.val, 0, 0]) (e7 : o7 = ![0, h.val, 0, 0]) (e8 : o8 = ![0, h.val, 0, 0]) :
    Loads b z h k (ld b.q (Rect.unit (s := S1x512x1024) o1 S1x64x256.size i1))
      (ld b.k (Rect.unit (s := S1x512x1024) o1 S1x64x256.size i1))
      (ld b.v (Rect.unit (s := S1x512x2048) o2 S1x64x512.size i2))
      (ld b.og (Rect.unit (s := S1x512x2048) o2 S1x64x512.size i2))
      (ld b.i (Rect.unit (s := S1x4x512x1) o3 S1x1x64x1.size i3))
      (ld b.f (Rect.unit (s := S1x4x512x1) o3 S1x1x64x1.size i3))
      (ld b.ir (Rect.unit (s := S1x4x8x1x64) o4 S1x1x1x1x64.size i4))
      (ld b.fr (Rect.unit (s := S1x4x8x1x64) o4 S1x1x1x1x64.size i4))
      (ld b.hn (Rect.unit (s := S4x1x512) o5 S1x1x512.size i5))
      (ld (arrC z) (Rect.unit (s := S1x4x256x512) o6 S1x1x256x512.size i6))
      (ld (arrN z) (Rect.unit (s := S1x4x1x256) o7 S1x1x1x256.size i7))
      (ld (arrM z) (Rect.unit (s := S1x4x1x1) o8 S1x1x1x1.size i8)) := by
  have hr : ∀ t : Fin 64, (row k t).val = 64 * k.val + t.val := fun t => Nat.mod_eq_of_lt (by omega)
  constructor
  · intro t x
    exact congrArg b.q (unit_at3 e1 _ _ (by simp) (by simp [hr]) (by simp [colq]))
  · intro t x
    exact congrArg b.k (unit_at3 e1 _ _ (by simp) (by simp [hr]) (by simp [colq]))
  · intro t x
    exact congrArg b.v (unit_at3 e2 _ _ (by simp) (by simp [hr]) (by simp [colv]))
  · intro t x
    exact congrArg b.og (unit_at3 e2 _ _ (by simp) (by simp [hr]) (by simp [colv]))
  · intro t
    exact congrArg b.i (unit_at4 e3 _ _ (by simp) (by simp) (by simp [hr]) (by simp))
  · intro t
    exact congrArg b.f (unit_at4 e3 _ _ (by simp) (by simp) (by simp [hr]) (by simp))
  · intro t
    exact congrArg b.ir (unit_at5 e4 _ _ (by simp) (by simp) (by simp) (by simp) (by simp))
  · intro t
    exact congrArg b.fr (unit_at5 e4 _ _ (by simp) (by simp) (by simp) (by simp) (by simp))
  · intro d
    exact congrArg b.hn (unit_at3 e5 _ _ (by simp) (by simp) (by simp))
  · intro x d
    exact congrArg (arrC z) (unit_at4 e6 _ (ix4 (0 : Fin 1) h x d) (by simp) (by simp) (by simp) (by simp))
  · intro x
    exact congrArg (arrN z) (unit_at4 e7 _ (ix4 (0 : Fin 1) h (0 : Fin 1) x) (by simp) (by simp) (by simp) (by simp))
  · exact congrArg (arrM z) (unit_at4 e8 _ (ix4 (0 : Fin 1) h (0 : Fin 1) (0 : Fin 1)) (by simp) (by simp) (by simp) (by simp))

end Cert.Mlstm

end
-- ==== Proof.MlstmLoop.lean ====
module

public import proofs.«01_k».proof.Proof.MlstmPoint
public import Idealize.ShloMosaic.Lib.Ring

/-! The chunk loop of one grid point: before trip `k` every head's state is the head's state after `k` chunks, and every
piece written to the output block is the head's output of its chunk. -/

@[expose] public section

set_option maxRecDepth 16384

noncomputable section

namespace Cert.Mlstm

open Idealize.ShloMosaic Idealize.SL.Sem
open Cert.KernelIdeal Cert.KernelIdeal.Gen

/-- The state after `n` chunks, from a given state. -/
def stFrom (c : ℕ → Chunk) (z : St) : ℕ → St
  | 0 => z
  | n + 1 => (c n).step (stFrom c z n)

/-- The output block as one array: each row is its chunk's output row, at the state `Z` the chunk starts from. -/
def arrO (b : Blk) (Z : Fin 4 → ℕ → St) : Vec Ideal S1x512x2048 .bf16 := fun y =>
  (b.chunk ⟨(y 2).val / 512, Nat.div_lt_of_lt_mul (y 2).isLt⟩ ((y 1).val / 64)).out
    (Z ⟨(y 2).val / 512, Nat.div_lt_of_lt_mul (y 2).isLt⟩ ((y 1).val / 64))
    (b.nw ⟨(y 2).val / 512, Nat.div_lt_of_lt_mul (y 2).isLt⟩)
    (b.gate ⟨(y 2).val / 512, Nat.div_lt_of_lt_mul (y 2).isLt⟩ ((y 1).val / 64))
    ⟨(y 1).val % 64, Nat.mod_lt _ (by omega)⟩ ⟨(y 2).val % 512, Nat.mod_lt _ (by omega)⟩

/-- The output block's element at row `t` of chunk `k`, column `d` of head `h`. -/
theorem arrO_at (b : Blk) (Z : Fin 4 → ℕ → St) (h : Fin 4) (k : ℕ) (hk : k < 8) (t : Fin 64) (d : Fin 512) :
    arrO b Z (ix3 (0 : Fin 1) (row k t) (colv h d)) = (b.chunk h k).out (Z h k) (b.nw h) (b.gate h k) t d := by
  have hr : (row k t).val = 64 * k + t.val := Nat.mod_eq_of_lt (by omega)
  have e1 : (row k t).val / 64 = k := by omega
  have e2 : (row k t).val % 64 = t.val := by omega
  have e3 : (colv h d).val / 512 = h.val := by simp only [colv]; omega
  have e4 : (colv h d).val % 512 = d.val := by simp only [colv]; omega
  show (b.chunk ⟨(colv h d).val / 512, _⟩ ((row k t).val / 64)).out (Z ⟨(colv h d).val / 512, _⟩ ((row k t).val / 64))
    (b.nw ⟨(colv h d).val / 512, _⟩) (b.gate ⟨(colv h d).val / 512, _⟩ ((row k t).val / 64))
    ⟨(row k t).val % 64, _⟩ ⟨(colv h d).val % 512, _⟩ = _
  simp only [e1, e2, e3, e4]

/-- An index of rank 4 by its coordinates. -/
theorem eq_ix4_of {n0 n1 n2 n3 : ℕ} {x : (⟨4, ![n0, n1, n2, n3]⟩ : Shape).Idx} {a : Fin n0} {b : Fin n1} {c : Fin n2}
    {d : Fin n3} (h0 : x 0 = a) (h1 : x 1 = b) (h2 : x 2 = c) (h3 : x 3 = d) : x = ix4 a b c d := by
  subst h0; subst h1; subst h2; subst h3; exact (ix4_eta x).symm

/-- An index of rank 3 by its coordinates. -/
theorem eq_ix3_of {n0 n1 n2 : ℕ} {x : (⟨3, ![n0, n1, n2]⟩ : Shape).Idx} {a : Fin n0} {b : Fin n1} {c : Fin n2}
    (h0 : x 0 = a) (h1 : x 1 = b) (h2 : x 2 = c) : x = ix3 a b c := by
  subst h0; subst h1; subst h2; exact (ix3_eta x).symm

section Pieces

variable {b : Blk} {z : Fin 4 → St} {h : Fin 4} {k : Fin 8} {q kk : Vec Ideal S1x64x256 .f32}
    {v og : Vec Ideal S1x64x512 .f32} {i f : Vec Ideal S1x1x64x1 .f32} {ir fr : Vec Ideal S1x1x1x1x64 .f32}
    {hn : Vec Ideal S1x1x512 .f32} {C : Vec Ideal S1x1x256x512 .f32} {n : Vec Ideal S1x1x1x256 .f32}
    {m : Vec Ideal S1x1x1x1 .f32} (l : Loads b z h k q kk v og i f ir fr hn C n m) (hb : b.Gates)
include l hb

/-- The stabiliser piece of head `h`, in place. -/
theorem pieceM {off : Fin 4 → ℕ} {inb} (e : off = ![0, h.val, 0, 0]) (x : S1x1x1x1.Idx) :
    hM f ir fr m x = arrM (fun h => (b.chunk h k.val).step (z h))
      ((Rect.unit (s := S1x4x1x1) off S1x1x1x1.size inb).emb x) := by
  obtain rfl : x = ix4 (0 : Fin 1) (0 : Fin 1) (0 : Fin 1) (0 : Fin 1) :=
    eq_ix4_of (Fin.fin_one_eq_zero _) (Fin.fin_one_eq_zero _) (Fin.fin_one_eq_zero _) (Fin.fin_one_eq_zero _)
  rw [l.payM hb, unit_at4 e _ (ix4 (0 : Fin 1) h (0 : Fin 1) (0 : Fin 1)) (by simp) (by simp) (by simp) (by simp)]
  rfl

/-- The normaliser piece of head `h`, in place. -/
theorem pieceN {off : Fin 4 → ℕ} {inb} (e : off = ![0, h.val, 0, 0]) (x : S1x1x1x256.Idx) :
    hN kk i f ir fr n m x = arrN (fun h => (b.chunk h k.val).step (z h))
      ((Rect.unit (s := S1x4x1x256) off S1x1x1x256.size inb).emb x) := by
  obtain ⟨d, rfl⟩ : ∃ d : Fin 256, x = ix4 (0 : Fin 1) (0 : Fin 1) (0 : Fin 1) d :=
    ⟨x 3, eq_ix4_of (Fin.fin_one_eq_zero _) (Fin.fin_one_eq_zero _) (Fin.fin_one_eq_zero _) rfl⟩
  rw [l.payN hb, unit_at4 e _ (ix4 (0 : Fin 1) h (0 : Fin 1) d) (by simp) (by simp) (by simp) (by simp)]
  rfl

/-- The matrix piece of head `h`, in place. -/
theorem pieceC {off : Fin 4 → ℕ} {inb} (e : off = ![0, h.val, 0, 0]) (x : S1x1x256x512.Idx) :
    hC kk v i f ir fr C m x = arrC (fun h => (b.chunk h k.val).step (z h))
      ((Rect.unit (s := S1x4x256x512) off S1x1x256x512.size inb).emb x) := by
  obtain ⟨y, d, rfl⟩ : ∃ (y : Fin 256) (d : Fin 512), x = ix4 (0 : Fin 1) (0 : Fin 1) y d :=
    ⟨x 2, x 3, eq_ix4_of (Fin.fin_one_eq_zero _) (Fin.fin_one_eq_zero _) rfl rfl⟩
  rw [l.payC hb, unit_at4 e _ (ix4 (0 : Fin 1) h y d) (by simp) (by simp) (by simp) (by simp)]
  rfl

/-- The output piece of head `h`, in place. -/
theorem pieceO {Z : Fin 4 → ℕ → St} (hZ : ∀ h, z h = Z h k) {off : Fin 3 → ℕ} {inb}
    (e : off = ![0, 64 * k.val, 512 * h.val]) (x : S1x64x512.Idx) :
    hO q kk v og i f ir fr hn C n m x = arrO b Z ((Rect.unit (s := S1x512x2048) off S1x64x512.size inb).emb x) := by
  obtain ⟨t, d, rfl⟩ : ∃ (t : Fin 64) (d : Fin 512), x = ix3 (0 : Fin 1) t d :=
    ⟨x 1, x 2, eq_ix3_of (Fin.fin_one_eq_zero _) rfl rfl⟩
  have hr : (row k.val t).val = 64 * k.val + t.val := Nat.mod_eq_of_lt (by omega)
  rw [l.payO hb, unit_at3 e _ (ix3 (0 : Fin 1) (row k.val t) (colv h d)) (by simp) (by simp [hr]) (by simp [colv]),
    arrO_at b Z h k.val k.isLt, hZ]

end Pieces

variable (𝒱 : Variants) (c : Dev nD) (bd : Option 𝒱.V) (i : grid0.Coords)
variable (arg3 : Memref sig .tc .vmem S1x512x1024 .f32) (harg3 : arg3.IsWhole)
variable (arg4 : Memref sig .tc .vmem S1x512x1024 .f32) (harg4 : arg4.IsWhole)
variable (arg5 : Memref sig .tc .vmem S1x512x2048 .f32) (harg5 : arg5.IsWhole)
variable (arg6 : Memref sig .tc .vmem S1x512x2048 .f32) (harg6 : arg6.IsWhole)
variable (arg7 : Memref sig .tc .vmem S1x4x512x1 .f32) (harg7 : arg7.IsWhole)
variable (arg8 : Memref sig .tc .vmem S1x4x512x1 .f32) (harg8 : arg8.IsWhole)
variable (arg9 : Memref sig .tc .vmem S1x4x8x1x64 .f32) (harg9 : arg9.IsWhole)
variable (arg10 : Memref sig .tc .vmem S1x4x8x1x64 .f32) (harg10 : arg10.IsWhole)
variable (arg11 : Memref sig .tc .vmem S4x1x512 .f32) (harg11 : arg11.IsWhole)
variable (arg12 : Memref sig .tc .vmem S1x512x2048 .bf16) (harg12 : arg12.IsWhole)
variable (arg13 : Memref sig .tc .vmem S1x4x256x512 .f32) (harg13 : arg13.IsWhole)
variable (arg14 : Memref sig .tc .vmem S1x4x1x256 .f32) (harg14 : arg14.IsWhole)
variable (arg15 : Memref sig .tc .vmem S1x4x1x1 .f32) (harg15 : arg15.IsWhole)
variable (X_arg3 : BufTy.Contents (Elt Ideal) arg3.view.ty)
variable (X_arg4 : BufTy.Contents (Elt Ideal) arg4.view.ty)
variable (X_arg5 : BufTy.Contents (Elt Ideal) arg5.view.ty)
variable (X_arg6 : BufTy.Contents (Elt Ideal) arg6.view.ty)
variable (X_arg7 : BufTy.Contents (Elt Ideal) arg7.view.ty)
variable (X_arg8 : BufTy.Contents (Elt Ideal) arg8.view.ty)
variable (X_arg9 : BufTy.Contents (Elt Ideal) arg9.view.ty)
variable (X_arg10 : BufTy.Contents (Elt Ideal) arg10.view.ty)
variable (X_arg11 : BufTy.Contents (Elt Ideal) arg11.view.ty)

variable (b : Blk) (z : Fin 4 → St)
variable (e3 : arg3.view.read (Elt Ideal) X_arg3 = b.q)
variable (e4 : arg4.view.read (Elt Ideal) X_arg4 = b.k)
variable (e5 : arg5.view.read (Elt Ideal) X_arg5 = b.v)
variable (e6 : arg6.view.read (Elt Ideal) X_arg6 = b.og)
variable (e7 : arg7.view.read (Elt Ideal) X_arg7 = b.i)
variable (e8 : arg8.view.read (Elt Ideal) X_arg8 = b.f)
variable (e9 : arg9.view.read (Elt Ideal) X_arg9 = b.ir)
variable (e10 : arg10.view.read (Elt Ideal) X_arg10 = b.fr)
variable (e11 : arg11.view.read (Elt Ideal) X_arg11 = b.hn)
variable (hb : b.Gates)

section Trip

variable (f_arg12 : BufTy.Contents (Elt Ideal) arg12.view.ty)
variable (f_arg13 : BufTy.Contents (Elt Ideal) arg13.view.ty)
variable (f_arg14 : BufTy.Contents (Elt Ideal) arg14.view.ty)
variable (f_arg15 : BufTy.Contents (Elt Ideal) arg15.view.ty)
variable (z13 : arg13.view.read (Elt Ideal) f_arg13 = arrC z) (z14 : arg14.view.read (Elt Ideal) f_arg14 = arrN z)
  (z15 : arg15.view.read (Elt Ideal) f_arg15 = arrM z)
include e3 e4 e5 e6 e7 e8 e9 e10 e11 z13 z14 z15 hb

/-- After one trip the stabiliser of every head is the head's step of what it was. -/
theorem trip_read15 (k : Fin k0_t1_loop.trips) :
    arg15.view.read (Elt Ideal) (arg15.view.writes (Elt Ideal) f_arg15 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 X_arg3 X_arg4 X_arg5 X_arg6 X_arg7 X_arg8 X_arg9 X_arg10 X_arg11 k f_arg12 f_arg13 f_arg14 f_arg15).2.2.2) =
      arrM (fun h => (b.chunk h k.val).step (z h)) := by
  rw [View.read_writes_eq_canon _ _ _ (fun y => View.cover_of_tiledL (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 X_arg3 X_arg4 X_arg5 X_arg6 X_arg7 X_arg8 X_arg9 X_arg10 X_arg11 k f_arg12 f_arg13 f_arg14 f_arg15).2.2.2 S1x1x1x1.size (by sl_kernel_rfl) y)]
  funext y
  refine View.canon_apply_of_pieces _ _ ?_ y (View.cover_of_tiledL (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 X_arg3 X_arg4 X_arg5 X_arg6 X_arg7 X_arg8 X_arg9 X_arg10 X_arg11 k f_arg12 f_arg13 f_arg14 f_arg15).2.2.2 S1x1x1x1.size (by sl_kernel_rfl) y)
  rw [trip_arg15]
  simp only [View.readAt_eq_ld, e3, e4, e5, e6, e7, e8, e9, e10, e11, z13, z14, z15]
  intro p hp x
  simp only [List.mem_cons, List.not_mem_nil, or_false] at hp
  rcases hp with rfl | rfl | rfl | rfl
  · exact pieceM (inb := inb_S1x4x1x1_S1x1x1x1_0_3_0_0) (loads_of b z 3 k (i1 := k0_off13_inb k) (i2 := k0_off14_inb k) (i3 := k0_off15_inb k) (i4 := k0_off16_inb k) (i5 := inb_S4x1x512_S1x1x512_3_0_0) (i6 := inb_S1x4x256x512_S1x1x256x512_0_3_0_0) (i7 := inb_S1x4x1x256_S1x1x1x256_0_3_0_0) (i8 := inb_S1x4x1x1_S1x1x1x1_0_3_0_0) (k0_off13_eq k) (k0_off14_eq k) (k0_off15_eq k) (k0_off16_eq k) rfl rfl rfl rfl) hb rfl x
  · exact pieceM (inb := inb_S1x4x1x1_S1x1x1x1_0_2_0_0) (loads_of b z 2 k (i1 := k0_off9_inb k) (i2 := k0_off10_inb k) (i3 := k0_off11_inb k) (i4 := k0_off12_inb k) (i5 := inb_S4x1x512_S1x1x512_2_0_0) (i6 := inb_S1x4x256x512_S1x1x256x512_0_2_0_0) (i7 := inb_S1x4x1x256_S1x1x1x256_0_2_0_0) (i8 := inb_S1x4x1x1_S1x1x1x1_0_2_0_0) (k0_off9_eq k) (k0_off10_eq k) (k0_off11_eq k) (k0_off12_eq k) rfl rfl rfl rfl) hb rfl x
  · exact pieceM (inb := inb_S1x4x1x1_S1x1x1x1_0_1_0_0) (loads_of b z 1 k (i1 := k0_off5_inb k) (i2 := k0_off6_inb k) (i3 := k0_off7_inb k) (i4 := k0_off8_inb k) (i5 := inb_S4x1x512_S1x1x512_1_0_0) (i6 := inb_S1x4x256x512_S1x1x256x512_0_1_0_0) (i7 := inb_S1x4x1x256_S1x1x1x256_0_1_0_0) (i8 := inb_S1x4x1x1_S1x1x1x1_0_1_0_0) (k0_off5_eq k) (k0_off6_eq k) (k0_off7_eq k) (k0_off8_eq k) rfl rfl rfl rfl) hb rfl x
  · exact pieceM (inb := inb_S1x4x1x1_S1x1x1x1_0_0_0_0) (loads_of b z 0 k (i1 := k0_off1_inb k) (i2 := k0_off2_inb k) (i3 := k0_off3_inb k) (i4 := k0_off4_inb k) (i5 := inb_S4x1x512_S1x1x512_0_0_0) (i6 := inb_S1x4x256x512_S1x1x256x512_0_0_0_0) (i7 := inb_S1x4x1x256_S1x1x1x256_0_0_0_0) (i8 := inb_S1x4x1x1_S1x1x1x1_0_0_0_0) (k0_off1_eq k) (k0_off2_eq k) (k0_off3_eq k) (k0_off4_eq k) rfl rfl rfl rfl) hb rfl x

/-- After one trip the normaliser of every head is the head's step of what it was. -/
theorem trip_read14 (k : Fin k0_t1_loop.trips) :
    arg14.view.read (Elt Ideal) (arg14.view.writes (Elt Ideal) f_arg14 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 X_arg3 X_arg4 X_arg5 X_arg6 X_arg7 X_arg8 X_arg9 X_arg10 X_arg11 k f_arg12 f_arg13 f_arg14 f_arg15).2.2.1) =
      arrN (fun h => (b.chunk h k.val).step (z h)) := by
  rw [View.read_writes_eq_canon _ _ _ (fun y => View.cover_of_tiledL (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 X_arg3 X_arg4 X_arg5 X_arg6 X_arg7 X_arg8 X_arg9 X_arg10 X_arg11 k f_arg12 f_arg13 f_arg14 f_arg15).2.2.1 S1x1x1x256.size (by sl_kernel_rfl) y)]
  funext y
  refine View.canon_apply_of_pieces _ _ ?_ y (View.cover_of_tiledL (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 X_arg3 X_arg4 X_arg5 X_arg6 X_arg7 X_arg8 X_arg9 X_arg10 X_arg11 k f_arg12 f_arg13 f_arg14 f_arg15).2.2.1 S1x1x1x256.size (by sl_kernel_rfl) y)
  rw [trip_arg14]
  simp only [View.readAt_eq_ld, e3, e4, e5, e6, e7, e8, e9, e10, e11, z13, z14, z15]
  intro p hp x
  simp only [List.mem_cons, List.not_mem_nil, or_false] at hp
  rcases hp with rfl | rfl | rfl | rfl
  · exact pieceN (inb := inb_S1x4x1x256_S1x1x1x256_0_3_0_0) (loads_of b z 3 k (i1 := k0_off13_inb k) (i2 := k0_off14_inb k) (i3 := k0_off15_inb k) (i4 := k0_off16_inb k) (i5 := inb_S4x1x512_S1x1x512_3_0_0) (i6 := inb_S1x4x256x512_S1x1x256x512_0_3_0_0) (i7 := inb_S1x4x1x256_S1x1x1x256_0_3_0_0) (i8 := inb_S1x4x1x1_S1x1x1x1_0_3_0_0) (k0_off13_eq k) (k0_off14_eq k) (k0_off15_eq k) (k0_off16_eq k) rfl rfl rfl rfl) hb rfl x
  · exact pieceN (inb := inb_S1x4x1x256_S1x1x1x256_0_2_0_0) (loads_of b z 2 k (i1 := k0_off9_inb k) (i2 := k0_off10_inb k) (i3 := k0_off11_inb k) (i4 := k0_off12_inb k) (i5 := inb_S4x1x512_S1x1x512_2_0_0) (i6 := inb_S1x4x256x512_S1x1x256x512_0_2_0_0) (i7 := inb_S1x4x1x256_S1x1x1x256_0_2_0_0) (i8 := inb_S1x4x1x1_S1x1x1x1_0_2_0_0) (k0_off9_eq k) (k0_off10_eq k) (k0_off11_eq k) (k0_off12_eq k) rfl rfl rfl rfl) hb rfl x
  · exact pieceN (inb := inb_S1x4x1x256_S1x1x1x256_0_1_0_0) (loads_of b z 1 k (i1 := k0_off5_inb k) (i2 := k0_off6_inb k) (i3 := k0_off7_inb k) (i4 := k0_off8_inb k) (i5 := inb_S4x1x512_S1x1x512_1_0_0) (i6 := inb_S1x4x256x512_S1x1x256x512_0_1_0_0) (i7 := inb_S1x4x1x256_S1x1x1x256_0_1_0_0) (i8 := inb_S1x4x1x1_S1x1x1x1_0_1_0_0) (k0_off5_eq k) (k0_off6_eq k) (k0_off7_eq k) (k0_off8_eq k) rfl rfl rfl rfl) hb rfl x
  · exact pieceN (inb := inb_S1x4x1x256_S1x1x1x256_0_0_0_0) (loads_of b z 0 k (i1 := k0_off1_inb k) (i2 := k0_off2_inb k) (i3 := k0_off3_inb k) (i4 := k0_off4_inb k) (i5 := inb_S4x1x512_S1x1x512_0_0_0) (i6 := inb_S1x4x256x512_S1x1x256x512_0_0_0_0) (i7 := inb_S1x4x1x256_S1x1x1x256_0_0_0_0) (i8 := inb_S1x4x1x1_S1x1x1x1_0_0_0_0) (k0_off1_eq k) (k0_off2_eq k) (k0_off3_eq k) (k0_off4_eq k) rfl rfl rfl rfl) hb rfl x

/-- After one trip the matrix of every head is the head's step of what it was. -/
theorem trip_read13 (k : Fin k0_t1_loop.trips) :
    arg13.view.read (Elt Ideal) (arg13.view.writes (Elt Ideal) f_arg13 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 X_arg3 X_arg4 X_arg5 X_arg6 X_arg7 X_arg8 X_arg9 X_arg10 X_arg11 k f_arg12 f_arg13 f_arg14 f_arg15).2.1) =
      arrC (fun h => (b.chunk h k.val).step (z h)) := by
  rw [View.read_writes_eq_canon _ _ _ (fun y => View.cover_of_tiledL (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 X_arg3 X_arg4 X_arg5 X_arg6 X_arg7 X_arg8 X_arg9 X_arg10 X_arg11 k f_arg12 f_arg13 f_arg14 f_arg15).2.1 S1x1x256x512.size (by sl_kernel_rfl) y)]
  funext y
  refine View.canon_apply_of_pieces _ _ ?_ y (View.cover_of_tiledL (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 X_arg3 X_arg4 X_arg5 X_arg6 X_arg7 X_arg8 X_arg9 X_arg10 X_arg11 k f_arg12 f_arg13 f_arg14 f_arg15).2.1 S1x1x256x512.size (by sl_kernel_rfl) y)
  rw [trip_arg13]
  simp only [View.readAt_eq_ld, e3, e4, e5, e6, e7, e8, e9, e10, e11, z13, z14, z15]
  intro p hp x
  simp only [List.mem_cons, List.not_mem_nil, or_false] at hp
  rcases hp with rfl | rfl | rfl | rfl
  · exact pieceC (inb := inb_S1x4x256x512_S1x1x256x512_0_3_0_0) (loads_of b z 3 k (i1 := k0_off13_inb k) (i2 := k0_off14_inb k) (i3 := k0_off15_inb k) (i4 := k0_off16_inb k) (i5 := inb_S4x1x512_S1x1x512_3_0_0) (i6 := inb_S1x4x256x512_S1x1x256x512_0_3_0_0) (i7 := inb_S1x4x1x256_S1x1x1x256_0_3_0_0) (i8 := inb_S1x4x1x1_S1x1x1x1_0_3_0_0) (k0_off13_eq k) (k0_off14_eq k) (k0_off15_eq k) (k0_off16_eq k) rfl rfl rfl rfl) hb rfl x
  · exact pieceC (inb := inb_S1x4x256x512_S1x1x256x512_0_2_0_0) (loads_of b z 2 k (i1 := k0_off9_inb k) (i2 := k0_off10_inb k) (i3 := k0_off11_inb k) (i4 := k0_off12_inb k) (i5 := inb_S4x1x512_S1x1x512_2_0_0) (i6 := inb_S1x4x256x512_S1x1x256x512_0_2_0_0) (i7 := inb_S1x4x1x256_S1x1x1x256_0_2_0_0) (i8 := inb_S1x4x1x1_S1x1x1x1_0_2_0_0) (k0_off9_eq k) (k0_off10_eq k) (k0_off11_eq k) (k0_off12_eq k) rfl rfl rfl rfl) hb rfl x
  · exact pieceC (inb := inb_S1x4x256x512_S1x1x256x512_0_1_0_0) (loads_of b z 1 k (i1 := k0_off5_inb k) (i2 := k0_off6_inb k) (i3 := k0_off7_inb k) (i4 := k0_off8_inb k) (i5 := inb_S4x1x512_S1x1x512_1_0_0) (i6 := inb_S1x4x256x512_S1x1x256x512_0_1_0_0) (i7 := inb_S1x4x1x256_S1x1x1x256_0_1_0_0) (i8 := inb_S1x4x1x1_S1x1x1x1_0_1_0_0) (k0_off5_eq k) (k0_off6_eq k) (k0_off7_eq k) (k0_off8_eq k) rfl rfl rfl rfl) hb rfl x
  · exact pieceC (inb := inb_S1x4x256x512_S1x1x256x512_0_0_0_0) (loads_of b z 0 k (i1 := k0_off1_inb k) (i2 := k0_off2_inb k) (i3 := k0_off3_inb k) (i4 := k0_off4_inb k) (i5 := inb_S4x1x512_S1x1x512_0_0_0) (i6 := inb_S1x4x256x512_S1x1x256x512_0_0_0_0) (i7 := inb_S1x4x1x256_S1x1x1x256_0_0_0_0) (i8 := inb_S1x4x1x1_S1x1x1x1_0_0_0_0) (k0_off1_eq k) (k0_off2_eq k) (k0_off3_eq k) (k0_off4_eq k) rfl rfl rfl rfl) hb rfl x

/-- The pieces one trip writes to the output block are the heads' outputs of the chunk. -/
theorem trip_pieces12 (k : Fin k0_t1_loop.trips) (Z : Fin 4 → ℕ → St) (hZ : ∀ h, z h = Z h k.val) :
    ∀ p ∈ (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 X_arg3 X_arg4 X_arg5 X_arg6 X_arg7 X_arg8 X_arg9 X_arg10 X_arg11 k f_arg12 f_arg13 f_arg14 f_arg15).1,
      ∀ x : p.1.shape.Idx, p.2 x = arrO b Z (p.1.emb x) := by
  rw [trip_arg12]
  simp only [View.readAt_eq_ld, e3, e4, e5, e6, e7, e8, e9, e10, e11, z13, z14, z15]
  intro p hp x
  simp only [List.mem_cons, List.not_mem_nil, or_false] at hp
  rcases hp with rfl | rfl | rfl | rfl
  · exact pieceO (inb := k0_off14_inb k) (loads_of b z 3 k (i1 := k0_off13_inb k) (i2 := k0_off14_inb k) (i3 := k0_off15_inb k) (i4 := k0_off16_inb k) (i5 := inb_S4x1x512_S1x1x512_3_0_0) (i6 := inb_S1x4x256x512_S1x1x256x512_0_3_0_0) (i7 := inb_S1x4x1x256_S1x1x1x256_0_3_0_0) (i8 := inb_S1x4x1x1_S1x1x1x1_0_3_0_0) (k0_off13_eq k) (k0_off14_eq k) (k0_off15_eq k) (k0_off16_eq k) rfl rfl rfl rfl) hb hZ (k0_off14_eq k) x
  · exact pieceO (inb := k0_off10_inb k) (loads_of b z 2 k (i1 := k0_off9_inb k) (i2 := k0_off10_inb k) (i3 := k0_off11_inb k) (i4 := k0_off12_inb k) (i5 := inb_S4x1x512_S1x1x512_2_0_0) (i6 := inb_S1x4x256x512_S1x1x256x512_0_2_0_0) (i7 := inb_S1x4x1x256_S1x1x1x256_0_2_0_0) (i8 := inb_S1x4x1x1_S1x1x1x1_0_2_0_0) (k0_off9_eq k) (k0_off10_eq k) (k0_off11_eq k) (k0_off12_eq k) rfl rfl rfl rfl) hb hZ (k0_off10_eq k) x
  · exact pieceO (inb := k0_off6_inb k) (loads_of b z 1 k (i1 := k0_off5_inb k) (i2 := k0_off6_inb k) (i3 := k0_off7_inb k) (i4 := k0_off8_inb k) (i5 := inb_S4x1x512_S1x1x512_1_0_0) (i6 := inb_S1x4x256x512_S1x1x256x512_0_1_0_0) (i7 := inb_S1x4x1x256_S1x1x1x256_0_1_0_0) (i8 := inb_S1x4x1x1_S1x1x1x1_0_1_0_0) (k0_off5_eq k) (k0_off6_eq k) (k0_off7_eq k) (k0_off8_eq k) rfl rfl rfl rfl) hb hZ (k0_off6_eq k) x
  · exact pieceO (inb := k0_off2_inb k) (loads_of b z 0 k (i1 := k0_off1_inb k) (i2 := k0_off2_inb k) (i3 := k0_off3_inb k) (i4 := k0_off4_inb k) (i5 := inb_S4x1x512_S1x1x512_0_0_0) (i6 := inb_S1x4x256x512_S1x1x256x512_0_0_0_0) (i7 := inb_S1x4x1x256_S1x1x1x256_0_0_0_0) (i8 := inb_S1x4x1x1_S1x1x1x1_0_0_0_0) (k0_off1_eq k) (k0_off2_eq k) (k0_off3_eq k) (k0_off4_eq k) rfl rfl rfl rfl) hb hZ (k0_off2_eq k) x
end Trip

variable (G_arg12 : BufTy.Contents (Elt Ideal) arg12.view.ty)
variable (G_arg13 : BufTy.Contents (Elt Ideal) arg13.view.ty)
variable (G_arg14 : BufTy.Contents (Elt Ideal) arg14.view.ty)
variable (G_arg15 : BufTy.Contents (Elt Ideal) arg15.view.ty)
variable (g13 : arg13.view.read (Elt Ideal) G_arg13 = arrC z) (g14 : arg14.view.read (Elt Ideal) G_arg14 = arrN z)
  (g15 : arg15.view.read (Elt Ideal) G_arg15 = arrM z)
include e3 e4 e5 e6 e7 e8 e9 e10 e11 g13 g14 g15 hb

/-- The state and the output pieces after `k` trips. -/
theorem loop_state (k : ℕ) (hk : k ≤ 8) :
    arg13.view.read (Elt Ideal) (arg13.view.writes (Elt Ideal) G_arg13 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 X_arg3 X_arg4 X_arg5 X_arg6 X_arg7 X_arg8 X_arg9 X_arg10 X_arg11 G_arg12 G_arg13 G_arg14 G_arg15 k).2.1) = arrC (fun h => stFrom (b.chunk h) (z h) k)
    ∧ arg14.view.read (Elt Ideal) (arg14.view.writes (Elt Ideal) G_arg14 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 X_arg3 X_arg4 X_arg5 X_arg6 X_arg7 X_arg8 X_arg9 X_arg10 X_arg11 G_arg12 G_arg13 G_arg14 G_arg15 k).2.2.1) = arrN (fun h => stFrom (b.chunk h) (z h) k)
    ∧ arg15.view.read (Elt Ideal) (arg15.view.writes (Elt Ideal) G_arg15 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 X_arg3 X_arg4 X_arg5 X_arg6 X_arg7 X_arg8 X_arg9 X_arg10 X_arg11 G_arg12 G_arg13 G_arg14 G_arg15 k).2.2.2) = arrM (fun h => stFrom (b.chunk h) (z h) k)
    ∧ ∀ p ∈ (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 X_arg3 X_arg4 X_arg5 X_arg6 X_arg7 X_arg8 X_arg9 X_arg10 X_arg11 G_arg12 G_arg13 G_arg14 G_arg15 k).1, ∀ x : p.1.shape.Idx, p.2 x = arrO b (fun h => stFrom (b.chunk h) (z h)) (p.1.emb x) := by
  induction k with
  | zero => exact ⟨g13, g14, g15, fun p hp => absurd hp List.not_mem_nil⟩
  | succ k ih =>
    obtain ⟨i13, i14, i15, i12⟩ := ih (by omega)
    have e := pb_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 X_arg3 X_arg4 X_arg5 X_arg6 X_arg7 X_arg8 X_arg9 X_arg10 X_arg11 G_arg12 G_arg13 G_arg14 G_arg15 ⟨k, hk⟩
    have e' : pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 X_arg3 X_arg4 X_arg5 X_arg6 X_arg7 X_arg8 X_arg9 X_arg10 X_arg11 G_arg12 G_arg13 G_arg14 G_arg15 (k + 1) = _ := e
    rw [e']
    refine ⟨?_, ?_, ?_, ?_⟩
    · rw [View.writes_append]
      exact trip_read13 𝒱 c bd i arg3 harg3 arg4 harg4 arg5 harg5 arg6 harg6 arg7 harg7 arg8 harg8 arg9 harg9 arg10 harg10 arg11 harg11 arg12 harg12 arg13 harg13 arg14 harg14 arg15 harg15 X_arg3 X_arg4 X_arg5 X_arg6 X_arg7 X_arg8 X_arg9 X_arg10 X_arg11 b _ e3 e4 e5 e6 e7 e8 e9 e10 e11 hb _ _ _ _ i13 i14 i15 ⟨k, hk⟩
    · rw [View.writes_append]
      exact trip_read14 𝒱 c bd i arg3 harg3 arg4 harg4 arg5 harg5 arg6 harg6 arg7 harg7 arg8 harg8 arg9 harg9 arg10 harg10 arg11 harg11 arg12 harg12 arg13 harg13 arg14 harg14 arg15 harg15 X_arg3 X_arg4 X_arg5 X_arg6 X_arg7 X_arg8 X_arg9 X_arg10 X_arg11 b _ e3 e4 e5 e6 e7 e8 e9 e10 e11 hb _ _ _ _ i13 i14 i15 ⟨k, hk⟩
    · rw [View.writes_append]
      exact trip_read15 𝒱 c bd i arg3 harg3 arg4 harg4 arg5 harg5 arg6 harg6 arg7 harg7 arg8 harg8 arg9 harg9 arg10 harg10 arg11 harg11 arg12 harg12 arg13 harg13 arg14 harg14 arg15 harg15 X_arg3 X_arg4 X_arg5 X_arg6 X_arg7 X_arg8 X_arg9 X_arg10 X_arg11 b _ e3 e4 e5 e6 e7 e8 e9 e10 e11 hb _ _ _ _ i13 i14 i15 ⟨k, hk⟩
    · intro p hp
      rcases List.mem_append.mp hp with hp | hp
      · exact trip_pieces12 𝒱 c bd i arg3 harg3 arg4 harg4 arg5 harg5 arg6 harg6 arg7 harg7 arg8 harg8 arg9 harg9 arg10 harg10 arg11 harg11 arg12 harg12 arg13 harg13 arg14 harg14 arg15 harg15 X_arg3 X_arg4 X_arg5 X_arg6 X_arg7 X_arg8 X_arg9 X_arg10 X_arg11 b _ e3 e4 e5 e6 e7 e8 e9 e10 e11 hb _ _ _ _ i13 i14 i15 ⟨k, hk⟩
          (fun h => stFrom (b.chunk h) (z h)) (fun h => rfl) p hp
      · exact i12 p hp

end Cert.Mlstm

end
-- ==== Proof.MlstmOut.lean ====
module

public import proofs.«01_k».proof.Proof.MlstmLoop
public import proofs.«01_k».proof.Proof.MlstmBlocks

/-! What one grid point leaves in its output buffers: the output block's rows and every head's state after the point's
eight chunks, from the zero state at a sequence's first point and from the carried state elsewhere. -/

@[expose] public section

set_option maxRecDepth 16384

noncomputable section

namespace Cert.Mlstm

open Idealize.ShloMosaic Idealize.SL.Sem
open Cert.KernelIdeal Cert.KernelIdeal.Gen

/-- The zero fill reads as the zero state. -/
theorem fillC (v : View sig .tc .vmem S1x4x256x512 .f32) (g : v.ty.Contents (Elt Ideal)) :
    v.read (Elt Ideal) (v.writes (Elt Ideal) g [⟨Rect.unit (s := S1x4x256x512) ![0, 0, 0, 0] S1x4x256x512.size inb_S1x4x256x512_S1x4x256x512_0_0_0_0, k0_pay4 (F := Ideal)⟩]) = arrC (fun _ => St.zero) := by
  have hc : ∀ y, ∃ p ∈ ([⟨Rect.unit (s := S1x4x256x512) ![0, 0, 0, 0] S1x4x256x512.size inb_S1x4x256x512_S1x4x256x512_0_0_0_0, k0_pay4 (F := Ideal)⟩] : List (View.Piece (Elt Ideal) S1x4x256x512 .f32)), y ∈ p.1.set :=
    fun y => View.cover_of_tiledL ([⟨Rect.unit (s := S1x4x256x512) ![0, 0, 0, 0] S1x4x256x512.size inb_S1x4x256x512_S1x4x256x512_0_0_0_0, k0_pay4 (F := Ideal)⟩] : List (View.Piece (Elt Ideal) S1x4x256x512 .f32)) S1x4x256x512.size (by sl_kernel_rfl) y
  rw [View.read_writes_eq_canon _ _ _ hc]
  funext y
  refine View.canon_apply_of_pieces _ _ ?_ y (hc y)
  intro p hp x
  obtain rfl := List.mem_singleton.mp hp
  exact Ideal.ofBits_zero .f32

/-- The zero fill reads as the zero state. -/
theorem fillN (v : View sig .tc .vmem S1x4x1x256 .f32) (g : v.ty.Contents (Elt Ideal)) :
    v.read (Elt Ideal) (v.writes (Elt Ideal) g [⟨Rect.unit (s := S1x4x1x256) ![0, 0, 0, 0] S1x4x1x256.size inb_S1x4x1x256_S1x4x1x256_0_0_0_0, k0_pay5 (F := Ideal)⟩]) = arrN (fun _ => St.zero) := by
  have hc : ∀ y, ∃ p ∈ ([⟨Rect.unit (s := S1x4x1x256) ![0, 0, 0, 0] S1x4x1x256.size inb_S1x4x1x256_S1x4x1x256_0_0_0_0, k0_pay5 (F := Ideal)⟩] : List (View.Piece (Elt Ideal) S1x4x1x256 .f32)), y ∈ p.1.set :=
    fun y => View.cover_of_tiledL ([⟨Rect.unit (s := S1x4x1x256) ![0, 0, 0, 0] S1x4x1x256.size inb_S1x4x1x256_S1x4x1x256_0_0_0_0, k0_pay5 (F := Ideal)⟩] : List (View.Piece (Elt Ideal) S1x4x1x256 .f32)) S1x4x1x256.size (by sl_kernel_rfl) y
  rw [View.read_writes_eq_canon _ _ _ hc]
  funext y
  refine View.canon_apply_of_pieces _ _ ?_ y (hc y)
  intro p hp x
  obtain rfl := List.mem_singleton.mp hp
  exact Ideal.ofBits_zero .f32

/-- The zero fill reads as the zero state. -/
theorem fillM (v : View sig .tc .vmem S1x4x1x1 .f32) (g : v.ty.Contents (Elt Ideal)) :
    v.read (Elt Ideal) (v.writes (Elt Ideal) g [⟨Rect.unit (s := S1x4x1x1) ![0, 0, 0, 0] S1x4x1x1.size inb_S1x4x1x1_S1x4x1x1_0_0_0_0, k0_pay6 (F := Ideal)⟩]) = arrM (fun _ => St.zero) := by
  have hc : ∀ y, ∃ p ∈ ([⟨Rect.unit (s := S1x4x1x1) ![0, 0, 0, 0] S1x4x1x1.size inb_S1x4x1x1_S1x4x1x1_0_0_0_0, k0_pay6 (F := Ideal)⟩] : List (View.Piece (Elt Ideal) S1x4x1x1 .f32)), y ∈ p.1.set :=
    fun y => View.cover_of_tiledL ([⟨Rect.unit (s := S1x4x1x1) ![0, 0, 0, 0] S1x4x1x1.size inb_S1x4x1x1_S1x4x1x1_0_0_0_0, k0_pay6 (F := Ideal)⟩] : List (View.Piece (Elt Ideal) S1x4x1x1 .f32)) S1x4x1x1.size (by sl_kernel_rfl) y
  rw [View.read_writes_eq_canon _ _ _ hc]
  funext y
  refine View.canon_apply_of_pieces _ _ ?_ y (hc y)
  intro p hp x
  obtain rfl := List.mem_singleton.mp hp
  exact Ideal.ofBits_zero .f32

variable (c : Dev nD) (i : grid0.Coords)
variable (arg3 : Memref sig .tc .vmem S1x512x1024 .f32) (harg3 : arg3.IsWhole)
variable (arg4 : Memref sig .tc .vmem S1x512x1024 .f32) (harg4 : arg4.IsWhole)
variable (arg5 : Memref sig .tc .vmem S1x512x2048 .f32) (harg5 : arg5.IsWhole)
variable (arg6 : Memref sig .tc .vmem S1x512x2048 .f32) (harg6 : arg6.IsWhole)
variable (arg7 : Memref sig .tc .vmem S1x4x512x1 .f32) (harg7 : arg7.IsWhole)
variable (arg8 : Memref sig .tc .vmem S1x4x512x1 .f32) (harg8 : arg8.IsWhole)
variable (arg9 : Memref sig .tc .vmem S1x4x8x1x64 .f32) (harg9 : arg9.IsWhole)
variable (arg10 : Memref sig .tc .vmem S1x4x8x1x64 .f32) (harg10 : arg10.IsWhole)
variable (arg11 : Memref sig .tc .vmem S4x1x512 .f32) (harg11 : arg11.IsWhole)
variable (arg12 : Memref sig .tc .vmem S1x512x2048 .bf16) (harg12 : arg12.IsWhole)
variable (arg13 : Memref sig .tc .vmem S1x4x256x512 .f32) (harg13 : arg13.IsWhole)
variable (arg14 : Memref sig .tc .vmem S1x4x1x256 .f32) (harg14 : arg14.IsWhole)
variable (arg15 : Memref sig .tc .vmem S1x4x1x1 .f32) (harg15 : arg15.IsWhole)
variable (b : Blk) (hb : b.Gates)
include hb

/-- Every head's state after the point, output 10. -/
theorem outAC (hc : cond0_0 i) : out0_A_10 c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn = arrC (fun h => stFrom (b.chunk h) ((fun _ => St.zero) h) 8) := by
  have hL : (kernelRun0_A (F := Ideal) c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn).2.1 = (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 (harg3.unread b.q) (harg4.unread b.k) (harg5.unread b.v) (harg6.unread b.og) (harg7.unread b.i) (harg8.unread b.f) (harg9.unread b.ir) (harg10.unread b.fr) (harg11.unread b.hn) arg12.view.junk (arg13.view.writes (Elt Ideal) arg13.view.junk [⟨Rect.unit (s := S1x4x256x512) ![0, 0, 0, 0] S1x4x256x512.size inb_S1x4x256x512_S1x4x256x512_0_0_0_0, k0_pay4 (F := Ideal)⟩]) (arg14.view.writes (Elt Ideal) arg14.view.junk [⟨Rect.unit (s := S1x4x1x256) ![0, 0, 0, 0] S1x4x1x256.size inb_S1x4x1x256_S1x4x1x256_0_0_0_0, k0_pay5 (F := Ideal)⟩]) (arg15.view.writes (Elt Ideal) arg15.view.junk [⟨Rect.unit (s := S1x4x1x1) ![0, 0, 0, 0] S1x4x1x1.size inb_S1x4x1x1_S1x4x1x1_0_0_0_0, k0_pay6 (F := Ideal)⟩]) 8).2.1 ++ [⟨Rect.unit (s := S1x4x256x512) ![0, 0, 0, 0] S1x4x256x512.size inb_S1x4x256x512_S1x4x256x512_0_0_0_0, k0_pay4 (F := Ideal)⟩] := by
    unfold kernelRun0_A; rfl
  rw [show out0_A_10 c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn = arg13.view.read (Elt Ideal) (arg13.view.writes (Elt Ideal) arg13.view.junk (kernelRun0_A (F := Ideal) c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn).2.1) from
    View.read_writes_of_cover _ _ _ _ _ (cover0_A_10 (F := Ideal) c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn)]
  rw [hL, View.writes_append]
  exact (loop_state Variants.none c none i arg3 harg3 arg4 harg4 arg5 harg5 arg6 harg6 arg7 harg7 arg8 harg8 arg9 harg9 arg10 harg10 arg11 harg11 arg12 harg12 arg13 harg13 arg14 harg14 arg15 harg15 (harg3.unread b.q) (harg4.unread b.k) (harg5.unread b.v) (harg6.unread b.og) (harg7.unread b.i) (harg8.unread b.f) (harg9.unread b.ir) (harg10.unread b.fr) (harg11.unread b.hn) b (fun _ => St.zero) (harg3.read_unread _) (harg4.read_unread _) (harg5.read_unread _) (harg6.read_unread _) (harg7.read_unread _) (harg8.read_unread _) (harg9.read_unread _) (harg10.read_unread _) (harg11.read_unread _) hb arg12.view.junk (arg13.view.writes (Elt Ideal) arg13.view.junk [⟨Rect.unit (s := S1x4x256x512) ![0, 0, 0, 0] S1x4x256x512.size inb_S1x4x256x512_S1x4x256x512_0_0_0_0, k0_pay4 (F := Ideal)⟩]) (arg14.view.writes (Elt Ideal) arg14.view.junk [⟨Rect.unit (s := S1x4x1x256) ![0, 0, 0, 0] S1x4x1x256.size inb_S1x4x1x256_S1x4x1x256_0_0_0_0, k0_pay5 (F := Ideal)⟩]) (arg15.view.writes (Elt Ideal) arg15.view.junk [⟨Rect.unit (s := S1x4x1x1) ![0, 0, 0, 0] S1x4x1x1.size inb_S1x4x1x1_S1x4x1x1_0_0_0_0, k0_pay6 (F := Ideal)⟩]) (fillC _ _) (fillN _ _) (fillM _ _) 8 le_rfl).1

/-- Every head's state after the point, output 11. -/
theorem outAN (hc : cond0_0 i) : out0_A_11 c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn = arrN (fun h => stFrom (b.chunk h) ((fun _ => St.zero) h) 8) := by
  have hL : (kernelRun0_A (F := Ideal) c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn).2.2.1 = (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 (harg3.unread b.q) (harg4.unread b.k) (harg5.unread b.v) (harg6.unread b.og) (harg7.unread b.i) (harg8.unread b.f) (harg9.unread b.ir) (harg10.unread b.fr) (harg11.unread b.hn) arg12.view.junk (arg13.view.writes (Elt Ideal) arg13.view.junk [⟨Rect.unit (s := S1x4x256x512) ![0, 0, 0, 0] S1x4x256x512.size inb_S1x4x256x512_S1x4x256x512_0_0_0_0, k0_pay4 (F := Ideal)⟩]) (arg14.view.writes (Elt Ideal) arg14.view.junk [⟨Rect.unit (s := S1x4x1x256) ![0, 0, 0, 0] S1x4x1x256.size inb_S1x4x1x256_S1x4x1x256_0_0_0_0, k0_pay5 (F := Ideal)⟩]) (arg15.view.writes (Elt Ideal) arg15.view.junk [⟨Rect.unit (s := S1x4x1x1) ![0, 0, 0, 0] S1x4x1x1.size inb_S1x4x1x1_S1x4x1x1_0_0_0_0, k0_pay6 (F := Ideal)⟩]) 8).2.2.1 ++ [⟨Rect.unit (s := S1x4x1x256) ![0, 0, 0, 0] S1x4x1x256.size inb_S1x4x1x256_S1x4x1x256_0_0_0_0, k0_pay5 (F := Ideal)⟩] := by
    unfold kernelRun0_A; rfl
  rw [show out0_A_11 c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn = arg14.view.read (Elt Ideal) (arg14.view.writes (Elt Ideal) arg14.view.junk (kernelRun0_A (F := Ideal) c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn).2.2.1) from
    View.read_writes_of_cover _ _ _ _ _ (cover0_A_11 (F := Ideal) c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn)]
  rw [hL, View.writes_append]
  exact (loop_state Variants.none c none i arg3 harg3 arg4 harg4 arg5 harg5 arg6 harg6 arg7 harg7 arg8 harg8 arg9 harg9 arg10 harg10 arg11 harg11 arg12 harg12 arg13 harg13 arg14 harg14 arg15 harg15 (harg3.unread b.q) (harg4.unread b.k) (harg5.unread b.v) (harg6.unread b.og) (harg7.unread b.i) (harg8.unread b.f) (harg9.unread b.ir) (harg10.unread b.fr) (harg11.unread b.hn) b (fun _ => St.zero) (harg3.read_unread _) (harg4.read_unread _) (harg5.read_unread _) (harg6.read_unread _) (harg7.read_unread _) (harg8.read_unread _) (harg9.read_unread _) (harg10.read_unread _) (harg11.read_unread _) hb arg12.view.junk (arg13.view.writes (Elt Ideal) arg13.view.junk [⟨Rect.unit (s := S1x4x256x512) ![0, 0, 0, 0] S1x4x256x512.size inb_S1x4x256x512_S1x4x256x512_0_0_0_0, k0_pay4 (F := Ideal)⟩]) (arg14.view.writes (Elt Ideal) arg14.view.junk [⟨Rect.unit (s := S1x4x1x256) ![0, 0, 0, 0] S1x4x1x256.size inb_S1x4x1x256_S1x4x1x256_0_0_0_0, k0_pay5 (F := Ideal)⟩]) (arg15.view.writes (Elt Ideal) arg15.view.junk [⟨Rect.unit (s := S1x4x1x1) ![0, 0, 0, 0] S1x4x1x1.size inb_S1x4x1x1_S1x4x1x1_0_0_0_0, k0_pay6 (F := Ideal)⟩]) (fillC _ _) (fillN _ _) (fillM _ _) 8 le_rfl).2.1

/-- Every head's state after the point, output 12. -/
theorem outAM (hc : cond0_0 i) : out0_A_12 c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn = arrM (fun h => stFrom (b.chunk h) ((fun _ => St.zero) h) 8) := by
  have hL : (kernelRun0_A (F := Ideal) c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn).2.2.2.1 = (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 (harg3.unread b.q) (harg4.unread b.k) (harg5.unread b.v) (harg6.unread b.og) (harg7.unread b.i) (harg8.unread b.f) (harg9.unread b.ir) (harg10.unread b.fr) (harg11.unread b.hn) arg12.view.junk (arg13.view.writes (Elt Ideal) arg13.view.junk [⟨Rect.unit (s := S1x4x256x512) ![0, 0, 0, 0] S1x4x256x512.size inb_S1x4x256x512_S1x4x256x512_0_0_0_0, k0_pay4 (F := Ideal)⟩]) (arg14.view.writes (Elt Ideal) arg14.view.junk [⟨Rect.unit (s := S1x4x1x256) ![0, 0, 0, 0] S1x4x1x256.size inb_S1x4x1x256_S1x4x1x256_0_0_0_0, k0_pay5 (F := Ideal)⟩]) (arg15.view.writes (Elt Ideal) arg15.view.junk [⟨Rect.unit (s := S1x4x1x1) ![0, 0, 0, 0] S1x4x1x1.size inb_S1x4x1x1_S1x4x1x1_0_0_0_0, k0_pay6 (F := Ideal)⟩]) 8).2.2.2 ++ [⟨Rect.unit (s := S1x4x1x1) ![0, 0, 0, 0] S1x4x1x1.size inb_S1x4x1x1_S1x4x1x1_0_0_0_0, k0_pay6 (F := Ideal)⟩] := by
    unfold kernelRun0_A; rfl
  rw [show out0_A_12 c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn = arg15.view.read (Elt Ideal) (arg15.view.writes (Elt Ideal) arg15.view.junk (kernelRun0_A (F := Ideal) c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn).2.2.2.1) from
    View.read_writes_of_cover _ _ _ _ _ (cover0_A_12 (F := Ideal) c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn)]
  rw [hL, View.writes_append]
  exact (loop_state Variants.none c none i arg3 harg3 arg4 harg4 arg5 harg5 arg6 harg6 arg7 harg7 arg8 harg8 arg9 harg9 arg10 harg10 arg11 harg11 arg12 harg12 arg13 harg13 arg14 harg14 arg15 harg15 (harg3.unread b.q) (harg4.unread b.k) (harg5.unread b.v) (harg6.unread b.og) (harg7.unread b.i) (harg8.unread b.f) (harg9.unread b.ir) (harg10.unread b.fr) (harg11.unread b.hn) b (fun _ => St.zero) (harg3.read_unread _) (harg4.read_unread _) (harg5.read_unread _) (harg6.read_unread _) (harg7.read_unread _) (harg8.read_unread _) (harg9.read_unread _) (harg10.read_unread _) (harg11.read_unread _) hb arg12.view.junk (arg13.view.writes (Elt Ideal) arg13.view.junk [⟨Rect.unit (s := S1x4x256x512) ![0, 0, 0, 0] S1x4x256x512.size inb_S1x4x256x512_S1x4x256x512_0_0_0_0, k0_pay4 (F := Ideal)⟩]) (arg14.view.writes (Elt Ideal) arg14.view.junk [⟨Rect.unit (s := S1x4x1x256) ![0, 0, 0, 0] S1x4x1x256.size inb_S1x4x1x256_S1x4x1x256_0_0_0_0, k0_pay5 (F := Ideal)⟩]) (arg15.view.writes (Elt Ideal) arg15.view.junk [⟨Rect.unit (s := S1x4x1x1) ![0, 0, 0, 0] S1x4x1x1.size inb_S1x4x1x1_S1x4x1x1_0_0_0_0, k0_pay6 (F := Ideal)⟩]) (fillC _ _) (fillN _ _) (fillM _ _) 8 le_rfl).2.2.1

/-- The output block after the point. -/
theorem outAO (hc : cond0_0 i) : out0_A_9 c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn = arrO b (fun h => stFrom (b.chunk h) ((fun _ => St.zero) h)) := by
  have hL : (kernelRun0_A (F := Ideal) c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn).1 = (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 (harg3.unread b.q) (harg4.unread b.k) (harg5.unread b.v) (harg6.unread b.og) (harg7.unread b.i) (harg8.unread b.f) (harg9.unread b.ir) (harg10.unread b.fr) (harg11.unread b.hn) arg12.view.junk (arg13.view.writes (Elt Ideal) arg13.view.junk [⟨Rect.unit (s := S1x4x256x512) ![0, 0, 0, 0] S1x4x256x512.size inb_S1x4x256x512_S1x4x256x512_0_0_0_0, k0_pay4 (F := Ideal)⟩]) (arg14.view.writes (Elt Ideal) arg14.view.junk [⟨Rect.unit (s := S1x4x1x256) ![0, 0, 0, 0] S1x4x1x256.size inb_S1x4x1x256_S1x4x1x256_0_0_0_0, k0_pay5 (F := Ideal)⟩]) (arg15.view.writes (Elt Ideal) arg15.view.junk [⟨Rect.unit (s := S1x4x1x1) ![0, 0, 0, 0] S1x4x1x1.size inb_S1x4x1x1_S1x4x1x1_0_0_0_0, k0_pay6 (F := Ideal)⟩]) 8).1 := by
    unfold kernelRun0_A; rfl
  have hcov := cover0_A_9 (F := Ideal) c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn
  rw [show out0_A_9 c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn = View.canon (kernelRun0_A (F := Ideal) c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn).1 from
    View.read_writes_eq_canon _ _ _ hcov]
  funext y
  refine View.canon_apply_of_pieces _ _ ?_ y (hcov y)
  rw [hL]
  exact (loop_state Variants.none c none i arg3 harg3 arg4 harg4 arg5 harg5 arg6 harg6 arg7 harg7 arg8 harg8 arg9 harg9 arg10 harg10 arg11 harg11 arg12 harg12 arg13 harg13 arg14 harg14 arg15 harg15 (harg3.unread b.q) (harg4.unread b.k) (harg5.unread b.v) (harg6.unread b.og) (harg7.unread b.i) (harg8.unread b.f) (harg9.unread b.ir) (harg10.unread b.fr) (harg11.unread b.hn) b (fun _ => St.zero) (harg3.read_unread _) (harg4.read_unread _) (harg5.read_unread _) (harg6.read_unread _) (harg7.read_unread _) (harg8.read_unread _) (harg9.read_unread _) (harg10.read_unread _) (harg11.read_unread _) hb arg12.view.junk (arg13.view.writes (Elt Ideal) arg13.view.junk [⟨Rect.unit (s := S1x4x256x512) ![0, 0, 0, 0] S1x4x256x512.size inb_S1x4x256x512_S1x4x256x512_0_0_0_0, k0_pay4 (F := Ideal)⟩]) (arg14.view.writes (Elt Ideal) arg14.view.junk [⟨Rect.unit (s := S1x4x1x256) ![0, 0, 0, 0] S1x4x1x256.size inb_S1x4x1x256_S1x4x1x256_0_0_0_0, k0_pay5 (F := Ideal)⟩]) (arg15.view.writes (Elt Ideal) arg15.view.junk [⟨Rect.unit (s := S1x4x1x1) ![0, 0, 0, 0] S1x4x1x1.size inb_S1x4x1x1_S1x4x1x1_0_0_0_0, k0_pay6 (F := Ideal)⟩]) (fillC _ _) (fillN _ _) (fillM _ _) 8 le_rfl).2.2.2

/-- Every head's state after the point, output 10. -/
theorem outBC (hc : ¬cond0_0 i) (z : Fin 4 → St) : out0_B_10 c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn (arrC z) (arrN z) (arrM z) = arrC (fun h => stFrom (b.chunk h) (z h) 8) := by
  have hL : (kernelRun0_B (F := Ideal) c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn (arrC z) (arrN z) (arrM z)).2.1 = (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 (harg3.unread b.q) (harg4.unread b.k) (harg5.unread b.v) (harg6.unread b.og) (harg7.unread b.i) (harg8.unread b.f) (harg9.unread b.ir) (harg10.unread b.fr) (harg11.unread b.hn) arg12.view.junk (harg13.unread (arrC z)) (harg14.unread (arrN z)) (harg15.unread (arrM z)) 8).2.1 := by
    unfold kernelRun0_B; rfl
  rw [show out0_B_10 c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn (arrC z) (arrN z) (arrM z) = arg13.view.read (Elt Ideal) (arg13.view.writes (Elt Ideal) (harg13.unread (arrC z)) (kernelRun0_B (F := Ideal) c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn (arrC z) (arrN z) (arrM z)).2.1) from
    View.read_writes_of_cover _ _ _ _ _ (cover0_B_10 (F := Ideal) c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn (arrC z) (arrN z) (arrM z))]
  rw [hL]
  exact (loop_state Variants.none c none i arg3 harg3 arg4 harg4 arg5 harg5 arg6 harg6 arg7 harg7 arg8 harg8 arg9 harg9 arg10 harg10 arg11 harg11 arg12 harg12 arg13 harg13 arg14 harg14 arg15 harg15 (harg3.unread b.q) (harg4.unread b.k) (harg5.unread b.v) (harg6.unread b.og) (harg7.unread b.i) (harg8.unread b.f) (harg9.unread b.ir) (harg10.unread b.fr) (harg11.unread b.hn) b z (harg3.read_unread _) (harg4.read_unread _) (harg5.read_unread _) (harg6.read_unread _) (harg7.read_unread _) (harg8.read_unread _) (harg9.read_unread _) (harg10.read_unread _) (harg11.read_unread _) hb arg12.view.junk (harg13.unread (arrC z)) (harg14.unread (arrN z)) (harg15.unread (arrM z)) (harg13.read_unread _) (harg14.read_unread _) (harg15.read_unread _) 8 le_rfl).1

/-- Every head's state after the point, output 11. -/
theorem outBN (hc : ¬cond0_0 i) (z : Fin 4 → St) : out0_B_11 c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn (arrC z) (arrN z) (arrM z) = arrN (fun h => stFrom (b.chunk h) (z h) 8) := by
  have hL : (kernelRun0_B (F := Ideal) c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn (arrC z) (arrN z) (arrM z)).2.2.1 = (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 (harg3.unread b.q) (harg4.unread b.k) (harg5.unread b.v) (harg6.unread b.og) (harg7.unread b.i) (harg8.unread b.f) (harg9.unread b.ir) (harg10.unread b.fr) (harg11.unread b.hn) arg12.view.junk (harg13.unread (arrC z)) (harg14.unread (arrN z)) (harg15.unread (arrM z)) 8).2.2.1 := by
    unfold kernelRun0_B; rfl
  rw [show out0_B_11 c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn (arrC z) (arrN z) (arrM z) = arg14.view.read (Elt Ideal) (arg14.view.writes (Elt Ideal) (harg14.unread (arrN z)) (kernelRun0_B (F := Ideal) c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn (arrC z) (arrN z) (arrM z)).2.2.1) from
    View.read_writes_of_cover _ _ _ _ _ (cover0_B_11 (F := Ideal) c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn (arrC z) (arrN z) (arrM z))]
  rw [hL]
  exact (loop_state Variants.none c none i arg3 harg3 arg4 harg4 arg5 harg5 arg6 harg6 arg7 harg7 arg8 harg8 arg9 harg9 arg10 harg10 arg11 harg11 arg12 harg12 arg13 harg13 arg14 harg14 arg15 harg15 (harg3.unread b.q) (harg4.unread b.k) (harg5.unread b.v) (harg6.unread b.og) (harg7.unread b.i) (harg8.unread b.f) (harg9.unread b.ir) (harg10.unread b.fr) (harg11.unread b.hn) b z (harg3.read_unread _) (harg4.read_unread _) (harg5.read_unread _) (harg6.read_unread _) (harg7.read_unread _) (harg8.read_unread _) (harg9.read_unread _) (harg10.read_unread _) (harg11.read_unread _) hb arg12.view.junk (harg13.unread (arrC z)) (harg14.unread (arrN z)) (harg15.unread (arrM z)) (harg13.read_unread _) (harg14.read_unread _) (harg15.read_unread _) 8 le_rfl).2.1

/-- Every head's state after the point, output 12. -/
theorem outBM (hc : ¬cond0_0 i) (z : Fin 4 → St) : out0_B_12 c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn (arrC z) (arrN z) (arrM z) = arrM (fun h => stFrom (b.chunk h) (z h) 8) := by
  have hL : (kernelRun0_B (F := Ideal) c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn (arrC z) (arrN z) (arrM z)).2.2.2.1 = (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 (harg3.unread b.q) (harg4.unread b.k) (harg5.unread b.v) (harg6.unread b.og) (harg7.unread b.i) (harg8.unread b.f) (harg9.unread b.ir) (harg10.unread b.fr) (harg11.unread b.hn) arg12.view.junk (harg13.unread (arrC z)) (harg14.unread (arrN z)) (harg15.unread (arrM z)) 8).2.2.2 := by
    unfold kernelRun0_B; rfl
  rw [show out0_B_12 c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn (arrC z) (arrN z) (arrM z) = arg15.view.read (Elt Ideal) (arg15.view.writes (Elt Ideal) (harg15.unread (arrM z)) (kernelRun0_B (F := Ideal) c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn (arrC z) (arrN z) (arrM z)).2.2.2.1) from
    View.read_writes_of_cover _ _ _ _ _ (cover0_B_12 (F := Ideal) c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn (arrC z) (arrN z) (arrM z))]
  rw [hL]
  exact (loop_state Variants.none c none i arg3 harg3 arg4 harg4 arg5 harg5 arg6 harg6 arg7 harg7 arg8 harg8 arg9 harg9 arg10 harg10 arg11 harg11 arg12 harg12 arg13 harg13 arg14 harg14 arg15 harg15 (harg3.unread b.q) (harg4.unread b.k) (harg5.unread b.v) (harg6.unread b.og) (harg7.unread b.i) (harg8.unread b.f) (harg9.unread b.ir) (harg10.unread b.fr) (harg11.unread b.hn) b z (harg3.read_unread _) (harg4.read_unread _) (harg5.read_unread _) (harg6.read_unread _) (harg7.read_unread _) (harg8.read_unread _) (harg9.read_unread _) (harg10.read_unread _) (harg11.read_unread _) hb arg12.view.junk (harg13.unread (arrC z)) (harg14.unread (arrN z)) (harg15.unread (arrM z)) (harg13.read_unread _) (harg14.read_unread _) (harg15.read_unread _) 8 le_rfl).2.2.1

/-- The output block after the point. -/
theorem outBO (hc : ¬cond0_0 i) (z : Fin 4 → St) : out0_B_9 c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn (arrC z) (arrN z) (arrM z) = arrO b (fun h => stFrom (b.chunk h) (z h)) := by
  have hL : (kernelRun0_B (F := Ideal) c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn (arrC z) (arrN z) (arrM z)).1 = (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 (harg3.unread b.q) (harg4.unread b.k) (harg5.unread b.v) (harg6.unread b.og) (harg7.unread b.i) (harg8.unread b.f) (harg9.unread b.ir) (harg10.unread b.fr) (harg11.unread b.hn) arg12.view.junk (harg13.unread (arrC z)) (harg14.unread (arrN z)) (harg15.unread (arrM z)) 8).1 := by
    unfold kernelRun0_B; rfl
  have hcov := cover0_B_9 (F := Ideal) c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn (arrC z) (arrN z) (arrM z)
  rw [show out0_B_9 c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn (arrC z) (arrN z) (arrM z) = View.canon (kernelRun0_B (F := Ideal) c i arg3 harg3 arg4 harg4 arg5 harg5 arg6 harg6 arg7 harg7 arg8 harg8 arg9 harg9 arg10 harg10 arg11 harg11 arg12 harg12 arg13 harg13 arg14 harg14 arg15 harg15 hc b.q b.k b.v b.og b.i b.f b.ir b.fr b.hn (arrC z) (arrN z) (arrM z)).1 from
    View.read_writes_eq_canon _ _ _ hcov]
  funext y
  refine View.canon_apply_of_pieces _ _ ?_ y (hcov y)
  rw [hL]
  exact (loop_state Variants.none c none i arg3 harg3 arg4 harg4 arg5 harg5 arg6 harg6 arg7 harg7 arg8 harg8 arg9 harg9 arg10 harg10 arg11 harg11 arg12 harg12 arg13 harg13 arg14 harg14 arg15 harg15 (harg3.unread b.q) (harg4.unread b.k) (harg5.unread b.v) (harg6.unread b.og) (harg7.unread b.i) (harg8.unread b.f) (harg9.unread b.ir) (harg10.unread b.fr) (harg11.unread b.hn) b z (harg3.read_unread _) (harg4.read_unread _) (harg5.read_unread _) (harg6.read_unread _) (harg7.read_unread _) (harg8.read_unread _) (harg9.read_unread _) (harg10.read_unread _) (harg11.read_unread _) hb arg12.view.junk (harg13.unread (arrC z)) (harg14.unread (arrN z)) (harg15.unread (arrM z)) (harg13.read_unread _) (harg14.read_unread _) (harg15.read_unread _) 8 le_rfl).2.2.2

end Cert.Mlstm

end
-- ==== Proof.MlstmGlobal.lean ====
module

public import proofs.«01_k».proof.Proof.MlstmSpec

/-! The layer's results as functions of its four arguments: the chunks of every sequence and head, and from them the
output rows and the final states. Both programs are compared with these. -/

@[expose] public section

set_option maxRecDepth 16384

noncomputable section

namespace Cert.Mlstm

open Idealize.ShloMosaic

/-- The arguments at their coordinates. -/
structure Args where
  /-- The projections: queries, keys, values and output gate logits side by side. -/
  y : Fin 4 → Fin 2048 → Fin 6144 → EReal
  /-- The gate projections: input gates, forget gates. -/
  yg : Fin 4 → Fin 2048 → Fin 8 → EReal
  /-- The gate biases. -/
  gb : Fin 8 → EReal
  /-- The norm weights. -/
  hn : Fin 2048 → EReal

/-- The logarithm of the sigmoid, as the sign change of the softplus of the sign change. -/
def lsig (x : EReal) : EReal :=
  -(if -x ≠ -x then -x else max (-x) 0 + Ideal.log1p (Ideal.exp (-(FloatOps.absf (F := Ideal) (φ := .f32) (-x)))))

/-- Row `t` of chunk `j` within a sequence of 2048 rows. -/
def seqRow (j : ℕ) (t : Fin 64) : Fin 2048 := ⟨(64 * j + t.val) % 2048, Nat.mod_lt _ (by omega)⟩

namespace Args

variable (a : Args)

/-- The log input gate. -/
def ig (b : Fin 4) (r : Fin 2048) (h : Fin 4) : EReal := a.yg b r ⟨h.val, by omega⟩ + a.gb ⟨h.val, by omega⟩

/-- The log forget gate. -/
def lf (b : Fin 4) (r : Fin 2048) (h : Fin 4) : EReal := lsig (a.yg b r ⟨4 + h.val, by omega⟩ + a.gb ⟨4 + h.val, by omega⟩)

/-- Chunk `j` of head `h` of sequence `b`. -/
def chunk (b h : Fin 4) (j : ℕ) : Chunk where
  q t x := a.y b (seqRow j t) ⟨256 * h.val + x.val, by omega⟩ * Ideal.ofBits .f32 0x3D800000#32
  k t x := a.y b (seqRow j t) ⟨1024 + (256 * h.val + x.val), by omega⟩
  v t d := a.y b (seqRow j t) ⟨2048 + (512 * h.val + d.val), by omega⟩
  i t := a.ig b (seqRow j t) h
  f t := a.lf b (seqRow j t) h

/-- The output gate logits of chunk `j` of head `h` of sequence `b`. -/
def gate (b h : Fin 4) (j : ℕ) (t : Fin 64) (d : Fin 512) : EReal :=
  a.y b (seqRow j t) ⟨4096 + (512 * h.val + d.val), by omega⟩

/-- The norm weights of head `h`. -/
def nw (h : Fin 4) (d : Fin 512) : EReal := a.hn ⟨512 * h.val + d.val, by omega⟩

/-- The state of head `h` of sequence `b` before chunk `j`. -/
def st (b h : Fin 4) (j : ℕ) : St := stAt (a.chunk b h) j

/-- The output at row `t` of chunk `j`, column `d` of head `h`, of sequence `b`. -/
def out (b h : Fin 4) (j : ℕ) (t : Fin 64) (d : Fin 512) : EReal :=
  (a.chunk b h j).out (a.st b h j) (a.nw h) (a.gate b h j) t d

/-- The output of sequence `b` at row `r` and column `x`. -/
def res (b : Fin 4) (r x : Fin 2048) : EReal :=
  a.out b ⟨x.val / 512, Nat.div_lt_of_lt_mul x.isLt⟩ (r.val / 64) ⟨r.val % 64, Nat.mod_lt _ (by omega)⟩
    ⟨x.val % 512, Nat.mod_lt _ (by omega)⟩

end Args

end Cert.Mlstm

end
-- ==== Proof.MlstmKernel.lean ====
module

public import proofs.«01_k».proof.Proof.MlstmOut
public import proofs.«01_k».proof.Proof.MlstmGlobal
public import Idealize.ShloMosaic.Lib.StableHlo.ReadAt

/-! The kernel's blocks as parts of its arguments, and what its output arrays hold after the run. -/

@[expose] public section

set_option maxRecDepth 16384

noncomputable section

namespace Cert.Mlstm

open Idealize.ShloMosaic Idealize.SL.Sem Idealize.ShloMosaic.TcCoe
open Cert.KernelIdeal Cert.KernelIdeal.Gen

variable (m : (ℓ : Loc nD τ sig) → Buf (Elt Ideal) ℓ) (c : Dev nD)

/-- The kernel's arguments in a memory. -/
def kArgs : Args where
  y b r x := (m (c, Proc.tc.devRef main_arg0) : S4x2048x6144.Idx → EReal) (ix3 b r x)
  yg b r x := (m (c, Proc.tc.devRef main_arg1) : S4x2048x8.Idx → EReal) (ix3 b r x)
  gb x := (m (c, Proc.tc.devRef main_arg2) : S8.Idx → EReal) (ix1 x)
  hn x := (m (c, Proc.tc.devRef main_arg3) : S2048.Idx → EReal) (ix1 x)

/-- The log input gates as the kernel is given them. -/
theorem V12 (b h : Fin 4) (t : Fin 2048) : (V m c main_v12 : S4x4x2048x1.Idx → EReal) (ix4 b h t (0 : Fin 1)) = (kArgs m c).ig b t h := by
  unfold V
  after_reads_at
  rfl

/-- The log forget gates as the kernel is given them. -/
theorem V14 (b h : Fin 4) (t : Fin 2048) : (V m c main_v14 : S4x4x2048x1.Idx → EReal) (ix4 b h t (0 : Fin 1)) = (kArgs m c).lf b t h := by
  unfold V
  after_reads_at
  rfl

/-- The log input gates chunk by chunk. -/
theorem V15 (b h : Fin 4) (k : Fin 32) (t : Fin 64) :
    (V m c main_v15 : S4x4x32x1x64.Idx → EReal) (ix5 b h k (0 : Fin 1) t) = (kArgs m c).ig b ⟨k.val * 64 + t.val, by omega⟩ h := by
  unfold V
  after_reads_at
  rfl

/-- The log forget gates chunk by chunk. -/
theorem V16 (b h : Fin 4) (k : Fin 32) (t : Fin 64) :
    (V m c main_v16 : S4x4x32x1x64.Idx → EReal) (ix5 b h k (0 : Fin 1) t) = (kArgs m c).lf b ⟨k.val * 64 + t.val, by omega⟩ h := by
  unfold V
  after_reads_at
  rfl

/-- The norm weights head by head. -/
theorem V17 (h : Fin 4) (d : Fin 512) :
    (V m c main_v17 : S4x1x512.Idx → EReal) (ix3 h (0 : Fin 1) d) = (kArgs m c).hn ⟨h.val * 512 + d.val, by omega⟩ := by
  unfold V
  after_reads_at
  rfl

/-- The projections are found as launched. -/
theorem V0 (b : Fin 4) (r : Fin 2048) (x : Fin 6144) :
    (V m c main_arg0 : S4x2048x6144.Idx → EReal) (ix3 b r x) = (kArgs m c).y b r x := by
  rw [V_main_arg0]
  rfl

/-- A grid point is one of 16. -/
theorem tlt (t : Fin cfg0.N) : t.val < 16 := t.isLt

/-- The sequence of a grid point. -/
def bOf (t : ℕ) : Fin 4 := ⟨t / 4 % 4, Nat.mod_lt _ (by omega)⟩

/-- Row `r` of a grid point's block within the sequence. -/
def rOf (t : ℕ) (r : Fin 512) : Fin 2048 := ⟨512 * (t % 4) + r.val, by omega⟩

/-- Where window 0's block lies at each grid point. -/
theorem idx0 : ∀ t : Fin cfg0.N, win0_0.index t = ![t.val / 4, t.val % 4, 0] :=
  (by decide +kernel : ∀ t : Fin grid0.N, win0_0.index t = ![t.val / 4, t.val % 4, 0])

/-- Where window 1's block lies at each grid point. -/
theorem idx1 : ∀ t : Fin cfg0.N, win0_1.index t = ![t.val / 4, t.val % 4, 1] :=
  (by decide +kernel : ∀ t : Fin grid0.N, win0_1.index t = ![t.val / 4, t.val % 4, 1])

/-- Where window 2's block lies at each grid point. -/
theorem idx2 : ∀ t : Fin cfg0.N, win0_2.index t = ![t.val / 4, t.val % 4, 1] :=
  (by decide +kernel : ∀ t : Fin grid0.N, win0_2.index t = ![t.val / 4, t.val % 4, 1])

/-- Where window 3's block lies at each grid point. -/
theorem idx3 : ∀ t : Fin cfg0.N, win0_3.index t = ![t.val / 4, t.val % 4, 2] :=
  (by decide +kernel : ∀ t : Fin grid0.N, win0_3.index t = ![t.val / 4, t.val % 4, 2])

/-- Where window 4's block lies at each grid point. -/
theorem idx4 : ∀ t : Fin cfg0.N, win0_4.index t = ![t.val / 4, 0, t.val % 4, 0] :=
  (by decide +kernel : ∀ t : Fin grid0.N, win0_4.index t = ![t.val / 4, 0, t.val % 4, 0])

/-- Where window 5's block lies at each grid point. -/
theorem idx5 : ∀ t : Fin cfg0.N, win0_5.index t = ![t.val / 4, 0, t.val % 4, 0] :=
  (by decide +kernel : ∀ t : Fin grid0.N, win0_5.index t = ![t.val / 4, 0, t.val % 4, 0])

/-- Where window 6's block lies at each grid point. -/
theorem idx6 : ∀ t : Fin cfg0.N, win0_6.index t = ![t.val / 4, 0, t.val % 4, 0, 0] :=
  (by decide +kernel : ∀ t : Fin grid0.N, win0_6.index t = ![t.val / 4, 0, t.val % 4, 0, 0])

/-- Where window 7's block lies at each grid point. -/
theorem idx7 : ∀ t : Fin cfg0.N, win0_7.index t = ![t.val / 4, 0, t.val % 4, 0, 0] :=
  (by decide +kernel : ∀ t : Fin grid0.N, win0_7.index t = ![t.val / 4, 0, t.val % 4, 0, 0])

/-- Where window 8's block lies at each grid point. -/
theorem idx8 : ∀ t : Fin cfg0.N, win0_8.index t = ![0, 0, 0] :=
  (by decide +kernel : ∀ t : Fin grid0.N, win0_8.index t = ![0, 0, 0])

/-- Where window 9's block lies at each grid point. -/
theorem idx9 : ∀ t : Fin cfg0.N, win0_9.index t = ![t.val / 4, t.val % 4, 0] :=
  (by decide +kernel : ∀ t : Fin grid0.N, win0_9.index t = ![t.val / 4, t.val % 4, 0])

/-- Where window 10's block lies at each grid point. -/
theorem idx10 : ∀ t : Fin cfg0.N, win0_10.index t = ![t.val / 4, 0, 0, 0] :=
  (by decide +kernel : ∀ t : Fin grid0.N, win0_10.index t = ![t.val / 4, 0, 0, 0])

/-- Where window 11's block lies at each grid point. -/
theorem idx11 : ∀ t : Fin cfg0.N, win0_11.index t = ![t.val / 4, 0, 0, 0] :=
  (by decide +kernel : ∀ t : Fin grid0.N, win0_11.index t = ![t.val / 4, 0, 0, 0])

/-- Where window 12's block lies at each grid point. -/
theorem idx12 : ∀ t : Fin cfg0.N, win0_12.index t = ![t.val / 4, 0, 0, 0] :=
  (by decide +kernel : ∀ t : Fin grid0.N, win0_12.index t = ![t.val / 4, 0, 0, 0])

/-- An index of rank 5 by its coordinates. -/
theorem eq_ix5_of {n0 n1 n2 n3 n4 : ℕ} {x : (⟨5, ![n0, n1, n2, n3, n4]⟩ : Shape).Idx} {a : Fin n0} {b : Fin n1} {c : Fin n2}
    {d : Fin n3} {e : Fin n4} (h0 : x 0 = a) (h1 : x 1 = b) (h2 : x 2 = c) (h3 : x 3 = d) (h4 : x 4 = e) :
    x = ix5 a b c d e := by
  subst h0; subst h1; subst h2; subst h3; subst h4; exact (ix5_eta x).symm

/-- The block of queries. -/
theorem iblk0 (t : Fin cfg0.N) (r : Fin 512) (x : Fin 1024) :
    (iblk m c 0 t : S1x512x1024.Idx → EReal) (ix3 (0 : Fin 1) r x) = (kArgs m c).y (bOf t) (rOf t r) ⟨x.val, by omega⟩ := by
  rw [← V0]
  have ht := tlt t
  have e := idx0 t
  refine congrArg (V m c main_arg0 : S4x2048x6144.Idx → EReal) (?_ : (win0_0.rect t).emb _ = _)
  refine eq_ix3_of ?_ ?_ ?_ <;> refine Fin.ext ?_ <;> refine (Pipeline.Window.rect_emb_val win0_0 t _ _).trans ?_ <;>
    rw [e] <;> simp [bOf, rOf] <;> omega

/-- The block of keys. -/
theorem iblk1 (t : Fin cfg0.N) (r : Fin 512) (x : Fin 1024) :
    (iblk m c 1 t : S1x512x1024.Idx → EReal) (ix3 (0 : Fin 1) r x) = (kArgs m c).y (bOf t) (rOf t r) ⟨1024 + x.val, by omega⟩ := by
  rw [← V0]
  have ht := tlt t
  have e := idx1 t
  refine congrArg (V m c main_arg0 : S4x2048x6144.Idx → EReal) (?_ : (win0_1.rect t).emb _ = _)
  refine eq_ix3_of ?_ ?_ ?_ <;> refine Fin.ext ?_ <;> refine (Pipeline.Window.rect_emb_val win0_1 t _ _).trans ?_ <;>
    rw [e] <;> simp [bOf, rOf] <;> omega

/-- The block of values. -/
theorem iblk2 (t : Fin cfg0.N) (r : Fin 512) (x : Fin 2048) :
    (iblk m c 2 t : S1x512x2048.Idx → EReal) (ix3 (0 : Fin 1) r x) = (kArgs m c).y (bOf t) (rOf t r) ⟨2048 + x.val, by omega⟩ := by
  rw [← V0]
  have ht := tlt t
  have e := idx2 t
  refine congrArg (V m c main_arg0 : S4x2048x6144.Idx → EReal) (?_ : (win0_2.rect t).emb _ = _)
  refine eq_ix3_of ?_ ?_ ?_ <;> refine Fin.ext ?_ <;> refine (Pipeline.Window.rect_emb_val win0_2 t _ _).trans ?_ <;>
    rw [e] <;> simp [bOf, rOf] <;> omega

/-- The block of output gate logits. -/
theorem iblk3 (t : Fin cfg0.N) (r : Fin 512) (x : Fin 2048) :
    (iblk m c 3 t : S1x512x2048.Idx → EReal) (ix3 (0 : Fin 1) r x) = (kArgs m c).y (bOf t) (rOf t r) ⟨4096 + x.val, by omega⟩ := by
  rw [← V0]
  have ht := tlt t
  have e := idx3 t
  refine congrArg (V m c main_arg0 : S4x2048x6144.Idx → EReal) (?_ : (win0_3.rect t).emb _ = _)
  refine eq_ix3_of ?_ ?_ ?_ <;> refine Fin.ext ?_ <;> refine (Pipeline.Window.rect_emb_val win0_3 t _ _).trans ?_ <;>
    rw [e] <;> simp [bOf, rOf] <;> omega

/-- The block of log gates as columns. -/
theorem iblk4 (t : Fin cfg0.N) (h : Fin 4) (r : Fin 512) :
    (iblk m c 4 t : S1x4x512x1.Idx → EReal) (ix4 (0 : Fin 1) h r (0 : Fin 1)) = (kArgs m c).ig (bOf t) (rOf t r) h := by
  rw [← V12]
  have ht := tlt t
  have e := idx4 t
  refine congrArg (V m c main_v12 : S4x4x2048x1.Idx → EReal) (?_ : (win0_4.rect t).emb _ = _)
  refine eq_ix4_of ?_ ?_ ?_ ?_ <;> refine Fin.ext ?_ <;> refine (Pipeline.Window.rect_emb_val win0_4 t _ _).trans ?_ <;>
    rw [e] <;> simp [bOf, rOf] <;> omega

/-- The block of log gates as columns. -/
theorem iblk5 (t : Fin cfg0.N) (h : Fin 4) (r : Fin 512) :
    (iblk m c 5 t : S1x4x512x1.Idx → EReal) (ix4 (0 : Fin 1) h r (0 : Fin 1)) = (kArgs m c).lf (bOf t) (rOf t r) h := by
  rw [← V14]
  have ht := tlt t
  have e := idx5 t
  refine congrArg (V m c main_v14 : S4x4x2048x1.Idx → EReal) (?_ : (win0_5.rect t).emb _ = _)
  refine eq_ix4_of ?_ ?_ ?_ ?_ <;> refine Fin.ext ?_ <;> refine (Pipeline.Window.rect_emb_val win0_5 t _ _).trans ?_ <;>
    rw [e] <;> simp [bOf, rOf] <;> omega

/-- The block of log gates as rows. -/
theorem iblk6 (t : Fin cfg0.N) (h : Fin 4) (k : Fin 8) (x : Fin 64) :
    (iblk m c 6 t : S1x4x8x1x64.Idx → EReal) (ix5 (0 : Fin 1) h k (0 : Fin 1) x) = (kArgs m c).ig (bOf t) (rOf t (row k x)) h := by
  have ht := tlt t
  have e := idx6 t
  have hr : (row k.val x).val = 64 * k.val + x.val := Nat.mod_eq_of_lt (by omega)
  have hk : 8 * (t.val % 4) + k.val < 32 := by omega
  rw [show rOf t (row k x) = ⟨(⟨8 * (t.val % 4) + k.val, hk⟩ : Fin 32).val * 64 + x.val, by omega⟩ from
    Fin.ext (by simp only [rOf, hr]; omega), ← V15]
  refine congrArg (V m c main_v15 : S4x4x32x1x64.Idx → EReal) (?_ : (win0_6.rect t).emb _ = _)
  refine eq_ix5_of ?_ ?_ ?_ ?_ ?_ <;> refine Fin.ext ?_ <;> refine (Pipeline.Window.rect_emb_val win0_6 t _ _).trans ?_ <;>
    rw [e] <;> simp [bOf] <;> omega

/-- The block of log gates as rows. -/
theorem iblk7 (t : Fin cfg0.N) (h : Fin 4) (k : Fin 8) (x : Fin 64) :
    (iblk m c 7 t : S1x4x8x1x64.Idx → EReal) (ix5 (0 : Fin 1) h k (0 : Fin 1) x) = (kArgs m c).lf (bOf t) (rOf t (row k x)) h := by
  have ht := tlt t
  have e := idx7 t
  have hr : (row k.val x).val = 64 * k.val + x.val := Nat.mod_eq_of_lt (by omega)
  have hk : 8 * (t.val % 4) + k.val < 32 := by omega
  rw [show rOf t (row k x) = ⟨(⟨8 * (t.val % 4) + k.val, hk⟩ : Fin 32).val * 64 + x.val, by omega⟩ from
    Fin.ext (by simp only [rOf, hr]; omega), ← V16]
  refine congrArg (V m c main_v16 : S4x4x32x1x64.Idx → EReal) (?_ : (win0_7.rect t).emb _ = _)
  refine eq_ix5_of ?_ ?_ ?_ ?_ ?_ <;> refine Fin.ext ?_ <;> refine (Pipeline.Window.rect_emb_val win0_7 t _ _).trans ?_ <;>
    rw [e] <;> simp [bOf] <;> omega

/-- The block of norm weights. -/
theorem iblk8 (t : Fin cfg0.N) (h : Fin 4) (d : Fin 512) :
    (iblk m c 8 t : S4x1x512.Idx → EReal) (ix3 h (0 : Fin 1) d) = (kArgs m c).nw h d := by
  have e := idx8 t
  rw [show (kArgs m c).nw h d = (kArgs m c).hn ⟨h.val * 512 + d.val, by omega⟩ from
    congrArg (kArgs m c).hn (Fin.ext (by show 512 * h.val + d.val = h.val * 512 + d.val; omega)), ← V17]
  refine congrArg (V m c main_v17 : S4x1x512.Idx → EReal) (?_ : (win0_8.rect t).emb _ = _)
  refine eq_ix3_of ?_ ?_ ?_ <;> refine Fin.ext ?_ <;> refine (Pipeline.Window.rect_emb_val win0_8 t _ _).trans ?_ <;>
    rw [e] <;> simp

/-- The blocks of grid point `t`. -/
def blkAt (t : Fin cfg0.N) : Blk where
  q := iblk m c 0 t
  k := iblk m c 1 t
  v := iblk m c 2 t
  og := iblk m c 3 t
  i := iblk m c 4 t
  f := iblk m c 5 t
  ir := iblk m c 6 t
  fr := iblk m c 7 t
  hn := iblk m c 8 t

/-- Both layouts of the gates hold the same. -/
theorem blkAt_gates (t : Fin cfg0.N) : (blkAt m c t).Gates := fun h k s =>
  ⟨(iblk6 m c t h k s).trans (iblk4 m c t h (row k s)).symm, (iblk7 m c t h k s).trans (iblk5 m c t h (row k s)).symm⟩

/-- Rows of a block's chunk are rows of the sequence's chunk. -/
theorem rOf_row (t : Fin cfg0.N) (k : ℕ) (hk : k < 8) (s : Fin 64) :
    rOf t (row k s) = seqRow (8 * (t.val % 4) + k) s := by
  have ht := tlt t
  have hr : (row k s).val = 64 * k + s.val := Nat.mod_eq_of_lt (by omega)
  have h2 : (64 * (8 * (t.val % 4) + k) + s.val) % 2048 = 64 * (8 * (t.val % 4) + k) + s.val := Nat.mod_eq_of_lt (by omega)
  refine Fin.ext ?_
  simp only [rOf, seqRow, hr, h2]
  omega

/-- A block's chunk is the sequence's chunk. -/
theorem blkAt_chunk (t : Fin cfg0.N) (h : Fin 4) (k : ℕ) (hk : k < 8) :
    (blkAt m c t).chunk h k = (kArgs m c).chunk (bOf t) h (8 * (t.val % 4) + k) := by
  have e := rOf_row t k hk
  ext s x
  · exact congrArg (· * _) ((iblk0 m c t (row k s) (colq h x)).trans (by rw [e]; rfl))
  · exact (iblk1 m c t (row k s) (colq h x)).trans (by rw [e]; rfl)
  · exact (iblk2 m c t (row k s) (colv h x)).trans (by rw [e]; rfl)
  · exact (iblk4 m c t h (row k s)).trans (by rw [e]; rfl)
  · exact (iblk5 m c t h (row k s)).trans (by rw [e]; rfl)

/-- A block's output gate logits are the sequence's. -/
theorem blkAt_gate (t : Fin cfg0.N) (h : Fin 4) (k : ℕ) (hk : k < 8) :
    (blkAt m c t).gate h k = (kArgs m c).gate (bOf t) h (8 * (t.val % 4) + k) := by
  have e := rOf_row t k hk
  funext s x
  exact (iblk3 m c t (row k s) (colv h x)).trans (by rw [e]; rfl)

/-- A block's norm weights are the layer's. -/
theorem blkAt_nw (t : Fin cfg0.N) (h : Fin 4) : (blkAt m c t).nw h = (kArgs m c).nw h :=
  funext fun d => iblk8 m c t h d

/-- Running on from the state after `n` chunks. -/
theorem stFrom_eq (g : ℕ → Chunk) (c' : ℕ → Chunk) (n : ℕ) (N : ℕ) (hc : ∀ k < N, c' k = g (n + k)) :
    ∀ k ≤ N, stFrom c' (stAt g n) k = stAt g (n + k)
  | 0, _ => rfl
  | k + 1, hk => by
    show (c' k).step (stFrom c' (stAt g n) k) = (g (n + k)).step (stAt g (n + k))
    rw [stFrom_eq g c' n N hc k (by omega), hc k (by omega)]

/-- Every head's state before chunk `j` of the sequence of a grid point. -/
def stB (t : ℕ) (j : ℕ) : Fin 4 → St := fun h => (kArgs m c).st (bOf t) h j

/-- The states during a grid point's chunks. -/
theorem stFrom_at (t : Fin cfg0.N) (k : ℕ) (hk : k ≤ 8) (h : Fin 4) :
    stFrom ((blkAt m c t).chunk h) (stB m c t (8 * (t.val % 4)) h) k = stB m c t (8 * (t.val % 4) + k) h :=
  stFrom_eq _ _ _ 8 (fun k hk => blkAt_chunk m c t h k hk) k hk

/-- The output block of a grid point. -/
def outB (t : Fin cfg0.N) : Vec Ideal S1x512x2048 .bf16 := arrO (blkAt m c t) (fun h k => stB m c t (8 * (t.val % 4) + k) h)

/-- Output blocks whose states agree on the block's chunks are equal. -/
theorem arrO_congr (b : Blk) (Z Z' : Fin 4 → ℕ → St) (h : ∀ h, ∀ k < 8, Z h k = Z' h k) : arrO b Z = arrO b Z' := by
  funext y
  have hy : (y 1).val / 64 < 8 := Nat.div_lt_of_lt_mul (y 1).isLt
  show Chunk.out _ (Z _ _) _ _ _ _ = Chunk.out _ (Z' _ _) _ _ _ _
  rw [h _ _ hy]

/-- Block 0 of a grid point. -/
theorem blkAt_q (t : Fin cfg0.N) : (blkAt m c t).q = iblk m c 0 t := rfl

/-- Block 1 of a grid point. -/
theorem blkAt_k (t : Fin cfg0.N) : (blkAt m c t).k = iblk m c 1 t := rfl

/-- Block 2 of a grid point. -/
theorem blkAt_v (t : Fin cfg0.N) : (blkAt m c t).v = iblk m c 2 t := rfl

/-- Block 3 of a grid point. -/
theorem blkAt_og (t : Fin cfg0.N) : (blkAt m c t).og = iblk m c 3 t := rfl

/-- Block 4 of a grid point. -/
theorem blkAt_i (t : Fin cfg0.N) : (blkAt m c t).i = iblk m c 4 t := rfl

/-- Block 5 of a grid point. -/
theorem blkAt_f (t : Fin cfg0.N) : (blkAt m c t).f = iblk m c 5 t := rfl

/-- Block 6 of a grid point. -/
theorem blkAt_ir (t : Fin cfg0.N) : (blkAt m c t).ir = iblk m c 6 t := rfl

/-- Block 7 of a grid point. -/
theorem blkAt_fr (t : Fin cfg0.N) : (blkAt m c t).fr = iblk m c 7 t := rfl

/-- Block 8 of a grid point. -/
theorem blkAt_hn (t : Fin cfg0.N) : (blkAt m c t).hn = iblk m c 8 t := rfl

/-- Four equal components make equal quadruples. -/
theorem quad_eq {α β γ δ : Type} {a a' : α} {b b' : β} {c c' : γ} {d d' : δ} (h1 : a = a') (h2 : b = b') (h3 : c = c')
    (h4 : d = d') : (a, b, c, d) = (a', b', c', d') := by
  subst h1; subst h2; subst h3; subst h4; rfl

/-- What grid point `t` leaves, at a sequence's first point. -/
theorem tupA (t : Fin cfg0.N) (h0 : t.val % 4 = 0) :
    outsAt0 m c t.val t.isLt = (arrO (blkAt m c t) (fun h => stFrom ((blkAt m c t).chunk h) St.zero),
      arrC (fun h => stFrom ((blkAt m c t).chunk h) St.zero 8), arrN (fun h => stFrom ((blkAt m c t).chunk h) St.zero 8),
      arrM (fun h => stFrom ((blkAt m c t).chunk h) St.zero 8)) := by
  rw [outsAt0_A m c t h0]
  have hO := outAO c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (blkAt m c t) (blkAt_gates m c t) ((hcond0_0 t).mpr h0)
  have hC := outAC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (blkAt m c t) (blkAt_gates m c t) ((hcond0_0 t).mpr h0)
  have hN := outAN c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (blkAt m c t) (blkAt_gates m c t) ((hcond0_0 t).mpr h0)
  have hM := outAM c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (blkAt m c t) (blkAt_gates m c t) ((hcond0_0 t).mpr h0)
  rw [blkAt_q, blkAt_k, blkAt_v, blkAt_og, blkAt_i, blkAt_f, blkAt_ir, blkAt_fr, blkAt_hn] at hO hC hN hM
  exact quad_eq hO hC hN hM

/-- What grid point `t` leaves, from the states the point before left. -/
theorem tupB (t : Fin cfg0.N) (h0 : ¬t.val % 4 = 0) (z : Fin 4 → St) (hz : ∀ (h : t.val - 1 < cfg0.N), (outsAt0 m c (t.val - 1) h).2 = (arrC z, arrN z, arrM z)) :
    outsAt0 m c t.val t.isLt = (arrO (blkAt m c t) (fun h => stFrom ((blkAt m c t).chunk h) (z h)),
      arrC (fun h => stFrom ((blkAt m c t).chunk h) (z h) 8), arrN (fun h => stFrom ((blkAt m c t).chunk h) (z h) 8),
      arrM (fun h => stFrom ((blkAt m c t).chunk h) (z h) 8)) := by
  rw [outsAt0_B m c t h0]
  rw [congrArg Prod.fst (hz _), congrArg (fun p => p.2.1) (hz _), congrArg (fun p => p.2.2) (hz _)]
  have hO := outBO c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (blkAt m c t) (blkAt_gates m c t) (fun h => h0 ((hcond0_0 t).mp h)) z
  have hC := outBC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (blkAt m c t) (blkAt_gates m c t) (fun h => h0 ((hcond0_0 t).mp h)) z
  have hN := outBN c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (blkAt m c t) (blkAt_gates m c t) (fun h => h0 ((hcond0_0 t).mp h)) z
  have hM := outBM c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (blkAt m c t) (blkAt_gates m c t) (fun h => h0 ((hcond0_0 t).mp h)) z
  rw [blkAt_q, blkAt_k, blkAt_v, blkAt_og, blkAt_i, blkAt_f, blkAt_ir, blkAt_fr, blkAt_hn] at hO hC hN hM
  exact quad_eq hO hC hN hM

/-- What the states of a point's chunks make of its four results. -/
theorem tup_eq (t : Fin cfg0.N) (z : Fin 4 → St) (hz : z = stB m c t (8 * (t.val % 4))) :
    ((arrO (blkAt m c t) (fun h => stFrom ((blkAt m c t).chunk h) (z h)),
      arrC (fun h => stFrom ((blkAt m c t).chunk h) (z h) 8), arrN (fun h => stFrom ((blkAt m c t).chunk h) (z h) 8),
      arrM (fun h => stFrom ((blkAt m c t).chunk h) (z h) 8)) : Vec Ideal S1x512x2048 .bf16 × Vec Ideal S1x4x256x512 .f32 ×
        Vec Ideal S1x4x1x256 .f32 × Vec Ideal S1x4x1x1 .f32) =
    (outB m c t, arrC (stB m c t (8 * (t.val % 4) + 8)), arrN (stB m c t (8 * (t.val % 4) + 8)),
      arrM (stB m c t (8 * (t.val % 4) + 8))) := by
  subst hz
  have e : (fun h => stFrom ((blkAt m c t).chunk h) (stB m c t (8 * (t.val % 4)) h) 8) = stB m c t (8 * (t.val % 4) + 8) :=
    funext fun h => stFrom_at m c t 8 le_rfl h
  rw [e]
  exact congrArg (fun p => (p, _)) (arrO_congr _ _ _ fun h k hk => stFrom_at m c t k (by omega) h)

/-- What grid point `t` leaves: its output block and every head's state. -/
theorem outs_at (n : ℕ) (hn : n < cfg0.N) :
    outsAt0 m c n hn = (outB m c ⟨n, hn⟩, arrC (stB m c n (8 * (n % 4) + 8)), arrN (stB m c n (8 * (n % 4) + 8)),
      arrM (stB m c n (8 * (n % 4) + 8))) := by
  induction n with
  | zero => exact (tupA m c ⟨0, hn⟩ rfl).trans (tup_eq m c ⟨0, hn⟩ (fun _ => St.zero) rfl)
  | succ n ih =>
    have hlt : n + 1 < 16 := tlt ⟨n + 1, hn⟩
    by_cases h0 : (n + 1) % 4 = 0
    · refine (tupA m c ⟨n + 1, hn⟩ h0).trans (tup_eq m c ⟨n + 1, hn⟩ (fun _ => St.zero) ?_)
      show _ = stB m c (n + 1) (8 * ((n + 1) % 4))
      rw [h0]; rfl
    · have hp : stB m c n (8 * (n % 4) + 8) = stB m c (n + 1) (8 * ((n + 1) % 4)) := by
        have e1 : bOf n = bOf (n + 1) := Fin.ext (by simp only [bOf]; omega)
        have e2 : 8 * (n % 4) + 8 = 8 * ((n + 1) % 4) := by omega
        rw [e2]
        funext h
        exact congrArg (fun b => (kArgs m c).st b h (8 * ((n + 1) % 4))) e1
      refine (tupB m c ⟨n + 1, hn⟩ h0 (stB m c n (8 * (n % 4) + 8)) ?_).trans (tup_eq m c ⟨n + 1, hn⟩ _ hp)
      intro h
      exact congrArg Prod.snd (ih h)

/-- The layer's output as one array. -/
def gO (a : Args) : S4x2048x2048.Idx → EReal := fun y => a.res (y 0) (y 1) (y 2)

/-- The final matrices as one array. -/
def gC (a : Args) : S4x4x256x512.Idx → EReal := fun y => (a.st (y 0) (y 1) 32).C (y 2) (y 3)

/-- The final normalisers as one array. -/
def gN (a : Args) : S4x4x1x256.Idx → EReal := fun y => (a.st (y 0) (y 1) 32).n (y 3)

/-- The final stabilisers as one array. -/
def gM (a : Args) : S4x4x1x1.Idx → EReal := fun y => (a.st (y 0) (y 1) 32).m

/-- The array of window 10 after the run. -/
theorem arr10 : (dats m 0 c).arrAt 10 cfg0.N = gC (kArgs m c) := by
  refine (dats m 0 c).arrAt_eq_of_cover 10 (gC (kArgs m c)) ?_ ?_
  · intro t hf
    have ht := tlt t
    have h3 : t.val % 4 = 3 := (flush0_10 t).mp hf
    rw [Value.flushed10, outs_at m c t.val t.isLt]
    refine funext fun (x : S1x4x256x512.Idx) => ?_
    obtain ⟨a, h, y, d, rfl⟩ : ∃ (a : Fin 1) (h : Fin 4) (y : Fin 256) (d : Fin 512), x = ix4 a h y d :=
      ⟨x 0, x 1, x 2, x 3, (ix4_eta x).symm⟩
    have e := idx10 t
    refine Eq.trans ?_ (congrArg (gC (kArgs m c)) (?_ : ix4 (bOf t) h y d = (win0_10.rect t).emb (ix4 a h y d)))
    · show arrC (stB m c t.val (8 * (t.val % 4) + 8)) (ix4 a h y d) = _
      rw [h3]; rfl
    · refine (eq_ix4_of ?_ ?_ ?_ ?_).symm <;> refine Fin.ext ?_ <;> refine (Pipeline.Window.rect_emb_val win0_10 t _ _).trans ?_ <;>
        rw [e] <;> simp [bOf] <;> omega
  · refine fun (i : S4x4x256x512.Idx) => ?_
    obtain ⟨b, h, y, d, rfl⟩ : ∃ (b : Fin 4) (h : Fin 4) (y : Fin 256) (d : Fin 512), i = ix4 b h y d :=
      ⟨i 0, i 1, i 2, i 3, (ix4_eta i).symm⟩
    have ht : 4 * b.val + 3 < cfg0.N := show 4 * b.val + 3 < 16 by omega
    refine ⟨⟨4 * b.val + 3, ht⟩, (flush0_10 _).mpr (by show (4 * b.val + 3) % 4 = 3; omega), ?_⟩
    have e := idx10 ⟨4 * b.val + 3, ht⟩
    refine Eq.subst (motive := fun z => z ∈ ((cfg0.win 10).blk ⟨4 * b.val + 3, ht⟩).view.set) (?_ : (win0_10.rect ⟨4 * b.val + 3, ht⟩).emb (ix4 (0 : Fin 1) h y d) = _)
      (((cfg0.win 10).blk ⟨4 * b.val + 3, ht⟩).view.emb_mem_set (ix4 (0 : Fin 1) h y d))
    refine eq_ix4_of ?_ ?_ ?_ ?_ <;> refine Fin.ext ?_ <;> refine (Pipeline.Window.rect_emb_val win0_10 _ _ _).trans ?_ <;>
      rw [e] <;> simp <;> omega

/-- The array of window 11 after the run. -/
theorem arr11 : (dats m 0 c).arrAt 11 cfg0.N = gN (kArgs m c) := by
  refine (dats m 0 c).arrAt_eq_of_cover 11 (gN (kArgs m c)) ?_ ?_
  · intro t hf
    have ht := tlt t
    have h3 : t.val % 4 = 3 := (flush0_11 t).mp hf
    rw [Value.flushed11, outs_at m c t.val t.isLt]
    refine funext fun (x : S1x4x1x256.Idx) => ?_
    obtain ⟨a, h, y, d, rfl⟩ : ∃ (a : Fin 1) (h : Fin 4) (y : Fin 1) (d : Fin 256), x = ix4 a h y d :=
      ⟨x 0, x 1, x 2, x 3, (ix4_eta x).symm⟩
    have e := idx11 t
    refine Eq.trans ?_ (congrArg (gN (kArgs m c)) (?_ : ix4 (bOf t) h y d = (win0_11.rect t).emb (ix4 a h y d)))
    · show arrN (stB m c t.val (8 * (t.val % 4) + 8)) (ix4 a h y d) = _
      rw [h3]; rfl
    · refine (eq_ix4_of ?_ ?_ ?_ ?_).symm <;> refine Fin.ext ?_ <;> refine (Pipeline.Window.rect_emb_val win0_11 t _ _).trans ?_ <;>
        rw [e] <;> simp [bOf] <;> omega
  · refine fun (i : S4x4x1x256.Idx) => ?_
    obtain ⟨b, h, y, d, rfl⟩ : ∃ (b : Fin 4) (h : Fin 4) (y : Fin 1) (d : Fin 256), i = ix4 b h y d :=
      ⟨i 0, i 1, i 2, i 3, (ix4_eta i).symm⟩
    have ht : 4 * b.val + 3 < cfg0.N := show 4 * b.val + 3 < 16 by omega
    refine ⟨⟨4 * b.val + 3, ht⟩, (flush0_11 _).mpr (by show (4 * b.val + 3) % 4 = 3; omega), ?_⟩
    have e := idx11 ⟨4 * b.val + 3, ht⟩
    refine Eq.subst (motive := fun z => z ∈ ((cfg0.win 11).blk ⟨4 * b.val + 3, ht⟩).view.set) (?_ : (win0_11.rect ⟨4 * b.val + 3, ht⟩).emb (ix4 (0 : Fin 1) h y d) = _)
      (((cfg0.win 11).blk ⟨4 * b.val + 3, ht⟩).view.emb_mem_set (ix4 (0 : Fin 1) h y d))
    refine eq_ix4_of ?_ ?_ ?_ ?_ <;> refine Fin.ext ?_ <;> refine (Pipeline.Window.rect_emb_val win0_11 _ _ _).trans ?_ <;>
      rw [e] <;> simp <;> omega

/-- The array of window 12 after the run. -/
theorem arr12 : (dats m 0 c).arrAt 12 cfg0.N = gM (kArgs m c) := by
  refine (dats m 0 c).arrAt_eq_of_cover 12 (gM (kArgs m c)) ?_ ?_
  · intro t hf
    have ht := tlt t
    have h3 : t.val % 4 = 3 := (flush0_12 t).mp hf
    rw [Value.flushed12, outs_at m c t.val t.isLt]
    refine funext fun (x : S1x4x1x1.Idx) => ?_
    obtain ⟨a, h, y, d, rfl⟩ : ∃ (a : Fin 1) (h : Fin 4) (y : Fin 1) (d : Fin 1), x = ix4 a h y d :=
      ⟨x 0, x 1, x 2, x 3, (ix4_eta x).symm⟩
    have e := idx12 t
    refine Eq.trans ?_ (congrArg (gM (kArgs m c)) (?_ : ix4 (bOf t) h y d = (win0_12.rect t).emb (ix4 a h y d)))
    · show arrM (stB m c t.val (8 * (t.val % 4) + 8)) (ix4 a h y d) = _
      rw [h3]; rfl
    · refine (eq_ix4_of ?_ ?_ ?_ ?_).symm <;> refine Fin.ext ?_ <;> refine (Pipeline.Window.rect_emb_val win0_12 t _ _).trans ?_ <;>
        rw [e] <;> simp [bOf] <;> omega
  · refine fun (i : S4x4x1x1.Idx) => ?_
    obtain ⟨b, h, y, d, rfl⟩ : ∃ (b : Fin 4) (h : Fin 4) (y : Fin 1) (d : Fin 1), i = ix4 b h y d :=
      ⟨i 0, i 1, i 2, i 3, (ix4_eta i).symm⟩
    have ht : 4 * b.val + 3 < cfg0.N := show 4 * b.val + 3 < 16 by omega
    refine ⟨⟨4 * b.val + 3, ht⟩, (flush0_12 _).mpr (by show (4 * b.val + 3) % 4 = 3; omega), ?_⟩
    have e := idx12 ⟨4 * b.val + 3, ht⟩
    refine Eq.subst (motive := fun z => z ∈ ((cfg0.win 12).blk ⟨4 * b.val + 3, ht⟩).view.set) (?_ : (win0_12.rect ⟨4 * b.val + 3, ht⟩).emb (ix4 (0 : Fin 1) h y d) = _)
      (((cfg0.win 12).blk ⟨4 * b.val + 3, ht⟩).view.emb_mem_set (ix4 (0 : Fin 1) h y d))
    refine eq_ix4_of ?_ ?_ ?_ ?_ <;> refine Fin.ext ?_ <;> refine (Pipeline.Window.rect_emb_val win0_12 _ _ _).trans ?_ <;>
      rw [e] <;> simp <;> omega

/-- A grid point's output block is its part of the layer's output. -/
theorem outB_at (t : Fin cfg0.N) (r : Fin 512) (x : Fin 2048) :
    outB m c t (ix3 (0 : Fin 1) r x) = (kArgs m c).res (bOf t) (rOf t r) x := by
  have ht := tlt t
  have hk : r.val / 64 < 8 := by omega
  have e1 : (rOf t r).val / 64 = 8 * (t.val % 4) + r.val / 64 := by simp only [rOf]; omega
  have e2 : (rOf t r).val % 64 = r.val % 64 := by simp only [rOf]; omega
  show ((blkAt m c t).chunk _ (r.val / 64)).out (stB m c t (8 * (t.val % 4) + r.val / 64) _) ((blkAt m c t).nw _)
    ((blkAt m c t).gate _ (r.val / 64)) _ _ = _
  rw [blkAt_chunk m c t _ _ hk, blkAt_gate m c t _ _ hk, blkAt_nw]
  simp only [Args.res, Args.out, e1, e2]
  rfl

/-- The array of window 9 after the run. -/
theorem arr9 : (dats m 0 c).arrAt 9 cfg0.N = gO (kArgs m c) := by
  refine (dats m 0 c).arrAt_eq_of_cover 9 (gO (kArgs m c)) ?_ ?_
  · intro t hf
    have ht := tlt t
    rw [Value.flushed9, outs_at m c t.val t.isLt]
    refine funext fun (x : S1x512x2048.Idx) => ?_
    obtain ⟨r, d, rfl⟩ : ∃ (r : Fin 512) (d : Fin 2048), x = ix3 (0 : Fin 1) r d :=
      ⟨x 1, x 2, eq_ix3_of (Fin.fin_one_eq_zero _) rfl rfl⟩
    have e := idx9 t
    refine Eq.trans ?_ (congrArg (gO (kArgs m c)) (?_ : ix3 (bOf t) (rOf t r) d = (win0_9.rect t).emb (ix3 (0 : Fin 1) r d)))
    · exact outB_at m c t r d
    · refine (eq_ix3_of ?_ ?_ ?_).symm <;> refine Fin.ext ?_ <;> refine (Pipeline.Window.rect_emb_val win0_9 t _ _).trans ?_ <;>
        rw [e] <;> simp [bOf, rOf] <;> omega
  · refine fun (i : S4x2048x2048.Idx) => ?_
    obtain ⟨b, r, d, rfl⟩ : ∃ (b : Fin 4) (r : Fin 2048) (d : Fin 2048), i = ix3 b r d :=
      ⟨i 0, i 1, i 2, (ix3_eta i).symm⟩
    have ht : 4 * b.val + r.val / 512 < cfg0.N := show 4 * b.val + r.val / 512 < 16 by omega
    refine ⟨⟨4 * b.val + r.val / 512, ht⟩, flush0_9 _, ?_⟩
    have e := idx9 ⟨4 * b.val + r.val / 512, ht⟩
    refine Eq.subst (motive := fun z => z ∈ ((cfg0.win 9).blk ⟨4 * b.val + r.val / 512, ht⟩).view.set) (?_ : (win0_9.rect ⟨4 * b.val + r.val / 512, ht⟩).emb (ix3 (0 : Fin 1) (⟨r.val % 512, by omega⟩ : Fin 512) d) = _)
      (((cfg0.win 9).blk ⟨4 * b.val + r.val / 512, ht⟩).view.emb_mem_set (ix3 (0 : Fin 1) (⟨r.val % 512, by omega⟩ : Fin 512) d))
    refine eq_ix3_of ?_ ?_ ?_ <;> refine Fin.ext ?_ <;> refine (Pipeline.Window.rect_emb_val win0_9 _ _ _).trans ?_ <;>
      rw [e] <;> simp <;> omega

end Cert.Mlstm

end
-- ==== Proof.MlstmRefEntry.lean ====
module

public import proofs.«01_k».proof.Proof.Gen.ReferenceIdeal.Run
public import proofs.«01_k».proof.Proof.MlstmGlobal
public import Idealize.ShloMosaic.Lib.StableHlo.ReadAt

/-! What the reference's scan carries before its first chunk, at the coordinates of its buffers. -/

@[expose] public section

set_option maxRecDepth 16384

noncomputable section

namespace Cert.Mlstm.Ref

open Idealize.ShloMosaic Idealize.SL.Sem Idealize.ShloMosaic.TcCoe
open Cert.ReferenceIdeal Cert.ReferenceIdeal.Gen Cert.ReferenceIdeal.Value

variable (m : (ℓ : Loc nD τ sig) → Buf (Elt Ideal) ℓ) (c : Dev nD)

/-- The reference's arguments in a memory. -/
def rArgs : Args where
  y b r x := (m (c, Proc.tc.devRef main_arg0) : S4x2048x6144.Idx → EReal) (ix3 b r x)
  yg b r x := (m (c, Proc.tc.devRef main_arg1) : S4x2048x8.Idx → EReal) (ix3 b r x)
  gb x := (m (c, Proc.tc.devRef main_arg2) : S8.Idx → EReal) (ix1 x)
  hn x := (m (c, Proc.tc.devRef main_arg3) : S2048.Idx → EReal) (ix1 x)

/-- The buffers before the first chunk. -/
def E : Valuation τ sig (Elt Ideal) := StableHlo.entryContents preI m c

/-- The scaled queries chunk by chunk. -/
theorem E0 (j : Fin 32) (b : Fin 4) (t : Fin 64) (h : Fin 4) (x : Fin 256) :
    (E m c (Proc.devRef .tc main_v36_0) : S32x4x64x4x256.Idx → EReal) (ix5 j b t h x) = (rArgs m c).y b ⟨j.val * 64 + t.val, by omega⟩ ⟨h.val * 256 + x.val, by omega⟩ * Ideal.ofBits .f32 0x3D800000#32 := by
  unfold E
  simp only [StableHlo.entryContents, StableHlo.afterL, preI]
  after_reads_at
  simp only [id_eq]
  clean_types
  pointwise
  rfl

/-- The keys chunk by chunk. -/
theorem E1 (j : Fin 32) (b : Fin 4) (t : Fin 64) (h : Fin 4) (x : Fin 256) :
    (E m c (Proc.devRef .tc main_v36_1) : S32x4x64x4x256.Idx → EReal) (ix5 j b t h x) = (rArgs m c).y b ⟨j.val * 64 + t.val, by omega⟩ ⟨1024 + (h.val * 256 + x.val), by omega⟩ := by
  unfold E
  simp only [StableHlo.entryContents, StableHlo.afterL, preI]
  after_reads_at
  simp only [id_eq]
  clean_types
  pointwise
  rfl

/-- The values chunk by chunk. -/
theorem E2 (j : Fin 32) (b : Fin 4) (t : Fin 64) (h : Fin 4) (d : Fin 512) :
    (E m c (Proc.devRef .tc main_v36_2) : S32x4x64x4x512.Idx → EReal) (ix5 j b t h d) = (rArgs m c).y b ⟨j.val * 64 + t.val, by omega⟩ ⟨2048 + (h.val * 512 + d.val), by omega⟩ := by
  unfold E
  simp only [StableHlo.entryContents, StableHlo.afterL, preI]
  after_reads_at
  simp only [id_eq]
  clean_types
  pointwise
  rfl

/-- The log input gates chunk by chunk. -/
theorem E3 (j : Fin 32) (b : Fin 4) (t : Fin 64) (h : Fin 4) :
    (E m c (Proc.devRef .tc main_v36_3) : S32x4x64x4.Idx → EReal) (ix4 j b t h) = (rArgs m c).ig b ⟨j.val * 64 + t.val, by omega⟩ h := by
  unfold E
  simp only [StableHlo.entryContents, StableHlo.afterL, preI]
  after_reads_at
  simp only [id_eq]
  clean_types
  pointwise
  rfl

/-- The log forget gates chunk by chunk. -/
theorem E4 (j : Fin 32) (b : Fin 4) (t : Fin 64) (h : Fin 4) :
    (E m c (Proc.devRef .tc main_v36_4) : S32x4x64x4.Idx → EReal) (ix4 j b t h) = (rArgs m c).lf b ⟨j.val * 64 + t.val, by omega⟩ h := by
  unfold E
  simp only [StableHlo.entryContents, StableHlo.afterL, preI]
  after_reads_at
  simp only [id_eq]
  clean_types
  pointwise
  rfl

/-- The mask of the causal pairs of rows. -/
theorem E5 (t s : Fin 64) :
    (E m c (Proc.devRef .tc main_v36_5) : S64x64.Idx → BitVec 1) (ix2 t s) = if s ≤ t then 1#1 else 0#1 := by
  unfold E
  simp only [StableHlo.entryContents, StableHlo.afterL, preI]
  after_reads_at
  simp only [id_eq]
  clean_types
  pointwise
  revert t s
  decide +kernel

/-- The chunk counter starts at zero. -/
theorem E6  :
    (E m c (Proc.devRef .tc main_v36_6) : S_.Idx → BitVec 32) ix0 = 0#32 := by
  unfold E
  simp only [StableHlo.entryContents, StableHlo.afterL, preI]
  after_reads_at
  simp only [id_eq]
  clean_types
  pointwise
  all_goals rfl

/-- The matrix starts at zero. -/
theorem E7 (b h : Fin 4) (x : Fin 256) (d : Fin 512) :
    (E m c (Proc.devRef .tc main_v36_7) : S4x4x256x512.Idx → EReal) (ix4 b h x d) = (0 : EReal) := by
  unfold E
  simp only [StableHlo.entryContents, StableHlo.afterL, preI]
  after_reads_at
  simp only [id_eq]
  clean_types
  pointwise
  all_goals rfl

/-- The normaliser starts at zero. -/
theorem E8 (b h : Fin 4) (x : Fin 256) :
    (E m c (Proc.devRef .tc main_v36_8) : S4x4x256.Idx → EReal) (ix3 b h x) = (0 : EReal) := by
  unfold E
  simp only [StableHlo.entryContents, StableHlo.afterL, preI]
  after_reads_at
  simp only [id_eq]
  clean_types
  pointwise
  all_goals rfl

/-- The stabiliser starts at zero. -/
theorem E9 (b h : Fin 4) :
    (E m c (Proc.devRef .tc main_v36_9) : S4x4.Idx → EReal) (ix2 b h) = (0 : EReal) := by
  unfold E
  simp only [StableHlo.entryContents, StableHlo.afterL, preI]
  after_reads_at
  simp only [id_eq]
  clean_types
  pointwise
  all_goals rfl

end Cert.Mlstm.Ref

end
-- ==== Proof.MlstmRefSum.lean ====
module

public import proofs.«01_k».proof.Proof.MlstmSpec

/-! The running sum along a chunk's rows. -/

@[expose] public section

set_option maxRecDepth 16384

noncomputable section

namespace Cert.Mlstm.Ref

open Idealize.ShloMosaic

/-- Adding up along a list, from a start. -/
theorem foldl_sum {ι : Type} (l : List ι) (g : ι → EReal) (v : EReal) :
    l.foldl (fun r a => r + g a) v = v + (l.map g).sum := by
  induction l generalizing v with
  | nil => simp
  | cons a l ih => rw [List.foldl_cons, ih, List.map_cons, List.sum_cons, add_assoc]

/-- The one-column window's positions are the 64 rows. -/
def rowsEquiv : Fin 64 ≃ (⟨3, ![1, 64, 1]⟩ : Shape).Idx where
  toFun w := ix3 (0 : Fin 1) w (0 : Fin 1)
  invFun i := i 1
  left_inv _ := rfl
  right_inv i := by
    refine (congrArg₂ (fun (a : Fin 1) (b : Fin 1) => ix3 a (i 1) b) ?_ ?_).trans (eq_ix3 i).symm
    · exact (Fin.fin_one_eq_zero (i 0)).symm
    · exact (Fin.fin_one_eq_zero (i 2)).symm

/-- The window that ends at row `t` holds the rows up to `t`. -/
theorem window_sum (t : Fin 64) (f : Fin 64 → EReal) :
    (∑ w : Fin 64, if hin : 63 ≤ t.val + w.val ∧ t.val + w.val - 63 < 64 then f ⟨t.val + w.val - 63, hin.2⟩ else 0) = cum f t := by
  unfold cum
  refine Eq.trans ?_ (Equiv.sum_comp (Equiv.addRight (t + 1)) fun s => if s ≤ t then f s else 0)
  refine Finset.sum_congr rfl fun w _ => ?_
  have ht := t.isLt
  have hw := w.isLt
  have hv : (Equiv.addRight (t + 1) w).val = (w.val + (t.val + 1) % 64) % 64 := by
    simp [Equiv.addRight, Fin.val_add]
  by_cases h : 63 ≤ t.val + w.val
  · have e : (Equiv.addRight (t + 1) w) = ⟨t.val + w.val - 63, by omega⟩ := Fin.ext (by rw [hv]; show _ = t.val + w.val - 63; omega)
    rw [dif_pos ⟨h, by omega⟩, e, if_pos (by show t.val + w.val - 63 ≤ t.val; omega)]
  · rw [dif_neg (fun hh => h hh.1), if_neg]
    intro hh
    have : (Equiv.addRight (t + 1) w).val ≤ t.val := hh
    rw [hv] at this
    omega

/-- The running sum along a chunk's rows. -/
theorem cumsum_apply (x : (⟨3, ![4, 64, 4]⟩ : Shape).Idx → EReal) (init : (⟨0, ![]⟩ : Shape).Idx → EReal)
    (hinit : init ix0 = 0)
    (h : (⟨3, ![4, 64, 4]⟩ : Shape).ReduceWindows (![1, 64, 1] : Fin 3 → ℕ) ![1, 1, 1] ![0, 63, 0] ![0, 0, 0] ⟨3, ![4, 64, 4]⟩)
    (hu : 0 < (⟨0, ![]⟩ : Shape).numel) (b : Fin 4) (t : Fin 64) (hd : Fin 4) :
    Host.reduceWindowAdd (F := Ideal) (φ := .f32) ![1, 64, 1] ![1, 1, 1] ![0, 63, 0] ![0, 0, 0] x init h hu (ix3 b t hd)
      = cum (fun s => x (ix3 b s hd)) t := by
  have hv : init (Shape.Idx.first hu) = 0 := (congrArg init (funext fun a => a.elim0)).trans hinit
  unfold Host.reduceWindowAdd
  rw [Ideal.hostReduceWindowAdd_def, hv]
  unfold Ideal.hostReduceWindowAdd Host.reduceWindow
  refine (foldl_sum _ _ _).trans ?_
  rw [zero_add, ← List.ofFn_eq_map, List.sum_ofFn, ← window_sum,
    ← Equiv.sum_comp (rowsEquiv.trans (⟨3, ![1, 64, 1]⟩ : Shape).rowMajor)]
  refine Finset.sum_congr rfl fun w _ => ?_
  have e : (⟨3, ![1, 64, 1]⟩ : Shape).rowMajor.symm ((rowsEquiv.trans (⟨3, ![1, 64, 1]⟩ : Shape).rowMajor) w) = ix3 (0 : Fin 1) w (0 : Fin 1) :=
    (⟨3, ![1, 64, 1]⟩ : Shape).rowMajor.symm_apply_apply _
  have re : rowsEquiv w = ix3 (0 : Fin 1) w (0 : Fin 1) := rfl
  have ht := t.isLt
  have hw := w.isLt
  have hb := b.isLt
  have hh := hd.isLt
  split_ifs with h1 h2 h2
  · refine congrArg x (funext fun a => Fin.ext ?_)
    fin_cases a
    all_goals simp [e, re]
  · exact absurd (by simpa [e, re] using h1 1) h2
  · refine absurd (fun a => ?_) h1
    fin_cases a
    all_goals simp [e, re]
    all_goals omega
  · rfl

end Cert.Mlstm.Ref

end
-- ==== Proof.MlstmRefStep.lean ====
module

public import proofs.«01_k».proof.Proof.MlstmRefEntry
public import proofs.«01_k».proof.Proof.MlstmRefSum
public import Idealize.ShloMosaic.Lib.WordCmp

/-! One chunk of the reference's scan, at the coordinates of its buffers. -/

@[expose] public section

set_option maxRecDepth 16384

noncomputable section

namespace Cert.Mlstm.Ref

open Idealize.ShloMosaic Idealize.SL.Sem Idealize.ShloMosaic.TcCoe
open Cert.ReferenceIdeal Cert.ReferenceIdeal.Gen Cert.ReferenceIdeal.Value

/-- What the scan holds when chunk `j` is next: the counter, the chunk's inputs, the mask, the state. -/
structure Holds (W : Valuation τ sig (Elt Ideal)) (j : Fin 32) (ch : Fin 4 → Fin 4 → Chunk) (z : Fin 4 → Fin 4 → St) : Prop where
  /-- The counter. -/
  ctr : (W (Proc.devRef .tc main_v36_6) : S_.Idx → BitVec 32) ix0 = BitVec.ofNat 32 j.val
  /-- The queries. -/
  q : ∀ b t h x, (W (Proc.devRef .tc main_v36_0) : S32x4x64x4x256.Idx → EReal) (ix5 j b t h x) = (ch b h).q t x
  /-- The keys. -/
  k : ∀ b t h x, (W (Proc.devRef .tc main_v36_1) : S32x4x64x4x256.Idx → EReal) (ix5 j b t h x) = (ch b h).k t x
  /-- The values. -/
  v : ∀ b t h d, (W (Proc.devRef .tc main_v36_2) : S32x4x64x4x512.Idx → EReal) (ix5 j b t h d) = (ch b h).v t d
  /-- The log input gates. -/
  i : ∀ b t h, (W (Proc.devRef .tc main_v36_3) : S32x4x64x4.Idx → EReal) (ix4 j b t h) = (ch b h).i t
  /-- The log forget gates. -/
  f : ∀ b t h, (W (Proc.devRef .tc main_v36_4) : S32x4x64x4.Idx → EReal) (ix4 j b t h) = (ch b h).f t
  /-- The mask. -/
  mask : ∀ t s, (W (Proc.devRef .tc main_v36_5) : S64x64.Idx → BitVec 1) (ix2 t s) = if s ≤ t then 1#1 else 0#1
  /-- The matrix. -/
  C : ∀ b h x d, (W (Proc.devRef .tc main_v36_7) : S4x4x256x512.Idx → EReal) (ix4 b h x d) = (z b h).C x d
  /-- The normaliser. -/
  n : ∀ b h x, (W (Proc.devRef .tc main_v36_8) : S4x4x256.Idx → EReal) (ix3 b h x) = (z b h).n x
  /-- The stabiliser. -/
  m : ∀ b h, (W (Proc.devRef .tc main_v36_9) : S4x4.Idx → EReal) (ix2 b h) = (z b h).m

/-- A decay put together in either order. -/
theorem decay_assoc (x y w : EReal) : x - y + w = x + (w - y) := by
  rw [sub_eq_add_neg, sub_eq_add_neg, add_assoc, add_comm (-y) w]

/-- The bits of minus infinity. -/
theorem negInf : Ideal.ofBits .f32 0xFF800000#32 = ⊥ := by
  simp [Ideal.ofBits, Ideal.ieee]

/-- The starts of a slice along the chunk axis, rank five. -/
theorem starts5 {j : Fin 32} (w : S_.Idx → BitVec 32) (hw : w ix0 = BitVec.ofNat 32 j.val) : ∀ a : Fin 5,
    ((![w, constantI S_ 32 0#32, constantI S_ 32 0#32, constantI S_ 32 0#32, constantI S_ 32 0#32] : Fin 5 → S_.Idx → BitVec 32) a
      (Shape.Idx.first h_S_)).toInt = ((![j.val, 0, 0, 0, 0] : Fin 5 → ℕ) a : ℤ) := by
  intro a
  have e : w (Shape.Idx.first h_S_) = BitVec.ofNat 32 j.val := (congrArg w (funext fun a => a.elim0)).trans hw
  have e' : (BitVec.ofNat 32 j.val).toInt = (j.val : ℤ) := by
    clear e hw
    revert j
    decide
  fin_cases a
  · exact (congrArg BitVec.toInt e).trans e'
  all_goals rfl

/-- The starts of a slice along the chunk axis, rank four. -/
theorem starts4 {j : Fin 32} (w : S_.Idx → BitVec 32) (hw : w ix0 = BitVec.ofNat 32 j.val) : ∀ a : Fin 4,
    ((![w, constantI S_ 32 0#32, constantI S_ 32 0#32, constantI S_ 32 0#32] : Fin 4 → S_.Idx → BitVec 32) a
      (Shape.Idx.first h_S_)).toInt = ((![j.val, 0, 0, 0] : Fin 4 → ℕ) a : ℤ) := by
  intro a
  have e : w (Shape.Idx.first h_S_) = BitVec.ofNat 32 j.val := (congrArg w (funext fun a => a.elim0)).trans hw
  have e' : (BitVec.ofNat 32 j.val).toInt = (j.val : ℤ) := by
    clear e hw
    revert j
    decide
  fin_cases a
  · exact (congrArg BitVec.toInt e).trans e'
  all_goals rfl

/-- Chunk `j` of the queries or keys lies inside them. -/
theorem fitsQ (j : Fin 32) : S32x4x64x4x256.Slices (![j.val, 0, 0, 0, 0] : Fin 5 → ℕ) S1x4x64x4x256 :=
  ⟨rfl, fun a => by have := j.isLt; fin_cases a <;> simp <;> omega⟩

/-- Chunk `j` of the values or outputs lies inside them. -/
theorem fitsV (j : Fin 32) : S32x4x64x4x512.Slices (![j.val, 0, 0, 0, 0] : Fin 5 → ℕ) S1x4x64x4x512 :=
  ⟨rfl, fun a => by have := j.isLt; fin_cases a <;> simp <;> omega⟩

/-- Chunk `j` of the gates lies inside them. -/
theorem fitsG (j : Fin 32) : S32x4x64x4.Slices (![j.val, 0, 0, 0] : Fin 4 → ℕ) S1x4x64x4 :=
  ⟨rfl, fun a => by have := j.isLt; fin_cases a <;> simp <;> omega⟩

/-- Chunk `j` of the queries or keys, read at its coordinates. -/
theorem sliceQ {j : Fin 32} (x : S32x4x64x4x256.Idx → EReal) (w : S_.Idx → BitVec 32) (hw : w ix0 = BitVec.ofNat 32 j.val)
    (h : S32x4x64x4x256.Slices (fun _ => 0) S1x4x64x4x256) (b : Fin 4) (t : Fin 64) (hd : Fin 4) (e : Fin 256) :
    Host.dynamicSlice S1x4x64x4x256 x (fun k => ((![w, constantI S_ 32 0#32, constantI S_ 32 0#32, constantI S_ 32 0#32, constantI S_ 32 0#32] : Fin 5 → S_.Idx → BitVec 32) k
      (Shape.Idx.first h_S_)).toInt) h (ix5 (0 : Fin 1) b t hd e) = x (ix5 j b t hd e) := by
  rw [WordCmp.dynamicSlice_eq_extract _ x _ h _ (fitsQ j) (starts5 w hw)]
  pointwise

/-- Chunk `j` of the values, read at its coordinates. -/
theorem sliceV {j : Fin 32} (x : S32x4x64x4x512.Idx → EReal) (w : S_.Idx → BitVec 32) (hw : w ix0 = BitVec.ofNat 32 j.val)
    (h : S32x4x64x4x512.Slices (fun _ => 0) S1x4x64x4x512) (b : Fin 4) (t : Fin 64) (hd : Fin 4) (e : Fin 512) :
    Host.dynamicSlice S1x4x64x4x512 x (fun k => ((![w, constantI S_ 32 0#32, constantI S_ 32 0#32, constantI S_ 32 0#32, constantI S_ 32 0#32] : Fin 5 → S_.Idx → BitVec 32) k
      (Shape.Idx.first h_S_)).toInt) h (ix5 (0 : Fin 1) b t hd e) = x (ix5 j b t hd e) := by
  rw [WordCmp.dynamicSlice_eq_extract _ x _ h _ (fitsV j) (starts5 w hw)]
  pointwise

/-- Chunk `j` of the gates, read at its coordinates. -/
theorem sliceG {j : Fin 32} (x : S32x4x64x4.Idx → EReal) (w : S_.Idx → BitVec 32) (hw : w ix0 = BitVec.ofNat 32 j.val)
    (h : S32x4x64x4.Slices (fun _ => 0) S1x4x64x4) (b : Fin 4) (t : Fin 64) (hd : Fin 4) :
    Host.dynamicSlice S1x4x64x4 x (fun k => ((![w, constantI S_ 32 0#32, constantI S_ 32 0#32, constantI S_ 32 0#32] : Fin 4 → S_.Idx → BitVec 32) k
      (Shape.Idx.first h_S_)).toInt) h (ix4 (0 : Fin 1) b t hd) = x (ix4 j b t hd) := by
  rw [WordCmp.dynamicSlice_eq_extract _ x _ h _ (fitsG j) (starts4 w hw)]
  pointwise

/-- The chunk's queries, its leading axis dropped. -/
theorem castQ (x : S1x4x64x4x256.Idx → EReal) (b : Fin 4) (t : Fin 64) (hd : Fin 4) (e : Fin 256) :
    shapeCast S4x64x4x256 x shapeCasts_S1x4x64x4x256_S4x64x4x256 (ix4 b t hd e) = x (ix5 (0 : Fin 1) b t hd e) := by
  pointwise

/-- The chunk's values, their leading axis dropped. -/
theorem castV (x : S1x4x64x4x512.Idx → EReal) (b : Fin 4) (t : Fin 64) (hd : Fin 4) (e : Fin 512) :
    shapeCast S4x64x4x512 x shapeCasts_S1x4x64x4x512_S4x64x4x512 (ix4 b t hd e) = x (ix5 (0 : Fin 1) b t hd e) := by
  pointwise

/-- The chunk's gates, their leading axis dropped. -/
theorem castG (x : S1x4x64x4.Idx → EReal) (b : Fin 4) (t : Fin 64) (hd : Fin 4) :
    shapeCast S4x64x4 x shapeCasts_S1x4x64x4_S4x64x4 (ix3 b t hd) = x (ix4 (0 : Fin 1) b t hd) := by
  pointwise

/-- The outputs with chunk `j` replaced, read at their coordinates. -/
theorem updV {j : Fin 32} (x : S32x4x64x4x512.Idx → EReal) (u : S1x4x64x4x512.Idx → EReal) (w : S_.Idx → BitVec 32)
    (hw : w ix0 = BitVec.ofNat 32 j.val) (h : S32x4x64x4x512.Slices (fun _ => 0) S1x4x64x4x512) (i : Fin 32) (b : Fin 4) (t : Fin 64)
    (hd : Fin 4) (e : Fin 512) :
    Host.dynamicUpdateSlice x u (fun k => ((![w, constantI S_ 32 0#32, constantI S_ 32 0#32, constantI S_ 32 0#32, constantI S_ 32 0#32] : Fin 5 → S_.Idx → BitVec 32) k
      (Shape.Idx.first h_S_)).toInt) h (ix5 i b t hd e) = if i = j then u (ix5 (0 : Fin 1) b t hd e) else x (ix5 i b t hd e) := by
  rw [WordCmp.dynamicUpdateSlice_eq_update x u _ h _ (fitsV j) (starts5 w hw)]
  unfold updateSlice
  have hb := b.isLt
  have ht := t.isLt
  have hh := hd.isLt
  have he := e.isLt
  split_ifs with h1 h2 h2
  · subst h2
    refine congrArg u (funext fun a => Fin.ext ?_)
    fin_cases a <;> simp
  · refine absurd (Fin.ext ?_) h2
    have := h1 0
    simp at this
    omega
  · refine absurd (fun a => ?_) h1
    subst h2
    fin_cases a <;> simp
    all_goals omega
  · rfl

variable {W : Valuation τ sig (Elt Ideal)} {j : Fin 32} {ch : Fin 4 → Fin 4 → Chunk} {z : Fin 4 → Fin 4 → St}
  (H : Holds W j ch z)

include H

/-- The chunk's queries. -/
theorem r65 (b : Fin 4) (t : Fin 64) (h : Fin 4) (x : Fin 256) :
    (res_main_while0b_v65 W : S4x64x4x256.Idx → EReal) (ix4 b t h x) = (ch b h).q t x := by
  unfold res_main_while0b_v65
  exact (castQ _ b t h x).trans ((sliceQ _ _ H.ctr _ b t h x).trans (H.q b t h x))

/-- The chunk's keys. -/
theorem r66 (b : Fin 4) (t : Fin 64) (h : Fin 4) (x : Fin 256) :
    (res_main_while0b_v66 W : S4x64x4x256.Idx → EReal) (ix4 b t h x) = (ch b h).k t x := by
  unfold res_main_while0b_v66
  exact (castQ _ b t h x).trans ((sliceQ _ _ H.ctr _ b t h x).trans (H.k b t h x))

/-- The chunk's values. -/
theorem r67 (b : Fin 4) (t : Fin 64) (h : Fin 4) (d : Fin 512) :
    (res_main_while0b_v67 W : S4x64x4x512.Idx → EReal) (ix4 b t h d) = (ch b h).v t d := by
  unfold res_main_while0b_v67
  exact (castV _ b t h d).trans ((sliceV _ _ H.ctr _ b t h d).trans (H.v b t h d))

/-- The chunk's log input gates. -/
theorem r68 (b : Fin 4) (t : Fin 64) (h : Fin 4) :
    (res_main_while0b_v68 W : S4x64x4.Idx → EReal) (ix3 b t h) = (ch b h).i t := by
  unfold res_main_while0b_v68
  exact (castG _ b t h).trans ((sliceG _ _ H.ctr _ b t h).trans (H.i b t h))

/-- The cumulative log forget gates. -/
theorem r70 (b : Fin 4) (t : Fin 64) (h : Fin 4) :
    (res_main_while0b_v70 W : S4x64x4.Idx → EReal) (ix3 b t h) = cum (ch b h).f t := by
  unfold res_main_while0b_v70
  refine (cumsum_apply _ _ ?_ _ _ b t h).trans (congrArg (fun g => cum g t) (funext fun s => ?_))
  · exact Ideal.ofBits_zero .f32
  · exact (castG _ b s h).trans ((sliceG _ _ H.ctr _ b s h).trans (H.f b s h))

/-- The log decays. -/
theorem r80 (b : Fin 4) (t s : Fin 64) (h : Fin 4) :
    (res_main_while0b_v80 W : S4x64x64x4.Idx → EReal) (ix4 b t s h) = (ch b h).logd t s := by
  unfold res_main_while0b_v80
  simp only [id_eq]
  clean_types
  pointwise
  rw [H.mask, r70 H, r70 H, r68 H]
  unfold Chunk.logd Chunk.a
  split_ifs with hs
  · exact decay_assoc _ _ _
  · exact negInf

/-- The log weight of the carried state. -/
theorem r83 (b : Fin 4) (t : Fin 64) (h : Fin 4) :
    (res_main_while0b_v83 W : S4x64x4.Idx → EReal) (ix3 b t h) = (ch b h).inter (z b h) t := by
  unfold res_main_while0b_v83
  clean_types
  pointwise
  rw [r70 H, H.m]
  rfl

/-- The rows' stabilisers. -/
theorem r85 (b : Fin 4) (t : Fin 64) (h : Fin 4) :
    (res_main_while0b_v85 W : S4x64x4.Idx → EReal) (ix3 b t h) = (ch b h).mt (z b h) t := by
  unfold res_main_while0b_v85
  clean_types
  pointwise
  rw [r83 H, negInf]
  refine congrArg (max _) (congrArg (fun g => Finset.univ.fold max ⊥ g) (funext fun s => ?_))
  exact r80 H b t s h

/-- The stabilised weight of the carried state. -/
theorem r91 (b : Fin 4) (t : Fin 64) (h : Fin 4) :
    (res_main_while0b_v91 W : S4x64x4.Idx → EReal) (ix3 b t h) = (ch b h).wi (z b h) t := by
  unfold res_main_while0b_v91
  clean_types
  pointwise
  rw [r83 H, r85 H]
  rfl

/-- The decayed scores. -/
theorem r94 (b : Fin 4) (t s : Fin 64) (h : Fin 4) :
    (res_main_while0b_v94 W : S4x64x64x4.Idx → EReal) (ix4 b t s h) = (ch b h).sc (z b h) t s := by
  unfold res_main_while0b_v94
  clean_types
  pointwise
  rw [r80 H, r85 H]
  refine congrArg₂ (· * ·) (Finset.sum_congr rfl fun x _ => ?_) rfl
  rw [r66 H, r65 H, mul_comm]

/-- The chunk's whole log decay. -/
theorem r116 (b h : Fin 4) :
    (res_main_while0b_v116 W : S4x4.Idx → EReal) (ix2 b h) = cum (ch b h).f 63 := by
  unfold res_main_while0b_v116
  clean_types
  pointwise
  exact r70 H b 63 h

/-- The log weights of the rows at the chunk's end. -/
theorem r120 (b : Fin 4) (t : Fin 64) (h : Fin 4) :
    (res_main_while0b_v120 W : S4x64x4.Idx → EReal) (ix3 b t h) = cum (ch b h).f 63 + (ch b h).a t := by
  unfold res_main_while0b_v120
  clean_types
  pointwise
  rw [r116 H, r70 H, r68 H]
  exact decay_assoc _ _ _

/-- The stabiliser after the chunk. -/
theorem r123 (b h : Fin 4) :
    (res_main_while0b_v123 W : S4x4.Idx → EReal) (ix2 b h) = (ch b h).mNew (z b h) := by
  unfold res_main_while0b_v123
  clean_types
  pointwise
  rw [r116 H, H.m, negInf]
  refine congrArg (max _) (congrArg (fun g => Finset.univ.fold max ⊥ g) (funext fun s => ?_))
  exact r120 H b s h

/-- The weight the old state keeps. -/
theorem r126 (b h : Fin 4) :
    (res_main_while0b_v126 W : S4x4.Idx → EReal) (ix2 b h) = (ch b h).wc (z b h) := by
  unfold res_main_while0b_v126
  clean_types
  pointwise
  rw [r116 H, H.m, r123 H]
  rfl

/-- The rows' weights at the chunk's end. -/
theorem r130 (b : Fin 4) (t : Fin 64) (h : Fin 4) :
    (res_main_while0b_v130 W : S4x64x4.Idx → EReal) (ix3 b t h) = Ideal.exp (cum (ch b h).f 63 + (ch b h).a t - (ch b h).mNew (z b h)) := by
  unfold res_main_while0b_v130
  clean_types
  pointwise
  rw [r120 H, r123 H]

/-- The matrix after the chunk. -/
theorem s7 (b h : Fin 4) (x : Fin 256) (d : Fin 512) :
    (step_main_v36_7 W : S4x4x256x512.Idx → EReal) (ix4 b h x d) = ((ch b h).step (z b h)).C x d := by
  unfold step_main_v36_7
  simp only [id_eq]
  clean_types
  pointwise
  rw [r126 H, H.C]
  refine congrArg (_ + ·) (Finset.sum_congr rfl fun s _ => ?_)
  rw [r66 H, r130 H, r67 H]
  rfl

/-- The normaliser after the chunk. -/
theorem s8 (b h : Fin 4) (x : Fin 256) :
    (step_main_v36_8 W : S4x4x256.Idx → EReal) (ix3 b h x) = ((ch b h).step (z b h)).n x := by
  unfold step_main_v36_8
  simp only [id_eq]
  clean_types
  pointwise
  rw [r126 H, H.n]
  refine congrArg (_ + ·) (Finset.sum_congr rfl fun s _ => ?_)
  rw [r66 H, r130 H, mul_comm]
  rfl

/-- The stabiliser after the chunk. -/
theorem s9 (b h : Fin 4) :
    (step_main_v36_9 W : S4x4.Idx → EReal) (ix2 b h) = ((ch b h).step (z b h)).m := by
  unfold step_main_v36_9
  exact r123 H b h

/-- The outputs after the chunk: its own rows replaced. -/
theorem s10 (i : Fin 32) (b : Fin 4) (t : Fin 64) (h : Fin 4) (d : Fin 512) :
    (step_main_v36_10 W : S32x4x64x4x512.Idx → EReal) (ix5 i b t h d) =
      if i = j then (ch b h).hc (z b h) t d else (W (Proc.devRef .tc main_v36_10) : S32x4x64x4x512.Idx → EReal) (ix5 i b t h d) := by
  unfold step_main_v36_10
  refine (updV (j := j) _ _ _ H.ctr _ i b t h d).trans ?_
  refine congrArg (fun a => if i = j then a else _) ?_
  clean_types
  pointwise
  rw [r91 H, r85 H]
  unfold Chunk.hc Chunk.num Chunk.den
  rw [zero_sub]
  refine congrArg₂ Ideal.div (congrArg₂ (· + ·) (Finset.sum_congr rfl fun s _ => ?_)
    (congrArg (_ * ·) (Finset.sum_congr rfl fun x _ => ?_)))
    (congrArg (fun a => max (FloatOps.absf (F := Ideal) (φ := .f32) a) _) (congrArg₂ (· + ·) (Finset.sum_congr rfl fun s _ => ?_)
    (congrArg (_ * ·) (Finset.sum_congr rfl fun x _ => ?_))))
  · rw [r67 H, r94 H, mul_comm]
  · rw [H.C, r65 H, mul_comm]
  · exact r94 H b t s h
  · rw [H.n, r65 H, mul_comm]

end Cert.Mlstm.Ref

end
-- ==== Proof.MlstmRef.lean ====
module

public import proofs.«01_k».proof.Proof.MlstmRefStep

/-! The reference's results as functions of its arguments. -/

@[expose] public section

set_option maxRecDepth 16384

noncomputable section

namespace Cert.Mlstm.Ref

open Idealize.ShloMosaic Idealize.SL.Sem Idealize.ShloMosaic.TcCoe
open Cert.ReferenceIdeal Cert.ReferenceIdeal.Gen Cert.ReferenceIdeal.Value

/-- The scan's outputs in its buffers. -/
def oB (X : Valuation τ sig (Elt Ideal)) (j : Fin 32) (b : Fin 4) (t : Fin 64) (h : Fin 4) (d : Fin 512) : EReal :=
  (X (Proc.devRef .tc main_v36_10) : S32x4x64x4x512.Idx → EReal) (ix5 j b t h d)

/-- The norm weights in their buffer. -/
def wB (X : Valuation τ sig (Elt Ideal)) (x : Fin 2048) : EReal :=
  (X (Proc.devRef .tc main_arg3) : S2048.Idx → EReal) (ix1 x)

/-- The gate logits in their buffer. -/
def gB (X : Valuation τ sig (Elt Ideal)) (b : Fin 4) (r x : Fin 2048) : EReal :=
  (X (Proc.devRef .tc main_v3) : S4x2048x2048.Idx → EReal) (ix3 b r x)

/-- The output after the scan: the norm, its weights and the sigmoid gate. -/
theorem post62 (X : Valuation τ sig (Elt Ideal)) (b : Fin 4) (r x : Fin 2048) :
    (StableHlo.after hostOps0_5 X (Proc.devRef .tc main_v62) : S4x2048x2048.Idx → EReal) (ix3 b r x)
      = oB X ⟨r.val / 64, by omega⟩ b ⟨r.val % 64, by omega⟩ ⟨x.val / 512, by omega⟩ ⟨x.val % 512, by omega⟩
        * Ideal.rsqrt (Ideal.div (∑ e : Fin 512,
            oB X ⟨r.val / 64, by omega⟩ b ⟨r.val % 64, by omega⟩ ⟨x.val / 512, by omega⟩ e
            * oB X ⟨r.val / 64, by omega⟩ b ⟨r.val % 64, by omega⟩ ⟨x.val / 512, by omega⟩ e)
            (Ideal.ofBits .f32 0x44000000#32) + Ideal.ofBits .f32 0x358637BD#32)
        * wB X ⟨x.val / 512 * 512 + x.val % 512, by omega⟩
        * Ideal.div 1 (1 + Ideal.exp (-gB X b r ⟨x.val / 512 * 512 + x.val % 512, by omega⟩)) := by
  after_reads_at
  all_goals rfl

/-- The final normalisers, reshaped. -/
theorem post63 (X : Valuation τ sig (Elt Ideal)) (b h : Fin 4) (x : Fin 256) :
    (StableHlo.after hostOps0_5 X (Proc.devRef .tc main_v63) : S4x4x1x256.Idx → EReal) (ix4 b h (0 : Fin 1) x)
      = (X (Proc.devRef .tc main_v36_8) : S4x4x256.Idx → EReal) (ix3 b h x) := by
  after_reads_at
  all_goals rfl

/-- The final stabilisers, reshaped. -/
theorem post64 (X : Valuation τ sig (Elt Ideal)) (b h : Fin 4) :
    (StableHlo.after hostOps0_5 X (Proc.devRef .tc main_v64) : S4x4x1x1.Idx → EReal) (ix4 b h (0 : Fin 1) (0 : Fin 1))
      = (X (Proc.devRef .tc main_v36_9) : S4x4.Idx → EReal) (ix2 b h) := by
  after_reads_at
  all_goals rfl

/-- The final matrices are not touched after the scan. -/
theorem post7 (X : Valuation τ sig (Elt Ideal)) :
    StableHlo.after hostOps0_5 X (Proc.devRef .tc main_v36_7) = X (Proc.devRef .tc main_v36_7) := by
  after_reads_simp

/-- A buffer that the scan's body and condition do not write. -/
def Kept (r : Ref sig .tc) : Prop :=
  r ≠ main_while0c_c_20 ∧ r ≠ main_while0c_v65 ∧ r ∉ while0Ops0_W ∧ r ∉ while0Ops0_1_W ∧ r ∉ while0Ops0_2_W ∧ r ∉ while0Ops0_3_W ∧ r ∉ while0Ops0_4_W ∧ r ∉ while0Ops0_5_W ∧ r ∉ while0Ops0_6_W ∧ r ∉ while0Ops0_7_W ∧ r ∉ while0Ops0_8_W ∧ r ∉ while0Ops0_9_W ∧ r ∉ while0Ops0_10_W

/-- The condition leaves such a buffer alone. -/
theorem cond_kept (X : Valuation τ sig (Elt Ideal)) {r : Ref sig .tc} (h : Kept r) :
    StableHlo.after condOps X (Proc.devRef .tc r) = X (Proc.devRef .tc r) := by
  refine StableHlo.after_of_forall_not_mem condOps X fun op hop => ?_
  fin_cases hop
  · exact fun hh => StableHlo.devRef_ne_of_ne h.1 (Finset.mem_singleton.mp hh)
  · exact fun hh => StableHlo.devRef_ne_of_ne h.2.1 (Finset.mem_singleton.mp hh)

/-- One chunk leaves such a buffer alone. -/
theorem trip_kept (X : Valuation τ sig (Elt Ideal)) {r : Ref sig .tc} (h : Kept r) :
    StableHlo.afterL bodyI (StableHlo.after condOps X) (Proc.devRef .tc r) = X (Proc.devRef .tc r) := by
  obtain ⟨h1, h2, g0, g1, g2, g3, g4, g5, g6, g7, g8, g9, g10⟩ := h
  simp only [bodyI, StableHlo.afterL_cons, StableHlo.afterL_nil]
  rw [StableHlo.after_of_writes_sub while0Ops0_10 _ while0Ops0_10_writes g10, StableHlo.after_of_writes_sub while0Ops0_9 _ while0Ops0_9_writes g9, StableHlo.after_of_writes_sub while0Ops0_8 _ while0Ops0_8_writes g8, StableHlo.after_of_writes_sub while0Ops0_7 _ while0Ops0_7_writes g7, StableHlo.after_of_writes_sub while0Ops0_6 _ while0Ops0_6_writes g6, StableHlo.after_of_writes_sub while0Ops0_5 _ while0Ops0_5_writes g5, StableHlo.after_of_writes_sub while0Ops0_4 _ while0Ops0_4_writes g4, StableHlo.after_of_writes_sub while0Ops0_3 _ while0Ops0_3_writes g3, StableHlo.after_of_writes_sub while0Ops0_2 _ while0Ops0_2_writes g2, StableHlo.after_of_writes_sub while0Ops0_1 _ while0Ops0_1_writes g1, StableHlo.after_of_writes_sub while0Ops0 _ while0Ops0_writes g0]
  exact cond_kept X ⟨h1, h2, g0, g1, g2, g3, g4, g5, g6, g7, g8, g9, g10⟩

variable (m : (ℓ : Loc nD τ sig) → Buf (Elt Ideal) ℓ) (c : Dev nD)

/-- The whole scan leaves such a buffer alone. -/
theorem loop_kept {r : Ref sig .tc} (h : Kept r) : ∀ k, atK m k c (Proc.devRef .tc r) = E m c (Proc.devRef .tc r)
  | 0 => rfl
  | k + 1 => (trip_kept (atK m k c) h).trans (loop_kept h k)

/-- The gate logits are kept. -/
theorem kept_v3 : Kept main_v3 := by unfold Kept; decide

/-- The norm weights are kept. -/
theorem kept_arg3 : Kept main_arg3 := by unfold Kept; decide

/-- The gate logits before the scan. -/
theorem Ev3 (b : Fin 4) (r x : Fin 2048) :
    (E m c (Proc.devRef .tc main_v3) : S4x2048x2048.Idx → EReal) (ix3 b r x) = (rArgs m c).y b r ⟨4096 + x.val, by omega⟩ := by
  unfold E
  simp only [StableHlo.entryContents, StableHlo.afterL, preI]
  after_reads_at
  all_goals rfl

/-- The norm weights before the scan. -/
theorem Earg3 (x : Fin 2048) :
    (E m c (Proc.devRef .tc main_arg3) : S2048.Idx → EReal) (ix1 x) = (rArgs m c).hn x := by
  unfold E
  simp only [StableHlo.entryContents, StableHlo.afterL, preI]
  after_reads_at
  all_goals rfl

/-- What the scan holds before chunk `k`, over the arguments `a`. -/
structure ScanInv (a : Args) (W : Valuation τ sig (Elt Ideal)) (k : ℕ) : Prop where
  /-- The counter. -/
  ctr : (W (Proc.devRef .tc main_v36_6) : S_.Idx → BitVec 32) ix0 = BitVec.ofNat 32 k
  /-- The queries. -/
  q : ∀ j b t h x, (W (Proc.devRef .tc main_v36_0) : S32x4x64x4x256.Idx → EReal) (ix5 j b t h x) = (a.chunk b h j.val).q t x
  /-- The keys. -/
  ks : ∀ j b t h x, (W (Proc.devRef .tc main_v36_1) : S32x4x64x4x256.Idx → EReal) (ix5 j b t h x) = (a.chunk b h j.val).k t x
  /-- The values. -/
  v : ∀ j b t h d, (W (Proc.devRef .tc main_v36_2) : S32x4x64x4x512.Idx → EReal) (ix5 j b t h d) = (a.chunk b h j.val).v t d
  /-- The log input gates. -/
  i : ∀ j b t h, (W (Proc.devRef .tc main_v36_3) : S32x4x64x4.Idx → EReal) (ix4 j b t h) = (a.chunk b h j.val).i t
  /-- The log forget gates. -/
  f : ∀ j b t h, (W (Proc.devRef .tc main_v36_4) : S32x4x64x4.Idx → EReal) (ix4 j b t h) = (a.chunk b h j.val).f t
  /-- The mask. -/
  mask : ∀ t s, (W (Proc.devRef .tc main_v36_5) : S64x64.Idx → BitVec 1) (ix2 t s) = if s ≤ t then 1#1 else 0#1
  /-- The matrix. -/
  C : ∀ b h x d, (W (Proc.devRef .tc main_v36_7) : S4x4x256x512.Idx → EReal) (ix4 b h x d) = (a.st b h k).C x d
  /-- The normaliser. -/
  n : ∀ b h x, (W (Proc.devRef .tc main_v36_8) : S4x4x256.Idx → EReal) (ix3 b h x) = (a.st b h k).n x
  /-- The stabiliser. -/
  m : ∀ b h, (W (Proc.devRef .tc main_v36_9) : S4x4.Idx → EReal) (ix2 b h) = (a.st b h k).m
  /-- The outputs of the chunks done. -/
  o : ∀ (j : Fin 32) b t h d, j.val < k → (W (Proc.devRef .tc main_v36_10) : S32x4x64x4x512.Idx → EReal) (ix5 j b t h d)
    = (a.chunk b h j.val).hc (a.st b h j.val) t d

/-- The next chunk's part of it. -/
theorem ScanInv.holds {a : Args} {W : Valuation τ sig (Elt Ideal)} {j : Fin 32} (I : ScanInv a W j.val) :
    Holds W j (fun b h => a.chunk b h j.val) (fun b h => a.st b h j.val) where
  ctr := I.ctr
  q b t h x := I.q j b t h x
  k b t h x := I.ks j b t h x
  v b t h d := I.v j b t h d
  i b t h := I.i j b t h
  f b t h := I.f j b t h
  mask := I.mask
  C b h x d := I.C b h x d
  n b h x := I.n b h x
  m b h := I.m b h

/-- One chunk keeps it. -/
theorem ScanInv.next {a : Args} {W : Valuation τ sig (Elt Ideal)} {k : ℕ} (hk : k < 32) (I : ScanInv a W k) : ScanInv a (STEP W) (k + 1) where
  ctr := by
    rw [STEP_main_v36_6]
    refine (congrArg (fun w : BitVec 32 => w + 1#32) I.ctr).trans ?_
    rw [← BitVec.ofNat_add_ofNat]
  q j b t h x := by rw [STEP_main_v36_0]; exact I.q j b t h x
  ks j b t h x := by rw [STEP_main_v36_1]; exact I.ks j b t h x
  v j b t h d := by rw [STEP_main_v36_2]; exact I.v j b t h d
  i j b t h := by rw [STEP_main_v36_3]; exact I.i j b t h
  f j b t h := by rw [STEP_main_v36_4]; exact I.f j b t h
  mask := by rw [STEP_main_v36_5]; exact I.mask
  C b h x d := by rw [STEP_main_v36_7]; exact s7 (ScanInv.holds (j := ⟨k, hk⟩) I) b h x d
  n b h x := by rw [STEP_main_v36_8]; exact s8 (ScanInv.holds (j := ⟨k, hk⟩) I) b h x
  m b h := by rw [STEP_main_v36_9]; exact s9 (ScanInv.holds (j := ⟨k, hk⟩) I) b h
  o j b t h d hj := by
    rw [STEP_main_v36_10]
    refine (s10 (ScanInv.holds (j := ⟨k, hk⟩) I) j b t h d).trans ?_
    by_cases e : j = ⟨k, hk⟩
    · rw [if_pos e]
      subst e
      rfl
    · rw [if_neg e]
      exact I.o j b t h d (by have : j.val ≠ k := fun hh => e (Fin.ext hh); omega)

/-- A chunk's row within its sequence, as the reference lays it out. -/
theorem row_eq (j : Fin 32) (t : Fin 64) (h : j.val * 64 + t.val < 2048) : (⟨j.val * 64 + t.val, h⟩ : Fin 2048) = seqRow j.val t :=
  Fin.ext (by show j.val * 64 + t.val = (64 * j.val + t.val) % 2048; omega)

/-- It holds before the first chunk. -/
theorem inv_zero : ScanInv (rArgs m c) (E m c) 0 where
  ctr := E6 m c
  q j b t h x := by
    rw [E0, row_eq]
    exact congrArg (fun y => (rArgs m c).y b (seqRow j.val t) y * Ideal.ofBits .f32 0x3D800000#32) (Fin.ext (by show h.val * 256 + x.val = 256 * h.val + x.val; omega))
  ks j b t h x := by
    rw [E1, row_eq]
    exact congrArg ((rArgs m c).y b (seqRow j.val t)) (Fin.ext (by show 1024 + (h.val * 256 + x.val) = 1024 + (256 * h.val + x.val); omega))
  v j b t h d := by
    rw [E2, row_eq]
    exact congrArg ((rArgs m c).y b (seqRow j.val t)) (Fin.ext (by show 2048 + (h.val * 512 + d.val) = 2048 + (512 * h.val + d.val); omega))
  i j b t h := by rw [E3, row_eq]; rfl
  f j b t h := by rw [E4, row_eq]; rfl
  mask := E5 m c
  C b h x d := E7 m c b h x d
  n b h x := E8 m c b h x
  m b h := E9 m c b h
  o j b t h d hj := absurd hj (Nat.not_lt_zero _)

/-- It holds before every chunk and after the last. -/
theorem inv_at : ∀ k ≤ 32, ScanInv (rArgs m c) (STEP^[k] (E m c)) k
  | 0, _ => inv_zero m c
  | k + 1, hk => by
    rw [Function.iterate_succ_apply']
    exact (inv_at k (by omega)).next (by omega)

/-- The buffers after the scan. -/
def X : Valuation τ sig (Elt Ideal) := StableHlo.after condOps (atK m 32 c)

/-- The carried buffers after the scan. -/
theorem X_carried (r : Ref sig .tc) (h : r ∈ carriedRefs) : X m c (Proc.devRef .tc r) = (STEP^[32] (E m c)) (Proc.devRef .tc r) :=
  (cond_keeps (atK m 32 c) r h).trans (atK_agree m c 32 r h)

/-- A buffer kept by the scan. -/
theorem X_kept {r : Ref sig .tc} (h : Kept r) : X m c (Proc.devRef .tc r) = E m c (Proc.devRef .tc r) :=
  (cond_kept (atK m 32 c) h).trans (loop_kept m c h 32)

/-- The reference's buffers at its end. -/
def Z : Valuation τ sig (Elt Ideal) := StableHlo.finalContents condOps preI bodyI postI 32 m c

/-- The reference ends with the operations after the scan. -/
theorem Z_eq : Z m c = StableHlo.after hostOps0_5 (X m c) := rfl

/-- The outputs after the scan. -/
theorem X10 (j : Fin 32) (b : Fin 4) (t : Fin 64) (h : Fin 4) (d : Fin 512) :
    oB (X m c) j b t h d
      = ((rArgs m c).chunk b h j.val).hc ((rArgs m c).st b h j.val) t d := by
  unfold oB
  rw [X_carried m c main_v36_10 (by decide)]
  exact (inv_at m c 32 le_rfl).o j b t h d j.isLt

/-- The reference's output. -/
theorem Z62 (b : Fin 4) (r x : Fin 2048) :
    (Z m c (Proc.devRef .tc main_v62) : S4x2048x2048.Idx → EReal) (ix3 b r x) = (rArgs m c).res b r x := by
  rw [Z_eq]
  refine (post62 (X m c) b r x).trans ?_
  have hg : gB (X m c) b r ⟨x.val / 512 * 512 + x.val % 512, by omega⟩
      = (rArgs m c).gate b ⟨x.val / 512, by omega⟩ (r.val / 64) ⟨r.val % 64, by omega⟩ ⟨x.val % 512, by omega⟩ := by
    unfold gB
    rw [X_kept m c kept_v3]
    refine (Ev3 m c b r _).trans ?_
    unfold Args.gate
    refine congrArg₂ ((rArgs m c).y b) (Fin.ext ?_) (Fin.ext ?_)
    · show r.val = (64 * (r.val / 64) + r.val % 64) % 2048
      omega
    · show 4096 + (x.val / 512 * 512 + x.val % 512) = 4096 + (512 * (x.val / 512) + x.val % 512)
      omega
  have hw : wB (X m c) ⟨x.val / 512 * 512 + x.val % 512, by omega⟩
      = (rArgs m c).nw ⟨x.val / 512, by omega⟩ ⟨x.val % 512, by omega⟩ := by
    unfold wB
    rw [X_kept m c kept_arg3]
    refine (Earg3 m c _).trans ?_
    unfold Args.nw
    exact congrArg (rArgs m c).hn (Fin.ext (by show x.val / 512 * 512 + x.val % 512 = 512 * (x.val / 512) + x.val % 512; omega))
  rw [hg, hw]
  simp only [X10]
  rfl

/-- The reference's final matrices. -/
theorem Z7 (b h : Fin 4) (x : Fin 256) (d : Fin 512) :
    (Z m c (Proc.devRef .tc main_v36_7) : S4x4x256x512.Idx → EReal) (ix4 b h x d) = ((rArgs m c).st b h 32).C x d := by
  rw [Z_eq, post7, X_carried m c main_v36_7 (by decide)]
  exact (inv_at m c 32 le_rfl).C b h x d

/-- The reference's final normalisers. -/
theorem Z63 (b h : Fin 4) (x : Fin 256) :
    (Z m c (Proc.devRef .tc main_v63) : S4x4x1x256.Idx → EReal) (ix4 b h (0 : Fin 1) x) = ((rArgs m c).st b h 32).n x := by
  rw [Z_eq]
  refine (post63 (X m c) b h x).trans ?_
  rw [X_carried m c main_v36_8 (by decide)]
  exact (inv_at m c 32 le_rfl).n b h x

/-- The reference's final stabilisers. -/
theorem Z64 (b h : Fin 4) :
    (Z m c (Proc.devRef .tc main_v64) : S4x4x1x1.Idx → EReal) (ix4 b h (0 : Fin 1) (0 : Fin 1)) = ((rArgs m c).st b h 32).m := by
  rw [Z_eq]
  refine (post64 (X m c) b h).trans ?_
  rw [X_carried m c main_v36_9 (by decide)]
  exact (inv_at m c 32 le_rfl).m b h

end Cert.Mlstm.Ref

end
-- ==== Proof.MlstmRefFrame.lean ====
module

public import proofs.«01_k».proof.Proof.MlstmRef
public import proofs.«01_k».proof.Proof.MlstmKernel
public import Idealize.ShloMosaic.Lib.Quiescent

/-! What the reference leaves in memory at its end: its arguments as they were, its results as the common functions of them. -/

@[expose] public section

set_option maxRecDepth 16384

noncomputable section

namespace Cert.Mlstm.Ref

open Idealize.ShloMosaic Idealize.SL.Sem Idealize.ShloMosaic.TcCoe
open Cert.ReferenceIdeal Cert.ReferenceIdeal.Gen Cert.ReferenceIdeal.Value

variable (m : (ℓ : Loc nD τ sig) → Buf (Elt Ideal) ℓ) (c : Dev nD)

/-- The scan leaves argument 0 alone. -/
theorem kept_arg0 : Kept main_arg0 := by unfold Kept; decide

/-- The operations before the scan leave argument 0 alone. -/
theorem E_arg0 : E m c (Proc.devRef .tc main_arg0) = m (c, Proc.devRef .tc main_arg0) := by
  unfold E
  simp only [StableHlo.entryContents, StableHlo.afterL, preI]
  after_reads_simp

/-- Argument 0 ends as it began. -/
theorem Z_arg0 : Z m c (Proc.devRef .tc main_arg0) = m (c, Proc.devRef .tc main_arg0) := by
  rw [Z_eq]
  refine Eq.trans ?_ ((X_kept m c kept_arg0).trans (E_arg0 m c))
  after_reads_simp

/-- The scan leaves argument 1 alone. -/
theorem kept_arg1 : Kept main_arg1 := by unfold Kept; decide

/-- The operations before the scan leave argument 1 alone. -/
theorem E_arg1 : E m c (Proc.devRef .tc main_arg1) = m (c, Proc.devRef .tc main_arg1) := by
  unfold E
  simp only [StableHlo.entryContents, StableHlo.afterL, preI]
  after_reads_simp

/-- Argument 1 ends as it began. -/
theorem Z_arg1 : Z m c (Proc.devRef .tc main_arg1) = m (c, Proc.devRef .tc main_arg1) := by
  rw [Z_eq]
  refine Eq.trans ?_ ((X_kept m c kept_arg1).trans (E_arg1 m c))
  after_reads_simp

/-- The scan leaves argument 2 alone. -/
theorem kept_arg2 : Kept main_arg2 := by unfold Kept; decide

/-- The operations before the scan leave argument 2 alone. -/
theorem E_arg2 : E m c (Proc.devRef .tc main_arg2) = m (c, Proc.devRef .tc main_arg2) := by
  unfold E
  simp only [StableHlo.entryContents, StableHlo.afterL, preI]
  after_reads_simp

/-- Argument 2 ends as it began. -/
theorem Z_arg2 : Z m c (Proc.devRef .tc main_arg2) = m (c, Proc.devRef .tc main_arg2) := by
  rw [Z_eq]
  refine Eq.trans ?_ ((X_kept m c kept_arg2).trans (E_arg2 m c))
  after_reads_simp

/-- The operations before the scan leave argument 3 alone. -/
theorem E_arg3 : E m c (Proc.devRef .tc main_arg3) = m (c, Proc.devRef .tc main_arg3) := by
  unfold E
  simp only [StableHlo.entryContents, StableHlo.afterL, preI]
  after_reads_simp

/-- Argument 3 ends as it began. -/
theorem Z_arg3 : Z m c (Proc.devRef .tc main_arg3) = m (c, Proc.devRef .tc main_arg3) := by
  rw [Z_eq]
  refine Eq.trans ?_ ((X_kept m c kept_arg3).trans (E_arg3 m c))
  after_reads_simp

/-- The layer's outputs as one array. -/
theorem Z62_eq : (Z m c (Proc.devRef .tc main_v62) : S4x2048x2048.Idx → EReal) = gO (rArgs m c) := by
  refine funext fun (y : S4x2048x2048.Idx) => ?_
  obtain ⟨b, r, x, rfl⟩ : ∃ (b : Fin 4) (r x : Fin 2048), y = ix3 b r x := ⟨y 0, y 1, y 2, eq_ix3_of rfl rfl rfl⟩
  exact Z62 m c b r x

/-- The final matrices as one array. -/
theorem Z7_eq : (Z m c (Proc.devRef .tc main_v36_7) : S4x4x256x512.Idx → EReal) = gC (rArgs m c) := by
  refine funext fun (y : S4x4x256x512.Idx) => ?_
  obtain ⟨b, h, x, d, rfl⟩ : ∃ (b h : Fin 4) (x : Fin 256) (d : Fin 512), y = ix4 b h x d :=
    ⟨y 0, y 1, y 2, y 3, eq_ix4_of rfl rfl rfl rfl⟩
  exact Z7 m c b h x d

/-- The final normalisers as one array. -/
theorem Z63_eq : (Z m c (Proc.devRef .tc main_v63) : S4x4x1x256.Idx → EReal) = gN (rArgs m c) := by
  refine funext fun (y : S4x4x1x256.Idx) => ?_
  obtain ⟨b, h, x, rfl⟩ : ∃ (b h : Fin 4) (x : Fin 256), y = ix4 b h (0 : Fin 1) x :=
    ⟨y 0, y 1, y 3, eq_ix4_of rfl rfl (Fin.fin_one_eq_zero _) rfl⟩
  exact Z63 m c b h x

/-- The final stabilisers as one array. -/
theorem Z64_eq : (Z m c (Proc.devRef .tc main_v64) : S4x4x1x1.Idx → EReal) = gM (rArgs m c) := by
  refine funext fun (y : S4x4x1x1.Idx) => ?_
  obtain ⟨b, h, rfl⟩ : ∃ (b h : Fin 4), y = ix4 b h (0 : Fin 1) (0 : Fin 1) :=
    ⟨y 0, y 1, eq_ix4_of rfl rfl (Fin.fin_one_eq_zero _) (Fin.fin_one_eq_zero _)⟩
  exact Z64 m c b h

variable (ρ : Dev nD → PrngReg)

/-- The reference runs, ends with the common functions of its arguments as results and leaves its arguments alone. -/
theorem run_all : θ_run defs (onTc (τ := τ) (main (F := Ideal))) ⟨m, fun _ => 0, ρ⟩ fun r => ∀ c : Dev nD,
      r.2.mem ((c : Thread nD τ).loc main_v62) = gO (rArgs m c)
      ∧ r.2.mem ((c : Thread nD τ).loc main_v36_7) = gC (rArgs m c)
      ∧ r.2.mem ((c : Thread nD τ).loc main_v63) = gN (rArgs m c)
      ∧ r.2.mem ((c : Thread nD τ).loc main_v64) = gM (rArgs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c main_v62 rfl).trans (Z62_eq m c),
      (h c main_v36_7 rfl).trans (Z7_eq m c),
      (h c main_v63 rfl).trans (Z63_eq m c),
      (h c main_v64 rfl).trans (Z64_eq m c),
      (h c main_arg0 rfl).trans (Z_arg0 m c),
      (h c main_arg1 rfl).trans (Z_arg1 m c),
      (h c main_arg2 rfl).trans (Z_arg2 m c),
      (h c main_arg3 rfl).trans (Z_arg3 m c)⟩)
    (run_fold m ρ)

/-- The reference runs, leaves its arguments alone and ends with every counter at zero: it has no counters. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2.2, sem_eq_zero_of_no_sems (by decide) r.2⟩) (run_all m ρ)

end Cert.Mlstm.Ref

end
-- ==== Proof.SwigluFrame.lean ====
module

public import proofs.«01_k».proof.Proof.Gen.Kernel2Ideal.Skeleton
public import proofs.«01_k».proof.Proof.Gen.Kernel2Ideal.Frame
public import Idealize.ShloMosaic.Lib.Claim

/-! The gated product's kernel runs, whatever the number type: what each grid point leaves in the two output buffers, and
that the arguments end as they were. The small batch's block is stored at the first 43 points only; afterwards its buffer
keeps the last of those blocks until the last point writes it back once more. -/

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole weight block. -/
abbrev rW : Rect S1x4096x256 := Rect.unit (s := S1x4096x256) ![0, 0, 0] S1x4096x256.size inb_S1x4096x256_S1x4096x256_0_0_0
/-- A whole block of rows. -/
abbrev rX : Rect S1024x4096 := Rect.unit (s := S1024x4096) ![0, 0] S1024x4096.size inb_S1024x4096_S1024x4096_0_0
/-- All rows of the small batch. -/
abbrev rS : Rect S32x4096 := Rect.unit (s := S32x4096) ![0, 0] S32x4096.size inb_S32x4096_S32x4096_0_0
/-- A whole output block. -/
abbrev rO : Rect S1024x256 := Rect.unit (s := S1024x256) ![0, 0] S1024x256.size inb_S1024x256_S1024x256_0_0
/-- A whole output block of the small batch. -/
abbrev rT : Rect S32x256 := Rect.unit (s := S32x256) ![0, 0] S32x256.size inb_S32x256_S32x256_0_0

/-- The output block a point stores. -/
def outP (x : Vec F S1024x4096 .bf16) (g u : Vec F S1x4096x256 .f32) : Vec F S1024x256 .bf16 :=
  View.canon [⟨rO, k0_pay3 (View.ld g rW) (View.ld u rW) (View.ld x rX)⟩]

/-- The output block of the small batch a point stores. -/
def outS (x : Vec F S32x4096 .bf16) (g u : Vec F S1x4096x256 .f32) : Vec F S32x256 .bf16 :=
  View.canon [⟨rT, k0_pay4 (View.ld g rW) (View.ld u rW) (View.ld x rS)⟩]

/-- The store covers the output block. -/
theorem coverP (p : Vec F S1024x256 .bf16) (y : S1024x256.Idx) :
    ∃ pc ∈ ([⟨rO, p⟩] : List (View.Piece (Elt F) S1024x256 .bf16)), y ∈ pc.1.set :=
  View.cover_of_tiled [⟨rO, p⟩] S1024x256.size (by rfl) y

/-- The store covers the small batch's output block. -/
theorem coverS (p : Vec F S32x256 .bf16) (y : S32x256.Idx) :
    ∃ pc ∈ ([⟨rT, p⟩] : List (View.Piece (Elt F) S32x256 .bf16)), y ∈ pc.1.set :=
  View.cover_of_tiled [⟨rT, p⟩] S32x256.size (by rfl) y

set_option maxHeartbeats 2000000 in
/-- The body where both outputs are stored. -/
theorem sound_first (c : Dev nD) (E : Set ℕ) (i : grid0.Coords) (hi : k0_cond1 i = 1#1)
    (arg2 : Memref sig .tc .vmem S1024x4096 .bf16) (harg2 : arg2.IsWhole) (arg3 : Memref sig .tc .vmem S32x4096 .bf16) (harg3 : arg3.IsWhole)
    (arg4 : Memref sig .tc .vmem S1x4096x256 .f32) (harg4 : arg4.IsWhole) (arg5 : Memref sig .tc .vmem S1x4096x256 .f32) (harg5 : arg5.IsWhole)
    (arg6 : Memref sig .tc .vmem S1024x256 .bf16) (harg6 : arg6.IsWhole) (arg7 : Memref sig .tc .vmem S32x256 .bf16) (harg7 : arg7.IsWhole)
    (x0 : Vec F S1024x4096 .bf16) (x1 : Vec F S32x4096 .bf16) (x2 x3 : Vec F S1x4096x256 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare (outP x0 x2 x3) ∗ owns (c : Thread nD τ) arg7 fullShare (outS x1 x2 x3)) -∗ K ⟨⟩))
      ⊢ wp frame (wpE (defs₀ (F := F)) Variants.none c none) E (cc0_swiglu i arg2 harg2 arg3 harg3 arg4 harg4 arg5 harg5 arg6 harg6 arg7 harg7) K := by
  simp only [cc0_swiglu_eq_skeleton]; unfold cc0_swiglu_skel
  simp only [dif_pos hi]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverP _)
  iexists _; isplitr
  swap; · iexact H5
  ipureintro
  exact View.read_writes_eq_canon _ _ _ (coverS _)

set_option maxHeartbeats 2000000 in
/-- The body where only the large output is stored: the small batch's buffer is not touched. -/
theorem sound_later (c : Dev nD) (E : Set ℕ) (i : grid0.Coords) (hi : ¬k0_cond1 i = 1#1)
    (arg2 : Memref sig .tc .vmem S1024x4096 .bf16) (harg2 : arg2.IsWhole) (arg3 : Memref sig .tc .vmem S32x4096 .bf16) (harg3 : arg3.IsWhole)
    (arg4 : Memref sig .tc .vmem S1x4096x256 .f32) (harg4 : arg4.IsWhole) (arg5 : Memref sig .tc .vmem S1x4096x256 .f32) (harg5 : arg5.IsWhole)
    (arg6 : Memref sig .tc .vmem S1024x256 .bf16) (harg6 : arg6.IsWhole) (arg7 : Memref sig .tc .vmem S32x256 .bf16) (harg7 : arg7.IsWhole)
    (x0 : Vec F S1024x4096 .bf16) (x2 x3 : Vec F S1x4096x256 .f32) (K : PUnit → sProp 𝕄) :
    iprop(owns (c : Thread nD τ) arg2 fullShare x0
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0
          ∗ owns (c : Thread nD τ) arg4 fullShare x2 ∗ owns (c : Thread nD τ) arg5 fullShare x3
          ∗ owns (c : Thread nD τ) arg6 fullShare (outP x0 x2 x3)) -∗ K ⟨⟩))
      ⊢ wp frame (wpE (defs₀ (F := F)) Variants.none c none) E (cc0_swiglu i arg2 harg2 arg3 harg3 arg4 harg4 arg5 harg5 arg6 harg6 arg7 harg7) K := by
  simp only [cc0_swiglu_eq_skeleton]; unfold cc0_swiglu_skel
  simp only [dif_neg hi]
  unfold owns
  iintro ⟨⟨%f0, %hf0, H0⟩, ⟨%f2, %hf2, H2⟩, ⟨%f3, %hf3, H3⟩, ⟨%d4, %f4, -, H4⟩, Hk⟩
  subst hf0 hf2 hf3
  sl_exec
  sl_step
  iapply Hk
  isplitl [H0]
  · iexists f0; isplitr; · ipureintro; rfl
    iexact H0
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverP _)

/-- The small batch's buffer after each point: the block stored there, from the last such point on kept. -/
def keptAt (t : Fin cfg0.N) : Fin cfg0.N := ⟨min t.val 42, lt_of_le_of_lt (min_le_left _ _) t.isLt⟩

/-- The proof data: the arrays as launched, each input's buffer at its block, the large output's at what the point stores and
the small batch's at what the last of the first 43 points so far stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outP (iblk m c 0 t) (iblk m c 2 t) (iblk m c 3 t)
    | ⟨5, _⟩ => outS (iblk m c 1 (keptAt t)) (iblk m c 2 (keptAt t)) (iblk m c 3 (keptAt t))
  Φ _ := Pipeline.ΦA spec0 c
  q _ := fullShare
  owed _ := 0

/-- The proof data's arrays are the arrays as launched. -/
theorem A_eq (c : Dev nD) (w : Fin cfg0.W) : (dats m 0 c).A w = V m c (Pipeline.arrRef spec0 w) := by
  dsimp only [dats]

/-- What the body leaves in each window's buffer. -/
theorem after0 (c : Dev nD) (t : Fin cfg0.N) : (dats m 0 c).after 0 t = iblk m c 0 t := by dsimp only [dats]
@[inherit_doc after0]
theorem after1 (c : Dev nD) (t : Fin cfg0.N) : (dats m 0 c).after 1 t = iblk m c 1 t := by dsimp only [dats]
@[inherit_doc after0]
theorem after2 (c : Dev nD) (t : Fin cfg0.N) : (dats m 0 c).after 2 t = iblk m c 2 t := by dsimp only [dats]
@[inherit_doc after0]
theorem after3 (c : Dev nD) (t : Fin cfg0.N) : (dats m 0 c).after 3 t = iblk m c 3 t := by dsimp only [dats]
@[inherit_doc after0]
theorem after4 (c : Dev nD) (t : Fin cfg0.N) :
    (dats m 0 c).after 4 t = outP (iblk m c 0 t) (iblk m c 2 t) (iblk m c 3 t) := by dsimp only [dats]
@[inherit_doc after0]
theorem after5 (c : Dev nD) (t : Fin cfg0.N) :
    (dats m 0 c).after 5 t = outS (iblk m c 1 (keptAt t)) (iblk m c 2 (keptAt t)) (iblk m c 3 (keptAt t)) := by dsimp only [dats]

/-- Each input's buffer holds its block at every point. -/
theorem before0 (c : Dev nD) (t : Fin cfg0.N) (d) : (dats m 0 c).before 0 t d = iblk m c 0 t :=
  before0_0_of m (dats m 0 c) (A_eq m c 0) (after0 m c) t d
@[inherit_doc before0]
theorem before1 (c : Dev nD) (t : Fin cfg0.N) (d) : (dats m 0 c).before 1 t d = iblk m c 1 t :=
  before0_1_of m (dats m 0 c) (A_eq m c 1) (after1 m c) t d
@[inherit_doc before0]
theorem before2 (c : Dev nD) (t : Fin cfg0.N) (d) : (dats m 0 c).before 2 t d = iblk m c 2 t :=
  before0_2_of m (dats m 0 c) (A_eq m c 2) (after2 m c) t d
@[inherit_doc before0]
theorem before3 (c : Dev nD) (t : Fin cfg0.N) (d) : (dats m 0 c).before 3 t d = iblk m c 3 t :=
  before0_3_of m (dats m 0 c) (A_eq m c 3) (after3 m c) t d

/-- The small batch's block is stored at the first 43 points. -/
theorem cond_iff : ∀ t : Fin grid0.N, k0_cond1 (grid0.coords t) = 1#1 ↔ t.val < 43 := by decide +kernel

/-- The small batch's block is written back at the first 42 points and the last one. -/
theorem flush5 : ∀ t : Fin grid0.N, win0_5.flush t = decide (t.val < 42 ∨ t.val = 343) := by decide +kernel

/-- The small batch's buffer is left alone from point 43 on. -/
theorem idle5 (t : Fin cfg0.N) : cfg0.idle 5 (cfg0.grid.coords t) = decide (43 ≤ t.val) := by
  have h := cond_iff t
  show (!(k0_cond1 (grid0.coords t) == 1#1)) = decide (43 ≤ t.val)
  by_cases hc : t.val < 43
  · rw [h.mpr hc]; simp [hc]
  · rw [beq_eq_false_iff_ne.mpr (fun e => hc (h.mp e))]; simp; omega

/-- From point 43 on the small batch's buffer holds what point 42 stored. -/
theorem before5 (c : Dev nD) : ∀ (n : ℕ) (t : Fin cfg0.N), t.val = 43 + n → ∀ d, (dats m 0 c).before 5 t d = (dats m 0 c).after 5 t
  | 0, t, ht, d => by
    rw [(dats m 0 c).before_of_pos 5 t (by omega) rfl d]
    have hf : (cfg0.win 5).flush ⟨t.val - 1, Nat.lt_of_le_of_lt (Nat.sub_le _ _) t.isLt⟩ = false :=
      (flush5 ⟨t.val - 1, _⟩).trans (decide_eq_false (by simp only; omega))
    rw [hf, if_neg Bool.false_ne_true]
    unfold Dat.left
    rw [idle5, decide_eq_false (by simp only; omega)]
    show (dats m 0 c).after 5 ⟨t.val - 1, _⟩ = _
    rw [after5, after5]
    have : keptAt ⟨t.val - 1, Nat.lt_of_le_of_lt (Nat.sub_le _ _) t.isLt⟩ = keptAt t := Fin.ext (by simp only [keptAt]; omega)
    rw [this]
  | n + 1, t, ht, d => by
    rw [(dats m 0 c).before_of_pos 5 t (by omega) rfl d]
    have hl : t.val < 344 := t.isLt
    have hf : (cfg0.win 5).flush ⟨t.val - 1, Nat.lt_of_le_of_lt (Nat.sub_le _ _) t.isLt⟩ = false :=
      (flush5 ⟨t.val - 1, _⟩).trans (decide_eq_false (by simp only; omega))
    rw [hf, if_neg Bool.false_ne_true]
    unfold Dat.left
    rw [idle5, decide_eq_true (by simp only; omega)]
    show (dats m 0 c).before 5 ⟨t.val - 1, _⟩ d = _
    rw [before5 c n ⟨t.val - 1, Nat.lt_of_le_of_lt (Nat.sub_le _ _) t.isLt⟩ (by simp only; omega) d, after5, after5]
    have : keptAt ⟨t.val - 1, Nat.lt_of_le_of_lt (Nat.sub_le _ _) t.isLt⟩ = keptAt t := Fin.ext (by simp only [keptAt]; omega)
    rw [this]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

/-- After any point the small batch's buffer is at the proof data, which is as the pipeline wants it. -/
theorem leaves5 (c : Dev nD) (t : Fin cfg0.N) :
    owns (c : Thread nD τ) (st0_5 t) fullShare ((dats m 0 c).after 5 t) ⊢ ((dats m 0 c).leavesExact 5 t : sProp 𝕄) := by
  by_cases h : t.val < 43
  · have hi : cfg0.idle 5 (cfg0.grid.coords t) = false := by rw [idle5]; exact decide_eq_false (by omega)
    unfold Dat.leavesExact; rw [hi]
  · have hi : cfg0.idle 5 (cfg0.grid.coords t) = true := by rw [idle5]; exact decide_eq_true (by omega)
    by_cases hl : t.val = 343
    · have hf : (cfg0.win 5).flush t = true := (flush5 t).trans (decide_eq_true (by omega))
      unfold Dat.leavesExact; rw [hi, hf]
    · have hf : (cfg0.win 5).flush t = false := (flush5 t).trans (decide_eq_false (by omega))
      rw [(dats m 0 c).leavesExact_idle 5 t hi hf]
      iintro H
      iexists (dats m 0 c).after 5 t
      rw [before5 m c (t.val - 43) t (by omega)]
      iexact H

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  by_cases h : t.val < 43
  · have hk : keptAt t = t := Fin.ext (by simp only [keptAt]; omega)
    iintro ⟨HΦ, Ho, ⟨%d0, H0⟩, ⟨%d1, H1⟩, ⟨%d2, H2⟩, ⟨%d3, H3⟩, ⟨%d4, H4⟩, ⟨%d5, H5⟩⟩
    iapply (sound_first c Set.univ (grid0.coords t) ((cond_iff t).mpr h) _ _ _ _ _ _ _ _ _ _ _ _ (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iapply (leaves5 m c t)
    rw [after5, hk]
    iexact H5
  · iintro ⟨HΦ, Ho, ⟨%d0, H0⟩, ⟨%d1, H1⟩, ⟨%d2, H2⟩, ⟨%d3, H3⟩, ⟨%d4, H4⟩, ⟨%d5, H5⟩⟩
    iapply (sound_later c Set.univ (grid0.coords t) (fun e => h ((cond_iff t).mp e)) _ _ _ _ _ _ _ _ _ _ _ _ (iblk m c 0 t) (iblk m c 2 t) (iblk m c 3 t) _)
    isplitl [H0]; · iexact H0
    isplitl [H2]; · iexact H2
    isplitl [H3]; · iexact H3
    isplitl [H4]; · iexists _; iexact H4
    iintro ⟨H0, H2, H3, H4⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iapply (leaves5 m c t)
    rw [← before5 m c (t.val - 43) t (by omega) d5]
    iexact H5

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The body meets the pipeline's demand at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: every window's array ends at what the proof data says, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without its counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel2Ideal.Gen

end
-- ==== Proof.SwigluBits.lean ====
module

public import proofs.«01_k».proof.Defs
public import proofs.«01_k».proof.Proof.Gen.Kernel2
public import proofs.«01_k».proof.Proof.SwigluFrame
public import Idealize.ShloMosaic.Lib.Tactic

/-! The gated product as compiled is the gated product for exact numbers, so what holds of the latter for any number
type holds of the former. -/

@[expose] public section

set_option maxRecDepth 16384

noncomputable section

namespace Cert.Swiglu

open Idealize.ShloMosaic Idealize.SL.Sem

/-- The kernel for exact numbers, read on machine numbers, runs and leaves its arguments alone. -/
def kernelRuns : Prop :=
  ∀ (m : (ℓ : Loc Kernel2Ideal.nD Kernel2Ideal.τ Kernel2Ideal.sig) → Buf (Elt Bits) ℓ) (g : Dev Kernel2Ideal.nD → PrngReg), Cert.Pre_Kernel2 m →
    θ_run (Kernel2Ideal.defs (F := Bits)) (onTc (τ := Kernel2Ideal.τ) (Kernel2Ideal.main (F := Bits))) ⟨m, fun _ => 0, g⟩ (fun r => (∀ c : Dev Kernel2Ideal.nD,
      r.2.mem ((c.tc : Thread Kernel2Ideal.nD Kernel2Ideal.τ).loc Kernel2Ideal.main_arg0) = m ((c.tc : Thread Kernel2Ideal.nD Kernel2Ideal.τ).loc Kernel2Ideal.main_arg0)
      ∧ r.2.mem ((c.tc : Thread Kernel2Ideal.nD Kernel2Ideal.τ).loc Kernel2Ideal.main_arg1) = m ((c.tc : Thread Kernel2Ideal.nD Kernel2Ideal.τ).loc Kernel2Ideal.main_arg1)
      ∧ r.2.mem ((c.tc : Thread Kernel2Ideal.nD Kernel2Ideal.τ).loc Kernel2Ideal.main_arg2) = m ((c.tc : Thread Kernel2Ideal.nD Kernel2Ideal.τ).loc Kernel2Ideal.main_arg2)
      ∧ r.2.mem ((c.tc : Thread Kernel2Ideal.nD Kernel2Ideal.τ).loc Kernel2Ideal.main_arg3) = m ((c.tc : Thread Kernel2Ideal.nD Kernel2Ideal.τ).loc Kernel2Ideal.main_arg3))
      ∧ r.2.sem = fun _ => 0)

/-- That is what is claimed of the kernel as compiled: the two programs unfold to the same one. -/
theorem kernelRuns_eq : Cert.quiescent_Kernel2 (hKernel2 := Cert.Kernel2.Gen.facts) = kernelRuns := by sl_kernel_rfl

/-- The kernel as compiled runs and leaves its arguments alone. -/
theorem kernel_runs : Cert.quiescent_Kernel2 (hKernel2 := Cert.Kernel2.Gen.facts) :=
  kernelRuns_eq.mpr fun m ρ _ => Cert.Kernel2Ideal.Gen.frame m ρ

end Cert.Swiglu

end
-- ==== Proof.Index.lean ====
module

public import Idealize.ShloMosaic.Lib.Pointwise

/-! Indices by their coordinates. -/

@[expose] public section

namespace Cert.Ix

open Idealize.ShloMosaic

/-- An index of rank 2 by its coordinates. -/
theorem eq_ix2_of {n0 n1 : ℕ} {x : (⟨2, ![n0, n1]⟩ : Shape).Idx} {a : Fin n0} {b : Fin n1} (h0 : x 0 = a) (h1 : x 1 = b) :
    x = ix2 a b := by
  subst h0; subst h1; exact (ix2_eta x).symm

/-- An index of rank 3 by its coordinates. -/
theorem eq_ix3_of {n0 n1 n2 : ℕ} {x : (⟨3, ![n0, n1, n2]⟩ : Shape).Idx} {a : Fin n0} {b : Fin n1} {c : Fin n2}
    (h0 : x 0 = a) (h1 : x 1 = b) (h2 : x 2 = c) : x = ix3 a b c := by
  subst h0; subst h1; subst h2; exact (ix3_eta x).symm

/-- Two zero offsets. -/
theorem off2 : (![0, 0] : Fin 2 → ℕ) = fun _ => 0 := by funext a; fin_cases a <;> rfl

/-- Three zero offsets. -/
theorem off3 : (![0, 0, 0] : Fin 3 → ℕ) = fun _ => 0 := by funext a; fin_cases a <;> rfl

end Cert.Ix

end
-- ==== Proof.Swiglu.lean ====
module

public import proofs.«01_k».proof.Proof.SwigluFrame
public import proofs.«01_k».proof.Proof.Gen.Reference2Ideal.Run
public import proofs.«01_k».proof.Proof.Index
public import Idealize.ShloMosaic.Lib.Pipeline.Value

/-! The gated product: every output block of the kernel is the block of what the reference computes as a whole. -/

@[expose] public section

set_option maxRecDepth 16384

noncomputable section

namespace Cert.Swiglu

open Idealize.ShloMosaic Idealize.SL.Sem Idealize.ShloMosaic.TcCoe
open Cert.Ix Cert.Kernel2Ideal Cert.Kernel2Ideal.Gen

/-- A gate through its logistic, times a value. -/
def gate (a b : EReal) : EReal := a * Ideal.logistic a * b

/-- The gated product of some rows with the first layer's two weights. -/
def glu {R : ℕ} (x : (⟨2, ![R, 4096]⟩ : Shape).Idx → EReal) (g u : S4x4096x11008.Idx → EReal) : (⟨2, ![R, 11008]⟩ : Shape).Idx → EReal :=
  fun y => gate (∑ k : Fin 4096, x (ix2 (y 0) k) * g (ix3 (0 : Fin 4) k (y 1))) (∑ k : Fin 4096, x (ix2 (y 0) k) * u (ix3 (0 : Fin 4) k (y 1)))

/-- What a grid point stores into the large output, from its blocks. -/
theorem outP_at (x : Vec Ideal S1024x4096 .bf16) (g u : Vec Ideal S1x4096x256 .f32) (r : Fin 1024) (j : Fin 256) :
    outP (F := Ideal) x g u (ix2 r j)
      = gate (∑ k : Fin 4096, x (ix2 r k) * g (ix3 (0 : Fin 1) k j)) (∑ k : Fin 4096, x (ix2 r k) * u (ix3 (0 : Fin 1) k j)) := by
  unfold outP rX rW rO gate
  rw [View.canon_unit_zero off2, View.ld_unit_zero off3, View.ld_unit_zero off3, View.ld_unit_zero off2]
  pointwise [k0_pay3, k0_pay1, k0_pay2]

/-- What a grid point stores into the small output, from its blocks. -/
theorem outS_at (x : Vec Ideal S32x4096 .bf16) (g u : Vec Ideal S1x4096x256 .f32) (r : Fin 32) (j : Fin 256) :
    outS (F := Ideal) x g u (ix2 r j)
      = gate (∑ k : Fin 4096, x (ix2 r k) * g (ix3 (0 : Fin 1) k j)) (∑ k : Fin 4096, x (ix2 r k) * u (ix3 (0 : Fin 1) k j)) := by
  unfold outS rS rW rT gate
  rw [View.canon_unit_zero off2, View.ld_unit_zero off3, View.ld_unit_zero off3, View.ld_unit_zero off2]
  pointwise [k0_pay4, k0_pay1, k0_pay2]

variable (m : (ℓ : Loc nD τ sig) → Buf (Elt Ideal) ℓ) (c : Dev nD)

/-- The large batch's rows. -/
abbrev kP : S8192x4096.Idx → EReal := m (c, Proc.tc.devRef main_arg0)

/-- The small batch's rows. -/
abbrev kS : S32x4096.Idx → EReal := m (c, Proc.tc.devRef main_arg1)

/-- The gate's weights. -/
abbrev kG : S4x4096x11008.Idx → EReal := m (c, Proc.tc.devRef main_arg2)

/-- The value's weights. -/
abbrev kU : S4x4096x11008.Idx → EReal := m (c, Proc.tc.devRef main_arg3)

/-- Where window 0's block lies at each grid point. -/
theorem idx0 : ∀ t : Fin cfg0.N, win0_0.index t = ![t.val / 43, 0] :=
  (by decide +kernel : ∀ t : Fin grid0.N, win0_0.index t = ![t.val / 43, 0])

/-- Where window 1's block lies at each grid point. -/
theorem idx1 : ∀ t : Fin cfg0.N, win0_1.index t = ![0, 0] :=
  (by decide +kernel : ∀ t : Fin grid0.N, win0_1.index t = ![0, 0])

/-- Where window 2's block lies at each grid point. -/
theorem idx2 : ∀ t : Fin cfg0.N, win0_2.index t = ![0, 0, t.val % 43] :=
  (by decide +kernel : ∀ t : Fin grid0.N, win0_2.index t = ![0, 0, t.val % 43])

/-- Where window 3's block lies at each grid point. -/
theorem idx3 : ∀ t : Fin cfg0.N, win0_3.index t = ![0, 0, t.val % 43] :=
  (by decide +kernel : ∀ t : Fin grid0.N, win0_3.index t = ![0, 0, t.val % 43])

/-- Where window 4's block lies at each grid point. -/
theorem idx4 : ∀ t : Fin cfg0.N, win0_4.index t = ![t.val / 43, t.val % 43] :=
  (by decide +kernel : ∀ t : Fin grid0.N, win0_4.index t = ![t.val / 43, t.val % 43])

/-- Where window 5's block lies at each grid point. -/
theorem idx5 : ∀ t : Fin cfg0.N, win0_5.index t = ![0, min t.val 42] :=
  (by decide +kernel : ∀ t : Fin grid0.N, win0_5.index t = ![0, min t.val 42])

/-- A grid point is one of 344. -/
theorem tlt (t : Fin cfg0.N) : t.val < 344 := t.isLt

/-- Row `r` of a grid point's block within the array. -/
def rOf (t : ℕ) (r : Fin 1024) : Fin 8192 := ⟨1024 * (t / 43 % 8) + r.val, by omega⟩

/-- Column `j` of a grid point's block within the array. -/
def jOf (t : ℕ) (j : Fin 256) : Fin 11008 := ⟨256 * (t % 43) + j.val, by omega⟩

/-- A grid point's block of the large batch's rows. -/
theorem iblk0 (t : Fin cfg0.N) (r : Fin 1024) (k : Fin 4096) :
    (iblk m c 0 t : S1024x4096.Idx → EReal) (ix2 r k) = kP m c (ix2 (rOf t r) k) := by
  have ht := tlt t
  have e := idx0 t
  refine congrArg (kP m c) (?_ : (win0_0.rect t).emb _ = _)
  refine eq_ix2_of ?_ ?_ <;> refine Fin.ext ?_ <;> refine (Pipeline.Window.rect_emb_val win0_0 t _ _).trans ?_ <;>
    rw [e] <;> simp [rOf] <;> omega

/-- The small batch's rows are one block. -/
theorem iblk1 (t : Fin cfg0.N) (r : Fin 32) (k : Fin 4096) :
    (iblk m c 1 t : S32x4096.Idx → EReal) (ix2 r k) = kS m c (ix2 r k) := by
  have e := idx1 t
  refine congrArg (kS m c) (?_ : (win0_1.rect t).emb _ = _)
  refine eq_ix2_of ?_ ?_ <;> refine Fin.ext ?_ <;> refine (Pipeline.Window.rect_emb_val win0_1 t _ _).trans ?_ <;>
    rw [e] <;> simp

/-- A grid point's block of the gate's weights. -/
theorem iblk2 (t : Fin cfg0.N) (k : Fin 4096) (j : Fin 256) :
    (iblk m c 2 t : S1x4096x256.Idx → EReal) (ix3 (0 : Fin 1) k j) = kG m c (ix3 (0 : Fin 4) k (jOf t j)) := by
  have e := idx2 t
  refine congrArg (kG m c) (?_ : (win0_2.rect t).emb _ = _)
  refine eq_ix3_of ?_ ?_ ?_ <;> refine Fin.ext ?_ <;> refine (Pipeline.Window.rect_emb_val win0_2 t _ _).trans ?_ <;>
    rw [e] <;> simp [jOf] <;> omega

/-- A grid point's block of the value's weights. -/
theorem iblk3 (t : Fin cfg0.N) (k : Fin 4096) (j : Fin 256) :
    (iblk m c 3 t : S1x4096x256.Idx → EReal) (ix3 (0 : Fin 1) k j) = kU m c (ix3 (0 : Fin 4) k (jOf t j)) := by
  have e := idx3 t
  refine congrArg (kU m c) (?_ : (win0_3.rect t).emb _ = _)
  refine eq_ix3_of ?_ ?_ ?_ <;> refine Fin.ext ?_ <;> refine (Pipeline.Window.rect_emb_val win0_3 t _ _).trans ?_ <;>
    rw [e] <;> simp [jOf] <;> omega

/-- The large batch's result is its gated product. -/
theorem arr4 : (dats m 0 c).arrAt 4 cfg0.N = glu (R := 8192) (kP m c) (kG m c) (kU m c) := by
  refine (dats m 0 c).arrAt_eq_of_cover 4 (glu (R := 8192) (kP m c) (kG m c) (kU m c)) ?_ ?_
  · intro t hf
    have ht := tlt t
    refine funext fun (x : S1024x256.Idx) => ?_
    obtain ⟨r, j, rfl⟩ : ∃ (r : Fin 1024) (j : Fin 256), x = ix2 r j := ⟨x 0, x 1, (ix2_eta x).symm⟩
    have e := idx4 t
    refine Eq.trans ?_ (congrArg (glu (R := 8192) (kP m c) (kG m c) (kU m c)) (?_ : ix2 (rOf t r) (jOf t j) = (win0_4.rect t).emb (ix2 r j)))
    · refine (congrFun (after4 m c t) (ix2 r j)).trans ((outP_at (iblk m c 0 t) (iblk m c 2 t) (iblk m c 3 t) r j).trans ?_)
      refine congrArg₂ gate (Finset.sum_congr rfl fun k _ => ?_) (Finset.sum_congr rfl fun k _ => ?_)
      · rw [iblk0, iblk2]; rfl
      · rw [iblk0, iblk3]; rfl
    · refine (eq_ix2_of ?_ ?_).symm <;> refine Fin.ext ?_ <;> refine (Pipeline.Window.rect_emb_val win0_4 t _ _).trans ?_ <;>
        rw [e] <;> simp [rOf, jOf] <;> omega
  · refine fun (i : S8192x11008.Idx) => ?_
    obtain ⟨r, j, rfl⟩ : ∃ (r : Fin 8192) (j : Fin 11008), i = ix2 r j := ⟨i 0, i 1, (ix2_eta i).symm⟩
    have ht : 43 * (r.val / 1024) + j.val / 256 < cfg0.N := show 43 * (r.val / 1024) + j.val / 256 < 344 by omega
    refine ⟨⟨43 * (r.val / 1024) + j.val / 256, ht⟩, flush0_4 _, ?_⟩
    have e := idx4 ⟨43 * (r.val / 1024) + j.val / 256, ht⟩
    refine Eq.subst (motive := fun z => z ∈ ((cfg0.win 4).blk ⟨43 * (r.val / 1024) + j.val / 256, ht⟩).view.set)
      (?_ : (win0_4.rect ⟨43 * (r.val / 1024) + j.val / 256, ht⟩).emb (ix2 (⟨r.val % 1024, by omega⟩ : Fin 1024) (⟨j.val % 256, by omega⟩ : Fin 256)) = _)
      (((cfg0.win 4).blk ⟨43 * (r.val / 1024) + j.val / 256, ht⟩).view.emb_mem_set (ix2 (⟨r.val % 1024, by omega⟩ : Fin 1024) (⟨j.val % 256, by omega⟩ : Fin 256)))
    refine eq_ix2_of ?_ ?_ <;> refine Fin.ext ?_ <;> refine (Pipeline.Window.rect_emb_val win0_4 _ _ _).trans ?_ <;>
      rw [e] <;> simp <;> omega

/-- The small batch's result is its gated product. -/
theorem arr5 : (dats m 0 c).arrAt 5 cfg0.N = glu (R := 32) (kS m c) (kG m c) (kU m c) := by
  refine (dats m 0 c).arrAt_eq_of_cover 5 (glu (R := 32) (kS m c) (kG m c) (kU m c)) ?_ ?_
  · intro t hf
    have ht := tlt t
    refine funext fun (x : S32x256.Idx) => ?_
    obtain ⟨r, j, rfl⟩ : ∃ (r : Fin 32) (j : Fin 256), x = ix2 r j := ⟨x 0, x 1, (ix2_eta x).symm⟩
    have e := idx5 t
    refine Eq.trans ?_ (congrArg (glu (R := 32) (kS m c) (kG m c) (kU m c)) (?_ : ix2 r (jOf (keptAt t) j) = (win0_5.rect t).emb (ix2 r j)))
    · refine (congrFun (after5 m c t) (ix2 r j)).trans ((outS_at (iblk m c 1 (keptAt t)) (iblk m c 2 (keptAt t)) (iblk m c 3 (keptAt t)) r j).trans ?_)
      refine congrArg₂ gate (Finset.sum_congr rfl fun k _ => ?_) (Finset.sum_congr rfl fun k _ => ?_)
      · rw [iblk1, iblk2]; rfl
      · rw [iblk1, iblk3]; rfl
    · refine (eq_ix2_of ?_ ?_).symm <;> refine Fin.ext ?_ <;> refine (Pipeline.Window.rect_emb_val win0_5 t _ _).trans ?_ <;>
        rw [e] <;> simp [jOf, keptAt] <;> omega
  · refine fun (i : S32x11008.Idx) => ?_
    obtain ⟨r, j, rfl⟩ : ∃ (r : Fin 32) (j : Fin 11008), i = ix2 r j := ⟨i 0, i 1, (ix2_eta i).symm⟩
    have ht : (if j.val / 256 < 42 then j.val / 256 else 343) < cfg0.N := show _ < 344 by split <;> omega
    refine ⟨⟨if j.val / 256 < 42 then j.val / 256 else 343, ht⟩, (flush5 _).trans (decide_eq_true (by simp only; split <;> omega)), ?_⟩
    have e := idx5 ⟨if j.val / 256 < 42 then j.val / 256 else 343, ht⟩
    have hm : min (if j.val / 256 < 42 then j.val / 256 else 343) 42 = j.val / 256 := by split <;> omega
    rw [show (⟨if j.val / 256 < 42 then j.val / 256 else 343, ht⟩ : Fin cfg0.N).val = (if j.val / 256 < 42 then j.val / 256 else 343) from rfl, hm] at e
    refine Eq.subst (motive := fun z => z ∈ ((cfg0.win 5).blk ⟨if j.val / 256 < 42 then j.val / 256 else 343, ht⟩).view.set)
      (?_ : (win0_5.rect ⟨if j.val / 256 < 42 then j.val / 256 else 343, ht⟩).emb (ix2 r (⟨j.val % 256, by omega⟩ : Fin 256)) = _)
      (((cfg0.win 5).blk ⟨if j.val / 256 < 42 then j.val / 256 else 343, ht⟩).view.emb_mem_set (ix2 r (⟨j.val % 256, by omega⟩ : Fin 256)))
    refine eq_ix2_of ?_ ?_ <;> refine Fin.ext ?_ <;> refine (Pipeline.Window.rect_emb_val win0_5 _ _ _).trans ?_ <;>
      rw [e] <;> simp <;> omega

/-- After the run the two results are the gated products and the arguments are as launched. -/
theorem run (ρ : Dev nD → PrngReg) : θ_run defs (onTc (τ := τ) (main (F := Ideal))) ⟨m, fun _ => 0, ρ⟩ fun r => ∀ c : Dev nD,
      r.2.mem ((c : Thread nD τ).loc main_v0_0) = glu (R := 8192) (kP m c) (kG m c) (kU m c)
      ∧ r.2.mem ((c : Thread nD τ).loc main_v0_1) = glu (R := 32) (kS m c) (kG m c) (kU m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.1 c).1 4).trans (arr4 m c), ((h.1 c).1 5).trans (arr5 m c), h.2.1 c⟩)
    (θ_run_and (run_main m ρ) (frame m ρ))

end Cert.Swiglu

end
-- ==== Proof.SwigluRef.lean ====
module

public import proofs.«01_k».proof.Proof.Swiglu
public import Idealize.ShloMosaic.Lib.Quiescent

/-! What the reference of the gated product leaves in memory at its end. -/

@[expose] public section

set_option maxRecDepth 16384

noncomputable section

namespace Cert.Swiglu.Ref

open Idealize.ShloMosaic Idealize.SL.Sem Idealize.ShloMosaic.TcCoe
open Cert.Ix Cert.Reference2Ideal Cert.Reference2Ideal.Gen

/-- The reference's operations on the large batch are its gated product. -/
theorem refP (x : FVec Ideal S8192x4096 .bf16) (g u : FVec Ideal S4x4096x11008 .f32) :
    truncf .bf16 (mulf (mulf (Host.dotGeneral dot_S8192x4096_S4096x11008_S8192x11008_1_0_0_1_n_n none x (shapeCast _ (extractStridedSlice S1x4096x11008 ![0, 0, 0] g Facts₀.slices_S4x4096x11008_S1x4096x11008_0_0_0) Facts₀.shapeCasts_S1x4096x11008_S4096x11008)) (Host.divf (broadcastInDim S8192x11008 ![] Facts₀.bcast_S_S8192x11008 (constant S_ .f32 0x3F800000#32)) (addf (broadcastInDim S8192x11008 ![] Facts₀.bcast_S_S8192x11008 (constant S_ .f32 0x3F800000#32)) (Host.exp (Host.negf (Host.dotGeneral dot_S8192x4096_S4096x11008_S8192x11008_1_0_0_1_n_n none x (shapeCast _ (extractStridedSlice S1x4096x11008 ![0, 0, 0] g Facts₀.slices_S4x4096x11008_S1x4096x11008_0_0_0) Facts₀.shapeCasts_S1x4096x11008_S4096x11008))))))) (Host.dotGeneral dot_S8192x4096_S4096x11008_S8192x11008_1_0_0_1_n_n none x (shapeCast _ (extractStridedSlice S1x4096x11008 ![0, 0, 0] u Facts₀.slices_S4x4096x11008_S1x4096x11008_0_0_0) Facts₀.shapeCasts_S1x4096x11008_S4096x11008))) Facts₀.bitsLt_bf16_f32
      = glu (R := 8192) x g u := by
  refine funext fun (y : S8192x11008.Idx) => ?_
  obtain ⟨r, j, rfl⟩ : ∃ (r : Fin 8192) (j : Fin 11008), y = ix2 r j := ⟨y 0, y 1, (ix2_eta y).symm⟩
  unfold glu gate Ideal.logistic
  pointwise []

/-- The reference's operations on the small batch are its gated product. -/
theorem refS (x : FVec Ideal S32x4096 .bf16) (g u : FVec Ideal S4x4096x11008 .f32) :
    truncf .bf16 (mulf (mulf (Host.dotGeneral dot_S32x4096_S4096x11008_S32x11008_1_0_0_1_n_n none x (shapeCast _ (extractStridedSlice S1x4096x11008 ![0, 0, 0] g Facts₀.slices_S4x4096x11008_S1x4096x11008_0_0_0) Facts₀.shapeCasts_S1x4096x11008_S4096x11008)) (Host.divf (broadcastInDim S32x11008 ![] Facts₀.bcast_S_S32x11008 (constant S_ .f32 0x3F800000#32)) (addf (broadcastInDim S32x11008 ![] Facts₀.bcast_S_S32x11008 (constant S_ .f32 0x3F800000#32)) (Host.exp (Host.negf (Host.dotGeneral dot_S32x4096_S4096x11008_S32x11008_1_0_0_1_n_n none x (shapeCast _ (extractStridedSlice S1x4096x11008 ![0, 0, 0] g Facts₀.slices_S4x4096x11008_S1x4096x11008_0_0_0) Facts₀.shapeCasts_S1x4096x11008_S4096x11008))))))) (Host.dotGeneral dot_S32x4096_S4096x11008_S32x11008_1_0_0_1_n_n none x (shapeCast _ (extractStridedSlice S1x4096x11008 ![0, 0, 0] u Facts₀.slices_S4x4096x11008_S1x4096x11008_0_0_0) Facts₀.shapeCasts_S1x4096x11008_S4096x11008))) Facts₀.bitsLt_bf16_f32
      = glu (R := 32) x g u := by
  refine funext fun (y : S32x11008.Idx) => ?_
  obtain ⟨r, j, rfl⟩ : ∃ (r : Fin 32) (j : Fin 11008), y = ix2 r j := ⟨y 0, y 1, (ix2_eta y).symm⟩
  unfold glu gate Ideal.logistic
  pointwise []

variable (m : (ℓ : Loc nD τ sig) → Buf (Elt Ideal) ℓ) (ρ : Dev nD → PrngReg)

/-- The reference runs, ends with the two gated products as results and leaves its arguments alone. -/
theorem run : θ_run defs (onTc (τ := τ) (main (F := Ideal))) ⟨m, fun _ => 0, ρ⟩ fun r => ∀ c : Dev nD,
      r.2.mem ((c : Thread nD τ).loc main_v8) = glu (R := 8192) (m (c, Proc.tc.devRef main_arg0)) (m (c, Proc.tc.devRef main_arg2)) (m (c, Proc.tc.devRef main_arg3))
      ∧ r.2.mem ((c : Thread nD τ).loc main_v17) = glu (R := 32) (m (c, Proc.tc.devRef main_arg1)) (m (c, Proc.tc.devRef main_arg2)) (m (c, Proc.tc.devRef main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (refP _ _ _), (h c).2.1.trans (refS _ _ _), (h c).2.2⟩) (Cert.Reference2Ideal.Value.run m ρ)

/-- The reference runs, leaves its arguments alone and ends with every counter at zero: it has no counters. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2, sem_eq_zero_of_no_sems (by decide) r.2⟩) (run m ρ)

end Cert.Swiglu.Ref

end
-- ==== Proof.Down.lean ====
module

public import proofs.«01_k».proof.Proof.Gen.Kernel3Ideal.Value
public import proofs.«01_k».proof.Proof.Gen.Reference3Ideal.Run
public import proofs.«01_k».proof.Proof.Index
public import Idealize.ShloMosaic.Lib.StableHlo.ReadAt

/-! The down projection: every output block of the kernel is the block of the product the reference takes as a whole. -/

@[expose] public section

set_option maxRecDepth 16384

noncomputable section

namespace Cert.Down

open Idealize.ShloMosaic Idealize.SL.Sem Idealize.ShloMosaic.TcCoe
open Cert.Ix Cert.Kernel3Ideal Cert.Kernel3Ideal.Gen

/-- The product of the rows with the first layer's weights. -/
def prod (x : S8192x11008.Idx → EReal) (w : S4x11008x4096.Idx → EReal) : S8192x4096.Idx → EReal :=
  fun y => ∑ k : Fin 11008, x (ix2 (y 0) k) * w (ix3 (0 : Fin 4) k (y 1))

/-- What a grid point stores, from its blocks. -/
theorem block_at (x : Vec Ideal S512x11008 .bf16) (w : Vec Ideal S1x11008x512 .bf16) (r j : Fin 512) :
    out0_2 (F := Ideal) x w (ix2 r j) = ∑ k : Fin 11008, x (ix2 r k) * w (ix3 (0 : Fin 1) k j) := by
  unfold out0_2 r0_0 r0_1 r0_2
  rw [View.canon_unit_zero off2, View.ld_unit_zero off2, View.ld_unit_zero off3]
  pointwise [k0_pay1]

variable (m : (ℓ : Loc nD τ sig) → Buf (Elt Ideal) ℓ) (c : Dev nD)

/-- The rows the kernel is given. -/
abbrev kX : S8192x11008.Idx → EReal := m (c, Proc.tc.devRef main_arg0)

/-- The weights the kernel is given. -/
abbrev kW : S4x11008x4096.Idx → EReal := m (c, Proc.tc.devRef main_arg1)

/-- The kernel reads its weights rounded, which changes no exact number. -/
theorem V0 : (V m c main_v0 : S4x11008x4096.Idx → EReal) = kW m c := by
  funext i
  unfold V
  after_reads_at

/-- Where window 0's block lies at each grid point. -/
theorem idx0 : ∀ t : Fin cfg0.N, win0_0.index t = ![t.val / 8, 0] :=
  (by decide +kernel : ∀ t : Fin grid0.N, win0_0.index t = ![t.val / 8, 0])

/-- Where window 1's block lies at each grid point. -/
theorem idx1 : ∀ t : Fin cfg0.N, win0_1.index t = ![0, 0, t.val % 8] :=
  (by decide +kernel : ∀ t : Fin grid0.N, win0_1.index t = ![0, 0, t.val % 8])

/-- Where window 2's block lies at each grid point. -/
theorem idx2 : ∀ t : Fin cfg0.N, win0_2.index t = ![t.val / 8, t.val % 8] :=
  (by decide +kernel : ∀ t : Fin grid0.N, win0_2.index t = ![t.val / 8, t.val % 8])

/-- A grid point is one of 128. -/
theorem tlt (t : Fin cfg0.N) : t.val < 128 := t.isLt

/-- Row `r` of a grid point's block within the array. -/
def rOf (t : ℕ) (r : Fin 512) : Fin 8192 := ⟨512 * (t / 8 % 16) + r.val, by omega⟩

/-- Column `j` of a grid point's block within the array. -/
def jOf (t : ℕ) (j : Fin 512) : Fin 4096 := ⟨512 * (t % 8) + j.val, by omega⟩

/-- A grid point's block of rows. -/
theorem iblk0 (t : Fin cfg0.N) (r : Fin 512) (k : Fin 11008) :
    (iblk m c 0 t : S512x11008.Idx → EReal) (ix2 r k) = kX m c (ix2 (rOf t r) k) := by
  have ht := tlt t
  have e := idx0 t
  have h : kX m c = V m c main_arg0 := (V_main_arg0 m c).symm
  rw [h]
  refine congrArg (V m c main_arg0 : S8192x11008.Idx → EReal) (?_ : (win0_0.rect t).emb _ = _)
  refine eq_ix2_of ?_ ?_ <;> refine Fin.ext ?_ <;> refine (Pipeline.Window.rect_emb_val win0_0 t _ _).trans ?_ <;>
    rw [e] <;> simp [rOf] <;> omega

/-- A grid point's block of weights. -/
theorem iblk1 (t : Fin cfg0.N) (k : Fin 11008) (j : Fin 512) :
    (iblk m c 1 t : S1x11008x512.Idx → EReal) (ix3 (0 : Fin 1) k j) = kW m c (ix3 (0 : Fin 4) k (jOf t j)) := by
  have ht := tlt t
  have e := idx1 t
  rw [← V0]
  refine congrArg (V m c main_v0 : S4x11008x4096.Idx → EReal) (?_ : (win0_1.rect t).emb _ = _)
  refine eq_ix3_of ?_ ?_ ?_ <;> refine Fin.ext ?_ <;> refine (Pipeline.Window.rect_emb_val win0_1 t _ _).trans ?_ <;>
    rw [e] <;> simp [jOf] <;> omega

/-- The kernel's result is the product. -/
theorem arr2 : (dats m 0 c).arrAt 2 cfg0.N = prod (kX m c) (kW m c) := by
  refine (dats m 0 c).arrAt_eq_of_cover 2 (prod (kX m c) (kW m c)) ?_ ?_
  · intro t hf
    have ht := tlt t
    rw [Value.flushed2]
    refine funext fun (x : S512x512.Idx) => ?_
    obtain ⟨r, j, rfl⟩ : ∃ (r : Fin 512) (j : Fin 512), x = ix2 r j := ⟨x 0, x 1, (ix2_eta x).symm⟩
    have e := idx2 t
    refine Eq.trans ?_ (congrArg (prod (kX m c) (kW m c)) (?_ : ix2 (rOf t r) (jOf t j) = (win0_2.rect t).emb (ix2 r j)))
    · refine (block_at (iblk m c 0 t) (iblk m c 1 t) r j).trans ?_
      refine Finset.sum_congr rfl fun k _ => ?_
      rw [iblk0, iblk1]
      rfl
    · refine (eq_ix2_of ?_ ?_).symm <;> refine Fin.ext ?_ <;> refine (Pipeline.Window.rect_emb_val win0_2 t _ _).trans ?_ <;>
        rw [e] <;> simp [rOf, jOf] <;> omega
  · refine fun (i : S8192x4096.Idx) => ?_
    obtain ⟨r, j, rfl⟩ : ∃ (r : Fin 8192) (j : Fin 4096), i = ix2 r j := ⟨i 0, i 1, (ix2_eta i).symm⟩
    have ht : 8 * (r.val / 512) + j.val / 512 < cfg0.N := show 8 * (r.val / 512) + j.val / 512 < 128 by omega
    refine ⟨⟨8 * (r.val / 512) + j.val / 512, ht⟩, flush0_2 _, ?_⟩
    have e := idx2 ⟨8 * (r.val / 512) + j.val / 512, ht⟩
    refine Eq.subst (motive := fun z => z ∈ ((cfg0.win 2).blk ⟨8 * (r.val / 512) + j.val / 512, ht⟩).view.set)
      (?_ : (win0_2.rect ⟨8 * (r.val / 512) + j.val / 512, ht⟩).emb (ix2 (⟨r.val % 512, by omega⟩ : Fin 512) (⟨j.val % 512, by omega⟩ : Fin 512)) = _)
      (((cfg0.win 2).blk ⟨8 * (r.val / 512) + j.val / 512, ht⟩).view.emb_mem_set (ix2 (⟨r.val % 512, by omega⟩ : Fin 512) (⟨j.val % 512, by omega⟩ : Fin 512)))
    refine eq_ix2_of ?_ ?_ <;> refine Fin.ext ?_ <;> refine (Pipeline.Window.rect_emb_val win0_2 _ _ _).trans ?_ <;>
      rw [e] <;> simp <;> omega

/-- The reference's result is the product. -/
theorem ref_eq (x : FVec Ideal Cert.Reference3Ideal.S8192x11008 .bf16) (w : FVec Ideal Cert.Reference3Ideal.S4x11008x4096 .f32) :
    Host.dotGeneral Cert.Reference3Ideal.dot_S8192x11008_S11008x4096_S8192x4096_1_0_0_1_n_n none x
      (shapeCast _ (extractStridedSlice Cert.Reference3Ideal.S1x11008x4096 ![0, 0, 0] w Cert.Reference3Ideal.Facts₀.slices_S4x11008x4096_S1x11008x4096_0_0_0) Cert.Reference3Ideal.Facts₀.shapeCasts_S1x11008x4096_S11008x4096)
      = prod x w := by
  funext y
  unfold prod
  pointwise []

end Cert.Down

end
-- ==== Proof.DownRef.lean ====
module

public import proofs.«01_k».proof.Proof.Down
public import Idealize.ShloMosaic.Lib.Quiescent

/-! What the down projection and its reference leave in memory at their ends. -/

@[expose] public section

set_option maxRecDepth 16384

noncomputable section

namespace Cert.Down

open Idealize.ShloMosaic Idealize.SL.Sem Idealize.ShloMosaic.TcCoe

section Kernel

open Cert.Kernel3Ideal Cert.Kernel3Ideal.Gen

/-- The kernel runs, ends with the product as result and leaves its arguments alone. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1) = prod (m (c, Proc.tc.devRef main_arg0)) (m (c, Proc.tc.devRef main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr2 m c), (h c).2⟩) (Cert.Kernel3Ideal.Value.run_blocks m ρ)

end Kernel

section Reference

open Cert.Reference3Ideal Cert.Reference3Ideal.Gen

variable (m : (ℓ : Loc nD τ sig) → Buf (Elt Ideal) ℓ) (ρ : Dev nD → PrngReg)

/-- The reference runs, ends with the product as result and leaves its arguments alone. -/
theorem ref_run : θ_run defs (onTc (τ := τ) (main (F := Ideal))) ⟨m, fun _ => 0, ρ⟩ fun r => ∀ c : Dev nD,
      r.2.mem ((c : Thread nD τ).loc main_v2) = prod (m (c, Proc.tc.devRef main_arg0)) (m (c, Proc.tc.devRef main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (ref_eq _ _), (h c).2⟩) (Cert.Reference3Ideal.Value.run m ρ)

/-- The reference runs, leaves its arguments alone and ends with every counter at zero: it has no counters. -/
theorem ref_frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (ref_run m ρ)

end Reference

end Cert.Down

end
-- ==== Proof.EvenOutFrame.lean ====
module

public import proofs.«01_k».proof.Proof.Gen.Kernel4Ideal.Skeleton
public import proofs.«01_k».proof.Proof.Gen.Kernel4Ideal.Frame
public import Idealize.ShloMosaic.Lib.Claim

/-! The output projection's kernel runs, whatever the number type: what each grid point leaves in the two output buffers, and
that the arguments end as they were. The small batch's block is stored at the first eight points only; afterwards its buffer
keeps the last of those blocks until the last point writes it back once more. -/

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole weight block. -/
abbrev rW : Rect S1x2048x512 := Rect.unit (s := S1x2048x512) ![0, 0, 0] S1x2048x512.size inb_S1x2048x512_S1x2048x512_0_0_0
/-- A whole block of rows. -/
abbrev rX : Rect S1024x2048 := Rect.unit (s := S1024x2048) ![0, 0] S1024x2048.size inb_S1024x2048_S1024x2048_0_0
/-- All rows of the small batch. -/
abbrev rS : Rect S32x2048 := Rect.unit (s := S32x2048) ![0, 0] S32x2048.size inb_S32x2048_S32x2048_0_0
/-- A whole output block. -/
abbrev rO : Rect S1024x512 := Rect.unit (s := S1024x512) ![0, 0] S1024x512.size inb_S1024x512_S1024x512_0_0
/-- A whole output block of the small batch. -/
abbrev rT : Rect S32x512 := Rect.unit (s := S32x512) ![0, 0] S32x512.size inb_S32x512_S32x512_0_0

/-- The output block a point stores. -/
def outP (x y : Vec F S1024x2048 .bf16) (v w : Vec F S1x2048x512 .f32) : Vec F S1024x512 .f32 :=
  View.canon [⟨rO, k0_pay3 (View.ld v rW) (View.ld w rW) (View.ld x rX) (View.ld y rX)⟩]

/-- The output block of the small batch a point stores. -/
def outS (x y : Vec F S32x2048 .bf16) (v w : Vec F S1x2048x512 .f32) : Vec F S32x512 .f32 :=
  View.canon [⟨rT, k0_pay4 (View.ld v rW) (View.ld w rW) (View.ld x rS) (View.ld y rS)⟩]

/-- The store covers the output block. -/
theorem coverP (p : Vec F S1024x512 .f32) (y : S1024x512.Idx) :
    ∃ pc ∈ ([⟨rO, p⟩] : List (View.Piece (Elt F) S1024x512 .f32)), y ∈ pc.1.set :=
  View.cover_of_tiled [⟨rO, p⟩] S1024x512.size (by rfl) y

/-- The store covers the small batch's output block. -/
theorem coverS (p : Vec F S32x512 .f32) (y : S32x512.Idx) :
    ∃ pc ∈ ([⟨rT, p⟩] : List (View.Piece (Elt F) S32x512 .f32)), y ∈ pc.1.set :=
  View.cover_of_tiled [⟨rT, p⟩] S32x512.size (by rfl) y

set_option maxHeartbeats 2000000 in
/-- The body where both outputs are stored. -/
theorem sound_first (c : Dev nD) (E : Set ℕ) (i : grid0.Coords) (hi : k0_cond1 i = 1#1)
    (arg2 : Memref sig .tc .vmem S1024x2048 .bf16) (harg2 : arg2.IsWhole) (arg3 : Memref sig .tc .vmem S32x2048 .bf16) (harg3 : arg3.IsWhole)
    (arg4 : Memref sig .tc .vmem S1x2048x512 .f32) (harg4 : arg4.IsWhole) (arg5 : Memref sig .tc .vmem S1024x2048 .bf16) (harg5 : arg5.IsWhole)
    (arg6 : Memref sig .tc .vmem S32x2048 .bf16) (harg6 : arg6.IsWhole) (arg7 : Memref sig .tc .vmem S1x2048x512 .f32) (harg7 : arg7.IsWhole)
    (arg8 : Memref sig .tc .vmem S1024x512 .f32) (harg8 : arg8.IsWhole) (arg9 : Memref sig .tc .vmem S32x512 .f32) (harg9 : arg9.IsWhole)
    (x0 : Vec F S1024x2048 .bf16) (x1 : Vec F S32x2048 .bf16) (x2 : Vec F S1x2048x512 .f32) (x3 : Vec F S1024x2048 .bf16) (x4 : Vec F S32x2048 .bf16) (x5 : Vec F S1x2048x512 .f32)
    (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ (∃ d, owns (c : Thread nD τ) arg8 fullShare d)
        ∗ (∃ d, owns (c : Thread nD τ) arg9 fullShare d)
        ∗ (iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare (outP x0 x3 x2 x5)
          ∗ owns (c : Thread nD τ) arg9 fullShare (outS x1 x4 x2 x5)) -∗ K ⟨⟩))
      ⊢ wp frame (wpE (defs₀ (F := F)) Variants.none c none) E (cc0_even_out i arg2 harg2 arg3 harg3 arg4 harg4 arg5 harg5 arg6 harg6 arg7 harg7 arg8 harg8 arg9 harg9) K := by
  simp only [cc0_even_out_eq_skeleton]; unfold cc0_even_out_skel
  simp only [dif_pos hi]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverP _)
  iexists _; isplitr
  swap; · iexact H7
  ipureintro
  exact View.read_writes_eq_canon _ _ _ (coverS _)

set_option maxHeartbeats 2000000 in
/-- The body where only the large output is stored: the small batch's buffer is not touched. -/
theorem sound_later (c : Dev nD) (E : Set ℕ) (i : grid0.Coords) (hi : ¬k0_cond1 i = 1#1)
    (arg2 : Memref sig .tc .vmem S1024x2048 .bf16) (harg2 : arg2.IsWhole) (arg3 : Memref sig .tc .vmem S32x2048 .bf16) (harg3 : arg3.IsWhole)
    (arg4 : Memref sig .tc .vmem S1x2048x512 .f32) (harg4 : arg4.IsWhole) (arg5 : Memref sig .tc .vmem S1024x2048 .bf16) (harg5 : arg5.IsWhole)
    (arg6 : Memref sig .tc .vmem S32x2048 .bf16) (harg6 : arg6.IsWhole) (arg7 : Memref sig .tc .vmem S1x2048x512 .f32) (harg7 : arg7.IsWhole)
    (arg8 : Memref sig .tc .vmem S1024x512 .f32) (harg8 : arg8.IsWhole) (arg9 : Memref sig .tc .vmem S32x512 .f32) (harg9 : arg9.IsWhole)
    (x0 : Vec F S1024x2048 .bf16) (x2 : Vec F S1x2048x512 .f32) (x3 : Vec F S1024x2048 .bf16) (x5 : Vec F S1x2048x512 .f32)
    (K : PUnit → sProp 𝕄) :
    iprop(owns (c : Thread nD τ) arg2 fullShare x0
        ∗ owns (c : Thread nD τ) arg4 fullShare x2
        ∗ owns (c : Thread nD τ) arg5 fullShare x3
        ∗ owns (c : Thread nD τ) arg7 fullShare x5
        ∗ (∃ d, owns (c : Thread nD τ) arg8 fullShare d)
        ∗ (iprop(owns (c : Thread nD τ) arg2 fullShare x0
          ∗ owns (c : Thread nD τ) arg4 fullShare x2
          ∗ owns (c : Thread nD τ) arg5 fullShare x3
          ∗ owns (c : Thread nD τ) arg7 fullShare x5
          ∗ owns (c : Thread nD τ) arg8 fullShare (outP x0 x3 x2 x5)) -∗ K ⟨⟩))
      ⊢ wp frame (wpE (defs₀ (F := F)) Variants.none c none) E (cc0_even_out i arg2 harg2 arg3 harg3 arg4 harg4 arg5 harg5 arg6 harg6 arg7 harg7 arg8 harg8 arg9 harg9) K := by
  simp only [cc0_even_out_eq_skeleton]; unfold cc0_even_out_skel
  simp only [dif_neg hi]
  unfold owns
  iintro ⟨⟨%f0, %hf0, H0⟩, ⟨%f2, %hf2, H2⟩, ⟨%f3, %hf3, H3⟩, ⟨%f5, %hf5, H5⟩, ⟨%d6, %f6, -, H6⟩, Hk⟩
  subst hf0 hf2 hf3 hf5
  sl_exec
  sl_step
  iapply Hk
  isplitl [H0]
  · iexists f0; isplitr; · ipureintro; rfl
    iexact H0
  isplitl [H2]
  · iexists f2; isplitr; · ipureintro; rfl
    iexact H2
  isplitl [H3]
  · iexists f3; isplitr; · ipureintro; rfl
    iexact H3
  isplitl [H5]
  · iexists f5; isplitr; · ipureintro; rfl
    iexact H5
  iexists _; isplitr
  swap; · iexact H6
  ipureintro
  exact View.read_writes_eq_canon _ _ _ (coverP _)

/-- The small batch's buffer after each point: the block stored there, from the last such point on kept. -/
def keptAt (t : Fin cfg0.N) : Fin cfg0.N := ⟨min t.val 7, lt_of_le_of_lt (min_le_left _ _) t.isLt⟩

/-- The proof data: the arrays as launched, each input's buffer at its block, the large output's at what the point stores and
the small batch's at what the last of the first eight points so far stored. The weights' array is read through two windows, which
share it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outP (iblk m c 0 t) (iblk m c 3 t) (iblk m c 2 t) (iblk m c 5 t)
    | ⟨7, _⟩ => outS (iblk m c 1 (keptAt t)) (iblk m c 4 (keptAt t)) (iblk m c 2 (keptAt t)) (iblk m c 5 (keptAt t))
  Φ _ := Pipeline.ΦA spec0 c
  q w := Pipeline.shareOf spec0 w
  owed _ := 0

/-- The proof data's arrays are the arrays as launched. -/
theorem A_eq (c : Dev nD) (w : Fin cfg0.W) : (dats m 0 c).A w = V m c (Pipeline.arrRef spec0 w) := by
  dsimp only [dats]

/-- What the body leaves in each window's buffer. -/
theorem after0 (c : Dev nD) (t : Fin cfg0.N) : (dats m 0 c).after 0 t = iblk m c 0 t := by dsimp only [dats]
@[inherit_doc after0]
theorem after1 (c : Dev nD) (t : Fin cfg0.N) : (dats m 0 c).after 1 t = iblk m c 1 t := by dsimp only [dats]
@[inherit_doc after0]
theorem after2 (c : Dev nD) (t : Fin cfg0.N) : (dats m 0 c).after 2 t = iblk m c 2 t := by dsimp only [dats]
@[inherit_doc after0]
theorem after3 (c : Dev nD) (t : Fin cfg0.N) : (dats m 0 c).after 3 t = iblk m c 3 t := by dsimp only [dats]
@[inherit_doc after0]
theorem after4 (c : Dev nD) (t : Fin cfg0.N) : (dats m 0 c).after 4 t = iblk m c 4 t := by dsimp only [dats]
@[inherit_doc after0]
theorem after5 (c : Dev nD) (t : Fin cfg0.N) : (dats m 0 c).after 5 t = iblk m c 5 t := by dsimp only [dats]
@[inherit_doc after0]
theorem after6 (c : Dev nD) (t : Fin cfg0.N) :
    (dats m 0 c).after 6 t = outP (iblk m c 0 t) (iblk m c 3 t) (iblk m c 2 t) (iblk m c 5 t) := by dsimp only [dats]
@[inherit_doc after0]
theorem after7 (c : Dev nD) (t : Fin cfg0.N) :
    (dats m 0 c).after 7 t = outS (iblk m c 1 (keptAt t)) (iblk m c 4 (keptAt t)) (iblk m c 2 (keptAt t)) (iblk m c 5 (keptAt t)) := by dsimp only [dats]

/-- Each input's buffer holds its block at every point. -/
theorem before0 (c : Dev nD) (t : Fin cfg0.N) (d) : (dats m 0 c).before 0 t d = iblk m c 0 t :=
  before0_0_of m (dats m 0 c) (A_eq m c 0) (after0 m c) t d
@[inherit_doc before0]
theorem before1 (c : Dev nD) (t : Fin cfg0.N) (d) : (dats m 0 c).before 1 t d = iblk m c 1 t :=
  before0_1_of m (dats m 0 c) (A_eq m c 1) (after1 m c) t d
@[inherit_doc before0]
theorem before2 (c : Dev nD) (t : Fin cfg0.N) (d) : (dats m 0 c).before 2 t d = iblk m c 2 t :=
  before0_2_of m (dats m 0 c) (A_eq m c 2) (after2 m c) t d
@[inherit_doc before0]
theorem before3 (c : Dev nD) (t : Fin cfg0.N) (d) : (dats m 0 c).before 3 t d = iblk m c 3 t :=
  before0_3_of m (dats m 0 c) (A_eq m c 3) (after3 m c) t d
@[inherit_doc before0]
theorem before4 (c : Dev nD) (t : Fin cfg0.N) (d) : (dats m 0 c).before 4 t d = iblk m c 4 t :=
  before0_4_of m (dats m 0 c) (A_eq m c 4) (after4 m c) t d
@[inherit_doc before0]
theorem before5 (c : Dev nD) (t : Fin cfg0.N) (d) : (dats m 0 c).before 5 t d = iblk m c 5 t :=
  before0_5_of m (dats m 0 c) (A_eq m c 5) (after5 m c) t d

/-- The small batch's block is stored at the first eight points. -/
theorem cond_iff : ∀ t : Fin grid0.N, k0_cond1 (grid0.coords t) = 1#1 ↔ t.val < 8 := by decide +kernel

/-- The small batch's block is written back at the first seven points and the last one. -/
theorem flush7 : ∀ t : Fin grid0.N, win0_7.flush t = decide (t.val < 7 ∨ t.val = 63) := by decide +kernel

/-- The small batch's buffer is left alone from point 8 on. -/
theorem idle7 (t : Fin cfg0.N) : cfg0.idle 7 (cfg0.grid.coords t) = decide (8 ≤ t.val) := by
  have h := cond_iff t
  show (!(k0_cond1 (grid0.coords t) == 1#1)) = decide (8 ≤ t.val)
  by_cases hc : t.val < 8
  · rw [h.mpr hc]; simp [hc]
  · rw [beq_eq_false_iff_ne.mpr (fun e => hc (h.mp e))]; simp; omega

/-- From point 8 on the small batch's buffer holds what point 7 stored. -/
theorem before7 (c : Dev nD) : ∀ (n : ℕ) (t : Fin cfg0.N), t.val = 8 + n → ∀ d, (dats m 0 c).before 7 t d = (dats m 0 c).after 7 t
  | 0, t, ht, d => by
    rw [(dats m 0 c).before_of_pos 7 t (by omega) rfl d]
    have hf : (cfg0.win 7).flush ⟨t.val - 1, Nat.lt_of_le_of_lt (Nat.sub_le _ _) t.isLt⟩ = false :=
      (flush7 ⟨t.val - 1, _⟩).trans (decide_eq_false (by simp only; omega))
    rw [hf, if_neg Bool.false_ne_true]
    unfold Dat.left
    rw [idle7, decide_eq_false (by simp only; omega)]
    show (dats m 0 c).after 7 ⟨t.val - 1, _⟩ = _
    rw [after7, after7]
    have : keptAt ⟨t.val - 1, Nat.lt_of_le_of_lt (Nat.sub_le _ _) t.isLt⟩ = keptAt t := Fin.ext (by simp only [keptAt]; omega)
    rw [this]
  | n + 1, t, ht, d => by
    rw [(dats m 0 c).before_of_pos 7 t (by omega) rfl d]
    have hl : t.val < 64 := t.isLt
    have hf : (cfg0.win 7).flush ⟨t.val - 1, Nat.lt_of_le_of_lt (Nat.sub_le _ _) t.isLt⟩ = false :=
      (flush7 ⟨t.val - 1, _⟩).trans (decide_eq_false (by simp only; omega))
    rw [hf, if_neg Bool.false_ne_true]
    unfold Dat.left
    rw [idle7, decide_eq_true (by simp only; omega)]
    show (dats m 0 c).before 7 ⟨t.val - 1, _⟩ d = _
    rw [before7 c n ⟨t.val - 1, Nat.lt_of_le_of_lt (Nat.sub_le _ _) t.isLt⟩ (by simp only; omega) d, after7, after7]
    have : keptAt ⟨t.val - 1, Nat.lt_of_le_of_lt (Nat.sub_le _ _) t.isLt⟩ = keptAt t := Fin.ext (by simp only [keptAt]; omega)
    rw [this]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (dats m 0 c).leavesExact 7 t)

/-- After any point the small batch's buffer is at the proof data, which is as the pipeline wants it. -/
theorem leaves7 (c : Dev nD) (t : Fin cfg0.N) :
    owns (c : Thread nD τ) (st0_7 t) fullShare ((dats m 0 c).after 7 t) ⊢ ((dats m 0 c).leavesExact 7 t : sProp 𝕄) := by
  by_cases h : t.val < 8
  · have hi : cfg0.idle 7 (cfg0.grid.coords t) = false := by rw [idle7]; exact decide_eq_false (by omega)
    unfold Dat.leavesExact; rw [hi]
  · have hi : cfg0.idle 7 (cfg0.grid.coords t) = true := by rw [idle7]; exact decide_eq_true (by omega)
    by_cases hl : t.val = 63
    · have hf : (cfg0.win 7).flush t = true := (flush7 t).trans (decide_eq_true (by omega))
      unfold Dat.leavesExact; rw [hi, hf]
    · have hf : (cfg0.win 7).flush t = false := (flush7 t).trans (decide_eq_false (by omega))
      rw [(dats m 0 c).leavesExact_idle 7 t hi hf]
      iintro H
      iexists (dats m 0 c).after 7 t
      rw [before7 m c (t.val - 8) t (by omega)]
      iexact H

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  by_cases h : t.val < 8
  · have hk : keptAt t = t := Fin.ext (by simp only [keptAt]; omega)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_first c Set.univ (grid0.coords t) ((cond_iff t).mpr h) _ _ _ _ _ _ _ _ _ _ _ _ _ _ _ _ (iblk m c 0 t) (iblk m c 1 t) (iblk m c 2 t) (iblk m c 3 t) (iblk m c 4 t) (iblk m c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (leaves7 m c t)
    rw [after7, hk]
    iexact H7
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_later c Set.univ (grid0.coords t) (fun e => h ((cond_iff t).mp e)) _ _ _ _ _ _ _ _ _ _ _ _ _ _ _ _ (iblk m c 0 t) (iblk m c 2 t) (iblk m c 3 t) (iblk m c 5 t) _)
    isplitl [H0]; · iexact H0
    isplitl [H2]; · iexact H2
    isplitl [H3]; · iexact H3
    isplitl [H5]; · iexact H5
    isplitl [H6]; · iexists _; iexact H6
    iintro ⟨H0, H2, H3, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (leaves7 m c t)
    rw [← before7 m c (t.val - 8) t (by omega) d7]
    iexact H7

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The body meets the pipeline's demand at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: every window's array ends at what the proof data says, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run without its counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel4Ideal.Gen

end
-- ==== Proof.EvenOutBits.lean ====
module

public import proofs.«01_k».proof.Defs
public import proofs.«01_k».proof.Proof.Gen.Kernel4
public import proofs.«01_k».proof.Proof.EvenOutFrame
public import Idealize.ShloMosaic.Lib.Tactic

/-! The output projection as compiled is the output projection for exact numbers, so what holds of the latter for any number
type holds of the former. -/

@[expose] public section

set_option maxRecDepth 16384

noncomputable section

namespace Cert.EvenOut

open Idealize.ShloMosaic Idealize.SL.Sem

/-- The kernel for exact numbers, read on machine numbers, runs and leaves its arguments alone. -/
def kernelRuns : Prop :=
  ∀ (m : (ℓ : Loc Kernel4Ideal.nD Kernel4Ideal.τ Kernel4Ideal.sig) → Buf (Elt Bits) ℓ) (g : Dev Kernel4Ideal.nD → PrngReg), Cert.Pre_Kernel4 m →
    θ_run (Kernel4Ideal.defs (F := Bits)) (onTc (τ := Kernel4Ideal.τ) (Kernel4Ideal.main (F := Bits))) ⟨m, fun _ => 0, g⟩ (fun r => (∀ c : Dev Kernel4Ideal.nD,
      r.2.mem ((c.tc : Thread Kernel4Ideal.nD Kernel4Ideal.τ).loc Kernel4Ideal.main_arg0) = m ((c.tc : Thread Kernel4Ideal.nD Kernel4Ideal.τ).loc Kernel4Ideal.main_arg0)
      ∧ r.2.mem ((c.tc : Thread Kernel4Ideal.nD Kernel4Ideal.τ).loc Kernel4Ideal.main_arg1) = m ((c.tc : Thread Kernel4Ideal.nD Kernel4Ideal.τ).loc Kernel4Ideal.main_arg1)
      ∧ r.2.mem ((c.tc : Thread Kernel4Ideal.nD Kernel4Ideal.τ).loc Kernel4Ideal.main_arg2) = m ((c.tc : Thread Kernel4Ideal.nD Kernel4Ideal.τ).loc Kernel4Ideal.main_arg2)
      ∧ r.2.mem ((c.tc : Thread Kernel4Ideal.nD Kernel4Ideal.τ).loc Kernel4Ideal.main_arg3) = m ((c.tc : Thread Kernel4Ideal.nD Kernel4Ideal.τ).loc Kernel4Ideal.main_arg3)
      ∧ r.2.mem ((c.tc : Thread Kernel4Ideal.nD Kernel4Ideal.τ).loc Kernel4Ideal.main_arg4) = m ((c.tc : Thread Kernel4Ideal.nD Kernel4Ideal.τ).loc Kernel4Ideal.main_arg4))
      ∧ r.2.sem = fun _ => 0)

/-- That is what is claimed of the kernel as compiled: the two programs unfold to the same one. -/
theorem kernelRuns_eq : Cert.quiescent_Kernel4 (hKernel4 := Cert.Kernel4.Gen.facts) = kernelRuns := by sl_kernel_rfl

/-- The kernel as compiled runs and leaves its arguments alone. -/
theorem kernel_runs : Cert.quiescent_Kernel4 (hKernel4 := Cert.Kernel4.Gen.facts) :=
  kernelRuns_eq.mpr fun m ρ _ => Cert.Kernel4Ideal.Gen.frame m ρ

end Cert.EvenOut

end
-- ==== Proof.EvenOut.lean ====
module

public import proofs.«01_k».proof.Proof.EvenOutFrame
public import proofs.«01_k».proof.Proof.Gen.Reference4Ideal.Run
public import proofs.«01_k».proof.Proof.Index
public import Idealize.ShloMosaic.Lib.Pipeline.Value

/-! The output projection: every output block of the kernel is the block of the two inputs' products with their halves of the
weights, added. -/

@[expose] public section

set_option maxRecDepth 16384

noncomputable section

namespace Cert.EvenOut

open Idealize.ShloMosaic Idealize.SL.Sem Idealize.ShloMosaic.TcCoe
open Cert.Ix Cert.Kernel4Ideal Cert.Kernel4Ideal.Gen

/-- Row `k` of the weights' upper half. -/
def lo (k : Fin 2048) : Fin 4096 := ⟨k.val, by omega⟩

/-- Row `k` of the weights' lower half. -/
def hi (k : Fin 2048) : Fin 4096 := ⟨2048 + k.val, by omega⟩

/-- The two inputs' products with their halves of the first layer's weights, added. -/
def both {R : ℕ} (x y : (⟨2, ![R, 2048]⟩ : Shape).Idx → EReal) (w : S2x4096x4096.Idx → EReal) : (⟨2, ![R, 4096]⟩ : Shape).Idx → EReal :=
  fun z => (∑ k : Fin 2048, x (ix2 (z 0) k) * w (ix3 (0 : Fin 2) (lo k) (z 1))) + ∑ k : Fin 2048, y (ix2 (z 0) k) * w (ix3 (0 : Fin 2) (hi k) (z 1))

/-- What a grid point stores into the large output, from its blocks. -/
theorem outP_at (x y : Vec Ideal S1024x2048 .bf16) (v w : Vec Ideal S1x2048x512 .f32) (r : Fin 1024) (j : Fin 512) :
    outP (F := Ideal) x y v w (ix2 r j)
      = (∑ k : Fin 2048, x (ix2 r k) * v (ix3 (0 : Fin 1) k j)) + ∑ k : Fin 2048, y (ix2 r k) * w (ix3 (0 : Fin 1) k j) := by
  unfold outP rX rW rO
  rw [View.canon_unit_zero off2, View.ld_unit_zero off3, View.ld_unit_zero off3, View.ld_unit_zero off2, View.ld_unit_zero off2]
  pointwise [k0_pay3, k0_pay1, k0_pay2]

/-- What a grid point stores into the small output, from its blocks. -/
theorem outS_at (x y : Vec Ideal S32x2048 .bf16) (v w : Vec Ideal S1x2048x512 .f32) (r : Fin 32) (j : Fin 512) :
    outS (F := Ideal) x y v w (ix2 r j)
      = (∑ k : Fin 2048, x (ix2 r k) * v (ix3 (0 : Fin 1) k j)) + ∑ k : Fin 2048, y (ix2 r k) * w (ix3 (0 : Fin 1) k j) := by
  unfold outS rS rW rT
  rw [View.canon_unit_zero off2, View.ld_unit_zero off3, View.ld_unit_zero off3, View.ld_unit_zero off2, View.ld_unit_zero off2]
  pointwise [k0_pay4, k0_pay1, k0_pay2]

variable (m : (ℓ : Loc nD τ sig) → Buf (Elt Ideal) ℓ) (c : Dev nD)

/-- The large batch's first input. -/
abbrev kX : S8192x2048.Idx → EReal := m (c, Proc.tc.devRef main_arg0)

/-- The large batch's second input. -/
abbrev kY : S8192x2048.Idx → EReal := m (c, Proc.tc.devRef main_arg1)

/-- The small batch's first input. -/
abbrev kS : S32x2048.Idx → EReal := m (c, Proc.tc.devRef main_arg2)

/-- The small batch's second input. -/
abbrev kT : S32x2048.Idx → EReal := m (c, Proc.tc.devRef main_arg3)

/-- The weights. -/
abbrev kW : S2x4096x4096.Idx → EReal := m (c, Proc.tc.devRef main_arg4)

/-- Where window 0's block lies at each grid point. -/
theorem idx0 : ∀ t : Fin cfg0.N, win0_0.index t = ![t.val / 8, 0] :=
  (by decide +kernel : ∀ t : Fin grid0.N, win0_0.index t = ![t.val / 8, 0])

/-- Where window 1's block lies at each grid point. -/
theorem idx1 : ∀ t : Fin cfg0.N, win0_1.index t = ![0, 0] :=
  (by decide +kernel : ∀ t : Fin grid0.N, win0_1.index t = ![0, 0])

/-- Where window 2's block lies at each grid point. -/
theorem idx2 : ∀ t : Fin cfg0.N, win0_2.index t = ![0, 0, t.val % 8] :=
  (by decide +kernel : ∀ t : Fin grid0.N, win0_2.index t = ![0, 0, t.val % 8])

/-- Where window 3's block lies at each grid point. -/
theorem idx3 : ∀ t : Fin cfg0.N, win0_3.index t = ![t.val / 8, 0] :=
  (by decide +kernel : ∀ t : Fin grid0.N, win0_3.index t = ![t.val / 8, 0])

/-- Where window 4's block lies at each grid point. -/
theorem idx4 : ∀ t : Fin cfg0.N, win0_4.index t = ![0, 0] :=
  (by decide +kernel : ∀ t : Fin grid0.N, win0_4.index t = ![0, 0])

/-- Where window 5's block lies at each grid point. -/
theorem idx5 : ∀ t : Fin cfg0.N, win0_5.index t = ![0, 1, t.val % 8] :=
  (by decide +kernel : ∀ t : Fin grid0.N, win0_5.index t = ![0, 1, t.val % 8])

/-- Where window 6's block lies at each grid point. -/
theorem idx6 : ∀ t : Fin cfg0.N, win0_6.index t = ![t.val / 8, t.val % 8] :=
  (by decide +kernel : ∀ t : Fin grid0.N, win0_6.index t = ![t.val / 8, t.val % 8])

/-- Where window 7's block lies at each grid point. -/
theorem idx7 : ∀ t : Fin cfg0.N, win0_7.index t = ![0, min t.val 7] :=
  (by decide +kernel : ∀ t : Fin grid0.N, win0_7.index t = ![0, min t.val 7])

/-- A grid point is one of 64. -/
theorem tlt (t : Fin cfg0.N) : t.val < 64 := t.isLt

/-- Row `r` of a grid point's block within the array. -/
def rOf (t : ℕ) (r : Fin 1024) : Fin 8192 := ⟨1024 * (t / 8 % 8) + r.val, by omega⟩

/-- Column `j` of a grid point's block within the array. -/
def jOf (t : ℕ) (j : Fin 512) : Fin 4096 := ⟨512 * (t % 8) + j.val, by omega⟩

/-- A grid point's block of the large batch's first input. -/
theorem iblk0 (t : Fin cfg0.N) (r : Fin 1024) (k : Fin 2048) :
    (iblk m c 0 t : S1024x2048.Idx → EReal) (ix2 r k) = kX m c (ix2 (rOf t r) k) := by
  have ht := tlt t
  have e := idx0 t
  refine congrArg (kX m c) (?_ : (win0_0.rect t).emb _ = _)
  refine eq_ix2_of ?_ ?_ <;> refine Fin.ext ?_ <;> refine (Pipeline.Window.rect_emb_val win0_0 t _ _).trans ?_ <;>
    rw [e] <;> simp [rOf] <;> omega

/-- A grid point's block of the large batch's second input. -/
theorem iblk3 (t : Fin cfg0.N) (r : Fin 1024) (k : Fin 2048) :
    (iblk m c 3 t : S1024x2048.Idx → EReal) (ix2 r k) = kY m c (ix2 (rOf t r) k) := by
  have ht := tlt t
  have e := idx3 t
  refine congrArg (kY m c) (?_ : (win0_3.rect t).emb _ = _)
  refine eq_ix2_of ?_ ?_ <;> refine Fin.ext ?_ <;> refine (Pipeline.Window.rect_emb_val win0_3 t _ _).trans ?_ <;>
    rw [e] <;> simp [rOf] <;> omega

/-- The small batch's first input is one block. -/
theorem iblk1 (t : Fin cfg0.N) (r : Fin 32) (k : Fin 2048) :
    (iblk m c 1 t : S32x2048.Idx → EReal) (ix2 r k) = kS m c (ix2 r k) := by
  have e := idx1 t
  refine congrArg (kS m c) (?_ : (win0_1.rect t).emb _ = _)
  refine eq_ix2_of ?_ ?_ <;> refine Fin.ext ?_ <;> refine (Pipeline.Window.rect_emb_val win0_1 t _ _).trans ?_ <;>
    rw [e] <;> simp

/-- The small batch's second input is one block. -/
theorem iblk4 (t : Fin cfg0.N) (r : Fin 32) (k : Fin 2048) :
    (iblk m c 4 t : S32x2048.Idx → EReal) (ix2 r k) = kT m c (ix2 r k) := by
  have e := idx4 t
  refine congrArg (kT m c) (?_ : (win0_4.rect t).emb _ = _)
  refine eq_ix2_of ?_ ?_ <;> refine Fin.ext ?_ <;> refine (Pipeline.Window.rect_emb_val win0_4 t _ _).trans ?_ <;>
    rw [e] <;> simp

/-- A grid point's block of the weights' upper half. -/
theorem iblk2 (t : Fin cfg0.N) (k : Fin 2048) (j : Fin 512) :
    (iblk m c 2 t : S1x2048x512.Idx → EReal) (ix3 (0 : Fin 1) k j) = kW m c (ix3 (0 : Fin 2) (lo k) (jOf t j)) := by
  have e := idx2 t
  refine congrArg (kW m c) (?_ : (win0_2.rect t).emb _ = _)
  refine eq_ix3_of ?_ ?_ ?_ <;> refine Fin.ext ?_ <;> refine (Pipeline.Window.rect_emb_val win0_2 t _ _).trans ?_ <;>
    rw [e] <;> simp [jOf, lo] <;> omega

/-- A grid point's block of the weights' lower half. -/
theorem iblk5 (t : Fin cfg0.N) (k : Fin 2048) (j : Fin 512) :
    (iblk m c 5 t : S1x2048x512.Idx → EReal) (ix3 (0 : Fin 1) k j) = kW m c (ix3 (0 : Fin 2) (hi k) (jOf t j)) := by
  have e := idx5 t
  refine congrArg (kW m c) (?_ : (win0_5.rect t).emb _ = _)
  refine eq_ix3_of ?_ ?_ ?_ <;> refine Fin.ext ?_ <;> refine (Pipeline.Window.rect_emb_val win0_5 t _ _).trans ?_ <;>
    rw [e] <;> simp [jOf, hi] <;> omega

/-- The large batch's result is the sum of its two products. -/
theorem arr6 : (dats m 0 c).arrAt 6 cfg0.N = both (R := 8192) (kX m c) (kY m c) (kW m c) := by
  refine (dats m 0 c).arrAt_eq_of_cover 6 (both (R := 8192) (kX m c) (kY m c) (kW m c)) ?_ ?_
  · intro t hf
    have ht := tlt t
    refine funext fun (x : S1024x512.Idx) => ?_
    obtain ⟨r, j, rfl⟩ : ∃ (r : Fin 1024) (j : Fin 512), x = ix2 r j := ⟨x 0, x 1, (ix2_eta x).symm⟩
    have e := idx6 t
    refine Eq.trans ?_ (congrArg (both (R := 8192) (kX m c) (kY m c) (kW m c)) (?_ : ix2 (rOf t r) (jOf t j) = (win0_6.rect t).emb (ix2 r j)))
    · refine (congrFun (after6 m c t) (ix2 r j)).trans ((outP_at (iblk m c 0 t) (iblk m c 3 t) (iblk m c 2 t) (iblk m c 5 t) r j).trans ?_)
      refine congrArg₂ (· + ·) (Finset.sum_congr rfl fun k _ => ?_) (Finset.sum_congr rfl fun k _ => ?_)
      · rw [iblk0, iblk2]; rfl
      · rw [iblk3, iblk5]; rfl
    · refine (eq_ix2_of ?_ ?_).symm <;> refine Fin.ext ?_ <;> refine (Pipeline.Window.rect_emb_val win0_6 t _ _).trans ?_ <;>
        rw [e] <;> simp [rOf, jOf] <;> omega
  · refine fun (i : S8192x4096.Idx) => ?_
    obtain ⟨r, j, rfl⟩ : ∃ (r : Fin 8192) (j : Fin 4096), i = ix2 r j := ⟨i 0, i 1, (ix2_eta i).symm⟩
    have ht : 8 * (r.val / 1024) + j.val / 512 < cfg0.N := show 8 * (r.val / 1024) + j.val / 512 < 64 by omega
    refine ⟨⟨8 * (r.val / 1024) + j.val / 512, ht⟩, flush0_6 _, ?_⟩
    have e := idx6 ⟨8 * (r.val / 1024) + j.val / 512, ht⟩
    refine Eq.subst (motive := fun z => z ∈ ((cfg0.win 6).blk ⟨8 * (r.val / 1024) + j.val / 512, ht⟩).view.set)
      (?_ : (win0_6.rect ⟨8 * (r.val / 1024) + j.val / 512, ht⟩).emb (ix2 (⟨r.val % 1024, by omega⟩ : Fin 1024) (⟨j.val % 512, by omega⟩ : Fin 512)) = _)
      (((cfg0.win 6).blk ⟨8 * (r.val / 1024) + j.val / 512, ht⟩).view.emb_mem_set (ix2 (⟨r.val % 1024, by omega⟩ : Fin 1024) (⟨j.val % 512, by omega⟩ : Fin 512)))
    refine eq_ix2_of ?_ ?_ <;> refine Fin.ext ?_ <;> refine (Pipeline.Window.rect_emb_val win0_6 _ _ _).trans ?_ <;>
      rw [e] <;> simp <;> omega

/-- The small batch's result is the sum of its two products. -/
theorem arr7 : (dats m 0 c).arrAt 7 cfg0.N = both (R := 32) (kS m c) (kT m c) (kW m c) := by
  refine (dats m 0 c).arrAt_eq_of_cover 7 (both (R := 32) (kS m c) (kT m c) (kW m c)) ?_ ?_
  · intro t hf
    have ht := tlt t
    refine funext fun (x : S32x512.Idx) => ?_
    obtain ⟨r, j, rfl⟩ : ∃ (r : Fin 32) (j : Fin 512), x = ix2 r j := ⟨x 0, x 1, (ix2_eta x).symm⟩
    have e := idx7 t
    refine Eq.trans ?_ (congrArg (both (R := 32) (kS m c) (kT m c) (kW m c)) (?_ : ix2 r (jOf (keptAt t) j) = (win0_7.rect t).emb (ix2 r j)))
    · refine (congrFun (after7 m c t) (ix2 r j)).trans ((outS_at (iblk m c 1 (keptAt t)) (iblk m c 4 (keptAt t)) (iblk m c 2 (keptAt t)) (iblk m c 5 (keptAt t)) r j).trans ?_)
      refine congrArg₂ (· + ·) (Finset.sum_congr rfl fun k _ => ?_) (Finset.sum_congr rfl fun k _ => ?_)
      · rw [iblk1, iblk2]; rfl
      · rw [iblk4, iblk5]; rfl
    · refine (eq_ix2_of ?_ ?_).symm <;> refine Fin.ext ?_ <;> refine (Pipeline.Window.rect_emb_val win0_7 t _ _).trans ?_ <;>
        rw [e] <;> simp [jOf, keptAt] <;> omega
  · refine fun (i : S32x4096.Idx) => ?_
    obtain ⟨r, j, rfl⟩ : ∃ (r : Fin 32) (j : Fin 4096), i = ix2 r j := ⟨i 0, i 1, (ix2_eta i).symm⟩
    have ht : (if j.val / 512 < 7 then j.val / 512 else 63) < cfg0.N := show _ < 64 by split <;> omega
    refine ⟨⟨if j.val / 512 < 7 then j.val / 512 else 63, ht⟩, (flush7 _).trans (decide_eq_true (by simp only; split <;> omega)), ?_⟩
    have e := idx7 ⟨if j.val / 512 < 7 then j.val / 512 else 63, ht⟩
    have hm : min (if j.val / 512 < 7 then j.val / 512 else 63) 7 = j.val / 512 := by split <;> omega
    rw [show (⟨if j.val / 512 < 7 then j.val / 512 else 63, ht⟩ : Fin cfg0.N).val = (if j.val / 512 < 7 then j.val / 512 else 63) from rfl, hm] at e
    refine Eq.subst (motive := fun z => z ∈ ((cfg0.win 7).blk ⟨if j.val / 512 < 7 then j.val / 512 else 63, ht⟩).view.set)
      (?_ : (win0_7.rect ⟨if j.val / 512 < 7 then j.val / 512 else 63, ht⟩).emb (ix2 r (⟨j.val % 512, by omega⟩ : Fin 512)) = _)
      (((cfg0.win 7).blk ⟨if j.val / 512 < 7 then j.val / 512 else 63, ht⟩).view.emb_mem_set (ix2 r (⟨j.val % 512, by omega⟩ : Fin 512)))
    refine eq_ix2_of ?_ ?_ <;> refine Fin.ext ?_ <;> refine (Pipeline.Window.rect_emb_val win0_7 _ _ _).trans ?_ <;>
      rw [e] <;> simp <;> omega

/-- After the run the two results are the sums of the two products and the arguments are as launched. -/
theorem run (ρ : Dev nD → PrngReg) : θ_run defs (onTc (τ := τ) (main (F := Ideal))) ⟨m, fun _ => 0, ρ⟩ fun r => ∀ c : Dev nD,
      r.2.mem ((c : Thread nD τ).loc main_v0_0) = both (R := 8192) (kX m c) (kY m c) (kW m c)
      ∧ r.2.mem ((c : Thread nD τ).loc main_v0_1) = both (R := 32) (kS m c) (kT m c) (kW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).1 6).trans (arr6 m c), ((h.1 c).1 7).trans (arr7 m c), h.2.1 c⟩)
    (θ_run_and (run_main m ρ) (frame m ρ))

end Cert.EvenOut

end
-- ==== Proof.EvenOutRef.lean ====
module

public import proofs.«01_k».proof.Proof.EvenOut
public import Idealize.ShloMosaic.Lib.Quiescent

/-! What the reference of the output projection leaves in memory at its end. -/

@[expose] public section

set_option maxRecDepth 16384

noncomputable section

namespace Cert.EvenOut.Ref

open Idealize.ShloMosaic Idealize.SL.Sem Idealize.ShloMosaic.TcCoe
open Cert.Ix Cert.Reference4Ideal Cert.Reference4Ideal.Gen

/-- A sum over the weights' rows is the sum over their upper half plus that over their lower half. -/
theorem sum_halves (f : Fin 4096 → EReal) : ∑ k, f k = (∑ k : Fin 2048, f (lo k)) + ∑ k : Fin 2048, f (hi k) :=
  Fin.sum_univ_add (a := 2048) (b := 2048) f

/-- The reference's operations on the large batch are the sum of its two products. -/
theorem refP (x y : FVec Ideal S8192x2048 .bf16) (w : FVec Ideal S2x4096x4096 .f32) :
    Host.dotGeneral dot_S8192x4096_S4096x4096_S8192x4096_1_0_0_1_n_n none (concatenate S8192x4096 1 [⟨S8192x2048, x⟩, ⟨S8192x2048, y⟩] Facts₀.concatenates_S8192x2048_S8192x2048_S8192x4096_d1) (shapeCast _ (extractStridedSlice S1x4096x4096 ![0, 0, 0] w Facts₀.slices_S2x4096x4096_S1x4096x4096_0_0_0) Facts₀.shapeCasts_S1x4096x4096_S4096x4096)
      = both (R := 8192) x y w := by
  refine funext fun (z : S8192x4096.Idx) => ?_
  obtain ⟨r, j, rfl⟩ : ∃ (r : Fin 8192) (j : Fin 4096), z = ix2 r j := ⟨z 0, z 1, (ix2_eta z).symm⟩
  generalize hc : concatenate S8192x4096 1 [⟨S8192x2048, x⟩, ⟨S8192x2048, y⟩] Facts₀.concatenates_S8192x2048_S8192x2048_S8192x4096_d1 = C
  have hl (k : Fin 2048) : C (ix2 r (lo k)) = x (ix2 r k) := by
    rw [← hc]
    refine concatenate_pair_apply_left (t := S8192x4096) (s₁ := S8192x2048) (s₂ := S8192x2048) 1 x y _ (ix2 r (lo k)) rfl (ix2 r k) fun b => ?_
    fin_cases b <;> rfl
  have hr (k : Fin 2048) : C (ix2 r (hi k)) = y (ix2 r k) := by
    rw [← hc]
    refine concatenate_pair_apply_right (t := S8192x4096) (s₁ := S8192x2048) (s₂ := S8192x2048) 1 x y _ (ix2 r (hi k)) rfl rfl (ix2 r k) (fun b hb => ?_) (Nat.add_comm k.val 2048)
    fin_cases b
    · rfl
    · exact absurd rfl hb
  refine Eq.trans (b := ∑ k : Fin 4096, C (ix2 r k) * w (ix3 (0 : Fin 2) k j)) ?_ ?_
  · pointwise []
  · rw [sum_halves]
    simp only [hl, hr]
    rfl

/-- The reference's operations on the small batch are the sum of its two products. -/
theorem refS (x y : FVec Ideal S32x2048 .bf16) (w : FVec Ideal S2x4096x4096 .f32) :
    Host.dotGeneral dot_S32x4096_S4096x4096_S32x4096_1_0_0_1_n_n none (concatenate S32x4096 1 [⟨S32x2048, x⟩, ⟨S32x2048, y⟩] Facts₀.concatenates_S32x2048_S32x2048_S32x4096_d1) (shapeCast _ (extractStridedSlice S1x4096x4096 ![0, 0, 0] w Facts₀.slices_S2x4096x4096_S1x4096x4096_0_0_0) Facts₀.shapeCasts_S1x4096x4096_S4096x4096)
      = both (R := 32) x y w := by
  refine funext fun (z : S32x4096.Idx) => ?_
  obtain ⟨r, j, rfl⟩ : ∃ (r : Fin 32) (j : Fin 4096), z = ix2 r j := ⟨z 0, z 1, (ix2_eta z).symm⟩
  generalize hc : concatenate S32x4096 1 [⟨S32x2048, x⟩, ⟨S32x2048, y⟩] Facts₀.concatenates_S32x2048_S32x2048_S32x4096_d1 = C
  have hl (k : Fin 2048) : C (ix2 r (lo k)) = x (ix2 r k) := by
    rw [← hc]
    refine concatenate_pair_apply_left (t := S32x4096) (s₁ := S32x2048) (s₂ := S32x2048) 1 x y _ (ix2 r (lo k)) rfl (ix2 r k) fun b => ?_
    fin_cases b <;> rfl
  have hr (k : Fin 2048) : C (ix2 r (hi k)) = y (ix2 r k) := by
    rw [← hc]
    refine concatenate_pair_apply_right (t := S32x4096) (s₁ := S32x2048) (s₂ := S32x2048) 1 x y _ (ix2 r (hi k)) rfl rfl (ix2 r k) (fun b hb => ?_) (Nat.add_comm k.val 2048)
    fin_cases b
    · rfl
    · exact absurd rfl hb
  refine Eq.trans (b := ∑ k : Fin 4096, C (ix2 r k) * w (ix3 (0 : Fin 2) k j)) ?_ ?_
  · pointwise []
  · rw [sum_halves]
    simp only [hl, hr]
    rfl

variable (m : (ℓ : Loc nD τ sig) → Buf (Elt Ideal) ℓ) (ρ : Dev nD → PrngReg)

/-- The reference runs, ends with the two sums of products as results and leaves its arguments alone. -/
theorem run : θ_run defs (onTc (τ := τ) (main (F := Ideal))) ⟨m, fun _ => 0, ρ⟩ fun r => ∀ c : Dev nD,
      r.2.mem ((c : Thread nD τ).loc main_v3) = both (R := 8192) (m (c, Proc.tc.devRef main_arg0)) (m (c, Proc.tc.devRef main_arg1)) (m (c, Proc.tc.devRef main_arg4))
      ∧ r.2.mem ((c : Thread nD τ).loc main_v7) = both (R := 32) (m (c, Proc.tc.devRef main_arg2)) (m (c, Proc.tc.devRef main_arg3)) (m (c, Proc.tc.devRef main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (refP _ _ _), (h c).2.1.trans (refS _ _ _), (h c).2.2⟩) (Cert.Reference4Ideal.Value.run m ρ)

/-- The reference runs, leaves its arguments alone and ends with every counter at zero: it has no counters. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2, sem_eq_zero_of_no_sems (by decide) r.2⟩) (run m ρ)

end Cert.EvenOut.Ref

end
-- ==== Proof.Shift.lean ====
module

public import proofs.«01_k».proof.Proof.Index
public import Idealize.ShloMosaic.Lib.Pipeline.ValueKit.Geometry
public import Idealize.ShloMosaic.Lib.Pipeline.ValueKit.Tiles

/-! A cache moved on by one row: its oldest row dropped, a new row appended. -/

@[expose] public section

set_option maxRecDepth 16384

noncomputable section

namespace Cert.Shift

open Idealize.ShloMosaic Cert.Ix

variable {α : Type} {B N H D : ℕ}

/-- An index of rank 4 by its coordinates. -/
theorem eq_ix4_of {n0 n1 n2 n3 : ℕ} {x : (⟨4, ![n0, n1, n2, n3]⟩ : Shape).Idx} {a : Fin n0} {b : Fin n1} {c : Fin n2} {d : Fin n3}
    (h0 : x 0 = a) (h1 : x 1 = b) (h2 : x 2 = c) (h3 : x 3 = d) : x = ix4 a b c d := by
  subst h0; subst h1; subst h2; subst h3; exact (ix4_eta x).symm

/-- The cache `x` without its first row and with `w` as a new last row. -/
def appendRow (x : (⟨4, ![B, N, H, D]⟩ : Shape).Idx → α) (w : (⟨3, ![B, H, D]⟩ : Shape).Idx → α) :
    (⟨4, ![B, N, H, D]⟩ : Shape).Idx → α :=
  fun y => if h : (y 1).val + 1 < N then x (ix4 (y 0) ⟨(y 1).val + 1, h⟩ (y 2) (y 3)) else w (ix3 (y 0) (y 2) (y 3))

/-- Above the last row the moved cache holds the next row of the cache. -/
theorem append_lt (x : (⟨4, ![B, N, H, D]⟩ : Shape).Idx → α) (w : (⟨3, ![B, H, D]⟩ : Shape).Idx → α) (b : Fin B) (r : Fin N)
    (h : Fin H) (d : Fin D) (hr : r.val + 1 < N) : appendRow x w (ix4 b r h d) = x (ix4 b (⟨r.val + 1, hr⟩ : Fin N) h d) := by
  have hr' : ((ix4 b r h d : (⟨4, ![B, N, H, D]⟩ : Shape).Idx) 1).val + 1 < N := hr
  unfold appendRow
  rw [dif_pos hr']
  rfl

/-- In the last row the moved cache holds the new row. -/
theorem append_last (x : (⟨4, ![B, N, H, D]⟩ : Shape).Idx → α) (w : (⟨3, ![B, H, D]⟩ : Shape).Idx → α) (b : Fin B) (r : Fin N)
    (h : Fin H) (d : Fin D) (hr : ¬ r.val + 1 < N) : appendRow x w (ix4 b r h d) = w (ix3 b h d) := by
  have hr' : ¬ ((ix4 b r h d : (⟨4, ![B, N, H, D]⟩ : Shape).Idx) 1).val + 1 < N := hr
  unfold appendRow
  rw [dif_neg hr']
  rfl

/-- Rows read one row further down are rows of the moved cache. -/
theorem rows_at {n r : ℕ} (x : (⟨4, ![B, N, H, D]⟩ : Shape).Idx → α) (w : (⟨3, ![B, H, D]⟩ : Shape).Idx → α)
    (o o' : Fin 4 → ℕ) (ho : o = ![0, r, 0, 0]) (ho' : o' = ![0, r + 1, 0, 0]) (hn : r + n + 1 ≤ N)
    (inb : ∀ a, o a + (![B, n, H, D] : Fin 4 → ℕ) a ≤ (⟨4, ![B, N, H, D]⟩ : Shape).size a)
    (inb' : ∀ a, o' a + (![B, n, H, D] : Fin 4 → ℕ) a ≤ (⟨4, ![B, N, H, D]⟩ : Shape).size a)
    (z : (⟨4, ![B, n, H, D]⟩ : Shape).Idx) :
    x ((Rect.unit (s := ⟨4, ![B, N, H, D]⟩) o' ![B, n, H, D] inb').emb z)
      = appendRow x w ((Rect.unit (s := ⟨4, ![B, N, H, D]⟩) o ![B, n, H, D] inb).emb z) := by
  subst ho; subst ho'
  have hz : (z 1).val < n := (z 1).isLt
  have e (a : Fin 4) := ValueKit.rect_emb_unit_val (s := ⟨4, ![B, N, H, D]⟩) _ _ inb z a
  have e' (a : Fin 4) := ValueKit.rect_emb_unit_val (s := ⟨4, ![B, N, H, D]⟩) _ _ inb' z a
  have h1 : (((Rect.unit (s := ⟨4, ![B, N, H, D]⟩) _ ![B, n, H, D] inb).emb z) 1).val + 1 < N := by
    rw [e 1]; simp; omega
  unfold appendRow
  rw [dif_pos h1]
  refine congrArg x (eq_ix4_of ?_ ?_ ?_ ?_) <;> refine Fin.ext ?_
  · rw [e' 0, e 0]; rfl
  · show _ = _ + 1
    rw [e' 1, e 1]; simp; omega
  · rw [e' 2, e 2]; rfl
  · rw [e' 3, e 3]; rfl

/-- The last row of the moved cache is the new one. -/
theorem last_at (x : (⟨4, ![B, N + 1, H, D]⟩ : Shape).Idx → α) (w : (⟨3, ![B, H, D]⟩ : Shape).Idx → α)
    (inb : ∀ a, (![0, N, 0, 0] : Fin 4 → ℕ) a + (![B, 1, H, D] : Fin 4 → ℕ) a ≤ (⟨4, ![B, N + 1, H, D]⟩ : Shape).size a)
    (b : Fin B) (z : Fin 1) (h : Fin H) (d : Fin D) :
    appendRow x w ((Rect.unit (s := ⟨4, ![B, N + 1, H, D]⟩) ![0, N, 0, 0] ![B, 1, H, D] inb).emb (ix4 b z h d)) = w (ix3 b h d) := by
  have e (a : Fin 4) := ValueKit.rect_emb_unit_val (s := ⟨4, ![B, N + 1, H, D]⟩) _ _ inb (ix4 b z h d) a
  unfold appendRow
  rw [dif_neg (by rw [e 1]; simp)]
  refine congrArg w (eq_ix3_of (Fin.ext ?_) (Fin.ext ?_) (Fin.ext ?_))
  · exact (e 0).trans (Nat.zero_add _)
  · exact (e 2).trans (Nat.zero_add _)
  · exact (e 3).trans (Nat.zero_add _)

/-- Appending a row and dropping the first one, as the reference does it. -/
theorem append_eq (x : (⟨4, ![B, N, H, D]⟩ : Shape).Idx → α) (w : (⟨3, ![B, H, D]⟩ : Shape).Idx → α)
    (w' : (⟨4, ![B, 1, H, D]⟩ : Shape).Idx → α) (hw : ∀ b h d, w' (ix4 b (0 : Fin 1) h d) = w (ix3 b h d)) (hc) (hs) :
    extractStridedSlice ⟨4, ![B, N, H, D]⟩ ![0, 1, 0, 0] (concatenate ⟨4, ![B, N + 1, H, D]⟩ 1 [⟨⟨4, ![B, N, H, D]⟩, x⟩,
      ⟨⟨4, ![B, 1, H, D]⟩, w'⟩] hc) hs = appendRow x w := by
  refine funext fun (y : (⟨4, ![B, N, H, D]⟩ : Shape).Idx) => ?_
  obtain ⟨b, r, h, d, rfl⟩ : ∃ (b : Fin B) (r : Fin N) (h : Fin H) (d : Fin D), y = ix4 b r h d := ⟨y 0, y 1, y 2, y 3, (ix4_eta y).symm⟩
  generalize hC : concatenate ⟨4, ![B, N + 1, H, D]⟩ 1 [⟨⟨4, ![B, N, H, D]⟩, x⟩, ⟨⟨4, ![B, 1, H, D]⟩, w'⟩] hc = C
  refine Eq.trans (b := C (ix4 b (⟨r.val + 1, by omega⟩ : Fin (N + 1)) h d)) ?_ ?_
  · exact congrArg C (eq_ix4_of (Fin.ext (Nat.zero_add _)) (Fin.ext (Nat.add_comm 1 _)) (Fin.ext (Nat.zero_add _)) (Fin.ext (Nat.zero_add _)))
  · rw [← hC]
    by_cases hr : r.val + 1 < N
    · refine Eq.trans ?_ (append_lt x w b r h d hr).symm
      refine concatenate_pair_apply_left (t := ⟨4, ![B, N + 1, H, D]⟩) (s₁ := ⟨4, ![B, N, H, D]⟩) (s₂ := ⟨4, ![B, 1, H, D]⟩) 1 x w' _ _ rfl (ix4 b (⟨r.val + 1, hr⟩ : Fin N) h d) fun a => ?_
      fin_cases a <;> rfl
    · refine Eq.trans ?_ ((hw b h d).trans (append_last x w b r h d hr).symm)
      refine concatenate_pair_apply_right (t := ⟨4, ![B, N + 1, H, D]⟩) (s₁ := ⟨4, ![B, N, H, D]⟩) (s₂ := ⟨4, ![B, 1, H, D]⟩) 1 x w' _ _ rfl rfl (ix4 b (0 : Fin 1) h d) (fun a ha => ?_) ?_
      · fin_cases a
        · rfl
        · exact absurd rfl ha
        · rfl
        · rfl
      · show 0 + N = r.val + 1
        omega

end Cert.Shift

end
-- ==== Proof.SwaShift.lean ====
module

public import proofs.«01_k».proof.Proof.Gen.Kernel5Ideal.Value
public import proofs.«01_k».proof.Proof.Gen.Reference5Ideal.Run
public import proofs.«01_k».proof.Proof.Shift
public import Idealize.ShloMosaic.Lib.Quiescent

/-! The small cache's shift: each grid point copies one sequence's cache one row up and puts the new row last. -/

@[expose] public section

set_option maxRecDepth 16384

noncomputable section

namespace Cert.SwaShift

open Idealize.ShloMosaic Idealize.SL.Sem Idealize.ShloMosaic.TcCoe
open Cert.Ix Cert.Shift Cert.Kernel5Ideal Cert.Kernel5Ideal.Gen

section Block

variable (𝒱 : Variants) (c : Dev nD) (bd : Option 𝒱.V) (i : grid0.Coords)
variable (arg1 : Memref sig .tc .vmem S1x128x4x64 .f32) (harg1 : arg1.IsWhole)
variable (arg2 : Memref sig .tc .vmem S1x4x64 .f32) (harg2 : arg2.IsWhole)
variable (arg3 : Memref sig .tc .vmem S1x128x4x64 .f32) (harg3 : arg3.IsWhole)

/-- The rows of a full step are stored as read. -/
theorem pay1_eq (v : Vec Ideal S1x64x4x64 .f32) : k0_pay1 v = v := by
  unfold k0_pay1; exact shapeCast_shapeCast _ _ _

/-- The rows left over are stored as read. -/
theorem pay2_eq (v : Vec Ideal S1x63x4x64 .f32) : k0_pay2 v = v := by
  unfold k0_pay2; exact shapeCast_shapeCast _ _ _

/-- The new row is stored as read. -/
theorem pay3_at (v : Vec Ideal S1x4x64 .f32) (z b : Fin 1) (h : Fin 4) (d : Fin 64) : k0_pay3 v (ix4 b z h d) = v (ix3 b h d) := by
  obtain rfl : z = 0 := Subsingleton.elim _ _
  obtain rfl : b = 0 := Subsingleton.elim _ _
  pointwise [k0_pay3]

/-- Every piece a grid point stores is a part of the moved cache. -/
theorem run_pieces (x0 : Vec Ideal S1x128x4x64 .f32) (x1 : Vec Ideal S1x4x64 .f32) :
    ∀ p ∈ (kernelRun0_A (F := Ideal) c i arg1 harg1 arg2 harg2 arg3 harg3 x0 x1).1, ∀ z : p.1.shape.Idx,
      p.2 z = appendRow (α := EReal) x0 x1 (p.1.emb z) := by
  unfold kernelRun0_A
  dsimp only
  intro p hp
  rcases List.mem_cons.mp hp with rfl | hp
  · refine fun (z : S1x1x4x64.Idx) => ?_
    obtain ⟨a, b, h, d, rfl⟩ : ∃ (a b : Fin 1) (h : Fin 4) (d : Fin 64), z = ix4 a b h d := ⟨z 0, z 1, z 2, z 3, (ix4_eta z).symm⟩
    refine Eq.trans ?_ (last_at (α := EReal) (N := 127) x0 x1 inb_S1x128x4x64_S1x1x4x64_0_127_0_0 a b h d).symm
    rw [View.readAt_eq_ld, harg2.read_unread, View.ld_unit_zero off3]
    exact pay3_at x1 b a h d
  rcases List.mem_cons.mp hp with rfl | hp
  · refine fun (z : S1x63x4x64.Idx) => ?_
    refine Eq.trans ?_ (rows_at (α := EReal) (B := 1) (N := 128) (H := 4) (D := 64) (n := 63) (r := 64) x0 x1 _ _ rfl rfl (by omega) inb_S1x128x4x64_S1x63x4x64_0_64_0_0 inb_S1x128x4x64_S1x63x4x64_0_65_0_0 z)
    rw [View.readAt_eq_ld, harg1.read_unread]
    exact congrFun (pay2_eq (fun y => x0 ((Rect.unit (s := S1x128x4x64) ![0, 65, 0, 0] S1x63x4x64.size inb_S1x128x4x64_S1x63x4x64_0_65_0_0).emb y))) z
  · obtain rfl := List.mem_singleton.mp hp
    refine fun (z : S1x64x4x64.Idx) => ?_
    refine Eq.trans ?_ (rows_at (α := EReal) (B := 1) (N := 128) (H := 4) (D := 64) (n := 64) (r := 0) x0 x1 _ _ (by decide) (by decide) (by omega) k0_off2_inb k0_off1_inb z)
    rw [View.readAt_eq_ld, harg1.read_unread]
    exact congrFun (pay1_eq (fun y => x0 ((Rect.unit (s := S1x128x4x64) k0_off1 S1x64x4x64.size k0_off1_inb).emb y))) z

/-- What a grid point leaves in its block: the block of the cache moved on by one row. -/
theorem block_eq (x0 : Vec Ideal S1x128x4x64 .f32) (x1 : Vec Ideal S1x4x64 .f32) :
    out0_A_2 (F := Ideal) c i arg1 harg1 arg2 harg2 arg3 harg3 x0 x1 = appendRow (α := EReal) x0 x1 := by
  unfold out0_A_2
  rw [View.read_writes_junk_eq_canon]
  exact funext fun y => View.canon_apply_of_pieces (appendRow (α := EReal) x0 x1) _ (run_pieces c i arg1 harg1 arg2 harg2 arg3 harg3 x0 x1) y
    (cover0_A_2 c i arg1 harg1 arg2 harg2 arg3 harg3 x0 x1 y)

end Block

section Array

variable (m : (ℓ : Loc nD τ sig) → Buf (Elt Ideal) ℓ) (c : Dev nD)

/-- The cache the kernel is given. -/
abbrev kX : S32x128x4x64.Idx → EReal := m (c, Proc.tc.devRef main_arg0)

/-- The new rows the kernel is given. -/
abbrev kW : S32x4x64.Idx → EReal := m (c, Proc.tc.devRef main_arg1)

/-- A grid point is one of 32. -/
theorem tlt (t : Fin cfg0.N) : t.val < 32 := t.isLt

/-- The sequence a grid point works on. -/
def bOf (t : ℕ) : Fin 32 := ⟨t % 32, by omega⟩

/-- Where window 0's block lies at each grid point. -/
theorem idx0 : ∀ t : Fin cfg0.N, win0_0.index t = ![t.val, 0, 0, 0] :=
  (by decide +kernel : ∀ t : Fin grid0.N, win0_0.index t = ![t.val, 0, 0, 0])

/-- Where window 1's block lies at each grid point. -/
theorem idx1 : ∀ t : Fin cfg0.N, win0_1.index t = ![t.val, 0, 0] :=
  (by decide +kernel : ∀ t : Fin grid0.N, win0_1.index t = ![t.val, 0, 0])

/-- Where window 2's block lies at each grid point. -/
theorem idx2 : ∀ t : Fin cfg0.N, win0_2.index t = ![t.val, 0, 0, 0] :=
  (by decide +kernel : ∀ t : Fin grid0.N, win0_2.index t = ![t.val, 0, 0, 0])

/-- A grid point's block of the cache. -/
theorem iblk0 (t : Fin cfg0.N) (r : Fin 128) (h : Fin 4) (d : Fin 64) :
    (iblk m c 0 t : S1x128x4x64.Idx → EReal) (ix4 (0 : Fin 1) r h d) = kX m c (ix4 (bOf t) r h d) := by
  have ht := tlt t
  have e := idx0 t
  refine congrArg (kX m c) (?_ : (win0_0.rect t).emb _ = _)
  refine eq_ix4_of ?_ ?_ ?_ ?_ <;> refine Fin.ext ?_ <;> refine (Pipeline.Window.rect_emb_val win0_0 t _ _).trans ?_ <;>
    rw [e] <;> simp [bOf] <;> omega

/-- A grid point's new row. -/
theorem iblk1 (t : Fin cfg0.N) (h : Fin 4) (d : Fin 64) :
    (iblk m c 1 t : S1x4x64.Idx → EReal) (ix3 (0 : Fin 1) h d) = kW m c (ix3 (bOf t) h d) := by
  have ht := tlt t
  have e := idx1 t
  refine congrArg (kW m c) (?_ : (win0_1.rect t).emb _ = _)
  refine eq_ix3_of ?_ ?_ ?_ <;> refine Fin.ext ?_ <;> refine (Pipeline.Window.rect_emb_val win0_1 t _ _).trans ?_ <;>
    rw [e] <;> simp [bOf] <;> omega

/-- The kernel's result is the cache moved on by one row. -/
theorem arr2 : (dats m 0 c).arrAt 2 cfg0.N = appendRow (α := EReal) (kX m c) (kW m c) := by
  refine (dats m 0 c).arrAt_eq_of_cover 2 (appendRow (α := EReal) (kX m c) (kW m c)) ?_ ?_
  · intro t hf
    have ht := tlt t
    have e := idx2 t
    rw [Value.flushed2_A, block_eq]
    refine funext fun (x : S1x128x4x64.Idx) => ?_
    obtain ⟨z, r, h, d, rfl⟩ : ∃ (z : Fin 1) (r : Fin 128) (h : Fin 4) (d : Fin 64), x = ix4 z r h d := ⟨x 0, x 1, x 2, x 3, (ix4_eta x).symm⟩
    obtain rfl : z = 0 := Subsingleton.elim _ _
    refine Eq.trans ?_ (congrArg (appendRow (α := EReal) (kX m c) (kW m c)) (?_ : ix4 (bOf t) r h d = (win0_2.rect t).emb (ix4 (0 : Fin 1) r h d)))
    · show appendRow (α := EReal) (iblk m c 0 t : S1x128x4x64.Idx → EReal) (iblk m c 1 t : S1x4x64.Idx → EReal) (ix4 (0 : Fin 1) r h d) = _
      by_cases hr : r.val + 1 < 128
      · exact (append_lt _ _ _ _ _ _ hr).trans ((iblk0 m c t ⟨r.val + 1, hr⟩ h d).trans (append_lt _ _ _ _ _ _ hr).symm)
      · exact (append_last _ _ _ _ _ _ hr).trans ((iblk1 m c t h d).trans (append_last _ _ _ _ _ _ hr).symm)
    · refine (eq_ix4_of ?_ ?_ ?_ ?_).symm <;> refine Fin.ext ?_ <;> refine (Pipeline.Window.rect_emb_val win0_2 t _ _).trans ?_ <;>
        rw [e] <;> simp [bOf] <;> omega
  · refine fun (y : S32x128x4x64.Idx) => ?_
    obtain ⟨b, r, h, d, rfl⟩ : ∃ (b : Fin 32) (r : Fin 128) (h : Fin 4) (d : Fin 64), y = ix4 b r h d := ⟨y 0, y 1, y 2, y 3, (ix4_eta y).symm⟩
    have ht : b.val < cfg0.N := show b.val < 32 from b.isLt
    refine ⟨⟨b.val, ht⟩, flush0_2 _, ?_⟩
    have e := idx2 ⟨b.val, ht⟩
    refine Eq.subst (motive := fun z => z ∈ ((cfg0.win 2).blk ⟨b.val, ht⟩).view.set)
      (?_ : (win0_2.rect ⟨b.val, ht⟩).emb (ix4 (0 : Fin 1) r h d) = _)
      (((cfg0.win 2).blk ⟨b.val, ht⟩).view.emb_mem_set (ix4 (0 : Fin 1) r h d))
    refine eq_ix4_of ?_ ?_ ?_ ?_ <;> refine Fin.ext ?_ <;> refine (Pipeline.Window.rect_emb_val win0_2 _ _ _).trans ?_ <;>
      rw [e] <;> simp

/-- The kernel runs, ends with the moved cache as result and leaves its arguments alone. -/
theorem run (ρ : Dev nD → PrngReg) : θ_run defs (onTc (τ := τ) (main (F := Ideal))) ⟨m, fun _ => 0, ρ⟩ fun r => ∀ c : Dev nD,
      r.2.mem ((c : Thread nD τ).loc main_v0) = appendRow (α := EReal) (kX m c) (kW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr2 m c), (h c).2⟩) (Cert.Kernel5Ideal.Value.run_blocks m ρ)

end Array

end Cert.SwaShift

namespace Cert.SwaShift.Ref

open Idealize.ShloMosaic Idealize.SL.Sem Idealize.ShloMosaic.TcCoe
open Cert.Shift Cert.Reference5Ideal Cert.Reference5Ideal.Gen

variable (m : (ℓ : Loc nD τ sig) → Buf (Elt Ideal) ℓ) (ρ : Dev nD → PrngReg)

/-- The reference runs, ends with the moved cache as result and leaves its arguments alone. -/
theorem run : θ_run defs (onTc (τ := τ) (main (F := Ideal))) ⟨m, fun _ => 0, ρ⟩ fun r => ∀ c : Dev nD,
      r.2.mem ((c : Thread nD τ).loc main_v2) = appendRow (α := EReal) (B := 32) (N := 128) (H := 4) (D := 64) (m (c, Proc.tc.devRef main_arg0)) (m (c, Proc.tc.devRef main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (append_eq (N := 128) _ _ _ (fun b h d => by pointwise []) _ _), (h c).2⟩) (Cert.Reference5Ideal.Value.run m ρ)

/-- The reference runs, leaves its arguments alone and ends with every counter at zero: it has no counters. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (run m ρ)

end Cert.SwaShift.Ref

end
-- ==== Proof.DilShift.lean ====
module

public import proofs.«01_k».proof.Proof.Gen.Kernel6Ideal.Value
public import proofs.«01_k».proof.Proof.Gen.Reference6Ideal.Run
public import proofs.«01_k».proof.Proof.Shift
public import Idealize.ShloMosaic.Lib.Quiescent

/-! The large cache's shift: each grid point copies one sequence's cache one row up, 64 rows a trip, and puts the new row last. -/

@[expose] public section

set_option maxRecDepth 16384

noncomputable section

namespace Cert.DilShift

open Idealize.ShloMosaic Idealize.SL.Sem Idealize.ShloMosaic.TcCoe
open Cert.Ix Cert.Shift Cert.Kernel6Ideal Cert.Kernel6Ideal.Gen

section Block

variable (𝒱 : Variants) (c : Dev nD) (bd : Option 𝒱.V) (i : grid0.Coords)
variable (arg1 : Memref sig .tc .vmem S1x2048x8x128 .f32) (harg1 : arg1.IsWhole)
variable (arg2 : Memref sig .tc .vmem S1x8x128 .f32) (harg2 : arg2.IsWhole)
variable (arg3 : Memref sig .tc .vmem S1x2048x8x128 .f32) (harg3 : arg3.IsWhole)

/-- The rows of a full step are stored as read. -/
theorem pay1_eq (v : Vec Ideal S1x64x8x128 .f32) : k0_pay1 v = v := by
  unfold k0_pay1; exact shapeCast_shapeCast _ _ _

/-- The rows left over are stored as read. -/
theorem pay2_eq (v : Vec Ideal S1x63x8x128 .f32) : k0_pay2 v = v := by
  unfold k0_pay2; exact shapeCast_shapeCast _ _ _

/-- The new row is stored as read. -/
theorem pay3_at (v : Vec Ideal S1x8x128 .f32) (z b : Fin 1) (h : Fin 8) (d : Fin 128) : k0_pay3 v (ix4 b z h d) = v (ix3 b h d) := by
  obtain rfl : z = 0 := Subsingleton.elim _ _
  obtain rfl : b = 0 := Subsingleton.elim _ _
  pointwise [k0_pay3]

unseal trip_k0_t1 in
/-- Every piece one trip stores is a part of the moved cache. -/
theorem trip_pieces (X : BufTy.Contents (Elt Ideal) arg1.view.ty) (x0 : Vec Ideal S1x2048x8x128 .f32) (x1 : Vec Ideal S1x8x128 .f32)
    (hX : arg1.view.read (Elt Ideal) X = x0) (k : Fin k0_t1_loop.trips) :
    ∀ p ∈ tripL_k0_t1 (F := Ideal) 𝒱 c bd i arg1 harg1 arg2 harg2 arg3 harg3 X k, ∀ z : p.1.shape.Idx,
      p.2 z = appendRow (α := EReal) x0 x1 (p.1.emb z) := by
  have hk : k.val < 31 := Nat.lt_of_lt_of_le k.isLt k0_t1_abs.2.1
  unfold tripL_k0_t1 trip_k0_t1
  intro p hp
  obtain rfl := List.mem_singleton.mp hp
  refine fun (z : S1x64x8x128.Idx) => ?_
  refine Eq.trans ?_ (rows_at (α := EReal) (B := 1) (N := 2048) (H := 8) (D := 128) (n := 64) (r := 64 * k.val) x0 x1 _ _ (k0_off2_eq k) (k0_off1_eq k) (by omega) (k0_off2_inb k) (k0_off1_inb k) z)
  rw [View.readAt_eq_ld, hX]
  exact congrFun (pay1_eq (fun y => x0 ((Rect.unit (s := S1x2048x8x128) (k0_off1 k) S1x64x8x128.size (k0_off1_inb k)).emb y))) z

/-- Every piece the trips before `k` store is a part of the moved cache. -/
theorem pb_pieces (X : BufTy.Contents (Elt Ideal) arg1.view.ty) (x0 : Vec Ideal S1x2048x8x128 .f32) (x1 : Vec Ideal S1x8x128 .f32)
    (hX : arg1.view.read (Elt Ideal) X = x0) (k : ℕ) :
    ∀ p ∈ pb_k0_t1 (F := Ideal) 𝒱 c bd i arg1 harg1 arg2 harg2 arg3 harg3 X k, ∀ z : p.1.shape.Idx,
      p.2 z = appendRow (α := EReal) x0 x1 (p.1.emb z) := by
  induction k with
  | zero => intro p hp; exact absurd hp List.not_mem_nil
  | succ k ih =>
    by_cases h : k < k0_t1_loop.trips
    · intro p hp
      rw [show pb_k0_t1 (F := Ideal) 𝒱 c bd i arg1 harg1 arg2 harg2 arg3 harg3 X (k + 1) = _ from
        pb_k0_t1_succ (F := Ideal) 𝒱 c bd i arg1 harg1 arg2 harg2 arg3 harg3 X ⟨k, h⟩] at hp
      rcases List.mem_append.mp hp with hp | hp
      · exact trip_pieces 𝒱 c bd i arg1 harg1 arg2 harg2 arg3 harg3 X x0 x1 hX ⟨k, h⟩ p hp
      · exact ih p hp
    · rw [pb_k0_t1.eq_2]; unfold pb_k0_t1Step; rw [dif_neg h]; exact ih

/-- Every piece a grid point stores is a part of the moved cache. -/
theorem run_pieces (x0 : Vec Ideal S1x2048x8x128 .f32) (x1 : Vec Ideal S1x8x128 .f32) :
    ∀ p ∈ (kernelRun0_A (F := Ideal) c i arg1 harg1 arg2 harg2 arg3 harg3 x0 x1).1, ∀ z : p.1.shape.Idx,
      p.2 z = appendRow (α := EReal) x0 x1 (p.1.emb z) := by
  unfold kernelRun0_A
  dsimp only
  intro p hp
  rcases List.mem_cons.mp hp with rfl | hp
  · refine fun (z : S1x1x8x128.Idx) => ?_
    obtain ⟨a, b, h, d, rfl⟩ : ∃ (a b : Fin 1) (h : Fin 8) (d : Fin 128), z = ix4 a b h d := ⟨z 0, z 1, z 2, z 3, (ix4_eta z).symm⟩
    refine Eq.trans ?_ (last_at (α := EReal) (N := 2047) x0 x1 inb_S1x2048x8x128_S1x1x8x128_0_2047_0_0 a b h d).symm
    rw [View.readAt_eq_ld, harg2.read_unread, View.ld_unit_zero off3]
    exact pay3_at x1 b a h d
  rcases List.mem_cons.mp hp with rfl | hp
  · refine fun (z : S1x63x8x128.Idx) => ?_
    refine Eq.trans ?_ (rows_at (α := EReal) (B := 1) (N := 2048) (H := 8) (D := 128) (n := 63) (r := 1984) x0 x1 _ _ rfl rfl (by omega) inb_S1x2048x8x128_S1x63x8x128_0_1984_0_0 inb_S1x2048x8x128_S1x63x8x128_0_1985_0_0 z)
    rw [View.readAt_eq_ld, harg1.read_unread]
    exact congrFun (pay2_eq (fun y => x0 ((Rect.unit (s := S1x2048x8x128) ![0, 1985, 0, 0] S1x63x8x128.size inb_S1x2048x8x128_S1x63x8x128_0_1985_0_0).emb y))) z
  · exact pb_pieces Variants.none c none i arg1 harg1 arg2 harg2 arg3 harg3 _ x0 x1 (harg1.read_unread _) _ p hp

/-- What a grid point leaves in its block: the block of the cache moved on by one row. -/
theorem block_eq (x0 : Vec Ideal S1x2048x8x128 .f32) (x1 : Vec Ideal S1x8x128 .f32) :
    out0_A_2 (F := Ideal) c i arg1 harg1 arg2 harg2 arg3 harg3 x0 x1 = appendRow (α := EReal) x0 x1 := by
  unfold out0_A_2
  rw [View.read_writes_junk_eq_canon]
  exact funext fun y => View.canon_apply_of_pieces (appendRow (α := EReal) x0 x1) _ (run_pieces c i arg1 harg1 arg2 harg2 arg3 harg3 x0 x1) y
    (cover0_A_2 c i arg1 harg1 arg2 harg2 arg3 harg3 x0 x1 y)

end Block

section Array

variable (m : (ℓ : Loc nD τ sig) → Buf (Elt Ideal) ℓ) (c : Dev nD)

/-- The cache the kernel is given. -/
abbrev kX : S32x2048x8x128.Idx → EReal := m (c, Proc.tc.devRef main_arg0)

/-- The new rows the kernel is given. -/
abbrev kW : S32x8x128.Idx → EReal := m (c, Proc.tc.devRef main_arg1)

/-- A grid point is one of 32. -/
theorem tlt (t : Fin cfg0.N) : t.val < 32 := t.isLt

/-- The sequence a grid point works on. -/
def bOf (t : ℕ) : Fin 32 := ⟨t % 32, by omega⟩

/-- Where window 0's block lies at each grid point. -/
theorem idx0 : ∀ t : Fin cfg0.N, win0_0.index t = ![t.val, 0, 0, 0] :=
  (by decide +kernel : ∀ t : Fin grid0.N, win0_0.index t = ![t.val, 0, 0, 0])

/-- Where window 1's block lies at each grid point. -/
theorem idx1 : ∀ t : Fin cfg0.N, win0_1.index t = ![t.val, 0, 0] :=
  (by decide +kernel : ∀ t : Fin grid0.N, win0_1.index t = ![t.val, 0, 0])

/-- Where window 2's block lies at each grid point. -/
theorem idx2 : ∀ t : Fin cfg0.N, win0_2.index t = ![t.val, 0, 0, 0] :=
  (by decide +kernel : ∀ t : Fin grid0.N, win0_2.index t = ![t.val, 0, 0, 0])

/-- A grid point's block of the cache. -/
theorem iblk0 (t : Fin cfg0.N) (r : Fin 2048) (h : Fin 8) (d : Fin 128) :
    (iblk m c 0 t : S1x2048x8x128.Idx → EReal) (ix4 (0 : Fin 1) r h d) = kX m c (ix4 (bOf t) r h d) := by
  have ht := tlt t
  have e := idx0 t
  refine congrArg (kX m c) (?_ : (win0_0.rect t).emb _ = _)
  refine eq_ix4_of ?_ ?_ ?_ ?_ <;> refine Fin.ext ?_ <;> refine (Pipeline.Window.rect_emb_val win0_0 t _ _).trans ?_ <;>
    rw [e] <;> simp [bOf] <;> omega

/-- A grid point's new row. -/
theorem iblk1 (t : Fin cfg0.N) (h : Fin 8) (d : Fin 128) :
    (iblk m c 1 t : S1x8x128.Idx → EReal) (ix3 (0 : Fin 1) h d) = kW m c (ix3 (bOf t) h d) := by
  have ht := tlt t
  have e := idx1 t
  refine congrArg (kW m c) (?_ : (win0_1.rect t).emb _ = _)
  refine eq_ix3_of ?_ ?_ ?_ <;> refine Fin.ext ?_ <;> refine (Pipeline.Window.rect_emb_val win0_1 t _ _).trans ?_ <;>
    rw [e] <;> simp [bOf] <;> omega

/-- The kernel's result is the cache moved on by one row. -/
theorem arr2 : (dats m 0 c).arrAt 2 cfg0.N = appendRow (α := EReal) (kX m c) (kW m c) := by
  refine (dats m 0 c).arrAt_eq_of_cover 2 (appendRow (α := EReal) (kX m c) (kW m c)) ?_ ?_
  · intro t hf
    have ht := tlt t
    have e := idx2 t
    rw [Value.flushed2_A, block_eq]
    refine funext fun (x : S1x2048x8x128.Idx) => ?_
    obtain ⟨z, r, h, d, rfl⟩ : ∃ (z : Fin 1) (r : Fin 2048) (h : Fin 8) (d : Fin 128), x = ix4 z r h d := ⟨x 0, x 1, x 2, x 3, (ix4_eta x).symm⟩
    obtain rfl : z = 0 := Subsingleton.elim _ _
    refine Eq.trans ?_ (congrArg (appendRow (α := EReal) (kX m c) (kW m c)) (?_ : ix4 (bOf t) r h d = (win0_2.rect t).emb (ix4 (0 : Fin 1) r h d)))
    · show appendRow (α := EReal) (iblk m c 0 t : S1x2048x8x128.Idx → EReal) (iblk m c 1 t : S1x8x128.Idx → EReal) (ix4 (0 : Fin 1) r h d) = _
      by_cases hr : r.val + 1 < 2048
      · exact (append_lt _ _ _ _ _ _ hr).trans ((iblk0 m c t ⟨r.val + 1, hr⟩ h d).trans (append_lt _ _ _ _ _ _ hr).symm)
      · exact (append_last _ _ _ _ _ _ hr).trans ((iblk1 m c t h d).trans (append_last _ _ _ _ _ _ hr).symm)
    · refine (eq_ix4_of ?_ ?_ ?_ ?_).symm <;> refine Fin.ext ?_ <;> refine (Pipeline.Window.rect_emb_val win0_2 t _ _).trans ?_ <;>
        rw [e] <;> simp [bOf] <;> omega
  · refine fun (y : S32x2048x8x128.Idx) => ?_
    obtain ⟨b, r, h, d, rfl⟩ : ∃ (b : Fin 32) (r : Fin 2048) (h : Fin 8) (d : Fin 128), y = ix4 b r h d := ⟨y 0, y 1, y 2, y 3, (ix4_eta y).symm⟩
    have ht : b.val < cfg0.N := show b.val < 32 from b.isLt
    refine ⟨⟨b.val, ht⟩, flush0_2 _, ?_⟩
    have e := idx2 ⟨b.val, ht⟩
    refine Eq.subst (motive := fun z => z ∈ ((cfg0.win 2).blk ⟨b.val, ht⟩).view.set)
      (?_ : (win0_2.rect ⟨b.val, ht⟩).emb (ix4 (0 : Fin 1) r h d) = _)
      (((cfg0.win 2).blk ⟨b.val, ht⟩).view.emb_mem_set (ix4 (0 : Fin 1) r h d))
    refine eq_ix4_of ?_ ?_ ?_ ?_ <;> refine Fin.ext ?_ <;> refine (Pipeline.Window.rect_emb_val win0_2 _ _ _).trans ?_ <;>
      rw [e] <;> simp

/-- The kernel runs, ends with the moved cache as result and leaves its arguments alone. -/
theorem run (ρ : Dev nD → PrngReg) : θ_run defs (onTc (τ := τ) (main (F := Ideal))) ⟨m, fun _ => 0, ρ⟩ fun r => ∀ c : Dev nD,
      r.2.mem ((c : Thread nD τ).loc main_v0) = appendRow (α := EReal) (kX m c) (kW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr2 m c), (h c).2⟩) (Cert.Kernel6Ideal.Value.run_blocks m ρ)

end Array

end Cert.DilShift

namespace Cert.DilShift.Ref

open Idealize.ShloMosaic Idealize.SL.Sem Idealize.ShloMosaic.TcCoe
open Cert.Shift Cert.Reference6Ideal Cert.Reference6Ideal.Gen

variable (m : (ℓ : Loc nD τ sig) → Buf (Elt Ideal) ℓ) (ρ : Dev nD → PrngReg)

/-- The reference runs, ends with the moved cache as result and leaves its arguments alone. -/
theorem run : θ_run defs (onTc (τ := τ) (main (F := Ideal))) ⟨m, fun _ => 0, ρ⟩ fun r => ∀ c : Dev nD,
      r.2.mem ((c : Thread nD τ).loc main_v2) = appendRow (α := EReal) (B := 32) (N := 2048) (H := 8) (D := 128) (m (c, Proc.tc.devRef main_arg0)) (m (c, Proc.tc.devRef main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (append_eq (N := 2048) _ _ _ (fun b h d => by pointwise []) _ _), (h c).2⟩) (Cert.Reference6Ideal.Value.run m ρ)

/-- The reference runs, leaves its arguments alone and ends with every counter at zero: it has no counters. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (run m ρ)

end Cert.DilShift.Ref

end
-- ==== Proof.StepHead.lean ====
module

public import proofs.«01_k».proof.Proof.Gen.Kernel7Ideal.Value
public import proofs.«01_k».proof.Proof.Shift

/-! The mLSTM's step for one row: what one head does, and what a grid point leaves in its three state blocks. -/

@[expose] public section

set_option maxRecDepth 16384

noncomputable section

namespace Cert.Step

open Idealize.ShloMosaic Idealize.SL.Sem Idealize.ShloMosaic.TcCoe
open Cert.Ix Cert.Shift Cert.Kernel7Ideal Cert.Kernel7Ideal.Gen

/-- The new stabiliser, from the two gates and the old one. -/
def mNew (i l m : EReal) : EReal := max (l + m) i

/-- How much of the old state is kept. -/
def keep (i l m : EReal) : EReal := Ideal.exp (l + m - mNew i l m)

/-- The weight of the new row. -/
def add (i l m : EReal) : EReal := Ideal.exp (i - mNew i l m)

/-- One head's new matrix, as the kernel computes it from its loads. -/
def headC (k : Vec Ideal S1x1x256x1 .f32) (v : Vec Ideal S1x1x1x512 .f32) (i l m : Vec Ideal S1x1x1x1 .f32)
    (c : Vec Ideal S1x1x256x512 .f32) : Vec Ideal S1x1x256x512 .f32 :=
  k0_pay17 (k0_pay5 k) (k0_pay6 v) (k0_pay7 c) (k0_pay12 i l m) (k0_pay13 i l m)

/-- One head's new normaliser, as the kernel computes it from its loads. -/
def headN (k : Vec Ideal S1x1x256x1 .f32) (i l m : Vec Ideal S1x1x1x1 .f32) (n : Vec Ideal S1x1x256x1 .f32) : Vec Ideal S1x1x256x1 .f32 :=
  k0_pay18 (k0_pay5 k) (k0_pay8 n) (k0_pay12 i l m) (k0_pay13 i l m)

/-- One head's new stabiliser, as the kernel computes it from its loads. -/
def headM (i l m : Vec Ideal S1x1x1x1 .f32) : Vec Ideal S1x1x1x1 .f32 := k0_pay19 (k0_pay11 i l m)

/-- An entry of one head's new matrix. -/
theorem headC_at (k : Vec Ideal S1x1x256x1 .f32) (v : Vec Ideal S1x1x1x512 .f32) (i l m : Vec Ideal S1x1x1x1 .f32)
    (c : Vec Ideal S1x1x256x512 .f32) (d : Fin 256) (e : Fin 512) :
    headC k v i l m c (ix4 (0 : Fin 1) (0 : Fin 1) d e)
      = keep (i (ix4 (0 : Fin 1) (0 : Fin 1) (0 : Fin 1) (0 : Fin 1))) (l (ix4 (0 : Fin 1) (0 : Fin 1) (0 : Fin 1) (0 : Fin 1))) (m (ix4 (0 : Fin 1) (0 : Fin 1) (0 : Fin 1) (0 : Fin 1))) * c (ix4 (0 : Fin 1) (0 : Fin 1) d e)
        + k (ix4 (0 : Fin 1) (0 : Fin 1) d (0 : Fin 1)) * add (i (ix4 (0 : Fin 1) (0 : Fin 1) (0 : Fin 1) (0 : Fin 1))) (l (ix4 (0 : Fin 1) (0 : Fin 1) (0 : Fin 1) (0 : Fin 1))) (m (ix4 (0 : Fin 1) (0 : Fin 1) (0 : Fin 1) (0 : Fin 1))) * v (ix4 (0 : Fin 1) (0 : Fin 1) (0 : Fin 1) e) := by
  unfold headC keep add mNew
  pointwise [k0_pay17, k0_pay5, k0_pay6, k0_pay7, k0_pay12, k0_pay13, k0_pay11, k0_pay10, k0_pay9]

/-- An entry of one head's new normaliser. -/
theorem headN_at (k : Vec Ideal S1x1x256x1 .f32) (i l m : Vec Ideal S1x1x1x1 .f32) (n : Vec Ideal S1x1x256x1 .f32) (d : Fin 256) :
    headN k i l m n (ix4 (0 : Fin 1) (0 : Fin 1) d (0 : Fin 1))
      = keep (i (ix4 (0 : Fin 1) (0 : Fin 1) (0 : Fin 1) (0 : Fin 1))) (l (ix4 (0 : Fin 1) (0 : Fin 1) (0 : Fin 1) (0 : Fin 1))) (m (ix4 (0 : Fin 1) (0 : Fin 1) (0 : Fin 1) (0 : Fin 1))) * n (ix4 (0 : Fin 1) (0 : Fin 1) d (0 : Fin 1))
        + add (i (ix4 (0 : Fin 1) (0 : Fin 1) (0 : Fin 1) (0 : Fin 1))) (l (ix4 (0 : Fin 1) (0 : Fin 1) (0 : Fin 1) (0 : Fin 1))) (m (ix4 (0 : Fin 1) (0 : Fin 1) (0 : Fin 1) (0 : Fin 1))) * k (ix4 (0 : Fin 1) (0 : Fin 1) d (0 : Fin 1)) := by
  unfold headN keep add mNew
  pointwise [k0_pay18, k0_pay5, k0_pay8, k0_pay12, k0_pay13, k0_pay11, k0_pay10, k0_pay9]

/-- One head's new stabiliser. -/
theorem headM_at (i l m : Vec Ideal S1x1x1x1 .f32) : headM i l m (ix4 (0 : Fin 1) (0 : Fin 1) (0 : Fin 1) (0 : Fin 1))
      = mNew (i (ix4 (0 : Fin 1) (0 : Fin 1) (0 : Fin 1) (0 : Fin 1))) (l (ix4 (0 : Fin 1) (0 : Fin 1) (0 : Fin 1) (0 : Fin 1))) (m (ix4 (0 : Fin 1) (0 : Fin 1) (0 : Fin 1) (0 : Fin 1))) := by
  unfold headM mNew
  pointwise [k0_pay19, k0_pay11, k0_pay10, k0_pay9]

/-- Where a head's entries lie in a block of four heads. -/
theorem emb_head {n2 n3 h : ℕ} (hh : h < 4)
    (inb : ∀ a, (![0, h, 0, 0] : Fin 4 → ℕ) a + (![1, 1, n2, n3] : Fin 4 → ℕ) a ≤ (⟨4, ![1, 4, n2, n3]⟩ : Shape).size a) (d : Fin n2) (e : Fin n3) :
    (Rect.unit (s := ⟨4, ![1, 4, n2, n3]⟩) ![0, h, 0, 0] ![1, 1, n2, n3] inb).emb (ix4 (0 : Fin 1) (0 : Fin 1) d e) = ix4 (0 : Fin 1) (⟨h, hh⟩ : Fin 4) d e := by
  have f (a : Fin 4) := ValueKit.rect_emb_unit_val (s := ⟨4, ![1, 4, n2, n3]⟩) _ _ inb (ix4 (0 : Fin 1) (0 : Fin 1) d e) a
  refine eq_ix4_of (Fin.ext ?_) (Fin.ext ?_) (Fin.ext ?_) (Fin.ext ?_)
  · exact f 0
  · exact f 1
  · exact (f 2).trans (Nat.zero_add _)
  · exact (f 3).trans (Nat.zero_add _)

variable (x0 x1 : Vec Ideal S1x4x256x1 .f32) (x2 x3 : Vec Ideal S1x4x1x512 .f32) (x4 x5 : Vec Ideal S1x4x1x1 .f32)
  (x6 : Vec Ideal S1x4x256x512 .f32) (x7 : Vec Ideal S1x4x256x1 .f32) (x8 : Vec Ideal S1x4x1x1 .f32) (x9 : Vec Ideal S4x1x512 .f32)

/-- Gate values of one head in a block. -/
abbrev g (x : Vec Ideal S1x4x1x1 .f32) (h : Fin 4) : EReal := x (ix4 (0 : Fin 1) h (0 : Fin 1) (0 : Fin 1))

/-- The new matrices of a block of four heads. -/
def blkC : S1x4x256x512.Idx → EReal := fun y =>
  keep (g x4 (y 1)) (g x5 (y 1)) (g x8 (y 1)) * x6 (ix4 (0 : Fin 1) (y 1) (y 2) (y 3))
    + x1 (ix4 (0 : Fin 1) (y 1) (y 2) (0 : Fin 1)) * add (g x4 (y 1)) (g x5 (y 1)) (g x8 (y 1)) * x2 (ix4 (0 : Fin 1) (y 1) (0 : Fin 1) (y 3))

/-- The new normalisers of a block of four heads. -/
def blkN : S1x4x256x1.Idx → EReal := fun y =>
  keep (g x4 (y 1)) (g x5 (y 1)) (g x8 (y 1)) * x7 (ix4 (0 : Fin 1) (y 1) (y 2) (0 : Fin 1))
    + add (g x4 (y 1)) (g x5 (y 1)) (g x8 (y 1)) * x1 (ix4 (0 : Fin 1) (y 1) (y 2) (0 : Fin 1))

/-- The new stabilisers of a block of four heads. -/
def blkM : S1x4x1x1.Idx → EReal := fun y => mNew (g x4 (y 1)) (g x5 (y 1)) (g x8 (y 1))

/-- One head's new matrix is its part of the block's. -/
theorem pieceC {h : ℕ} (hh : h < 4) (i1 i2 i3 i4) (z : S1x1x256x512.Idx) :
    headC (View.ld x1 (Rect.unit (s := S1x4x256x1) ![0, h, 0, 0] S1x1x256x1.size i1)) (View.ld x2 (Rect.unit (s := S1x4x1x512) ![0, h, 0, 0] S1x1x1x512.size i2))
        (View.ld x4 (Rect.unit (s := S1x4x1x1) ![0, h, 0, 0] S1x1x1x1.size i3)) (View.ld x5 (Rect.unit (s := S1x4x1x1) ![0, h, 0, 0] S1x1x1x1.size i3))
        (View.ld x8 (Rect.unit (s := S1x4x1x1) ![0, h, 0, 0] S1x1x1x1.size i3)) (View.ld x6 (Rect.unit (s := S1x4x256x512) ![0, h, 0, 0] S1x1x256x512.size i4)) z
      = blkC x1 x2 x4 x5 x6 x8 ((Rect.unit (s := S1x4x256x512) ![0, h, 0, 0] S1x1x256x512.size i4).emb z) := by
  obtain ⟨a, b, d, e, rfl⟩ : ∃ (a b : Fin 1) (d : Fin 256) (e : Fin 512), z = ix4 a b d e := ⟨z 0, z 1, z 2, z 3, (ix4_eta z).symm⟩
  obtain rfl : a = 0 := Subsingleton.elim _ _
  obtain rfl : b = 0 := Subsingleton.elim _ _
  rw [headC_at]
  refine Eq.trans ?_ (congrArg (blkC x1 x2 x4 x5 x6 x8) (emb_head hh i4 d e)).symm
  have e1 := congrArg x1 (emb_head hh i1 d (0 : Fin 1))
  have e2 := congrArg x2 (emb_head hh i2 (0 : Fin 1) e)
  have e4 := congrArg x4 (emb_head hh i3 (0 : Fin 1) (0 : Fin 1))
  have e5 := congrArg x5 (emb_head hh i3 (0 : Fin 1) (0 : Fin 1))
  have e8 := congrArg x8 (emb_head hh i3 (0 : Fin 1) (0 : Fin 1))
  have e6 := congrArg x6 (emb_head hh i4 d e)
  unfold View.ld
  exact congr (congrArg HAdd.hAdd (congr (congrArg HMul.hMul (congr (congr (congrArg keep e4) e5) e8)) e6))
    (congr (congrArg HMul.hMul (congr (congrArg HMul.hMul e1) (congr (congr (congrArg add e4) e5) e8))) e2)

/-- One head's new normaliser is its part of the block's. -/
theorem pieceN {h : ℕ} (hh : h < 4) (i1 i3) (z : S1x1x256x1.Idx) :
    headN (View.ld x1 (Rect.unit (s := S1x4x256x1) ![0, h, 0, 0] S1x1x256x1.size i1))
        (View.ld x4 (Rect.unit (s := S1x4x1x1) ![0, h, 0, 0] S1x1x1x1.size i3)) (View.ld x5 (Rect.unit (s := S1x4x1x1) ![0, h, 0, 0] S1x1x1x1.size i3))
        (View.ld x8 (Rect.unit (s := S1x4x1x1) ![0, h, 0, 0] S1x1x1x1.size i3)) (View.ld x7 (Rect.unit (s := S1x4x256x1) ![0, h, 0, 0] S1x1x256x1.size i1)) z
      = blkN x1 x4 x5 x7 x8 ((Rect.unit (s := S1x4x256x1) ![0, h, 0, 0] S1x1x256x1.size i1).emb z) := by
  obtain ⟨a, b, d, e, rfl⟩ : ∃ (a b : Fin 1) (d : Fin 256) (e : Fin 1), z = ix4 a b d e := ⟨z 0, z 1, z 2, z 3, (ix4_eta z).symm⟩
  obtain rfl : a = 0 := Subsingleton.elim _ _
  obtain rfl : b = 0 := Subsingleton.elim _ _
  obtain rfl : e = 0 := Subsingleton.elim _ _
  rw [headN_at]
  refine Eq.trans ?_ (congrArg (blkN x1 x4 x5 x7 x8) (emb_head hh i1 d (0 : Fin 1))).symm
  have e1 := congrArg x1 (emb_head hh i1 d (0 : Fin 1))
  have e7 := congrArg x7 (emb_head hh i1 d (0 : Fin 1))
  have e4 := congrArg x4 (emb_head hh i3 (0 : Fin 1) (0 : Fin 1))
  have e5 := congrArg x5 (emb_head hh i3 (0 : Fin 1) (0 : Fin 1))
  have e8 := congrArg x8 (emb_head hh i3 (0 : Fin 1) (0 : Fin 1))
  unfold View.ld
  exact congr (congrArg HAdd.hAdd (congr (congrArg HMul.hMul (congr (congr (congrArg keep e4) e5) e8)) e7))
    (congr (congrArg HMul.hMul (congr (congr (congrArg add e4) e5) e8)) e1)

/-- One head's new stabiliser is its part of the block's. -/
theorem pieceM {h : ℕ} (hh : h < 4) (i3) (z : S1x1x1x1.Idx) :
    headM (View.ld x4 (Rect.unit (s := S1x4x1x1) ![0, h, 0, 0] S1x1x1x1.size i3)) (View.ld x5 (Rect.unit (s := S1x4x1x1) ![0, h, 0, 0] S1x1x1x1.size i3))
        (View.ld x8 (Rect.unit (s := S1x4x1x1) ![0, h, 0, 0] S1x1x1x1.size i3)) z
      = blkM x4 x5 x8 ((Rect.unit (s := S1x4x1x1) ![0, h, 0, 0] S1x1x1x1.size i3).emb z) := by
  obtain ⟨a, b, d, e, rfl⟩ : ∃ (a b d e : Fin 1), z = ix4 a b d e := ⟨z 0, z 1, z 2, z 3, (ix4_eta z).symm⟩
  obtain rfl : a = 0 := Subsingleton.elim _ _
  obtain rfl : b = 0 := Subsingleton.elim _ _
  obtain rfl : d = 0 := Subsingleton.elim _ _
  obtain rfl : e = 0 := Subsingleton.elim _ _
  rw [headM_at]
  refine Eq.trans ?_ (congrArg (blkM x4 x5 x8) (emb_head hh i3 (0 : Fin 1) (0 : Fin 1))).symm
  have e4 := congrArg x4 (emb_head hh i3 (0 : Fin 1) (0 : Fin 1))
  have e5 := congrArg x5 (emb_head hh i3 (0 : Fin 1) (0 : Fin 1))
  have e8 := congrArg x8 (emb_head hh i3 (0 : Fin 1) (0 : Fin 1))
  unfold View.ld
  exact congr (congr (congrArg mNew e4) e5) e8

/-- The matrices a grid point leaves. -/
theorem out11 : out0_11 (F := Ideal) x0 x1 x2 x3 x4 x5 x6 x7 x8 x9 = blkC x1 x2 x4 x5 x6 x8 := by
  unfold out0_11
  refine funext fun y => View.canon_apply_of_pieces (Val := Elt Ideal) (e := EltTy.f32) (blkC x1 x2 x4 x5 x6 x8) _ ?_ y (cover0_11 _ _ _ _ y)
  intro p hp
  rcases List.mem_cons.mp hp with rfl | hp
  · exact fun (z : S1x1x256x512.Idx) => pieceC x1 x2 x4 x5 x6 x8 (h := 3) (by omega) inb_S1x4x256x1_S1x1x256x1_0_3_0_0 inb_S1x4x1x512_S1x1x1x512_0_3_0_0 inb_S1x4x1x1_S1x1x1x1_0_3_0_0 inb_S1x4x256x512_S1x1x256x512_0_3_0_0 z
  rcases List.mem_cons.mp hp with rfl | hp
  · exact fun (z : S1x1x256x512.Idx) => pieceC x1 x2 x4 x5 x6 x8 (h := 2) (by omega) inb_S1x4x256x1_S1x1x256x1_0_2_0_0 inb_S1x4x1x512_S1x1x1x512_0_2_0_0 inb_S1x4x1x1_S1x1x1x1_0_2_0_0 inb_S1x4x256x512_S1x1x256x512_0_2_0_0 z
  rcases List.mem_cons.mp hp with rfl | hp
  · exact fun (z : S1x1x256x512.Idx) => pieceC x1 x2 x4 x5 x6 x8 (h := 1) (by omega) inb_S1x4x256x1_S1x1x256x1_0_1_0_0 inb_S1x4x1x512_S1x1x1x512_0_1_0_0 inb_S1x4x1x1_S1x1x1x1_0_1_0_0 inb_S1x4x256x512_S1x1x256x512_0_1_0_0 z
  obtain rfl := List.mem_singleton.mp hp
  exact fun (z : S1x1x256x512.Idx) => pieceC x1 x2 x4 x5 x6 x8 (h := 0) (by omega) inb_S1x4x256x1_S1x1x256x1_0_0_0_0 inb_S1x4x1x512_S1x1x1x512_0_0_0_0 inb_S1x4x1x1_S1x1x1x1_0_0_0_0 inb_S1x4x256x512_S1x1x256x512_0_0_0_0 z

/-- The normalisers a grid point leaves. -/
theorem out12 : out0_12 (F := Ideal) x0 x1 x2 x3 x4 x5 x6 x7 x8 x9 = blkN x1 x4 x5 x7 x8 := by
  unfold out0_12
  refine funext fun y => View.canon_apply_of_pieces (Val := Elt Ideal) (e := EltTy.f32) (blkN x1 x4 x5 x7 x8) _ ?_ y (cover0_12 _ _ _ _ y)
  intro p hp
  rcases List.mem_cons.mp hp with rfl | hp
  · exact fun (z : S1x1x256x1.Idx) => pieceN x1 x4 x5 x7 x8 (h := 3) (by omega) inb_S1x4x256x1_S1x1x256x1_0_3_0_0 inb_S1x4x1x1_S1x1x1x1_0_3_0_0 z
  rcases List.mem_cons.mp hp with rfl | hp
  · exact fun (z : S1x1x256x1.Idx) => pieceN x1 x4 x5 x7 x8 (h := 2) (by omega) inb_S1x4x256x1_S1x1x256x1_0_2_0_0 inb_S1x4x1x1_S1x1x1x1_0_2_0_0 z
  rcases List.mem_cons.mp hp with rfl | hp
  · exact fun (z : S1x1x256x1.Idx) => pieceN x1 x4 x5 x7 x8 (h := 1) (by omega) inb_S1x4x256x1_S1x1x256x1_0_1_0_0 inb_S1x4x1x1_S1x1x1x1_0_1_0_0 z
  obtain rfl := List.mem_singleton.mp hp
  exact fun (z : S1x1x256x1.Idx) => pieceN x1 x4 x5 x7 x8 (h := 0) (by omega) inb_S1x4x256x1_S1x1x256x1_0_0_0_0 inb_S1x4x1x1_S1x1x1x1_0_0_0_0 z

/-- The stabilisers a grid point leaves. -/
theorem out13 : out0_13 (F := Ideal) x0 x1 x2 x3 x4 x5 x6 x7 x8 x9 = blkM x4 x5 x8 := by
  unfold out0_13
  refine funext fun y => View.canon_apply_of_pieces (Val := Elt Ideal) (e := EltTy.f32) (blkM x4 x5 x8) _ ?_ y (cover0_13 _ _ _ _ y)
  intro p hp
  rcases List.mem_cons.mp hp with rfl | hp
  · exact fun (z : S1x1x1x1.Idx) => pieceM x4 x5 x8 (h := 3) (by omega) inb_S1x4x1x1_S1x1x1x1_0_3_0_0 z
  rcases List.mem_cons.mp hp with rfl | hp
  · exact fun (z : S1x1x1x1.Idx) => pieceM x4 x5 x8 (h := 2) (by omega) inb_S1x4x1x1_S1x1x1x1_0_2_0_0 z
  rcases List.mem_cons.mp hp with rfl | hp
  · exact fun (z : S1x1x1x1.Idx) => pieceM x4 x5 x8 (h := 1) (by omega) inb_S1x4x1x1_S1x1x1x1_0_1_0_0 z
  obtain rfl := List.mem_singleton.mp hp
  exact fun (z : S1x1x1x1.Idx) => pieceM x4 x5 x8 (h := 0) (by omega) inb_S1x4x1x1_S1x1x1x1_0_0_0_0 z

end Cert.Step

end
-- ==== Proof.Step.lean ====
module

public import proofs.«01_k».proof.Proof.StepHead
public import proofs.«01_k».proof.Proof.Gen.Reference7Ideal.Run
public import Idealize.ShloMosaic.Lib.Quiescent
public import Idealize.ShloMosaic.Lib.StableHlo.ReadAt

/-! The mLSTM's step over the sample group: each grid point moves one row's four heads on. -/

@[expose] public section

set_option maxRecDepth 16384

noncomputable section

namespace Cert.Step

open Idealize.ShloMosaic

/-- What the step is given: the projections, the two gates and the old state. -/
@[ext] structure Args where
  /-- The projections. -/
  y : Fin 32 → Fin 6144 → EReal
  /-- The input gate's logarithm. -/
  i : Fin 32 → Fin 4 → EReal
  /-- The forget gate's logarithm. -/
  l : Fin 32 → Fin 4 → EReal
  /-- The old matrix. -/
  c : Fin 32 → Fin 4 → Fin 256 → Fin 512 → EReal
  /-- The old normaliser. -/
  n : Fin 32 → Fin 4 → Fin 256 → EReal
  /-- The old stabiliser. -/
  m : Fin 32 → Fin 4 → EReal

namespace Args

variable (a : Args)

/-- A key's entry. -/
def k (b : Fin 32) (h : Fin 4) (d : Fin 256) : EReal := a.y b ⟨1024 + (h.val * 256 + d.val), by omega⟩

/-- A value's entry. -/
def v (b : Fin 32) (h : Fin 4) (e : Fin 512) : EReal := a.y b ⟨2048 + (h.val * 512 + e.val), by omega⟩

/-- How much of the old state is kept. -/
def kp (b : Fin 32) (h : Fin 4) : EReal := keep (a.i b h) (a.l b h) (a.m b h)

/-- The weight of the new row. -/
def ad (b : Fin 32) (h : Fin 4) : EReal := add (a.i b h) (a.l b h) (a.m b h)

/-- The new matrices. -/
def gC : (⟨4, ![32, 4, 256, 512]⟩ : Shape).Idx → EReal := fun y =>
  a.kp (y 0) (y 1) * a.c (y 0) (y 1) (y 2) (y 3) + a.k (y 0) (y 1) (y 2) * a.ad (y 0) (y 1) * a.v (y 0) (y 1) (y 3)

/-- The new normalisers. -/
def gN : (⟨4, ![32, 4, 256, 1]⟩ : Shape).Idx → EReal := fun y =>
  a.kp (y 0) (y 1) * a.n (y 0) (y 1) (y 2) + a.ad (y 0) (y 1) * a.k (y 0) (y 1) (y 2)

/-- The new stabilisers. -/
def gM : (⟨4, ![32, 4, 1, 1]⟩ : Shape).Idx → EReal := fun y => mNew (a.i (y 0) (y 1)) (a.l (y 0) (y 1)) (a.m (y 0) (y 1))

end Args

section Array

open Idealize.SL.Sem Idealize.ShloMosaic.TcCoe
open Cert.Ix Cert.Shift Cert.Kernel7Ideal Cert.Kernel7Ideal.Gen

variable (m : (ℓ : Loc nD τ sig) → Buf (Elt Ideal) ℓ) (c : Dev nD)

/-- What the kernel is given. -/
def kArgs : Args where
  y b x := (m (c, Proc.tc.devRef main_arg0) : S32x6144.Idx → EReal) (ix2 b x)
  i b h := (m (c, Proc.tc.devRef main_arg1) : S32x4.Idx → EReal) (ix2 b h)
  l b h := (m (c, Proc.tc.devRef main_arg2) : S32x4.Idx → EReal) (ix2 b h)
  c b h d e := (m (c, Proc.tc.devRef main_arg4) : S32x4x256x512.Idx → EReal) (ix4 b h d e)
  n b h d := (m (c, Proc.tc.devRef main_arg5) : S32x4x256.Idx → EReal) (ix3 b h d)
  m b h := (m (c, Proc.tc.devRef main_arg6) : S32x4.Idx → EReal) (ix2 b h)

/-- A grid point is one of 32. -/
theorem tlt (t : Fin cfg0.N) : t.val < 32 := t.isLt

/-- The sequence a grid point works on. -/
def bOf (t : ℕ) : Fin 32 := ⟨t % 32, by omega⟩

/-- Where the region finds the keys. -/
theorem V1 (b : Fin 32) (h : Fin 4) (d : Fin 256): (V m c main_v3 : S32x4x256x1.Idx → EReal) (ix4 b h d (0 : Fin 1)) = (kArgs m c).k b h d := by
  unfold V
  after_reads_at
  rfl

/-- Where the region finds the values. -/
theorem V2 (b : Fin 32) (h : Fin 4) (e : Fin 512): (V m c main_v5 : S32x4x1x512.Idx → EReal) (ix4 b h (0 : Fin 1) e) = (kArgs m c).v b h e := by
  unfold V
  after_reads_at
  rfl

/-- Where the region finds the input gates. -/
theorem V4 (b : Fin 32) (h : Fin 4) : (V m c main_v8 : S32x4x1x1.Idx → EReal) (ix4 b h (0 : Fin 1) (0 : Fin 1)) = (kArgs m c).i b h := by
  unfold V
  after_reads_at
  rfl

/-- Where the region finds the forget gates. -/
theorem V5 (b : Fin 32) (h : Fin 4) : (V m c main_v9 : S32x4x1x1.Idx → EReal) (ix4 b h (0 : Fin 1) (0 : Fin 1)) = (kArgs m c).l b h := by
  unfold V
  after_reads_at
  rfl

/-- Where the region finds the old matrices. -/
theorem V6 (b : Fin 32) (h : Fin 4) (d : Fin 256) (e : Fin 512): (V m c main_arg4 : S32x4x256x512.Idx → EReal) (ix4 b h d e) = (kArgs m c).c b h d e := by
  rw [V_main_arg4]
  rfl

/-- Where the region finds the old normalisers. -/
theorem V7 (b : Fin 32) (h : Fin 4) (d : Fin 256): (V m c main_v10 : S32x4x256x1.Idx → EReal) (ix4 b h d (0 : Fin 1)) = (kArgs m c).n b h d := by
  unfold V
  after_reads_at
  rfl

/-- Where the region finds the old stabilisers. -/
theorem V8 (b : Fin 32) (h : Fin 4) : (V m c main_v11 : S32x4x1x1.Idx → EReal) (ix4 b h (0 : Fin 1) (0 : Fin 1)) = (kArgs m c).m b h := by
  unfold V
  after_reads_at
  rfl

/-- Where window 1's block lies at each grid point. -/
theorem idx1 : ∀ t : Fin cfg0.N, win0_1.index t = ![t.val, 0, 0, 0] :=
  (by decide +kernel : ∀ t : Fin grid0.N, win0_1.index t = ![t.val, 0, 0, 0])

/-- Where window 2's block lies at each grid point. -/
theorem idx2 : ∀ t : Fin cfg0.N, win0_2.index t = ![t.val, 0, 0, 0] :=
  (by decide +kernel : ∀ t : Fin grid0.N, win0_2.index t = ![t.val, 0, 0, 0])

/-- Where window 4's block lies at each grid point. -/
theorem idx4 : ∀ t : Fin cfg0.N, win0_4.index t = ![t.val, 0, 0, 0] :=
  (by decide +kernel : ∀ t : Fin grid0.N, win0_4.index t = ![t.val, 0, 0, 0])

/-- Where window 5's block lies at each grid point. -/
theorem idx5 : ∀ t : Fin cfg0.N, win0_5.index t = ![t.val, 0, 0, 0] :=
  (by decide +kernel : ∀ t : Fin grid0.N, win0_5.index t = ![t.val, 0, 0, 0])

/-- Where window 6's block lies at each grid point. -/
theorem idx6 : ∀ t : Fin cfg0.N, win0_6.index t = ![t.val, 0, 0, 0] :=
  (by decide +kernel : ∀ t : Fin grid0.N, win0_6.index t = ![t.val, 0, 0, 0])

/-- Where window 7's block lies at each grid point. -/
theorem idx7 : ∀ t : Fin cfg0.N, win0_7.index t = ![t.val, 0, 0, 0] :=
  (by decide +kernel : ∀ t : Fin grid0.N, win0_7.index t = ![t.val, 0, 0, 0])

/-- Where window 8's block lies at each grid point. -/
theorem idx8 : ∀ t : Fin cfg0.N, win0_8.index t = ![t.val, 0, 0, 0] :=
  (by decide +kernel : ∀ t : Fin grid0.N, win0_8.index t = ![t.val, 0, 0, 0])

/-- Where window 11's block lies at each grid point. -/
theorem idx11 : ∀ t : Fin cfg0.N, win0_11.index t = ![t.val, 0, 0, 0] :=
  (by decide +kernel : ∀ t : Fin grid0.N, win0_11.index t = ![t.val, 0, 0, 0])

/-- Where window 12's block lies at each grid point. -/
theorem idx12 : ∀ t : Fin cfg0.N, win0_12.index t = ![t.val, 0, 0, 0] :=
  (by decide +kernel : ∀ t : Fin grid0.N, win0_12.index t = ![t.val, 0, 0, 0])

/-- Where window 13's block lies at each grid point. -/
theorem idx13 : ∀ t : Fin cfg0.N, win0_13.index t = ![t.val, 0, 0, 0] :=
  (by decide +kernel : ∀ t : Fin grid0.N, win0_13.index t = ![t.val, 0, 0, 0])

/-- A grid point's block of the keys. -/
theorem iblk1 (t : Fin cfg0.N) (h : Fin 4) (d : Fin 256): (iblk m c 1 t : S1x4x256x1.Idx → EReal) (ix4 (0 : Fin 1) h d (0 : Fin 1)) = (kArgs m c).k (bOf t) h d := by
  have ht := tlt t
  have e' := idx1 t
  refine Eq.trans (congrArg (V m c main_v3 : S32x4x256x1.Idx → EReal) (?_ : (win0_1.rect t).emb _ = _)) (V1 m c (bOf t) h d)
  refine eq_ix4_of ?_ ?_ ?_ ?_ <;> refine Fin.ext ?_ <;> refine (Pipeline.Window.rect_emb_val win0_1 t _ _).trans ?_ <;>
    rw [e'] <;> simp [bOf] <;> omega

/-- A grid point's block of the values. -/
theorem iblk2 (t : Fin cfg0.N) (h : Fin 4) (e : Fin 512): (iblk m c 2 t : S1x4x1x512.Idx → EReal) (ix4 (0 : Fin 1) h (0 : Fin 1) e) = (kArgs m c).v (bOf t) h e := by
  have ht := tlt t
  have e' := idx2 t
  refine Eq.trans (congrArg (V m c main_v5 : S32x4x1x512.Idx → EReal) (?_ : (win0_2.rect t).emb _ = _)) (V2 m c (bOf t) h e)
  refine eq_ix4_of ?_ ?_ ?_ ?_ <;> refine Fin.ext ?_ <;> refine (Pipeline.Window.rect_emb_val win0_2 t _ _).trans ?_ <;>
    rw [e'] <;> simp [bOf] <;> omega

/-- A grid point's block of the input gates. -/
theorem iblk4 (t : Fin cfg0.N) (h : Fin 4) : (iblk m c 4 t : S1x4x1x1.Idx → EReal) (ix4 (0 : Fin 1) h (0 : Fin 1) (0 : Fin 1)) = (kArgs m c).i (bOf t) h := by
  have ht := tlt t
  have e' := idx4 t
  refine Eq.trans (congrArg (V m c main_v8 : S32x4x1x1.Idx → EReal) (?_ : (win0_4.rect t).emb _ = _)) (V4 m c (bOf t) h)
  refine eq_ix4_of ?_ ?_ ?_ ?_ <;> refine Fin.ext ?_ <;> refine (Pipeline.Window.rect_emb_val win0_4 t _ _).trans ?_ <;>
    rw [e'] <;> simp [bOf] <;> omega

/-- A grid point's block of the forget gates. -/
theorem iblk5 (t : Fin cfg0.N) (h : Fin 4) : (iblk m c 5 t : S1x4x1x1.Idx → EReal) (ix4 (0 : Fin 1) h (0 : Fin 1) (0 : Fin 1)) = (kArgs m c).l (bOf t) h := by
  have ht := tlt t
  have e' := idx5 t
  refine Eq.trans (congrArg (V m c main_v9 : S32x4x1x1.Idx → EReal) (?_ : (win0_5.rect t).emb _ = _)) (V5 m c (bOf t) h)
  refine eq_ix4_of ?_ ?_ ?_ ?_ <;> refine Fin.ext ?_ <;> refine (Pipeline.Window.rect_emb_val win0_5 t _ _).trans ?_ <;>
    rw [e'] <;> simp [bOf] <;> omega

/-- A grid point's block of the old matrices. -/
theorem iblk6 (t : Fin cfg0.N) (h : Fin 4) (d : Fin 256) (e : Fin 512): (iblk m c 6 t : S1x4x256x512.Idx → EReal) (ix4 (0 : Fin 1) h d e) = (kArgs m c).c (bOf t) h d e := by
  have ht := tlt t
  have e' := idx6 t
  refine Eq.trans (congrArg (V m c main_arg4 : S32x4x256x512.Idx → EReal) (?_ : (win0_6.rect t).emb _ = _)) (V6 m c (bOf t) h d e)
  refine eq_ix4_of ?_ ?_ ?_ ?_ <;> refine Fin.ext ?_ <;> refine (Pipeline.Window.rect_emb_val win0_6 t _ _).trans ?_ <;>
    rw [e'] <;> simp [bOf] <;> omega

/-- A grid point's block of the old normalisers. -/
theorem iblk7 (t : Fin cfg0.N) (h : Fin 4) (d : Fin 256): (iblk m c 7 t : S1x4x256x1.Idx → EReal) (ix4 (0 : Fin 1) h d (0 : Fin 1)) = (kArgs m c).n (bOf t) h d := by
  have ht := tlt t
  have e' := idx7 t
  refine Eq.trans (congrArg (V m c main_v10 : S32x4x256x1.Idx → EReal) (?_ : (win0_7.rect t).emb _ = _)) (V7 m c (bOf t) h d)
  refine eq_ix4_of ?_ ?_ ?_ ?_ <;> refine Fin.ext ?_ <;> refine (Pipeline.Window.rect_emb_val win0_7 t _ _).trans ?_ <;>
    rw [e'] <;> simp [bOf] <;> omega

/-- A grid point's block of the old stabilisers. -/
theorem iblk8 (t : Fin cfg0.N) (h : Fin 4) : (iblk m c 8 t : S1x4x1x1.Idx → EReal) (ix4 (0 : Fin 1) h (0 : Fin 1) (0 : Fin 1)) = (kArgs m c).m (bOf t) h := by
  have ht := tlt t
  have e' := idx8 t
  refine Eq.trans (congrArg (V m c main_v11 : S32x4x1x1.Idx → EReal) (?_ : (win0_8.rect t).emb _ = _)) (V8 m c (bOf t) h)
  refine eq_ix4_of ?_ ?_ ?_ ?_ <;> refine Fin.ext ?_ <;> refine (Pipeline.Window.rect_emb_val win0_8 t _ _).trans ?_ <;>
    rw [e'] <;> simp [bOf] <;> omega

/-- The matrices after all grid points. -/
theorem arr11 : (dats m 0 c).arrAt 11 cfg0.N = (kArgs m c).gC := by
  refine (dats m 0 c).arrAt_eq_of_cover 11 (kArgs m c).gC ?_ ?_
  · intro t hf
    have ht := tlt t
    have e' := idx11 t
    rw [Value.flushed11, out11]
    refine funext fun (x : S1x4x256x512.Idx) => ?_
    obtain ⟨z, h, d, e, rfl⟩ : ∃ (z : Fin 1) (h : Fin 4) (d : Fin 256) (e : Fin 512), x = ix4 z h d e := ⟨x 0, x 1, x 2, x 3, (ix4_eta x).symm⟩
    obtain rfl : z = 0 := Subsingleton.elim _ _
    refine Eq.trans ?_ (congrArg (kArgs m c).gC (?_ : ix4 (bOf t) h d e = (win0_11.rect t).emb (ix4 (0 : Fin 1) h d e)))
    · show blkC (iblk m c 1 t) (iblk m c 2 t) (iblk m c 4 t) (iblk m c 5 t) (iblk m c 6 t) (iblk m c 8 t) (ix4 (0 : Fin 1) h d e) = _
      exact congr (congrArg HAdd.hAdd (congr (congrArg HMul.hMul (congr (congr (congrArg keep (iblk4 m c t h)) (iblk5 m c t h)) (iblk8 m c t h))) (iblk6 m c t h d e)))
        (congr (congrArg HMul.hMul (congr (congrArg HMul.hMul (iblk1 m c t h d)) (congr (congr (congrArg add (iblk4 m c t h)) (iblk5 m c t h)) (iblk8 m c t h)))) (iblk2 m c t h e))
    · refine (eq_ix4_of ?_ ?_ ?_ ?_).symm <;> refine Fin.ext ?_ <;> refine (Pipeline.Window.rect_emb_val win0_11 t _ _).trans ?_ <;>
        rw [e'] <;> simp [bOf] <;> omega
  · refine fun (y : S32x4x256x512.Idx) => ?_
    obtain ⟨b, h, d, e, rfl⟩ : ∃ (b : Fin 32) (h : Fin 4) (d : Fin 256) (e : Fin 512), y = ix4 b h d e := ⟨y 0, y 1, y 2, y 3, (ix4_eta y).symm⟩
    have ht : b.val < cfg0.N := show b.val < 32 from b.isLt
    refine ⟨⟨b.val, ht⟩, flush0_11 _, ?_⟩
    have e' := idx11 ⟨b.val, ht⟩
    refine Eq.subst (motive := fun z => z ∈ ((cfg0.win 11).blk ⟨b.val, ht⟩).view.set)
      (?_ : (win0_11.rect ⟨b.val, ht⟩).emb (ix4 (0 : Fin 1) h d e) = _)
      (((cfg0.win 11).blk ⟨b.val, ht⟩).view.emb_mem_set (ix4 (0 : Fin 1) h d e))
    refine eq_ix4_of ?_ ?_ ?_ ?_ <;> refine Fin.ext ?_ <;> refine (Pipeline.Window.rect_emb_val win0_11 _ _ _).trans ?_ <;>
      rw [e'] <;> simp

/-- The normalisers after all grid points. -/
theorem arr12 : (dats m 0 c).arrAt 12 cfg0.N = (kArgs m c).gN := by
  refine (dats m 0 c).arrAt_eq_of_cover 12 (kArgs m c).gN ?_ ?_
  · intro t hf
    have ht := tlt t
    have e' := idx12 t
    rw [Value.flushed12, out12]
    refine funext fun (x : S1x4x256x1.Idx) => ?_
    obtain ⟨z, h, d, e, rfl⟩ : ∃ (z : Fin 1) (h : Fin 4) (d : Fin 256) (e : Fin 1), x = ix4 z h d e := ⟨x 0, x 1, x 2, x 3, (ix4_eta x).symm⟩
    obtain rfl : z = 0 := Subsingleton.elim _ _
    refine Eq.trans ?_ (congrArg (kArgs m c).gN (?_ : ix4 (bOf t) h d e = (win0_12.rect t).emb (ix4 (0 : Fin 1) h d e)))
    · show blkN (iblk m c 1 t) (iblk m c 4 t) (iblk m c 5 t) (iblk m c 7 t) (iblk m c 8 t) (ix4 (0 : Fin 1) h d e) = _
      exact congr (congrArg HAdd.hAdd (congr (congrArg HMul.hMul (congr (congr (congrArg keep (iblk4 m c t h)) (iblk5 m c t h)) (iblk8 m c t h))) (iblk7 m c t h d)))
        (congr (congrArg HMul.hMul (congr (congr (congrArg add (iblk4 m c t h)) (iblk5 m c t h)) (iblk8 m c t h))) (iblk1 m c t h d))
    · refine (eq_ix4_of ?_ ?_ ?_ ?_).symm <;> refine Fin.ext ?_ <;> refine (Pipeline.Window.rect_emb_val win0_12 t _ _).trans ?_ <;>
        rw [e'] <;> simp [bOf] <;> omega
  · refine fun (y : S32x4x256x1.Idx) => ?_
    obtain ⟨b, h, d, e, rfl⟩ : ∃ (b : Fin 32) (h : Fin 4) (d : Fin 256) (e : Fin 1), y = ix4 b h d e := ⟨y 0, y 1, y 2, y 3, (ix4_eta y).symm⟩
    have ht : b.val < cfg0.N := show b.val < 32 from b.isLt
    refine ⟨⟨b.val, ht⟩, flush0_12 _, ?_⟩
    have e' := idx12 ⟨b.val, ht⟩
    refine Eq.subst (motive := fun z => z ∈ ((cfg0.win 12).blk ⟨b.val, ht⟩).view.set)
      (?_ : (win0_12.rect ⟨b.val, ht⟩).emb (ix4 (0 : Fin 1) h d e) = _)
      (((cfg0.win 12).blk ⟨b.val, ht⟩).view.emb_mem_set (ix4 (0 : Fin 1) h d e))
    refine eq_ix4_of ?_ ?_ ?_ ?_ <;> refine Fin.ext ?_ <;> refine (Pipeline.Window.rect_emb_val win0_12 _ _ _).trans ?_ <;>
      rw [e'] <;> simp

/-- The stabilisers after all grid points. -/
theorem arr13 : (dats m 0 c).arrAt 13 cfg0.N = (kArgs m c).gM := by
  refine (dats m 0 c).arrAt_eq_of_cover 13 (kArgs m c).gM ?_ ?_
  · intro t hf
    have ht := tlt t
    have e' := idx13 t
    rw [Value.flushed13, out13]
    refine funext fun (x : S1x4x1x1.Idx) => ?_
    obtain ⟨z, h, d, e, rfl⟩ : ∃ (z : Fin 1) (h : Fin 4) (d : Fin 1) (e : Fin 1), x = ix4 z h d e := ⟨x 0, x 1, x 2, x 3, (ix4_eta x).symm⟩
    obtain rfl : z = 0 := Subsingleton.elim _ _
    refine Eq.trans ?_ (congrArg (kArgs m c).gM (?_ : ix4 (bOf t) h d e = (win0_13.rect t).emb (ix4 (0 : Fin 1) h d e)))
    · show blkM (iblk m c 4 t) (iblk m c 5 t) (iblk m c 8 t) (ix4 (0 : Fin 1) h d e) = _
      exact congr (congr (congrArg mNew (iblk4 m c t h)) (iblk5 m c t h)) (iblk8 m c t h)
    · refine (eq_ix4_of ?_ ?_ ?_ ?_).symm <;> refine Fin.ext ?_ <;> refine (Pipeline.Window.rect_emb_val win0_13 t _ _).trans ?_ <;>
        rw [e'] <;> simp [bOf] <;> omega
  · refine fun (y : S32x4x1x1.Idx) => ?_
    obtain ⟨b, h, d, e, rfl⟩ : ∃ (b : Fin 32) (h : Fin 4) (d : Fin 1) (e : Fin 1), y = ix4 b h d e := ⟨y 0, y 1, y 2, y 3, (ix4_eta y).symm⟩
    have ht : b.val < cfg0.N := show b.val < 32 from b.isLt
    refine ⟨⟨b.val, ht⟩, flush0_13 _, ?_⟩
    have e' := idx13 ⟨b.val, ht⟩
    refine Eq.subst (motive := fun z => z ∈ ((cfg0.win 13).blk ⟨b.val, ht⟩).view.set)
      (?_ : (win0_13.rect ⟨b.val, ht⟩).emb (ix4 (0 : Fin 1) h d e) = _)
      (((cfg0.win 13).blk ⟨b.val, ht⟩).view.emb_mem_set (ix4 (0 : Fin 1) h d e))
    refine eq_ix4_of ?_ ?_ ?_ ?_ <;> refine Fin.ext ?_ <;> refine (Pipeline.Window.rect_emb_val win0_13 _ _ _).trans ?_ <;>
      rw [e'] <;> simp

/-- The kernel runs, ends with the new states as results and leaves its arguments alone. -/
theorem run (ρ : Dev nD → PrngReg) : θ_run defs (onTc (τ := τ) (main (F := Ideal))) ⟨m, fun _ => 0, ρ⟩ fun r => ∀ c : Dev nD,
      r.2.mem ((c : Thread nD τ).loc main_v13_1) = (kArgs m c).gC
      ∧ r.2.mem ((c : Thread nD τ).loc main_v13_2) = (kArgs m c).gN
      ∧ r.2.mem ((c : Thread nD τ).loc main_v13_3) = (kArgs m c).gM
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => by
    obtain ⟨_, h1, h2, h3, hr⟩ := h c
    exact ⟨h1.trans (arr11 m c), h2.trans (arr12 m c), h3.trans (arr13 m c), hr⟩) (Cert.Kernel7Ideal.Value.run_blocks m ρ)

end Array

end Cert.Step

namespace Cert.Step.Ref

open Idealize.ShloMosaic Idealize.SL.Sem Idealize.ShloMosaic.TcCoe
open Cert.Reference7Ideal Cert.Reference7Ideal.Gen

variable (m : (ℓ : Loc nD τ sig) → Buf (Elt Ideal) ℓ) (ρ : Dev nD → PrngReg)

/-- What the reference is given. -/
def rArgs (c : Dev nD) : Args where
  y b x := (m (c, Proc.tc.devRef main_arg0) : S32x6144.Idx → EReal) (ix2 b x)
  i b h := (m (c, Proc.tc.devRef main_arg1) : S32x4.Idx → EReal) (ix2 b h)
  l b h := (m (c, Proc.tc.devRef main_arg2) : S32x4.Idx → EReal) (ix2 b h)
  c b h d e := (m (c, Proc.tc.devRef main_arg4) : S32x4x256x512.Idx → EReal) (ix4 b h d e)
  n b h d := (m (c, Proc.tc.devRef main_arg5) : S32x4x256.Idx → EReal) (ix3 b h d)
  m b h := (m (c, Proc.tc.devRef main_arg6) : S32x4.Idx → EReal) (ix2 b h)

/-- The reference runs, ends with the new states as results and leaves its arguments alone. -/
theorem run : θ_run defs (onTc (τ := τ) (main (F := Ideal))) ⟨m, fun _ => 0, ρ⟩ fun r => ∀ c : Dev nD,
      r.2.mem ((c : Thread nD τ).loc main_v24) = (rArgs m c).gC
      ∧ r.2.mem ((c : Thread nD τ).loc main_v32) = (rArgs m c).gN
      ∧ r.2.mem ((c : Thread nD τ).loc main_v33) = (rArgs m c).gM
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => by
    obtain ⟨h1, h2, h3, hr⟩ := h c
    refine ⟨h1.trans ?_, h2.trans ?_, h3.trans ?_, hr⟩
    · refine funext fun (y : S32x4x256x512.Idx) => ?_
      obtain ⟨b, h, d, e, rfl⟩ : ∃ (b : Fin 32) (h : Fin 4) (d : Fin 256) (e : Fin 512), y = ix4 b h d e := ⟨y 0, y 1, y 2, y 3, (ix4_eta y).symm⟩
      pointwise
      rfl
    · refine funext fun (y : S32x4x256x1.Idx) => ?_
      obtain ⟨b, h, d, e, rfl⟩ : ∃ (b : Fin 32) (h : Fin 4) (d : Fin 256) (e : Fin 1), y = ix4 b h d e := ⟨y 0, y 1, y 2, y 3, (ix4_eta y).symm⟩
      pointwise
      rfl
    · refine funext fun (y : S32x4x1x1.Idx) => ?_
      obtain ⟨b, h, d, e, rfl⟩ : ∃ (b : Fin 32) (h : Fin 4) (d : Fin 1) (e : Fin 1), y = ix4 b h d e := ⟨y 0, y 1, y 2, y 3, (ix4_eta y).symm⟩
      pointwise
      rfl) (Cert.Reference7Ideal.Value.run m ρ)

/-- The reference runs, leaves its arguments alone and ends with every counter at zero: it has no counters. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h c).2.2.2, sem_eq_zero_of_no_sems (by decide) r.2⟩) (run m ρ)

end Cert.Step.Ref

end
-- ==== Proof.lean ====
module

public import proofs.«01_k».proof.Defs
public import proofs.«01_k».proof.Proof.MlstmBits
public import proofs.«01_k».proof.Proof.MlstmBlocks
public import proofs.«01_k».proof.Proof.MlstmKernel
public import proofs.«01_k».proof.Proof.MlstmRefFrame
public import proofs.«01_k».proof.Proof.SwigluBits
public import proofs.«01_k».proof.Proof.SwigluRef
public import proofs.«01_k».proof.Proof.DownRef
public import proofs.«01_k».proof.Proof.Gen.Kernel3.Frame
public import proofs.«01_k».proof.Proof.EvenOutBits
public import proofs.«01_k».proof.Proof.EvenOutRef
public import proofs.«01_k».proof.Proof.SwaShift
public import proofs.«01_k».proof.Proof.Gen.Kernel5.Frame
public import proofs.«01_k».proof.Proof.Gen.Kernel5Ideal.Frame
public import proofs.«01_k».proof.Proof.DilShift
public import proofs.«01_k».proof.Proof.Gen.Kernel6.Frame
public import proofs.«01_k».proof.Proof.Gen.Kernel6Ideal.Frame
public import proofs.«01_k».proof.Proof.Step
public import proofs.«01_k».proof.Proof.Gen.Kernel7.Frame
public import proofs.«01_k».proof.Proof.Gen.Kernel7Ideal.Frame
public import Idealize.ShloMosaic.Adequacy
public import Idealize.ShloMosaic.Init

/-! The certificate: both programs run and leave their arguments alone, and over the reals extended by the infinities
    the kernel's results are the reference's. -/

@[expose] public section

noncomputable section

namespace Cert.Proof

open Idealize.ShloMosaic Idealize.SL.Sem

/-- The kernel as compiled runs and leaves its arguments alone. -/
theorem kernel_frame : Cert.quiescent_Kernel (hKernel := Cert.Kernel.Gen.facts) :=
  Cert.Mlstm.kernel_runs

/-- The kernel over exact numbers runs and leaves its arguments alone. -/
theorem kernelIdeal_frame : Cert.quiescent_KernelIdeal (hKernelIdeal := Cert.KernelIdeal.Gen.facts) :=
  fun m ρ _ => Cert.KernelIdeal.Gen.frame m ρ

/-- The reference over exact numbers runs and leaves its arguments alone. -/
theorem referenceIdeal_frame : Cert.quiescent_ReferenceIdeal (hReferenceIdeal := Cert.ReferenceIdeal.Gen.facts) :=
  fun m ρ _ => Cert.Mlstm.Ref.frame m ρ

/-- The masking constant is the only thing named in the exact kernel. -/
theorem preserves : Cert.preserves_Kernel_KernelIdeal :=
  IdealRules.named_const.statement Cert.KernelIdeal.κ "mask" .f32 0xF149F2CA#32 ⊥ rfl

/-- From memories that agree on the arguments the kernel's and the reference's results are equal. -/
theorem algebraic : Cert.algebraic_KernelIdeal_ReferenceIdeal
    (hKernelIdeal := Cert.KernelIdeal.Gen.facts) (hReferenceIdeal := Cert.ReferenceIdeal.Gen.facts) := by
  intro m g m' g' _ hargs
  have ha : ∀ c, Cert.Mlstm.Ref.rArgs m' c = Cert.Mlstm.kArgs m c := fun c => by
    obtain ⟨h0, h1, h2, h3⟩ := hargs c
    unfold Cert.Mlstm.Ref.rArgs Cert.Mlstm.kArgs
    rw [Cert.Mlstm.Args.mk.injEq]
    exact ⟨funext fun b => funext fun r => funext fun x => congrFun h0 _, funext fun b => funext fun r => funext fun x => congrFun h1 _,
      funext fun x => congrFun h2 _, funext fun x => congrFun h3 _⟩
  refine ⟨fun c => Cert.Mlstm.gO (Cert.Mlstm.kArgs m c), fun c => Cert.Mlstm.gC (Cert.Mlstm.kArgs m c),
    fun c => Cert.Mlstm.gN (Cert.Mlstm.kArgs m c), fun c => Cert.Mlstm.gM (Cert.Mlstm.kArgs m c), ?_, ?_⟩
  · refine (θ_run _ _ _).mono (fun r h c => ?_) (Cert.KernelIdeal.Value.run_blocks m g)
    obtain ⟨h0, h1, h2, h3, hr⟩ := h c
    exact ⟨h0.trans (Cert.Mlstm.arr9 m c), h1.trans (Cert.Mlstm.arr10 m c), h2.trans (Cert.Mlstm.arr11 m c),
      h3.trans (Cert.Mlstm.arr12 m c), hr⟩
  · refine (θ_run _ _ _).mono (fun r h c => ?_) (Cert.Mlstm.Ref.run_all m' g')
    have hc := h c
    rw [ha c] at hc
    exact hc

/-- The gated product as compiled runs and leaves its arguments alone. -/
theorem kernel2_frame : Cert.quiescent_Kernel2 (hKernel2 := Cert.Kernel2.Gen.facts) := Cert.Swiglu.kernel_runs

/-- The gated product over exact numbers runs and leaves its arguments alone. -/
theorem kernel2Ideal_frame : Cert.quiescent_Kernel2Ideal (hKernel2Ideal := Cert.Kernel2Ideal.Gen.facts) :=
  fun m ρ _ => Cert.Kernel2Ideal.Gen.frame m ρ

/-- The reference of the gated product runs and leaves its arguments alone. -/
theorem reference2Ideal_frame : Cert.quiescent_Reference2Ideal (hReference2Ideal := Cert.Reference2Ideal.Gen.facts) :=
  fun m ρ _ => Cert.Swiglu.Ref.frame m ρ

/-- From memories that agree on the arguments the two gated products are the reference's. -/
theorem algebraic2 : Cert.algebraic_Kernel2Ideal_Reference2Ideal
    (hKernel2Ideal := Cert.Kernel2Ideal.Gen.facts) (hReference2Ideal := Cert.Reference2Ideal.Gen.facts) := by
  intro m g m' g' _ hargs
  refine ⟨fun c => Cert.Swiglu.glu (R := 8192) (Cert.Swiglu.kP m c) (Cert.Swiglu.kG m c) (Cert.Swiglu.kU m c),
    fun c => Cert.Swiglu.glu (R := 32) (Cert.Swiglu.kS m c) (Cert.Swiglu.kG m c) (Cert.Swiglu.kU m c), Cert.Swiglu.run m g, ?_⟩
  refine (θ_run _ _ _).mono (fun r h c => ?_) (Cert.Swiglu.Ref.run m' g')
  obtain ⟨hP, hS, hr⟩ := h c
  obtain ⟨h0, h1, h2, h3⟩ := hargs c
  exact ⟨hP.trans (congr (congr (congrArg (Cert.Swiglu.glu (R := 8192)) h0) h2) h3),
    hS.trans (congr (congr (congrArg (Cert.Swiglu.glu (R := 32)) h1) h2) h3), hr⟩

/-- The down projection as compiled runs and leaves its arguments alone. -/
theorem kernel3_frame : Cert.quiescent_Kernel3 (hKernel3 := Cert.Kernel3.Gen.facts) :=
  fun m ρ _ => Cert.Kernel3.Gen.frame m ρ

/-- The down projection over exact numbers runs and leaves its arguments alone. -/
theorem kernel3Ideal_frame : Cert.quiescent_Kernel3Ideal (hKernel3Ideal := Cert.Kernel3Ideal.Gen.facts) :=
  fun m ρ _ => Cert.Kernel3Ideal.Gen.frame m ρ

/-- The reference of the down projection runs and leaves its arguments alone. -/
theorem reference3Ideal_frame : Cert.quiescent_Reference3Ideal (hReference3Ideal := Cert.Reference3Ideal.Gen.facts) :=
  fun m ρ _ => Cert.Down.ref_frame m ρ

/-- From memories that agree on the arguments the down projection is the reference's. -/
theorem algebraic3 : Cert.algebraic_Kernel3Ideal_Reference3Ideal
    (hKernel3Ideal := Cert.Kernel3Ideal.Gen.facts) (hReference3Ideal := Cert.Reference3Ideal.Gen.facts) := by
  intro m g m' g' _ hargs
  refine ⟨fun c => Cert.Down.prod (Cert.Down.kX m c) (Cert.Down.kW m c), Cert.Down.run m g, ?_⟩
  refine (θ_run _ _ _).mono (fun r h c => ?_) (Cert.Down.ref_run m' g')
  obtain ⟨h0, h1⟩ := hargs c
  exact ⟨(h c).1.trans (congr (congrArg Cert.Down.prod h0) h1), (h c).2⟩

/-- The output projection as compiled runs and leaves its arguments alone. -/
theorem kernel4_frame : Cert.quiescent_Kernel4 (hKernel4 := Cert.Kernel4.Gen.facts) := Cert.EvenOut.kernel_runs

/-- The output projection over exact numbers runs and leaves its arguments alone. -/
theorem kernel4Ideal_frame : Cert.quiescent_Kernel4Ideal (hKernel4Ideal := Cert.Kernel4Ideal.Gen.facts) :=
  fun m ρ _ => Cert.Kernel4Ideal.Gen.frame m ρ

/-- The reference of the output projection runs and leaves its arguments alone. -/
theorem reference4Ideal_frame : Cert.quiescent_Reference4Ideal (hReference4Ideal := Cert.Reference4Ideal.Gen.facts) :=
  fun m ρ _ => Cert.EvenOut.Ref.frame m ρ

/-- From memories that agree on the arguments the two output projections are the reference's. -/
theorem algebraic4 : Cert.algebraic_Kernel4Ideal_Reference4Ideal
    (hKernel4Ideal := Cert.Kernel4Ideal.Gen.facts) (hReference4Ideal := Cert.Reference4Ideal.Gen.facts) := by
  intro m g m' g' _ hargs
  refine ⟨fun c => Cert.EvenOut.both (R := 8192) (Cert.EvenOut.kX m c) (Cert.EvenOut.kY m c) (Cert.EvenOut.kW m c),
    fun c => Cert.EvenOut.both (R := 32) (Cert.EvenOut.kS m c) (Cert.EvenOut.kT m c) (Cert.EvenOut.kW m c), Cert.EvenOut.run m g, ?_⟩
  refine (θ_run _ _ _).mono (fun r h c => ?_) (Cert.EvenOut.Ref.run m' g')
  obtain ⟨hP, hS, hr⟩ := h c
  obtain ⟨h0, h1, h2, h3, h4⟩ := hargs c
  exact ⟨hP.trans (congr (congr (congrArg (Cert.EvenOut.both (R := 8192)) h0) h1) h4),
    hS.trans (congr (congr (congrArg (Cert.EvenOut.both (R := 32)) h2) h3) h4), hr⟩

/-- The small cache's shift as compiled runs and leaves its arguments alone. -/
theorem kernel5_frame : Cert.quiescent_Kernel5 (hKernel5 := Cert.Kernel5.Gen.facts) :=
  fun m ρ _ => Cert.Kernel5.Gen.frame m ρ

/-- The small cache's shift over exact numbers runs and leaves its arguments alone. -/
theorem kernel5Ideal_frame : Cert.quiescent_Kernel5Ideal (hKernel5Ideal := Cert.Kernel5Ideal.Gen.facts) :=
  fun m ρ _ => Cert.Kernel5Ideal.Gen.frame m ρ

/-- The reference of the small cache's shift runs and leaves its arguments alone. -/
theorem reference5Ideal_frame : Cert.quiescent_Reference5Ideal (hReference5Ideal := Cert.Reference5Ideal.Gen.facts) :=
  fun m ρ _ => Cert.SwaShift.Ref.frame m ρ

/-- From memories that agree on the arguments the moved small cache is the reference's. -/
theorem algebraic5 : Cert.algebraic_Kernel5Ideal_Reference5Ideal
    (hKernel5Ideal := Cert.Kernel5Ideal.Gen.facts) (hReference5Ideal := Cert.Reference5Ideal.Gen.facts) := by
  intro m g m' g' _ hargs
  refine ⟨fun c => Cert.Shift.appendRow (α := EReal) (Cert.SwaShift.kX m c) (Cert.SwaShift.kW m c), Cert.SwaShift.run m g, ?_⟩
  refine (θ_run _ _ _).mono (fun r h c => ?_) (Cert.SwaShift.Ref.run m' g')
  obtain ⟨h0, h1⟩ := hargs c
  exact ⟨(h c).1.trans (congr (congrArg (Cert.Shift.appendRow (α := EReal) (B := 32) (N := 128) (H := 4) (D := 64)) h0) h1), (h c).2⟩

/-- The large cache's shift as compiled runs and leaves its arguments alone. -/
theorem kernel6_frame : Cert.quiescent_Kernel6 (hKernel6 := Cert.Kernel6.Gen.facts) :=
  fun m ρ _ => Cert.Kernel6.Gen.frame m ρ

/-- The large cache's shift over exact numbers runs and leaves its arguments alone. -/
theorem kernel6Ideal_frame : Cert.quiescent_Kernel6Ideal (hKernel6Ideal := Cert.Kernel6Ideal.Gen.facts) :=
  fun m ρ _ => Cert.Kernel6Ideal.Gen.frame m ρ

/-- The reference of the large cache's shift runs and leaves its arguments alone. -/
theorem reference6Ideal_frame : Cert.quiescent_Reference6Ideal (hReference6Ideal := Cert.Reference6Ideal.Gen.facts) :=
  fun m ρ _ => Cert.DilShift.Ref.frame m ρ

/-- From memories that agree on the arguments the moved large cache is the reference's. -/
theorem algebraic6 : Cert.algebraic_Kernel6Ideal_Reference6Ideal
    (hKernel6Ideal := Cert.Kernel6Ideal.Gen.facts) (hReference6Ideal := Cert.Reference6Ideal.Gen.facts) := by
  intro m g m' g' _ hargs
  refine ⟨fun c => Cert.Shift.appendRow (α := EReal) (Cert.DilShift.kX m c) (Cert.DilShift.kW m c), Cert.DilShift.run m g, ?_⟩
  refine (θ_run _ _ _).mono (fun r h c => ?_) (Cert.DilShift.Ref.run m' g')
  obtain ⟨h0, h1⟩ := hargs c
  exact ⟨(h c).1.trans (congr (congrArg (Cert.Shift.appendRow (α := EReal) (B := 32) (N := 2048) (H := 8) (D := 128)) h0) h1), (h c).2⟩

/-- The mLSTM's step as compiled runs and leaves its arguments alone. -/
theorem kernel7_frame : Cert.quiescent_Kernel7 (hKernel7 := Cert.Kernel7.Gen.facts) :=
  fun m ρ _ => Cert.Kernel7.Gen.frame m ρ

/-- The mLSTM's step over exact numbers runs and leaves its arguments alone. -/
theorem kernel7Ideal_frame : Cert.quiescent_Kernel7Ideal (hKernel7Ideal := Cert.Kernel7Ideal.Gen.facts) :=
  fun m ρ _ => Cert.Kernel7Ideal.Gen.frame m ρ

/-- The reference of the mLSTM's step runs and leaves its arguments alone. -/
theorem reference7Ideal_frame : Cert.quiescent_Reference7Ideal (hReference7Ideal := Cert.Reference7Ideal.Gen.facts) :=
  fun m ρ _ => Cert.Step.Ref.frame m ρ

/-- From memories that agree on the arguments the three new states of the step are the reference's. -/
theorem algebraic7 : Cert.algebraic_Kernel7Ideal_Reference7Ideal
    (hKernel7Ideal := Cert.Kernel7Ideal.Gen.facts) (hReference7Ideal := Cert.Reference7Ideal.Gen.facts) := by
  intro m g m' g' _ hargs
  refine ⟨fun c => (Cert.Step.kArgs m c).gC, fun c => (Cert.Step.kArgs m c).gN, fun c => (Cert.Step.kArgs m c).gM,
    Cert.Step.run m g, ?_⟩
  refine (θ_run _ _ _).mono (fun r h c => ?_) (Cert.Step.Ref.run m' g')
  obtain ⟨hC, hN, hM, hr⟩ := h c
  have e : Cert.Step.Ref.rArgs m' c = Cert.Step.kArgs m c := by
    obtain ⟨h0, h1, h2, h3, h4, h5, h6⟩ := hargs c
    exact Cert.Step.Args.ext (funext fun b => funext fun x => congrFun h0 _) (funext fun b => funext fun h => congrFun h1 _)
      (funext fun b => funext fun h => congrFun h2 _) (funext fun b => funext fun h => funext fun d => funext fun e => congrFun h4 _)
      (funext fun b => funext fun h => funext fun d => congrFun h5 _) (funext fun b => funext fun h => congrFun h6 _)
  exact ⟨hC.trans (congrArg Cert.Step.Args.gC e), hN.trans (congrArg Cert.Step.Args.gN e),
    hM.trans (congrArg Cert.Step.Args.gM e), hr⟩

/-- Everything claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    kernel_frame, kernelIdeal_frame, referenceIdeal_frame, kernel2_frame, kernel2Ideal_frame, reference2Ideal_frame,
    kernel3_frame, kernel3Ideal_frame, reference3Ideal_frame, kernel4_frame, kernel4Ideal_frame, reference4Ideal_frame,
    kernel5_frame, kernel5Ideal_frame, reference5Ideal_frame, kernel6_frame, kernel6Ideal_frame, reference6Ideal_frame,
    kernel7_frame, kernel7Ideal_frame, reference7Ideal_frame,
    preserves, algebraic, trivial, algebraic2, trivial, algebraic3, trivial, algebraic4,
    trivial, algebraic5, trivial, algebraic6, trivial, algebraic7⟩

end Cert.Proof

end
